-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_planned : Cert.Pre_planned.Facts] (m : (ℓ : Loc Cert.Kernel8.nD Cert.Kernel8.τ Cert.Kernel8.sig) → Buf (Elt Bits) ℓ) : Prop :=
  ∀ c : Dev Cert.Kernel8.nD,
    (Cert.Pre_planned.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6)) (m ((c.tc : Thread Cert.Kernel8.nD Cert.Kernel8.τ).loc Cert.Kernel8.main_arg7)) (m ((c.tc : Thread Cert.Kernel8.nD Cert.Kernel8.τ).loc Cert.Kernel8.main_arg8))) = (fun _ => 1#1)

def Pre_Kernel8Ideal [hPre_planned : Cert.Pre_planned.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_planned.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_planned [hPre_planned : Cert.Pre_planned.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_planned.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] [hPre_planned : Cert.Pre_planned.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] [hPre_planned : Cert.Pre_planned.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_planned [hReference8Ideal : Cert.Reference8Ideal.Facts] [hPre_planned : Cert.Pre_planned.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_planned m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_in_use [hKernel2Ideal : Cert.Kernel2Ideal.Facts] [hReference2Ideal : Cert.Reference2Ideal.Facts] [hPre_routed : Cert.Pre_routed.Facts] [hOn_in_use : Cert.On_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![135168, 1024]⟩ : Shape).Idx, (Cert.On_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v15) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![135168, 1024]⟩ : Shape).Idx, (Cert.On_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v134) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] [hPre_planned : Cert.Pre_planned.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_routed : Cert.Pre_routed.Facts) (hPre_planned : Cert.Pre_planned.Facts) (hOn_in_use : Cert.On_in_use.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_planned := hPre_planned)
    ∧ quiescent_Kernel8Ideal (hKernel8Ideal := hKernel8Ideal) (hPre_planned := hPre_planned)
    ∧ quiescent_Reference8Ideal (hReference8Ideal := hReference8Ideal)
    ∧ quiescent_Reference8Ideal_pre_planned (hReference8Ideal := hReference8Ideal) (hPre_planned := hPre_planned)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_in_use (hKernel2Ideal := hKernel2Ideal) (hReference2Ideal := hReference2Ideal) (hPre_routed := hPre_routed) (hOn_in_use := hOn_in_use)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_planned := hPre_planned)
-- ==== On_in_use.lean ====
abbrev S264 : Shape := ⟨1, ![264]⟩
abbrev S1 : Shape := ⟨1, ![1]⟩
abbrev S135168x1024 : Shape := ⟨2, ![135168, 1024]⟩
abbrev S135168x256 : Shape := ⟨2, ![135168, 256]⟩
abbrev S8x1024x3584 : Shape := ⟨3, ![8, 1024, 3584]⟩
abbrev S8x3584x1024 : Shape := ⟨3, ![8, 3584, 1024]⟩
abbrev S_ : Shape := ⟨0, ![]⟩

class Facts : Prop where
  shapeCasts_S1_S_ : S1.ShapeCasts S_
  bcast_S_S135168x1024 : S_.BroadcastsInDim S135168x1024 (![] : Fin 0 → Fin S135168x1024.rank)

variable [Facts]

def fn {F : FTy → Type} [FloatOps F] (main_arg0 : IVec S264 32) (main_arg1 : IVec S1 32) (main_arg2 : FVec F S135168x1024 .bf16) (main_arg3 : FVec F S135168x256 .f32) (main_arg4 : FVec F S8x1024x3584 .f32) (main_arg5 : FVec F S8x1024x3584 .f32) (main_arg6 : FVec F S8x3584x1024 .f32) : IVec S135168x1024 1 :=
  let main_v0 : IVec S135168x1024 32 := iotaInDim S135168x1024 32 0
  let main_v1 : IVec S_ 32 := shapeCast S_ main_arg1 shapeCasts_S1_S_
  let main_c : IVec S_ 32 := constantI S_ 32 512#32
  let main_v2 : IVec S_ 32 := muli main_v1 main_c
  let main_v3 : IVec S135168x1024 32 := broadcastInDim S135168x1024 ![] bcast_S_S135168x1024 main_v2
  let main_v4 : IVec S135168x1024 1 := cmpi .slt main_v0 main_v3
  main_v4
-- ==== Pre_finite.lean ====
abbrev S16x4096x3072 : Shape := ⟨3, ![16, 4096, 3072]⟩
abbrev S16x513 : Shape := ⟨2, ![16, 513]⟩
abbrev S16x4096x2048 : Shape := ⟨3, ![16, 4096, 2048]⟩
abbrev S_ : Shape := ⟨0, ![]⟩

class Facts : Prop where
  slices_S16x4096x3072_S16x4096x2048_0_0_0 : S16x4096x3072.Slices ![0, 0, 0] S16x4096x2048
  bitsLt_bf16_f32 : FTy.bits .bf16 < FTy.bits .f32
  bcast_S_S16x4096x2048 : S_.BroadcastsInDim S16x4096x2048 (![] : Fin 0 → Fin S16x4096x2048.rank)
  reducesTo_S16x4096x2048_S_d0_1_2 : S16x4096x2048.ReducesTo [0, 1, 2] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S16x4096x3072 .bf16) (main_arg1 : FVec F S16x513 .f32) : IVec S_ 1 :=
  let main_v0 : FVec F S16x4096x2048 .bf16 := (extractStridedSlice S16x4096x2048 ![0, 0, 0] · slices_S16x4096x3072_S16x4096x2048_0_0_0) main_arg0
  let main_v1 : FVec F S16x4096x2048 .f32 := (extf .f32 · bitsLt_bf16_f32) main_v0
  let main_v2 : FVec F S16x4096x2048 .f32 := Host.absf main_v1
  let main_cst : FVec F S_ .f32 := constant S_ .f32 0x7F800000#32
  let main_v3 : FVec F S16x4096x2048 .f32 := broadcastInDim S16x4096x2048 ![] bcast_S_S16x4096x2048 main_cst
  let main_v4 : IVec S16x4096x2048 1 := cmpf .olt main_v2 main_v3
  let main_c : IVec S_ 1 := constantI S_ 1 1#1
  let main_v5 : IVec S_ 1 := (fun x v => Host.reduce IntOp.andi x v reducesTo_S16x4096x2048_S_d0_1_2 h_S_) main_v4 main_c
  let main_v6 : FVec F S16x513 .f32 := Host.absf main_arg1
  let main_cst_0 : FVec F S_ .f32 := constant S_ .f32 0x7F800000#32
  let main_v7 : FVec F S16x513 .f32 := broadcastInDim S16x513 ![] bcast_S_S16x513 main_cst_0
  let main_v8 : IVec S16x513 1 := cmpf .olt main_v6 main_v7
  let main_c_1 : IVec S_ 1 := constantI S_ 1 1#1
  let main_v9 : IVec S_ 1 := (fun x v => Host.reduce IntOp.andi x v reducesTo_S16x513_S_d0_1 h_S_) main_v8 main_c_1
  let main_v10 : IVec S_ 1 := andi main_v5 main_v9
  main_v10
-- ==== Pre_planned.lean ====
abbrev S419 : Shape := ⟨1, ![419]⟩
abbrev S4x419 : Shape := ⟨2, ![4, 419]⟩
abbrev S65536x128 : Shape := ⟨2, ![65536, 128]⟩
abbrev S135168x1024 : Shape := ⟨2, ![135168, 1024]⟩
abbrev S65536x1024 : Shape := ⟨2, ![65536, 1024]⟩
abbrev S1024 : Shape := ⟨1, ![1024]⟩
abbrev S4x1 : Shape := ⟨2, ![4, 1]⟩
abbrev S_ : Shape := ⟨0, ![]⟩
abbrev S418 : Shape := ⟨1, ![418]⟩
abbrev S1 : Shape := ⟨1, ![1]⟩
abbrev S1x419 : Shape := ⟨2, ![1, 419]⟩
abbrev S4x419x1x1 : Shape := ⟨4, ![4, 419, 1, 1]⟩
abbrev S1x1x4x419 : Shape := ⟨4, ![1, 1, 4, 419]⟩
abbrev S4x419x4x419 : Shape := ⟨4, ![4, 419, 4, 419]⟩
abbrev S1x419x1x1 : Shape := ⟨4, ![1, 419, 1, 1]⟩
abbrev S1x1x1x419 : Shape := ⟨4, ![1, 1, 1, 419]⟩
abbrev S1x419x1x419 : Shape := ⟨4, ![1, 419, 1, 419]⟩
abbrev S65536x1 : Shape := ⟨2, ![65536, 1]⟩
abbrev S65536 : Shape := ⟨1, ![65536]⟩
abbrev S65536x1x1 : Shape := ⟨3, ![65536, 1, 1]⟩
abbrev S1x4x419 : Shape := ⟨3, ![1, 4, 419]⟩
abbrev S65536x4x419 : Shape := ⟨3, ![65536, 4, 419]⟩
abbrev S1x1x419 : Shape := ⟨3, ![1, 1, 419]⟩
abbrev S65536x1x419 : Shape := ⟨3, ![65536, 1, 419]⟩

class Facts : Prop where
  bcast_S_S4x419 : S_.BroadcastsInDim S4x419 (![] : Fin 0 → Fin S4x419.rank)
  reducesTo_S4x419_S_d0_1 : S4x419.ReducesTo [0, 1] S_
  h_S_ : 0 < S_.numel
  slices_S419_S418_0 : S419.Slices ![0] S418
  slices_S419_S418_1 : S419.Slices ![1] S418
  bcast_S_S419 : S_.BroadcastsInDim S419 (![] : Fin 0 → Fin S419.rank)
  slices_S419_S1_0 : S419.Slices ![0] S1
  shapeCasts_S1_S_ : S1.ShapeCasts S_
  slices_S419_S1_418 : S419.Slices ![418] S1
  bcast_S_S418 : S_.BroadcastsInDim S418 (![] : Fin 0 → Fin S418.rank)
  reducesTo_S418_S_d0 : S418.ReducesTo [0] S_
  bcast_S419_S1x419_1 : S419.BroadcastsInDim S1x419 (![1] : Fin 1 → Fin S1x419.rank)
  bcast_S1x419_S4x419_0_1 : S1x419.BroadcastsInDim S4x419 (![0, 1] : Fin 2 → Fin S4x419.rank)
  bcast_S4x1_S4x419_0_1 : S4x1.BroadcastsInDim S4x419 (![0, 1] : Fin 2 → Fin S4x419.rank)
  bcast_S4x419_S4x419x1x1_0_1 : S4x419.BroadcastsInDim S4x419x1x1 (![0, 1] : Fin 2 → Fin S4x419x1x1.rank)
  bcast_S4x419_S1x1x4x419_2_3 : S4x419.BroadcastsInDim S1x1x4x419 (![2, 3] : Fin 2 → Fin S1x1x4x419.rank)
  bcast_S4x419x1x1_S4x419x4x419_0_1_2_3 : S4x419x1x1.BroadcastsInDim S4x419x4x419 (![0, 1, 2, 3] : Fin 4 → Fin S4x419x4x419.rank)
  bcast_S1x1x4x419_S4x419x4x419_0_1_2_3 : S1x1x4x419.BroadcastsInDim S4x419x4x419 (![0, 1, 2, 3] : Fin 4 → Fin S4x419x4x419.rank)
  bcast_S1x419_S1x419x1x1_0_1 : S1x419.BroadcastsInDim S1x419x1x1 (![0, 1] : Fin 2 → Fin S1x419x1x1.rank)
  bcast_S1x419_S1x1x1x419_2_3 : S1x419.BroadcastsInDim S1x1x1x419 (![2, 3] : Fin 2 → Fin S1x1x1x419.rank)
  bcast_S1x419x1x1_S1x419x1x419_0_1_2_3 : S1x419x1x1.BroadcastsInDim S1x419x1x419 (![0, 1, 2, 3] : Fin 4 → Fin S1x419x1x419.rank)
  bcast_S1x1x1x419_S1x419x1x419_0_1_2_3 : S1x1x1x419.BroadcastsInDim S1x419x1x419 (![0, 1, 2, 3] : Fin 4 → Fin S1x419x1x419.rank)
  bcast_S1x419x1x419_S4x419x4x419_0_1_2_3 : S1x419x1x419.BroadcastsInDim S4x419x4x419 (![0, 1, 2, 3] : Fin 4 → Fin S4x419x4x419.rank)
  slices_S65536x128_S65536x1_0_2 : S65536x128.Slices ![0, 2] S65536x1
  shapeCasts_S65536x1_S65536 : S65536x1.ShapeCasts S65536
  slices_S65536x128_S65536x1_0_3 : S65536x128.Slices ![0, 3] S65536x1
  reducesTo_S65536_S_d0 : S65536.ReducesTo [0] S_
  reducesTo_S4x419x4x419_S_d0_1_2_3 : S4x419x4x419.ReducesTo [0, 1, 2, 3] S_
  bcast_S65536_S65536x1x1_0 : S65536.BroadcastsInDim S65536x1x1 (![0] : Fin 1 → Fin S65536x1x1.rank)
  bcast_S_S65536x1x1 : S_.BroadcastsInDim S65536x1x1 (![] : Fin 0 → Fin S65536x1x1.rank)
  bcast_S4x419_S1x4x419_1_2 : S4x419.BroadcastsInDim S1x4x419 (![1, 2] : Fin 2 → Fin S1x4x419.rank)
  bcast_S_S1x4x419 : S_.BroadcastsInDim S1x4x419 (![] : Fin 0 → Fin S1x4x419.rank)
  bcast_S65536x1x1_S65536x4x419_0_1_2 : S65536x1x1.BroadcastsInDim S65536x4x419 (![0, 1, 2] : Fin 3 → Fin S65536x4x419.rank)
  bcast_S1x4x419_S65536x4x419_0_1_2 : S1x4x419.BroadcastsInDim S65536x4x419 (![0, 1, 2] : Fin 3 → Fin S65536x4x419.rank)
  bcast_S_S65536x4x419 : S_.BroadcastsInDim S65536x4x419 (![] : Fin 0 → Fin S65536x4x419.rank)
  bcast_S419_S1x1x419_2 : S419.BroadcastsInDim S1x1x419 (![2] : Fin 1 → Fin S1x1x419.rank)
  bcast_S1x1x419_S65536x1x419_0_1_2 : S1x1x419.BroadcastsInDim S65536x1x419 (![0, 1, 2] : Fin 3 → Fin S65536x1x419.rank)
  bcast_S65536x1x1_S65536x1x419_0_1_2 : S65536x1x1.BroadcastsInDim S65536x1x419 (![0, 1, 2] : Fin 3 → Fin S65536x1x419.rank)
  bcast_S65536x1x419_S65536x4x419_0_1_2 : S65536x1x419.BroadcastsInDim S65536x4x419 (![0, 1, 2] : Fin 3 → Fin S65536x4x419.rank)
  reducesTo_S65536x4x419_S65536_d1_2 : S65536x4x419.ReducesTo [1, 2] S65536

variable [Facts]

noncomputable abbrev lit0 : Fin 4 → BitVec 32 := fun
  | 0 => 4#32 | 1 => 16#32 | 2 => 64#32 | 3 => 256#32
  | _ => 0#32

noncomputable abbrev lit1 : Fin 4 → BitVec 32 := fun
  | 0 => 8#32 | 1 => 32#32 | 2 => 128#32 | 3 => 512#32
  | _ => 0#32

def fn_where {F : FTy → Type} [FloatOps F] (arg0 : IVec S418 1) (arg1 : IVec S418 1) (arg2 : IVec S418 1) : IVec S418 1 :=
  let v0 : IVec S418 1 := select arg0 arg1 arg2
  v0

def fn_where_0 {F : FTy → Type} [FloatOps F] (arg0 : IVec S1x4x419 1) (arg1 : IVec S65536x4x419 1) (arg2 : IVec S65536x4x419 1) : IVec S65536x4x419 1 :=
  let v0 : IVec S65536x4x419 1 := broadcastInDim S65536x4x419 ![0, 1, 2] bcast_S1x4x419_S65536x4x419_0_1_2 arg0
  let v1 : IVec S65536x4x419 1 := select v0 arg1 arg2
  v1

def fn_part10 {F : FTy → Type} [FloatOps F] (main_arg0 : IVec S419 32) (main_v76 : IVec S4x419 1) (main_v121 : IVec S_ 1) (main_v166 : IVec S_ 1) (main_v173 : IVec S65536x1x1 32) (main_v195 : IVec S65536x4x419 1) : IVec S_ 1 :=
  let main_v196 : IVec S1x4x419 1 := broadcastInDim S1x4x419 ![1, 2] bcast_S4x419_S1x4x419_1_2 main_v76
  let main_v197 : IVec S1x1x419 32 := broadcastInDim S1x1x419 ![2] bcast_S419_S1x1x419_2 main_arg0
  let main_v198 : IVec S65536x1x419 32 := broadcastInDim S65536x1x419 ![0, 1, 2] bcast_S1x1x419_S65536x1x419_0_1_2 main_v197
  let main_v199 : IVec S65536x1x419 32 := broadcastInDim S65536x1x419 ![0, 1, 2] bcast_S65536x1x1_S65536x1x419_0_1_2 main_v173
  let main_v200 : IVec S65536x1x419 1 := cmpi .eq main_v198 main_v199
  let main_v201 : IVec S65536x4x419 1 := broadcastInDim S65536x4x419 ![0, 1, 2] bcast_S1x4x419_S65536x4x419_0_1_2 main_v196
  let main_v202 : IVec S65536x4x419 1 := broadcastInDim S65536x4x419 ![0, 1, 2] bcast_S65536x1x419_S65536x4x419_0_1_2 main_v200
  let main_v203 : IVec S65536x4x419 1 := andi main_v201 main_v202
  let main_v204 : IVec S65536x4x419 1 := andi main_v203 main_v195
  let main_c_43 : IVec S_ 1 := constantI S_ 1 0#1
  let main_v205 : IVec S65536 1 := (fun x v => Host.reduce IntOp.ori x v reducesTo_S65536x4x419_S65536_d1_2 h_S_) main_v204 main_c_43
  let main_c_44 : IVec S_ 1 := constantI S_ 1 1#1
  let main_v206 : IVec S_ 1 := (fun x v => Host.reduce IntOp.andi x v reducesTo_S65536_S_d0 h_S_) main_v205 main_c_44
  let main_v207 : IVec S_ 1 := andi main_v166 main_v206
  let main_v208 : IVec S_ 1 := andi main_v207 main_v121
  main_v208

def fn_part9 {F : FTy → Type} [FloatOps F] (main_arg0 : IVec S419 32) (main_arg3 : IVec S4x419 32) (main_v76 : IVec S4x419 1) (main_v82 : IVec S4x419 1) (main_v121 : IVec S_ 1) (main_v166 : IVec S_ 1) (main_v170 : IVec S65536x1x1 32) (main_v173 : IVec S65536x1x1 32) (main_v174 : IVec S1x4x419 32) (main_c_39 : IVec S_ 32) : IVec S_ 1 :=
  let main_v175 : IVec S1x4x419 32 := broadcastInDim S1x4x419 ![] bcast_S_S1x4x419 main_c_39
  let main_v176 : IVec S1x4x419 32 := muli main_v174 main_v175
  let main_v177 : IVec S65536x4x419 32 := broadcastInDim S65536x4x419 ![0, 1, 2] bcast_S65536x1x1_S65536x4x419_0_1_2 main_v170
  let main_v178 : IVec S65536x4x419 32 := broadcastInDim S65536x4x419 ![0, 1, 2] bcast_S1x4x419_S65536x4x419_0_1_2 main_v176
  let main_v179 : IVec S65536x4x419 32 := subi main_v177 main_v178
  let main_v180 : IVec S1x4x419 1 := broadcastInDim S1x4x419 ![1, 2] bcast_S4x419_S1x4x419_1_2 main_v82
  let main_v181 : IVec S1x4x419 32 := broadcastInDim S1x4x419 ![1, 2] bcast_S4x419_S1x4x419_1_2 main_arg3
  let main_v182 : IVec S65536x4x419 32 := broadcastInDim S65536x4x419 ![0, 1, 2] bcast_S1x4x419_S65536x4x419_0_1_2 main_v181
  let main_v183 : IVec S65536x4x419 1 := cmpi .sge main_v179 main_v182
  let main_v184 : IVec S1x4x419 32 := broadcastInDim S1x4x419 ![1, 2] bcast_S4x419_S1x4x419_1_2 main_arg3
  let main_c_40 : IVec S_ 32 := constantI S_ 32 256#32
  let main_v185 : IVec S1x4x419 32 := broadcastInDim S1x4x419 ![] bcast_S_S1x4x419 main_c_40
  let main_v186 : IVec S1x4x419 32 := addi main_v184 main_v185
  let main_v187 : IVec S65536x4x419 32 := broadcastInDim S65536x4x419 ![0, 1, 2] bcast_S1x4x419_S65536x4x419_0_1_2 main_v186
  let main_v188 : IVec S65536x4x419 1 := cmpi .slt main_v179 main_v187
  let main_v189 : IVec S65536x4x419 1 := andi main_v183 main_v188
  let main_c_41 : IVec S_ 32 := constantI S_ 32 0#32
  let main_v190 : IVec S65536x4x419 32 := broadcastInDim S65536x4x419 ![] bcast_S_S65536x4x419 main_c_41
  let main_v191 : IVec S65536x4x419 1 := cmpi .sge main_v179 main_v190
  let main_c_42 : IVec S_ 32 := constantI S_ 32 512#32
  let main_v192 : IVec S65536x4x419 32 := broadcastInDim S65536x4x419 ![] bcast_S_S65536x4x419 main_c_42
  let main_v193 : IVec S65536x4x419 1 := cmpi .slt main_v179 main_v192
  let main_v194 : IVec S65536x4x419 1 := andi main_v191 main_v193
  let main_v195 : IVec S65536x4x419 1 := fn_where_0 (F := F) main_v180 main_v189 main_v194
  fn_part10 (F := F) main_arg0 main_v76 main_v121 main_v166 main_v173 main_v195

def fn_part8 {F : FTy → Type} [FloatOps F] (main_arg0 : IVec S419 32) (main_arg2 : IVec S4x419 32) (main_arg3 : IVec S4x419 32) (main_arg4 : FVec F S65536x128 .f32) (main_v76 : IVec S4x419 1) (main_v82 : IVec S4x419 1) (main_v121 : IVec S_ 1) (main_v125 : IVec S_ 1) (main_v132 : IVec S65536x1x1 32) (main_v154 : IVec S65536x4x419 1) : IVec S_ 1 :=
  let main_v155 : IVec S1x4x419 1 := broadcastInDim S1x4x419 ![1, 2] bcast_S4x419_S1x4x419_1_2 main_v76
  let main_v156 : IVec S1x1x419 32 := broadcastInDim S1x1x419 ![2] bcast_S419_S1x1x419_2 main_arg0
  let main_v157 : IVec S65536x1x419 32 := broadcastInDim S65536x1x419 ![0, 1, 2] bcast_S1x1x419_S65536x1x419_0_1_2 main_v156
  let main_v158 : IVec S65536x1x419 32 := broadcastInDim S65536x1x419 ![0, 1, 2] bcast_S65536x1x1_S65536x1x419_0_1_2 main_v132
  let main_v159 : IVec S65536x1x419 1 := cmpi .eq main_v157 main_v158
  let main_v160 : IVec S65536x4x419 1 := broadcastInDim S65536x4x419 ![0, 1, 2] bcast_S1x4x419_S65536x4x419_0_1_2 main_v155
  let main_v161 : IVec S65536x4x419 1 := broadcastInDim S65536x4x419 ![0, 1, 2] bcast_S65536x1x419_S65536x4x419_0_1_2 main_v159
  let main_v162 : IVec S65536x4x419 1 := andi main_v160 main_v161
  let main_v163 : IVec S65536x4x419 1 := andi main_v162 main_v154
  let main_c_36 : IVec S_ 1 := constantI S_ 1 0#1
  let main_v164 : IVec S65536 1 := (fun x v => Host.reduce IntOp.ori x v reducesTo_S65536x4x419_S65536_d1_2 h_S_) main_v163 main_c_36
  let main_c_37 : IVec S_ 1 := constantI S_ 1 1#1
  let main_v165 : IVec S_ 1 := (fun x v => Host.reduce IntOp.andi x v reducesTo_S65536_S_d0 h_S_) main_v164 main_c_37
  let main_v166 : IVec S_ 1 := andi main_v125 main_v165
  let main_v167 : FVec F S65536x1 .f32 := (extractStridedSlice S65536x1 ![0, 3] · slices_S65536x128_S65536x1_0_3) main_arg4
  let main_v168 : FVec F S65536 .f32 := shapeCast S65536 main_v167 shapeCasts_S65536x1_S65536
  let main_v169 : IVec S65536 32 := fptosi 32 main_v168
  let main_v170 : IVec S65536x1x1 32 := broadcastInDim S65536x1x1 ![0] bcast_S65536_S65536x1x1_0 main_v169
  let main_v171 : IVec S65536x1x1 32 := iotaInDim S65536x1x1 32 0
  let main_c_38 : IVec S_ 32 := constantI S_ 32 512#32
  let main_v172 : IVec S65536x1x1 32 := broadcastInDim S65536x1x1 ![] bcast_S_S65536x1x1 main_c_38
  let main_v173 : IVec S65536x1x1 32 := Host.divsi main_v171 main_v172
  let main_v174 : IVec S1x4x419 32 := broadcastInDim S1x4x419 ![1, 2] bcast_S4x419_S1x4x419_1_2 main_arg2
  let main_c_39 : IVec S_ 32 := constantI S_ 32 512#32
  fn_part9 (F := F) main_arg0 main_arg3 main_v76 main_v82 main_v121 main_v166 main_v170 main_v173 main_v174 main_c_39

def fn_part7 {F : FTy → Type} [FloatOps F] (main_arg0 : IVec S419 32) (main_arg2 : IVec S4x419 32) (main_arg3 : IVec S4x419 32) (main_arg4 : FVec F S65536x128 .f32) (main_v76 : IVec S4x419 1) (main_v82 : IVec S4x419 1) (main_v121 : IVec S_ 1) (main_v125 : IVec S_ 1) (main_v129 : IVec S65536x1x1 32) (main_v132 : IVec S65536x1x1 32) (main_v133 : IVec S1x4x419 32) (main_c_32 : IVec S_ 32) : IVec S_ 1 :=
  let main_v134 : IVec S1x4x419 32 := broadcastInDim S1x4x419 ![] bcast_S_S1x4x419 main_c_32
  let main_v135 : IVec S1x4x419 32 := muli main_v133 main_v134
  let main_v136 : IVec S65536x4x419 32 := broadcastInDim S65536x4x419 ![0, 1, 2] bcast_S65536x1x1_S65536x4x419_0_1_2 main_v129
  let main_v137 : IVec S65536x4x419 32 := broadcastInDim S65536x4x419 ![0, 1, 2] bcast_S1x4x419_S65536x4x419_0_1_2 main_v135
  let main_v138 : IVec S65536x4x419 32 := subi main_v136 main_v137
  let main_v139 : IVec S1x4x419 1 := broadcastInDim S1x4x419 ![1, 2] bcast_S4x419_S1x4x419_1_2 main_v82
  let main_v140 : IVec S1x4x419 32 := broadcastInDim S1x4x419 ![1, 2] bcast_S4x419_S1x4x419_1_2 main_arg3
  let main_v141 : IVec S65536x4x419 32 := broadcastInDim S65536x4x419 ![0, 1, 2] bcast_S1x4x419_S65536x4x419_0_1_2 main_v140
  let main_v142 : IVec S65536x4x419 1 := cmpi .sge main_v138 main_v141
  let main_v143 : IVec S1x4x419 32 := broadcastInDim S1x4x419 ![1, 2] bcast_S4x419_S1x4x419_1_2 main_arg3
  let main_c_33 : IVec S_ 32 := constantI S_ 32 256#32
  let main_v144 : IVec S1x4x419 32 := broadcastInDim S1x4x419 ![] bcast_S_S1x4x419 main_c_33
  let main_v145 : IVec S1x4x419 32 := addi main_v143 main_v144
  let main_v146 : IVec S65536x4x419 32 := broadcastInDim S65536x4x419 ![0, 1, 2] bcast_S1x4x419_S65536x4x419_0_1_2 main_v145
  let main_v147 : IVec S65536x4x419 1 := cmpi .slt main_v138 main_v146
  let main_v148 : IVec S65536x4x419 1 := andi main_v142 main_v147
  let main_c_34 : IVec S_ 32 := constantI S_ 32 0#32
  let main_v149 : IVec S65536x4x419 32 := broadcastInDim S65536x4x419 ![] bcast_S_S65536x4x419 main_c_34
  let main_v150 : IVec S65536x4x419 1 := cmpi .sge main_v138 main_v149
  let main_c_35 : IVec S_ 32 := constantI S_ 32 512#32
  let main_v151 : IVec S65536x4x419 32 := broadcastInDim S65536x4x419 ![] bcast_S_S65536x4x419 main_c_35
  let main_v152 : IVec S65536x4x419 1 := cmpi .slt main_v138 main_v151
  let main_v153 : IVec S65536x4x419 1 := andi main_v150 main_v152
  let main_v154 : IVec S65536x4x419 1 := fn_where_0 (F := F) main_v139 main_v148 main_v153
  fn_part8 (F := F) main_arg0 main_arg2 main_arg3 main_arg4 main_v76 main_v82 main_v121 main_v125 main_v132 main_v154

def fn_part6 {F : FTy → Type} [FloatOps F] (main_arg0 : IVec S419 32) (main_arg2 : IVec S4x419 32) (main_arg3 : IVec S4x419 32) (main_arg4 : FVec F S65536x128 .f32) (main_v20 : IVec S_ 1) (main_v70 : IVec S_ 1) (main_v76 : IVec S4x419 1) (main_v82 : IVec S4x419 1) (main_v113 : IVec S4x419x4x419 1) : IVec S_ 1 :=
  let main_v114 : FVec F S65536x1 .f32 := (extractStridedSlice S65536x1 ![0, 2] · slices_S65536x128_S65536x1_0_2) main_arg4
  let main_v115 : FVec F S65536 .f32 := shapeCast S65536 main_v114 shapeCasts_S65536x1_S65536
  let main_v116 : IVec S65536 32 := fptosi 32 main_v115
  let main_v117 : FVec F S65536x1 .f32 := (extractStridedSlice S65536x1 ![0, 3] · slices_S65536x128_S65536x1_0_3) main_arg4
  let main_v118 : FVec F S65536 .f32 := shapeCast S65536 main_v117 shapeCasts_S65536x1_S65536
  let main_v119 : IVec S65536 32 := fptosi 32 main_v118
  let main_v120 : IVec S65536 1 := cmpi .ne main_v116 main_v119
  let main_c_29 : IVec S_ 1 := constantI S_ 1 1#1
  let main_v121 : IVec S_ 1 := (fun x v => Host.reduce IntOp.andi x v reducesTo_S65536_S_d0 h_S_) main_v120 main_c_29
  let main_v122 : IVec S_ 1 := andi main_v20 main_v70
  let main_c_30 : IVec S_ 1 := constantI S_ 1 0#1
  let main_v123 : IVec S_ 1 := (fun x v => Host.reduce IntOp.ori x v reducesTo_S4x419x4x419_S_d0_1_2_3 h_S_) main_v113 main_c_30
  let main_v124 : IVec S_ 1 := noti main_v123
  let main_v125 : IVec S_ 1 := andi main_v122 main_v124
  let main_v126 : FVec F S65536x1 .f32 := (extractStridedSlice S65536x1 ![0, 2] · slices_S65536x128_S65536x1_0_2) main_arg4
  let main_v127 : FVec F S65536 .f32 := shapeCast S65536 main_v126 shapeCasts_S65536x1_S65536
  let main_v128 : IVec S65536 32 := fptosi 32 main_v127
  let main_v129 : IVec S65536x1x1 32 := broadcastInDim S65536x1x1 ![0] bcast_S65536_S65536x1x1_0 main_v128
  let main_v130 : IVec S65536x1x1 32 := iotaInDim S65536x1x1 32 0
  let main_c_31 : IVec S_ 32 := constantI S_ 32 512#32
  let main_v131 : IVec S65536x1x1 32 := broadcastInDim S65536x1x1 ![] bcast_S_S65536x1x1 main_c_31
  let main_v132 : IVec S65536x1x1 32 := Host.divsi main_v130 main_v131
  let main_v133 : IVec S1x4x419 32 := broadcastInDim S1x4x419 ![1, 2] bcast_S4x419_S1x4x419_1_2 main_arg2
  let main_c_32 : IVec S_ 32 := constantI S_ 32 512#32
  fn_part7 (F := F) main_arg0 main_arg2 main_arg3 main_arg4 main_v76 main_v82 main_v121 main_v125 main_v129 main_v132 main_v133 main_c_32

def fn_part5 {F : FTy → Type} [FloatOps F] (main_arg0 : IVec S419 32) (main_arg2 : IVec S4x419 32) (main_arg3 : IVec S4x419 32) (main_arg4 : FVec F S65536x128 .f32) (main_v20 : IVec S_ 1) (main_v70 : IVec S_ 1) (main_v76 : IVec S4x419 1) (main_v82 : IVec S4x419 1) (main_v87 : IVec S4x419 32) (main_v88 : IVec S4x419x1x1 1) (main_v89 : IVec S1x1x4x419 1) : IVec S_ 1 :=
  let main_v90 : IVec S4x419x4x419 1 := broadcastInDim S4x419x4x419 ![0, 1, 2, 3] bcast_S4x419x1x1_S4x419x4x419_0_1_2_3 main_v88
  let main_v91 : IVec S4x419x4x419 1 := broadcastInDim S4x419x4x419 ![0, 1, 2, 3] bcast_S1x1x4x419_S4x419x4x419_0_1_2_3 main_v89
  let main_v92 : IVec S4x419x4x419 1 := andi main_v90 main_v91
  let main_v93 : IVec S1x419 32 := broadcastInDim S1x419 ![1] bcast_S419_S1x419_1 main_arg0
  let main_v94 : IVec S1x419x1x1 32 := broadcastInDim S1x419x1x1 ![0, 1] bcast_S1x419_S1x419x1x1_0_1 main_v93
  let main_v95 : IVec S1x419 32 := broadcastInDim S1x419 ![1] bcast_S419_S1x419_1 main_arg0
  let main_v96 : IVec S1x1x1x419 32 := broadcastInDim S1x1x1x419 ![2, 3] bcast_S1x419_S1x1x1x419_2_3 main_v95
  let main_v97 : IVec S1x419x1x419 32 := broadcastInDim S1x419x1x419 ![0, 1, 2, 3] bcast_S1x419x1x1_S1x419x1x419_0_1_2_3 main_v94
  let main_v98 : IVec S1x419x1x419 32 := broadcastInDim S1x419x1x419 ![0, 1, 2, 3] bcast_S1x1x1x419_S1x419x1x419_0_1_2_3 main_v96
  let main_v99 : IVec S1x419x1x419 1 := cmpi .eq main_v97 main_v98
  let main_v100 : IVec S4x419x4x419 1 := broadcastInDim S4x419x4x419 ![0, 1, 2, 3] bcast_S1x419x1x419_S4x419x4x419_0_1_2_3 main_v99
  let main_v101 : IVec S4x419x4x419 1 := andi main_v92 main_v100
  let main_v102 : IVec S4x419x1x1 32 := broadcastInDim S4x419x1x1 ![0, 1] bcast_S4x419_S4x419x1x1_0_1 main_arg2
  let main_v103 : IVec S1x1x4x419 32 := broadcastInDim S1x1x4x419 ![2, 3] bcast_S4x419_S1x1x4x419_2_3 main_arg2
  let main_v104 : IVec S4x419x4x419 32 := broadcastInDim S4x419x4x419 ![0, 1, 2, 3] bcast_S4x419x1x1_S4x419x4x419_0_1_2_3 main_v102
  let main_v105 : IVec S4x419x4x419 32 := broadcastInDim S4x419x4x419 ![0, 1, 2, 3] bcast_S1x1x4x419_S4x419x4x419_0_1_2_3 main_v103
  let main_v106 : IVec S4x419x4x419 1 := cmpi .eq main_v104 main_v105
  let main_v107 : IVec S4x419x4x419 1 := andi main_v101 main_v106
  let main_v108 : IVec S4x419x1x1 32 := broadcastInDim S4x419x1x1 ![0, 1] bcast_S4x419_S4x419x1x1_0_1 main_v87
  let main_v109 : IVec S1x1x4x419 32 := broadcastInDim S1x1x4x419 ![2, 3] bcast_S4x419_S1x1x4x419_2_3 main_v87
  let main_v110 : IVec S4x419x4x419 32 := broadcastInDim S4x419x4x419 ![0, 1, 2, 3] bcast_S4x419x1x1_S4x419x4x419_0_1_2_3 main_v108
  let main_v111 : IVec S4x419x4x419 32 := broadcastInDim S4x419x4x419 ![0, 1, 2, 3] bcast_S1x1x4x419_S4x419x4x419_0_1_2_3 main_v109
  let main_v112 : IVec S4x419x4x419 1 := cmpi .ne main_v110 main_v111
  let main_v113 : IVec S4x419x4x419 1 := andi main_v107 main_v112
  fn_part6 (F := F) main_arg0 main_arg2 main_arg3 main_arg4 main_v20 main_v70 main_v76 main_v82 main_v113

def fn_part4 {F : FTy → Type} [FloatOps F] (main_arg0 : IVec S419 32) (main_arg1 : IVec S419 32) (main_arg2 : IVec S4x419 32) (main_arg3 : IVec S4x419 32) (main_arg4 : FVec F S65536x128 .f32) (main_c : IVec S4x1 32) (main_c_0 : IVec S4x1 32) (main_v20 : IVec S_ 1) (main_v60 : IVec S_ 1) (main_v68 : IVec S418 1) (main_c_25 : IVec S_ 1) : IVec S_ 1 :=
  let main_v69 : IVec S_ 1 := (fun x v => Host.reduce IntOp.andi x v reducesTo_S418_S_d0 h_S_) main_v68 main_c_25
  let main_v70 : IVec S_ 1 := andi main_v60 main_v69
  let main_v71 : IVec S1x419 32 := broadcastInDim S1x419 ![1] bcast_S419_S1x419_1 main_arg1
  let main_v72 : IVec S4x419 32 := broadcastInDim S4x419 ![0, 1] bcast_S1x419_S4x419_0_1 main_v71
  let main_v73 : IVec S4x419 32 := broadcastInDim S4x419 ![0, 1] bcast_S4x1_S4x419_0_1 main_c
  let main_v74 : IVec S4x419 32 := andi main_v72 main_v73
  let main_c_26 : IVec S_ 32 := constantI S_ 32 0#32
  let main_v75 : IVec S4x419 32 := broadcastInDim S4x419 ![] bcast_S_S4x419 main_c_26
  let main_v76 : IVec S4x419 1 := cmpi .ne main_v74 main_v75
  let main_v77 : IVec S1x419 32 := broadcastInDim S1x419 ![1] bcast_S419_S1x419_1 main_arg1
  let main_v78 : IVec S4x419 32 := broadcastInDim S4x419 ![0, 1] bcast_S1x419_S4x419_0_1 main_v77
  let main_v79 : IVec S4x419 32 := broadcastInDim S4x419 ![0, 1] bcast_S4x1_S4x419_0_1 main_c_0
  let main_v80 : IVec S4x419 32 := andi main_v78 main_v79
  let main_c_27 : IVec S_ 32 := constantI S_ 32 0#32
  let main_v81 : IVec S4x419 32 := broadcastInDim S4x419 ![] bcast_S_S4x419 main_c_27
  let main_v82 : IVec S4x419 1 := cmpi .ne main_v80 main_v81
  let main_v83 : IVec S4x419 32 := iotaInDim S4x419 32 0
  let main_c_28 : IVec S_ 32 := constantI S_ 32 419#32
  let main_v84 : IVec S4x419 32 := broadcastInDim S4x419 ![] bcast_S_S4x419 main_c_28
  let main_v85 : IVec S4x419 32 := muli main_v83 main_v84
  let main_v86 : IVec S4x419 32 := iotaInDim S4x419 32 1
  let main_v87 : IVec S4x419 32 := addi main_v85 main_v86
  let main_v88 : IVec S4x419x1x1 1 := broadcastInDim S4x419x1x1 ![0, 1] bcast_S4x419_S4x419x1x1_0_1 main_v76
  let main_v89 : IVec S1x1x4x419 1 := broadcastInDim S1x1x4x419 ![2, 3] bcast_S4x419_S1x1x4x419_2_3 main_v76
  fn_part5 (F := F) main_arg0 main_arg2 main_arg3 main_arg4 main_v20 main_v70 main_v76 main_v82 main_v87 main_v88 main_v89

def fn_part3 {F : FTy → Type} [FloatOps F] (main_arg0 : IVec S419 32) (main_arg1 : IVec S419 32) (main_arg2 : IVec S4x419 32) (main_arg3 : IVec S4x419 32) (main_arg4 : FVec F S65536x128 .f32) (main_c : IVec S4x1 32) (main_c_0 : IVec S4x1 32) (main_v20 : IVec S_ 1) (main_v21 : IVec S418 32) (main_v22 : IVec S418 32) (main_v29 : IVec S419 1) (main_v48 : IVec S_ 1) (main_v49 : IVec S418 32) : IVec S_ 1 :=
  let main_c_21 : IVec S_ 32 := constantI S_ 32 1#32
  let main_v50 : IVec S418 32 := broadcastInDim S418 ![] bcast_S_S418 main_c_21
  let main_v51 : IVec S418 32 := andi main_v49 main_v50
  let main_c_22 : IVec S_ 32 := constantI S_ 32 0#32
  let main_v52 : IVec S418 32 := broadcastInDim S418 ![] bcast_S_S418 main_c_22
  let main_v53 : IVec S418 1 := cmpi .ne main_v51 main_v52
  let main_v54 : IVec S418 1 := cmpi .ne main_v22 main_v21
  let main_v55 : IVec S418 1 := cmpi .eq main_v53 main_v54
  let main_c_23 : IVec S_ 1 := constantI S_ 1 1#1
  let main_v56 : IVec S_ 1 := (fun x v => Host.reduce IntOp.andi x v reducesTo_S418_S_d0 h_S_) main_v55 main_c_23
  let main_v57 : IVec S_ 1 := andi main_v48 main_v56
  let main_v58 : IVec S1 1 := (extractStridedSlice S1 ![418] · slices_S419_S1_418) main_v29
  let main_v59 : IVec S_ 1 := shapeCast S_ main_v58 shapeCasts_S1_S_
  let main_v60 : IVec S_ 1 := andi main_v57 main_v59
  let main_v61 : IVec S418 1 := cmpi .ne main_v22 main_v21
  let main_v62 : IVec S418 1 := (extractStridedSlice S418 ![0] · slices_S419_S418_0) main_v29
  let main_v63 : IVec S418 1 := (extractStridedSlice S418 ![0] · slices_S419_S418_0) main_v29
  let main_v64 : IVec S418 32 := (extractStridedSlice S418 ![1] · slices_S419_S418_1) main_arg1
  let main_c_24 : IVec S_ 32 := constantI S_ 32 0#32
  let main_v65 : IVec S418 32 := broadcastInDim S418 ![] bcast_S_S418 main_c_24
  let main_v66 : IVec S418 1 := cmpi .eq main_v64 main_v65
  let main_v67 : IVec S418 1 := cmpi .eq main_v63 main_v66
  let main_v68 : IVec S418 1 := fn_where (F := F) main_v61 main_v62 main_v67
  let main_c_25 : IVec S_ 1 := constantI S_ 1 1#1
  fn_part4 (F := F) main_arg0 main_arg1 main_arg2 main_arg3 main_arg4 main_c main_c_0 main_v20 main_v60 main_v68 main_c_25

def fn_part2 {F : FTy → Type} [FloatOps F] (main_arg0 : IVec S419 32) (main_arg1 : IVec S419 32) (main_arg2 : IVec S4x419 32) (main_arg3 : IVec S4x419 32) (main_arg4 : FVec F S65536x128 .f32) (main_c : IVec S4x1 32) (main_c_0 : IVec S4x1 32) (main_v20 : IVec S_ 1) (main_v21 : IVec S418 32) (main_v22 : IVec S418 32) (main_v29 : IVec S419 1) (main_v31 : IVec S_ 32) : IVec S_ 1 :=
  let main_c_15 : IVec S_ 32 := constantI S_ 32 0#32
  let main_v32 : IVec S_ 1 := cmpi .eq main_v31 main_c_15
  let main_v33 : IVec S1 32 := (extractStridedSlice S1 ![418] · slices_S419_S1_418) main_arg0
  let main_v34 : IVec S_ 32 := shapeCast S_ main_v33 shapeCasts_S1_S_
  let main_c_16 : IVec S_ 32 := constantI S_ 32 127#32
  let main_v35 : IVec S_ 1 := cmpi .eq main_v34 main_c_16
  let main_v36 : IVec S_ 1 := andi main_v32 main_v35
  let main_v37 : IVec S418 1 := cmpi .eq main_v22 main_v21
  let main_c_17 : IVec S_ 32 := constantI S_ 32 1#32
  let main_v38 : IVec S418 32 := broadcastInDim S418 ![] bcast_S_S418 main_c_17
  let main_v39 : IVec S418 32 := addi main_v21 main_v38
  let main_v40 : IVec S418 1 := cmpi .eq main_v22 main_v39
  let main_v41 : IVec S418 1 := ori main_v37 main_v40
  let main_c_18 : IVec S_ 1 := constantI S_ 1 1#1
  let main_v42 : IVec S_ 1 := (fun x v => Host.reduce IntOp.andi x v reducesTo_S418_S_d0 h_S_) main_v41 main_c_18
  let main_v43 : IVec S_ 1 := andi main_v36 main_v42
  let main_v44 : IVec S1 32 := (extractStridedSlice S1 ![0] · slices_S419_S1_0) main_arg1
  let main_v45 : IVec S_ 32 := shapeCast S_ main_v44 shapeCasts_S1_S_
  let main_c_19 : IVec S_ 32 := constantI S_ 32 1#32
  let main_v46 : IVec S_ 32 := andi main_v45 main_c_19
  let main_c_20 : IVec S_ 32 := constantI S_ 32 0#32
  let main_v47 : IVec S_ 1 := cmpi .ne main_v46 main_c_20
  let main_v48 : IVec S_ 1 := andi main_v43 main_v47
  let main_v49 : IVec S418 32 := (extractStridedSlice S418 ![1] · slices_S419_S418_1) main_arg1
  fn_part3 (F := F) main_arg0 main_arg1 main_arg2 main_arg3 main_arg4 main_c main_c_0 main_v20 main_v21 main_v22 main_v29 main_v48 main_v49

def fn_part1 {F : FTy → Type} [FloatOps F] (main_arg0 : IVec S419 32) (main_arg1 : IVec S419 32) (main_arg2 : IVec S4x419 32) (main_arg3 : IVec S4x419 32) (main_arg4 : FVec F S65536x128 .f32) (main_c : IVec S4x1 32) (main_c_0 : IVec S4x1 32) (main_v10 : IVec S_ 1) (main_v13 : IVec S_ 1) : IVec S_ 1 :=
  let main_v14 : IVec S_ 1 := andi main_v10 main_v13
  let main_c_9 : IVec S_ 32 := constantI S_ 32 15#32
  let main_v15 : IVec S4x419 32 := broadcastInDim S4x419 ![] bcast_S_S4x419 main_c_9
  let main_v16 : IVec S4x419 32 := andi main_arg3 main_v15
  let main_c_10 : IVec S_ 32 := constantI S_ 32 0#32
  let main_v17 : IVec S4x419 32 := broadcastInDim S4x419 ![] bcast_S_S4x419 main_c_10
  let main_v18 : IVec S4x419 1 := cmpi .eq main_v16 main_v17
  let main_c_11 : IVec S_ 1 := constantI S_ 1 1#1
  let main_v19 : IVec S_ 1 := (fun x v => Host.reduce IntOp.andi x v reducesTo_S4x419_S_d0_1 h_S_) main_v18 main_c_11
  let main_v20 : IVec S_ 1 := andi main_v14 main_v19
  let main_v21 : IVec S418 32 := (extractStridedSlice S418 ![0] · slices_S419_S418_0) main_arg0
  let main_v22 : IVec S418 32 := (extractStridedSlice S418 ![1] · slices_S419_S418_1) main_arg0
  let main_c_12 : IVec S_ 32 := constantI S_ 32 2#32
  let main_v23 : IVec S419 32 := broadcastInDim S419 ![] bcast_S_S419 main_c_12
  let main_v24 : IVec S419 32 := andi main_arg1 main_v23
  let main_c_13 : IVec S_ 32 := constantI S_ 32 0#32
  let main_v25 : IVec S419 32 := broadcastInDim S419 ![] bcast_S_S419 main_c_13
  let main_v26 : IVec S419 1 := cmpi .ne main_v24 main_v25
  let main_c_14 : IVec S_ 32 := constantI S_ 32 0#32
  let main_v27 : IVec S419 32 := broadcastInDim S419 ![] bcast_S_S419 main_c_14
  let main_v28 : IVec S419 1 := cmpi .eq main_arg1 main_v27
  let main_v29 : IVec S419 1 := ori main_v26 main_v28
  let main_v30 : IVec S1 32 := (extractStridedSlice S1 ![0] · slices_S419_S1_0) main_arg0
  let main_v31 : IVec S_ 32 := shapeCast S_ main_v30 shapeCasts_S1_S_
  fn_part2 (F := F) main_arg0 main_arg1 main_arg2 main_arg3 main_arg4 main_c main_c_0 main_v20 main_v21 main_v22 main_v29 main_v31

def fn {F : FTy → Type} [FloatOps F] (main_arg0 : IVec S419 32) (main_arg1 : IVec S419 32) (main_arg2 : IVec S4x419 32) (main_arg3 : IVec S4x419 32) (main_arg4 : FVec F S65536x128 .f32) (main_arg5 : FVec F S135168x1024 .bf16) (main_arg6 : FVec F S65536x1024 .f32) (main_arg7 : FVec F S1024 .f32) (main_arg8 : FVec F S1024 .f32) : IVec S_ 1 :=
  let main_c : IVec S4x1 32 := fun i => lit0 (S4x1.rowMajor i)
  let main_c_0 : IVec S4x1 32 := fun i => lit1 (S4x1.rowMajor i)
  let main_c_1 : IVec S_ 32 := constantI S_ 32 0#32
  let main_v0 : IVec S4x419 32 := broadcastInDim S4x419 ![] bcast_S_S4x419 main_c_1
  let main_v1 : IVec S4x419 1 := cmpi .sge main_arg2 main_v0
  let main_c_2 : IVec S_ 1 := constantI S_ 1 1#1
  let main_v2 : IVec S_ 1 := (fun x v => Host.reduce IntOp.andi x v reducesTo_S4x419_S_d0_1 h_S_) main_v1 main_c_2
  let main_c_3 : IVec S_ 32 := constantI S_ 32 264#32
  let main_v3 : IVec S4x419 32 := broadcastInDim S4x419 ![] bcast_S_S4x419 main_c_3
  let main_v4 : IVec S4x419 1 := cmpi .slt main_arg2 main_v3
  let main_c_4 : IVec S_ 1 := constantI S_ 1 1#1
  let main_v5 : IVec S_ 1 := (fun x v => Host.reduce IntOp.andi x v reducesTo_S4x419_S_d0_1 h_S_) main_v4 main_c_4
  let main_v6 : IVec S_ 1 := andi main_v2 main_v5
  let main_c_5 : IVec S_ 32 := constantI S_ 32 0#32
  let main_v7 : IVec S4x419 32 := broadcastInDim S4x419 ![] bcast_S_S4x419 main_c_5
  let main_v8 : IVec S4x419 1 := cmpi .sge main_arg3 main_v7
  let main_c_6 : IVec S_ 1 := constantI S_ 1 1#1
  let main_v9 : IVec S_ 1 := (fun x v => Host.reduce IntOp.andi x v reducesTo_S4x419_S_d0_1 h_S_) main_v8 main_c_6
  let main_v10 : IVec S_ 1 := andi main_v6 main_v9
  let main_c_7 : IVec S_ 32 := constantI S_ 32 256#32
  let main_v11 : IVec S4x419 32 := broadcastInDim S4x419 ![] bcast_S_S4x419 main_c_7
  let main_v12 : IVec S4x419 1 := cmpi .sle main_arg3 main_v11
  let main_c_8 : IVec S_ 1 := constantI S_ 1 1#1
  let main_v13 : IVec S_ 1 := (fun x v => Host.reduce IntOp.andi x v reducesTo_S4x419_S_d0_1 h_S_) main_v12 main_c_8
  fn_part1 (F := F) main_arg0 main_arg1 main_arg2 main_arg3 main_arg4 main_c main_c_0 main_v10 main_v13
-- ==== Pre_routed.lean ====
abbrev S264 : Shape := ⟨1, ![264]⟩
abbrev S1 : Shape := ⟨1, ![1]⟩
abbrev S135168x1024 : Shape := ⟨2, ![135168, 1024]⟩
abbrev S135168x256 : Shape := ⟨2, ![135168, 256]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)
  reducesTo_S264_S_d0 : S264.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S264 32) (main_arg1 : IVec S1 32) (main_arg2 : FVec F S135168x1024 .bf16) (main_arg3 : FVec F S135168x256 .f32) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S264 32 := broadcastInDim S264 ![] bcast_S_S264 main_c
  let main_v1 : IVec S264 1 := cmpi .sge main_arg0 main_v0
  let main_c_0 : IVec S_ 1 := constantI S_ 1 1#1
  let main_v2 : IVec S_ 1 := (fun x v => Host.reduce IntOp.andi x v reducesTo_S264_S_d0 h_S_) main_v1 main_c_0
  let main_c_1 : IVec S_ 32 := constantI S_ 32 8#32
  let main_v3 : IVec S264 32 := broadcastInDim S264 ![] bcast_S_S264 main_c_1
  let main_v4 : IVec S264 1 := cmpi .slt main_arg0 main_v3
  let main_c_2 : IVec S_ 1 := constantI S_ 1 1#1
  let main_v5 : IVec S_ 1 := (fun x v => Host.reduce IntOp.andi x v reducesTo_S264_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 264#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S16x4096x3072 : Shape := ⟨3, ![16, 4096, 3072]⟩
abbrev S16x513 : Shape := ⟨2, ![16, 513]⟩
abbrev S16x512 : Shape := ⟨2, ![16, 512]⟩
abbrev S16x1 : Shape := ⟨2, ![16, 1]⟩
abbrev S16x511 : Shape := ⟨2, ![16, 511]⟩
abbrev S16x1023 : Shape := ⟨2, ![16, 1023]⟩
abbrev S_ : Shape := ⟨0, ![]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S16x256x512 : Shape := ⟨3, ![16, 256, 512]⟩
abbrev S16x256x256 : Shape := ⟨3, ![16, 256, 256]⟩
abbrev S16x1x256x768 : Shape := ⟨4, ![16, 1, 256, 768]⟩
abbrev S16x3x256x768 : Shape := ⟨4, ![16, 3, 256, 768]⟩
abbrev S2x8x3x256x768 : Shape := ⟨5, ![2, 8, 3, 256, 768]⟩
abbrev S2x3x8x256x768 : Shape := ⟨5, ![2, 3, 8, 256, 768]⟩
abbrev S2x3x2048x768 : Shape := ⟨4, ![2, 3, 2048, 768]⟩
abbrev S16x4096x1024 : Shape := ⟨3, ![16, 4096, 1024]⟩
abbrev S1x256x512 : Shape := ⟨3, ![1, 256, 512]⟩
abbrev S1x4096x512 : Shape := ⟨3, ![1, 4096, 512]⟩
abbrev S1x1x2048x768 : Shape := ⟨4, ![1, 1, 2048, 768]⟩
abbrev S1x128 : Shape := ⟨2, ![1, 128]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S1x1x256x768 : Shape := ⟨4, ![1, 1, 256, 768]⟩

abbrev nBuf : Space → Nat
  | .hbm => 94
  | .vmem => 10
  | .smem => 0
  | _ => 0

abbrev bufTy : (tb : Table) → Fin (tcTables nBuf tb) → BufTy
  | .hbm, ⟨0, _⟩ => ⟨S16x4096x3072, .bf16⟩
  | .hbm, ⟨1, _⟩ => ⟨S16x513, .f32⟩
  | .hbm, ⟨2, _⟩ => ⟨S16x512, .f32⟩
  | .hbm, ⟨3, _⟩ => ⟨S16x1, .f32⟩
  | .hbm, ⟨4, _⟩ => ⟨S16x511, .f32⟩
  | .hbm, ⟨5, _⟩ => ⟨S16x1023, .f32⟩
  | .hbm, ⟨6, _⟩ => ⟨S16x1023, .f32⟩
  | .hbm, ⟨7, _⟩ => ⟨S_, .f32⟩
  | .hbm, ⟨8, _⟩ => ⟨S16x1, .f32⟩
  | .hbm, ⟨9, _⟩ => ⟨S16x1024, .f32⟩
  | .hbm, ⟨10, _⟩ => ⟨S1x16x1x1024, .f32⟩
  | .hbm, ⟨11, _⟩ => ⟨S1x16x256x1024, .f32⟩
  | .hbm, ⟨12, _⟩ => ⟨S16x262144, .f32⟩
  | .hbm, ⟨13, _⟩ => ⟨S16x261888, .f32⟩
  | .hbm, ⟨14, _⟩ => ⟨S16x256x1023, .f32⟩
  | .hbm, ⟨15, _⟩ => ⟨S16x256x768, .f32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i1⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S768, .i32⟩
  | .hbm, ⟨40, _⟩ => ⟨S1x768, .i32⟩
  | .hbm, ⟨41, _⟩ => ⟨S_, .i32⟩
  | .hbm, ⟨42, _⟩ => ⟨S_, .i32⟩
  | .hbm, ⟨43, _⟩ => ⟨S1x768, .i32⟩
  | .hbm, ⟨44, _⟩ => ⟨S1x768, .i32⟩
  | .hbm, ⟨45, _⟩ => ⟨S1x768, .i32⟩
  | .hbm, ⟨46, _⟩ => ⟨S_, .i32⟩
  | .hbm, ⟨47, _⟩ => ⟨S1x768, .i32⟩
  | .hbm, ⟨48, _⟩ => ⟨S1x768, .i1⟩
  | .hbm, ⟨49, _⟩ => ⟨S1x768, .i32⟩
  | .hbm, ⟨50, _⟩ => ⟨S1x768, .i32⟩
  | .hbm, ⟨51, _⟩ => ⟨S_, .i32⟩
  | .hbm, ⟨52, _⟩ => ⟨S1x768, .i32⟩
  | .hbm, ⟨53, _⟩ => ⟨S1x768, .i1⟩
  | .hbm, ⟨54, _⟩ => ⟨S1x768, .i1⟩
  | .hbm, ⟨55, _⟩ => ⟨S_, .i32⟩
  | .hbm, ⟨56, _⟩ => ⟨S1x768, .i32⟩
  | .hbm, ⟨57, _⟩ => ⟨S1x768, .i32⟩
  | .hbm, ⟨58, _⟩ => ⟨S1x768, .i32⟩
  | .hbm, ⟨59, _⟩ => ⟨S_, .i32⟩
  | .hbm, ⟨60, _⟩ => ⟨S256x1, .i32⟩
  | .hbm, ⟨61, _⟩ => ⟨S256x1, .i32⟩
  | .hbm, ⟨62, _⟩ => ⟨S256x768, .i32⟩
  | .hbm, ⟨63, _⟩ => ⟨S256x768, .i32⟩
  | .hbm, ⟨64, _⟩ => ⟨S256x768, .i1⟩
  | .hbm, ⟨65, _⟩ => ⟨S256x768, .i32⟩
  | .hbm, ⟨66, _⟩ => ⟨S256x768, .i32⟩
  | .hbm, ⟨67, _⟩ => ⟨S256x768, .i1⟩
  | .hbm, ⟨68, _⟩ => ⟨S256x768, .i1⟩
  | .hbm, ⟨69, _⟩ => ⟨S1x256x768, .i1⟩
  | .hbm, ⟨70, _⟩ => ⟨S_, .f32⟩
  | .hbm, ⟨71, _⟩ => ⟨S_, .f32⟩
  | .hbm, ⟨72, _⟩ => ⟨S16x256x768, .i1⟩
  | .hbm, ⟨73, _⟩ => ⟨S16x256x768, .f32⟩
  | .hbm, ⟨74, _⟩ => ⟨S16x256x768, .f32⟩
  | .hbm, ⟨75, _⟩ => ⟨S_, .f32⟩
  | .hbm, ⟨76, _⟩ => ⟨S_, .f32⟩
  | .hbm, ⟨77, _⟩ => ⟨S16x256x768, .f32⟩
  | .hbm, ⟨78, _⟩ => ⟨S16x256x512, .f32⟩
  | .hbm, ⟨79, _⟩ => ⟨S_, .f32⟩
  | .hbm, ⟨80, _⟩ => ⟨S_, .f32⟩
  | .hbm, ⟨81, _⟩ => ⟨S16x256x768, .f32⟩
  | .hbm, ⟨82, _⟩ => ⟨S16x256x256, .f32⟩
  | .hbm, ⟨83, _⟩ => ⟨S_, .f32⟩
  | .hbm, ⟨84, _⟩ => ⟨S_, .f32⟩
  | .hbm, ⟨85, _⟩ => ⟨S16x256x768, .f32⟩
  | .hbm, ⟨86, _⟩ => ⟨S16x1x256x768, .f32⟩
  | .hbm, ⟨87, _⟩ => ⟨S16x1x256x768, .f32⟩
  | .hbm, ⟨88, _⟩ => ⟨S16x1x256x768, .f32⟩
  | .hbm, ⟨89, _⟩ => ⟨S16x3x256x768, .f32⟩
  | .hbm, ⟨90, _⟩ => ⟨S2x8x3x256x768, .f32⟩
  | .hbm, ⟨91, _⟩ => ⟨S2x3x8x256x768, .f32⟩
  | .hbm, ⟨92, _⟩ => ⟨S2x3x2048x768, .f32⟩
  | .hbm, ⟨93, _⟩ => ⟨S16x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x2048x768, .f32⟩
  | .local _ .vmem, ⟨7, _⟩ => ⟨S1x1x2048x768, .f32⟩
  | .local _ .vmem, ⟨8, _⟩ => ⟨S1x256x512, .bf16⟩
  | .local _ .vmem, ⟨9, _⟩ => ⟨S1x256x512, .bf16⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v15 : Ref sig .tc := ⟨.hbm, 35, rfl⟩
abbrev main_c_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v20 : Ref sig .tc := ⟨.hbm, 58, rfl⟩
abbrev main_c_2 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v31 : Ref sig .tc := ⟨.hbm, 74, rfl⟩
abbrev main_cst_4 : Ref sig .tc := ⟨.hbm, 75, rfl⟩
abbrev main_call3_v0 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_call4_v0 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_call5_v0 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v4 : BitVec 32 := Scalar.subi v0 c512_i32
  let c0_i32 : BitVec 32 := 0#32
  let v5 : BitVec 32 := Scalar.maxsi v4 c0_i32
  v5
def k0_off1 (i : grid0.Coords) : Fin 3 → Nat :=
  let c0_2 : Index := 0#32
  let arg2 : BitVec 32 := BitVec.ofNat 32 (i 2).val
  let c256_i32 : BitVec 32 := 256#32
  let v0 : BitVec 32 := Scalar.muli arg2 c256_i32
  let c512_i32 : BitVec 32 := 512#32
  let v4 : BitVec 32 := Scalar.subi v0 c512_i32
  let c0_i32 : BitVec 32 := 0#32
  let v5 : BitVec 32 := Scalar.maxsi v4 c0_i32
  let v6 : BitVec 32 := v5
  let v11 : Index := Scalar.indexCast v6
  let c0_3 : Index := 0#32
  ![0, v11.toNat, 0]
def k0_off2 (i : grid0.Coords) : Fin 3 → Nat :=
  let c0_11 : Index := 0#32
  let arg2 : BitVec 32 := BitVec.ofNat 32 (i 2).val
  let c256_i32 : BitVec 32 := 256#32
  let v0 : BitVec 32 := Scalar.muli arg2 c256_i32
  let c512_i32 : BitVec 32 := 512#32
  let v4 : BitVec 32 := Scalar.subi v0 c512_i32
  let c0_i32 : BitVec 32 := 0#32
  let v5 : BitVec 32 := Scalar.maxsi v4 c0_i32
  let v6 : BitVec 32 := v5
  let v28 : Index := Scalar.indexCast v6
  let c128_12 : Index := 128#32
  ![0, v28.toNat, 128]
def k0_off3 (i : grid0.Coords) : Fin 3 → Nat :=
  let c0_20 : Index := 0#32
  let arg2 : BitVec 32 := BitVec.ofNat 32 (i 2).val
  let c256_i32 : BitVec 32 := 256#32
  let v0 : BitVec 32 := Scalar.muli arg2 c256_i32
  let c512_i32 : BitVec 32 := 512#32
  let v4 : BitVec 32 := Scalar.subi v0 c512_i32
  let c0_i32 : BitVec 32 := 0#32
  let v5 : BitVec 32 := Scalar.maxsi v4 c0_i32
  let v6 : BitVec 32 := v5
  let v45 : Index := Scalar.indexCast v6
  let c256_21 : Index := 256#32
  ![0, v45.toNat, 256]
def k0_off4 (i : grid0.Coords) : Fin 3 → Nat :=
  let c0_29 : Index := 0#32
  let arg2 : BitVec 32 := BitVec.ofNat 32 (i 2).val
  let c256_i32 : BitVec 32 := 256#32
  let v0 : BitVec 32 := Scalar.muli arg2 c256_i32
  let c512_i32 : BitVec 32 := 512#32
  let v4 : BitVec 32 := Scalar.subi v0 c512_i32
  let c0_i32 : BitVec 32 := 0#32
  let v5 : BitVec 32 := Scalar.maxsi v4 c0_i32
  let v6 : BitVec 32 := v5
  let v62 : Index := Scalar.indexCast v6
  let c384_30 : Index := 384#32
  ![0, v62.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi c2_i32 arg2
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg1.toNat, v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16x4096x3072 : Shape := ⟨3, ![16, 4096, 3072]⟩
abbrev S16x513 : Shape := ⟨2, ![16, 513]⟩
abbrev S16x4096x1024 : Shape := ⟨3, ![16, 4096, 1024]⟩
abbrev S16x4096x16x64 : Shape := ⟨4, ![16, 4096, 16, 64]⟩
abbrev S_ : Shape := ⟨0, ![]⟩
abbrev S16x4608x16x64 : Shape := ⟨4, ![16, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S64x16x64x16x64 : Shape := ⟨5, ![64, 16, 64, 16, 64]⟩
abbrev S1 : Shape := ⟨1, ![1]⟩
abbrev S16x64x16x64 : Shape := ⟨4, ![16, 64, 16, 64]⟩
abbrev S16x576x16x64 : Shape := ⟨4, ![16, 576, 16, 64]⟩
abbrev S16x16x64x576 : Shape := ⟨4, ![16, 16, 64, 576]⟩
abbrev S1x16x64x576 : Shape := ⟨4, ![1, 16, 64, 576]⟩
abbrev S1x1x1x576 : Shape := ⟨4, ![1, 1, 1, 576]⟩
abbrev S16x16x64 : Shape := ⟨3, ![16, 16, 64]⟩
abbrev S16x16x64x1 : Shape := ⟨4, ![16, 16, 64, 1]⟩
abbrev S16x16x64x64 : Shape := ⟨4, ![16, 16, 64, 64]⟩
abbrev S1x16x64x16x64 : Shape := ⟨5, ![1, 16, 64, 16, 64]⟩
abbrev S16x64x64x16x64 : Shape := ⟨5, ![16, 64, 64, 16, 64]⟩

abbrev nBuf : Space → Nat
  | .hbm => 137
  | .vmem => 0
  | .smem => 0
  | _ => 0

abbrev hbmTy0_0 (i : Nat) : BufTy := match i % 128 with
  | 0 => ⟨S16x4096x3072, .bf16⟩
  | 1 => ⟨S16x513, .f32⟩
  | 2 => ⟨S16x4096x3072, .f32⟩
  | 3 => ⟨S16x4096x1024, .f32⟩
  | 4 => ⟨S16x4096x1024, .f32⟩
  | 5 => ⟨S16x4096x1024, .f32⟩
  | 6 => ⟨S16x4096x16x64, .f32⟩
  | 7 => ⟨S16x4096x16x64, .f32⟩
  | 8 => ⟨S16x4096x16x64, .f32⟩
  | 9 => ⟨S_, .i32⟩
  | 10 => ⟨S_, .f32⟩
  | 11 => ⟨S16x4608x16x64, .f32⟩
  | 12 => ⟨S_, .i32⟩
  | 13 => ⟨S_, .f32⟩
  | 14 => ⟨S16x4608x16x64, .f32⟩
  | 15 => ⟨S64, .i32⟩
  | 16 => ⟨S64x1, .i32⟩
  | 17 => ⟨S_, .i32⟩
  | 18 => ⟨S64x1, .i32⟩
  | 19 => ⟨S64x1, .i32⟩
  | 20 => ⟨S576, .i32⟩
  | 21 => ⟨S1x576, .i32⟩
  | 22 => ⟨S64x576, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S16x64x576, .f32⟩
  | 45 => ⟨S64, .i32⟩
  | 46 => ⟨S_, .f32⟩
  | 47 => ⟨S64x16x64x16x64, .f32⟩
  | 48 => ⟨S_, .i32⟩
  | 49 => ⟨S64, .i32⟩
  | 50 => ⟨S16x4096x16x64, .f32⟩
  | 51 => ⟨S16x4608x16x64, .f32⟩
  | 52 => ⟨S16x4608x16x64, .f32⟩
  | 53 => ⟨S16x64x576, .f32⟩
  | 54 => ⟨S_, .i32⟩
  | 55 => ⟨S64x16x64x16x64, .f32⟩
  | 56 => ⟨S_, .i32⟩
  | 57 => ⟨S_, .i1⟩
  | 58 => ⟨S1, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S16x64x16x64, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S16x576x16x64, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S16x576x16x64, .f32⟩
  | 89 => ⟨S16x16x64x576, .f32⟩
  | 90 => ⟨S_, .f32⟩
  | 91 => ⟨S16x16x64x576, .f32⟩
  | 92 => ⟨S16x16x64x576, .f32⟩
  | 93 => ⟨S1x16x64x576, .f32⟩
  | 94 => ⟨S16x16x64x576, .f32⟩
  | 95 => ⟨S16x16x64x576, .f32⟩
  | 96 => ⟨S_, .i32⟩
  | 97 => ⟨S_, .i32⟩
  | 98 => ⟨S576, .i32⟩
  | 99 => ⟨S576, .i32⟩
  | 100 => ⟨S576, .i32⟩
  | 101 => ⟨S_, .i32⟩
  | 102 => ⟨S576, .i32⟩
  | 103 => ⟨S576, .i1⟩
  | 104 => ⟨S1x1x1x576, .i1⟩
  | 105 => ⟨S_, .f32⟩
  | 106 => ⟨S_, .f32⟩
  | 107 => ⟨S16x16x64x576, .i1⟩
  | 108 => ⟨S16x16x64x576, .f32⟩
  | 109 => ⟨S16x16x64x576, .f32⟩
  | 110 => ⟨S_, .f32⟩
  | 111 => ⟨S16x16x64, .f32⟩
  | 112 => ⟨S_, .f32⟩
  | 113 => ⟨S16x16x64, .f32⟩
  | 114 => ⟨S16x16x64, .f32⟩
  | 115 => ⟨S16x16x64x1, .f32⟩
  | 116 => ⟨S16x16x64x576, .f32⟩
  | 117 => ⟨S16x16x64x576, .f32⟩
  | 118 => ⟨S16x16x64x576, .f32⟩
  | 119 => ⟨S_, .f32⟩
  | 120 => ⟨S16x16x64, .f32⟩
  | 121 => ⟨S16x16x64x1, .f32⟩
  | 122 => ⟨S16x16x64x576, .f32⟩
  | 123 => ⟨S16x16x64x576, .f32⟩
  | 124 => ⟨S16x16x64x64, .f32⟩
  | 125 => ⟨S16x64x16x64, .f32⟩
  | 126 => ⟨S1x16x64x16x64, .f32⟩
  | 127 => ⟨S_, .i32⟩
  | _ => ⟨S16x4096x3072, .bf16⟩

abbrev hbmTy0_1 (i : Nat) : BufTy := match i % 128 with
  | 0 => ⟨S_, .i32⟩
  | 1 => ⟨S_, .i32⟩
  | 2 => ⟨S_, .i32⟩
  | 3 => ⟨S64x16x64x16x64, .f32⟩
  | 4 => ⟨S_, .i32⟩
  | 5 => ⟨S_, .i32⟩
  | 6 => ⟨S16x64x64x16x64, .f32⟩
  | 7 => ⟨S16x4096x1024, .f32⟩
  | 8 => ⟨S16x4096x1024, .bf16⟩
  | _ => ⟨S16x4096x3072, .bf16⟩

abbrev hbmTy (i : Nat) : BufTy := match i / 128 with
  | 0 => hbmTy0_0 i
  | 1 => hbmTy0_1 i
  | _ => ⟨S16x4096x3072, .bf16⟩

abbrev bufTy : (tb : Table) → Fin (tcTables nBuf tb) → BufTy
  | .hbm, ⟨i, _⟩ => hbmTy i
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_c_7 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v30_3 : Ref sig .tc := ⟨.hbm, 52, rfl⟩
abbrev main_v30_4 : Ref sig .tc := ⟨.hbm, 53, rfl⟩
abbrev main_v30_5 : Ref sig .tc := ⟨.hbm, 54, rfl⟩
abbrev main_v30_6 : Ref sig .tc := ⟨.hbm, 55, rfl⟩
abbrev main_while0c_c_14 : Ref sig .tc := ⟨.hbm, 56, rfl⟩
abbrev main_while0c_v34 : Ref sig .tc := ⟨.hbm, 57, rfl⟩
abbrev main_while0b_call3_v0 : Ref sig .tc := ⟨.hbm, 58, rfl⟩
abbrev main_while0b_v34 : Ref sig .tc := ⟨.hbm, 59, rfl⟩
abbrev main_while0b_c_14 : Ref sig .tc := ⟨.hbm, 60, rfl⟩
abbrev main_while0b_v35 : Ref sig .tc := ⟨.hbm, 61, rfl⟩
abbrev main_while0b_c_15 : Ref sig .tc := ⟨.hbm, 62, rfl⟩
abbrev main_while0b_v36 : Ref sig .tc := ⟨.hbm, 63, rfl⟩
abbrev main_while0b_c_16 : Ref sig .tc := ⟨.hbm, 64, rfl⟩
abbrev main_while0b_v37 : Ref sig .tc := ⟨.hbm, 65, rfl⟩
abbrev main_while0b_v38 : Ref sig .tc := ⟨.hbm, 66, rfl⟩
abbrev main_while0b_c_17 : Ref sig .tc := ⟨.hbm, 67, rfl⟩
abbrev main_while0b_c_18 : Ref sig .tc := ⟨.hbm, 68, rfl⟩
abbrev main_while0b_c_19 : Ref sig .tc := ⟨.hbm, 69, rfl⟩
abbrev main_while0b_v39 : Ref sig .tc := ⟨.hbm, 70, rfl⟩
abbrev main_while0b_c_20 : Ref sig .tc := ⟨.hbm, 71, rfl⟩
abbrev main_while0b_v40 : Ref sig .tc := ⟨.hbm, 72, rfl⟩
abbrev main_while0b_c_21 : Ref sig .tc := ⟨.hbm, 73, rfl⟩
abbrev main_while0b_v41 : Ref sig .tc := ⟨.hbm, 74, rfl⟩
abbrev main_while0b_v42 : Ref sig .tc := ⟨.hbm, 75, rfl⟩
abbrev main_while0b_c_22 : Ref sig .tc := ⟨.hbm, 76, rfl⟩
abbrev main_while0b_c_23 : Ref sig .tc := ⟨.hbm, 77, rfl⟩
abbrev main_while0b_c_24 : Ref sig .tc := ⟨.hbm, 78, rfl⟩
abbrev main_while0b_v43 : Ref sig .tc := ⟨.hbm, 79, rfl⟩
abbrev main_while0b_c_25 : Ref sig .tc := ⟨.hbm, 80, rfl⟩
abbrev main_while0b_v44 : Ref sig .tc := ⟨.hbm, 81, rfl⟩
abbrev main_while0b_c_26 : Ref sig .tc := ⟨.hbm, 82, rfl⟩
abbrev main_while0b_v45 : Ref sig .tc := ⟨.hbm, 83, rfl⟩
abbrev main_while0b_v46 : Ref sig .tc := ⟨.hbm, 84, rfl⟩
abbrev main_while0b_c_27 : Ref sig .tc := ⟨.hbm, 85, rfl⟩
abbrev main_while0b_c_28 : Ref sig .tc := ⟨.hbm, 86, rfl⟩
abbrev main_while0b_c_29 : Ref sig .tc := ⟨.hbm, 87, rfl⟩
abbrev main_while0b_v47 : Ref sig .tc := ⟨.hbm, 88, rfl⟩
abbrev main_while0b_v48 : Ref sig .tc := ⟨.hbm, 89, rfl⟩
abbrev main_while0b_cst_30 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_c_31 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_c_32 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_cst_33 : Ref sig .tc := ⟨.hbm, 105, rfl⟩
abbrev main_while0b_call4_v0 : Ref sig .tc := ⟨.hbm, 106, rfl⟩
abbrev main_while0b_call4_v1 : Ref sig .tc := ⟨.hbm, 107, rfl⟩
abbrev main_while0b_call4_v2 : Ref sig .tc := ⟨.hbm, 108, rfl⟩
abbrev main_while0b_v61 : Ref sig .tc := ⟨.hbm, 109, rfl⟩
abbrev main_while0b_cst_34 : Ref sig .tc := ⟨.hbm, 110, rfl⟩
abbrev main_while0b_v62 : Ref sig .tc := ⟨.hbm, 111, rfl⟩
abbrev main_while0b_cst_35 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_cst_36 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_call5_v0 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_c_2 : Ref sig .tc := ⟨.hbm, 130, rfl⟩
abbrev main_while0b_v75 : Ref sig .tc := ⟨.hbm, 131, rfl⟩
abbrev main_while0b_c_37 : Ref sig .tc := ⟨.hbm, 132, rfl⟩
abbrev main_while0b_v76 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S264 : Shape := ⟨1, ![264]⟩
abbrev S1 : Shape := ⟨1, ![1]⟩
abbrev S135168x1024 : Shape := ⟨2, ![135168, 1024]⟩
abbrev S135168x256 : Shape := ⟨2, ![135168, 256]⟩
abbrev S8x1024x3584 : Shape := ⟨3, ![8, 1024, 3584]⟩
abbrev S8x3584x1024 : Shape := ⟨3, ![8, 3584, 1024]⟩
abbrev S_ : Shape := ⟨0, ![]⟩
abbrev S264x1 : Shape := ⟨2, ![264, 1]⟩
abbrev S512x1024 : Shape := ⟨2, ![512, 1024]⟩
abbrev S512x256 : Shape := ⟨2, ![512, 256]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 13
  | .smem => 2
  | _ => 0

abbrev bufTy : (tb : Table) → Fin (tcTables nBuf tb) → BufTy
  | .hbm, ⟨0, _⟩ => ⟨S264, .i32⟩
  | .hbm, ⟨1, _⟩ => ⟨S135168x1024, .bf16⟩
  | .hbm, ⟨2, _⟩ => ⟨S135168x256, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S264, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S264, .i32⟩
  | .hbm, ⟨14, _⟩ => ⟨S264, .i32⟩
  | .hbm, ⟨15, _⟩ => ⟨S_, .i32⟩
  | .hbm, ⟨16, _⟩ => ⟨S264, .i32⟩
  | .hbm, ⟨17, _⟩ => ⟨S264, .i1⟩
  | .hbm, ⟨18, _⟩ => ⟨S_, .i32⟩
  | .hbm, ⟨19, _⟩ => ⟨S264, .i32⟩
  | .hbm, ⟨20, _⟩ => ⟨S264, .i32⟩
  | .hbm, ⟨21, _⟩ => ⟨S264, .i32⟩
  | .hbm, ⟨22, _⟩ => ⟨S264x1, .i32⟩
  | .hbm, ⟨23, _⟩ => ⟨S135168x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S264, .i32⟩
  | .local _ .smem, ⟨1, _⟩ => ⟨S1, .i32⟩
  | _, _ => ⟨S264, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v15 : Ref sig .tc := ⟨.hbm, 23, rfl⟩
abbrev main_v14 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![264, 2], ![false, false]⟩

abbrev pre0 : Pipeline.Prefetch sig := ⟨2, ![main_v14.idx, main_arg1.idx], fun | 0 => main_v14.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_off2 (i : grid0.Coords) : Fin 1 → Nat :=
  let arg0 : BitVec 32 := BitVec.ofNat 32 (i 0).val
  let v37 : Index := Scalar.indexCast arg0
  ![v37.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S264 : Shape := ⟨1, ![264]⟩
abbrev S1 : Shape := ⟨1, ![1]⟩
abbrev S135168x1024 : Shape := ⟨2, ![135168, 1024]⟩
abbrev S135168x256 : Shape := ⟨2, ![135168, 256]⟩
abbrev S8x1024x3584 : Shape := ⟨3, ![8, 1024, 3584]⟩
abbrev S8x3584x1024 : Shape := ⟨3, ![8, 3584, 1024]⟩
abbrev S264x512 : Shape := ⟨2, ![264, 512]⟩
abbrev S135168 : Shape := ⟨1, ![135168]⟩
abbrev S135168x8 : Shape := ⟨2, ![135168, 8]⟩
abbrev S135168x1 : Shape := ⟨2, ![135168, 1]⟩
abbrev S8 : Shape := ⟨1, ![8]⟩
abbrev S1x8 : Shape := ⟨2, ![1, 8]⟩
abbrev S_ : Shape := ⟨0, ![]⟩
abbrev S1x1024x3584 : Shape := ⟨3, ![1, 1024, 3584]⟩
abbrev S1024x3584 : Shape := ⟨2, ![1024, 3584]⟩
abbrev S135168x3584 : Shape := ⟨2, ![135168, 3584]⟩
abbrev S1x3584x1024 : Shape := ⟨3, ![1, 3584, 1024]⟩
abbrev S3584x1024 : Shape := ⟨2, ![3584, 1024]⟩

abbrev nBuf : Space → Nat
  | .hbm => 210
  | .vmem => 0
  | .smem => 0
  | _ => 0

abbrev hbmTy0_0 (i : Nat) : BufTy := match i % 128 with
  | 0 => ⟨S264, .i32⟩
  | 1 => ⟨S1, .i32⟩
  | 2 => ⟨S135168x1024, .bf16⟩
  | 3 => ⟨S135168x256, .f32⟩
  | 4 => ⟨S8x1024x3584, .f32⟩
  | 5 => ⟨S8x1024x3584, .f32⟩
  | 6 => ⟨S8x3584x1024, .f32⟩
  | 7 => ⟨S135168x1024, .f32⟩
  | 8 => ⟨S264x512, .i32⟩
  | 9 => ⟨S135168, .i32⟩
  | 10 => ⟨S135168x8, .f32⟩
  | 11 => ⟨S135168x8, .f32⟩
  | 12 => ⟨S135168x8, .f32⟩
  | 13 => ⟨S135168x1, .i32⟩
  | 14 => ⟨S8, .i32⟩
  | 15 => ⟨S1x8, .i32⟩
  | 16 => ⟨S135168x8, .i32⟩
  | 17 => ⟨S135168x8, .i32⟩
  | 18 => ⟨S135168x8, .i1⟩
  | 19 => ⟨S_, .f32⟩
  | 20 => ⟨S_, .f32⟩
  | 21 => ⟨S135168x8, .f32⟩
  | 22 => ⟨S135168x8, .f32⟩
  | 23 => ⟨S_, .f32⟩
  | 24 => ⟨S135168x1024, .f32⟩
  | 25 => ⟨S1x1024x3584, .f32⟩
  | 26 => ⟨S1024x3584, .f32⟩
  | 27 => ⟨S135168x3584, .f32⟩
  | 28 => ⟨S135168x3584, .f32⟩
  | 29 => ⟨S135168x3584, .f32⟩
  | 30 => ⟨S_, .f32⟩
  | 31 => ⟨S135168x3584, .f32⟩
  | 32 => ⟨S135168x3584, .f32⟩
  | 33 => ⟨S_, .f32⟩
  | 34 => ⟨S135168x3584, .f32⟩
  | 35 => ⟨S135168x3584, .f32⟩
  | 36 => ⟨S135168x3584, .f32⟩
  | 37 => ⟨S1x1024x3584, .f32⟩
  | 38 => ⟨S1024x3584, .f32⟩
  | 39 => ⟨S135168x3584, .f32⟩
  | 40 => ⟨S135168x3584, .f32⟩
  | 41 => ⟨S135168x1, .f32⟩
  | 42 => ⟨S1x3584x1024, .f32⟩
  | 43 => ⟨S3584x1024, .f32⟩
  | 44 => ⟨S135168x1024, .f32⟩
  | 45 => ⟨S135168x1024, .f32⟩
  | 46 => ⟨S135168x1024, .f32⟩
  | 47 => ⟨S135168x1024, .f32⟩
  | 48 => ⟨S1x1024x3584, .f32⟩
  | 49 => ⟨S1024x3584, .f32⟩
  | 50 => ⟨S135168x3584, .f32⟩
  | 51 => ⟨S135168x3584, .f32⟩
  | 52 => ⟨S135168x3584, .f32⟩
  | 53 => ⟨S_, .f32⟩
  | 54 => ⟨S135168x3584, .f32⟩
  | 55 => ⟨S135168x3584, .f32⟩
  | 56 => ⟨S_, .f32⟩
  | 57 => ⟨S135168x3584, .f32⟩
  | 58 => ⟨S135168x3584, .f32⟩
  | 59 => ⟨S135168x3584, .f32⟩
  | 60 => ⟨S1x1024x3584, .f32⟩
  | 61 => ⟨S1024x3584, .f32⟩
  | 62 => ⟨S135168x3584, .f32⟩
  | 63 => ⟨S135168x3584, .f32⟩
  | 64 => ⟨S135168x1, .f32⟩
  | 65 => ⟨S1x3584x1024, .f32⟩
  | 66 => ⟨S3584x1024, .f32⟩
  | 67 => ⟨S135168x1024, .f32⟩
  | 68 => ⟨S135168x1024, .f32⟩
  | 69 => ⟨S135168x1024, .f32⟩
  | 70 => ⟨S135168x1024, .f32⟩
  | 71 => ⟨S1x1024x3584, .f32⟩
  | 72 => ⟨S1024x3584, .f32⟩
  | 73 => ⟨S135168x3584, .f32⟩
  | 74 => ⟨S135168x3584, .f32⟩
  | 75 => ⟨S135168x3584, .f32⟩
  | 76 => ⟨S_, .f32⟩
  | 77 => ⟨S135168x3584, .f32⟩
  | 78 => ⟨S135168x3584, .f32⟩
  | 79 => ⟨S_, .f32⟩
  | 80 => ⟨S135168x3584, .f32⟩
  | 81 => ⟨S135168x3584, .f32⟩
  | 82 => ⟨S135168x3584, .f32⟩
  | 83 => ⟨S1x1024x3584, .f32⟩
  | 84 => ⟨S1024x3584, .f32⟩
  | 85 => ⟨S135168x3584, .f32⟩
  | 86 => ⟨S135168x3584, .f32⟩
  | 87 => ⟨S135168x1, .f32⟩
  | 88 => ⟨S1x3584x1024, .f32⟩
  | 89 => ⟨S3584x1024, .f32⟩
  | 90 => ⟨S135168x1024, .f32⟩
  | 91 => ⟨S135168x1024, .f32⟩
  | 92 => ⟨S135168x1024, .f32⟩
  | 93 => ⟨S135168x1024, .f32⟩
  | 94 => ⟨S1x1024x3584, .f32⟩
  | 95 => ⟨S1024x3584, .f32⟩
  | 96 => ⟨S135168x3584, .f32⟩
  | 97 => ⟨S135168x3584, .f32⟩
  | 98 => ⟨S135168x3584, .f32⟩
  | 99 => ⟨S_, .f32⟩
  | 100 => ⟨S135168x3584, .f32⟩
  | 101 => ⟨S135168x3584, .f32⟩
  | 102 => ⟨S_, .f32⟩
  | 103 => ⟨S135168x3584, .f32⟩
  | 104 => ⟨S135168x3584, .f32⟩
  | 105 => ⟨S135168x3584, .f32⟩
  | 106 => ⟨S1x1024x3584, .f32⟩
  | 107 => ⟨S1024x3584, .f32⟩
  | 108 => ⟨S135168x3584, .f32⟩
  | 109 => ⟨S135168x3584, .f32⟩
  | 110 => ⟨S135168x1, .f32⟩
  | 111 => ⟨S1x3584x1024, .f32⟩
  | 112 => ⟨S3584x1024, .f32⟩
  | 113 => ⟨S135168x1024, .f32⟩
  | 114 => ⟨S135168x1024, .f32⟩
  | 115 => ⟨S135168x1024, .f32⟩
  | 116 => ⟨S135168x1024, .f32⟩
  | 117 => ⟨S1x1024x3584, .f32⟩
  | 118 => ⟨S1024x3584, .f32⟩
  | 119 => ⟨S135168x3584, .f32⟩
  | 120 => ⟨S135168x3584, .f32⟩
  | 121 => ⟨S135168x3584, .f32⟩
  | 122 => ⟨S_, .f32⟩
  | 123 => ⟨S135168x3584, .f32⟩
  | 124 => ⟨S135168x3584, .f32⟩
  | 125 => ⟨S_, .f32⟩
  | 126 => ⟨S135168x3584, .f32⟩
  | 127 => ⟨S135168x3584, .f32⟩
  | _ => ⟨S264, .i32⟩

abbrev hbmTy0_1 (i : Nat) : BufTy := match i % 128 with
  | 0 => ⟨S135168x3584, .f32⟩
  | 1 => ⟨S1x1024x3584, .f32⟩
  | 2 => ⟨S1024x3584, .f32⟩
  | 3 => ⟨S135168x3584, .f32⟩
  | 4 => ⟨S135168x3584, .f32⟩
  | 5 => ⟨S135168x1, .f32⟩
  | 6 => ⟨S1x3584x1024, .f32⟩
  | 7 => ⟨S3584x1024, .f32⟩
  | 8 => ⟨S135168x1024, .f32⟩
  | 9 => ⟨S135168x1024, .f32⟩
  | 10 => ⟨S135168x1024, .f32⟩
  | 11 => ⟨S135168x1024, .f32⟩
  | 12 => ⟨S1x1024x3584, .f32⟩
  | 13 => ⟨S1024x3584, .f32⟩
  | 14 => ⟨S135168x3584, .f32⟩
  | 15 => ⟨S135168x3584, .f32⟩
  | 16 => ⟨S135168x3584, .f32⟩
  | 17 => ⟨S_, .f32⟩
  | 18 => ⟨S135168x3584, .f32⟩
  | 19 => ⟨S135168x3584, .f32⟩
  | 20 => ⟨S_, .f32⟩
  | 21 => ⟨S135168x3584, .f32⟩
  | 22 => ⟨S135168x3584, .f32⟩
  | 23 => ⟨S135168x3584, .f32⟩
  | 24 => ⟨S1x1024x3584, .f32⟩
  | 25 => ⟨S1024x3584, .f32⟩
  | 26 => ⟨S135168x3584, .f32⟩
  | 27 => ⟨S135168x3584, .f32⟩
  | 28 => ⟨S135168x1, .f32⟩
  | 29 => ⟨S1x3584x1024, .f32⟩
  | 30 => ⟨S3584x1024, .f32⟩
  | 31 => ⟨S135168x1024, .f32⟩
  | 32 => ⟨S135168x1024, .f32⟩
  | 33 => ⟨S135168x1024, .f32⟩
  | 34 => ⟨S135168x1024, .f32⟩
  | 35 => ⟨S1x1024x3584, .f32⟩
  | 36 => ⟨S1024x3584, .f32⟩
  | 37 => ⟨S135168x3584, .f32⟩
  | 38 => ⟨S135168x3584, .f32⟩
  | 39 => ⟨S135168x3584, .f32⟩
  | 40 => ⟨S_, .f32⟩
  | 41 => ⟨S135168x3584, .f32⟩
  | 42 => ⟨S135168x3584, .f32⟩
  | 43 => ⟨S_, .f32⟩
  | 44 => ⟨S135168x3584, .f32⟩
  | 45 => ⟨S135168x3584, .f32⟩
  | 46 => ⟨S135168x3584, .f32⟩
  | 47 => ⟨S1x1024x3584, .f32⟩
  | 48 => ⟨S1024x3584, .f32⟩
  | 49 => ⟨S135168x3584, .f32⟩
  | 50 => ⟨S135168x3584, .f32⟩
  | 51 => ⟨S135168x1, .f32⟩
  | 52 => ⟨S1x3584x1024, .f32⟩
  | 53 => ⟨S3584x1024, .f32⟩
  | 54 => ⟨S135168x1024, .f32⟩
  | 55 => ⟨S135168x1024, .f32⟩
  | 56 => ⟨S135168x1024, .f32⟩
  | 57 => ⟨S135168x1024, .f32⟩
  | 58 => ⟨S1x1024x3584, .f32⟩
  | 59 => ⟨S1024x3584, .f32⟩
  | 60 => ⟨S135168x3584, .f32⟩
  | 61 => ⟨S135168x3584, .f32⟩
  | 62 => ⟨S135168x3584, .f32⟩
  | 63 => ⟨S_, .f32⟩
  | 64 => ⟨S135168x3584, .f32⟩
  | 65 => ⟨S135168x3584, .f32⟩
  | 66 => ⟨S_, .f32⟩
  | 67 => ⟨S135168x3584, .f32⟩
  | 68 => ⟨S135168x3584, .f32⟩
  | 69 => ⟨S135168x3584, .f32⟩
  | 70 => ⟨S1x1024x3584, .f32⟩
  | 71 => ⟨S1024x3584, .f32⟩
  | 72 => ⟨S135168x3584, .f32⟩
  | 73 => ⟨S135168x3584, .f32⟩
  | 74 => ⟨S135168x1, .f32⟩
  | 75 => ⟨S1x3584x1024, .f32⟩
  | 76 => ⟨S3584x1024, .f32⟩
  | 77 => ⟨S135168x1024, .f32⟩
  | 78 => ⟨S135168x1024, .f32⟩
  | 79 => ⟨S135168x1024, .f32⟩
  | 80 => ⟨S135168x1024, .f32⟩
  | 81 => ⟨S135168x1024, .bf16⟩
  | _ => ⟨S264, .i32⟩

abbrev hbmTy (i : Nat) : BufTy := match i / 128 with
  | 0 => hbmTy0_0 i
  | 1 => hbmTy0_1 i
  | _ => ⟨S264, .i32⟩

abbrev bufTy : (tb : Table) → Fin (tcTables nBuf tb) → BufTy
  | .hbm, ⟨i, _⟩ => hbmTy i
  | _, _ => ⟨S264, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call5_v0 : Ref sig .tc := ⟨.hbm, 120, rfl⟩
abbrev main_call5_v1 : Ref sig .tc := ⟨.hbm, 121, rfl⟩
abbrev main_call5_cst : Ref sig .tc := ⟨.hbm, 122, rfl⟩
abbrev main_call5_v2 : Ref sig .tc := ⟨.hbm, 123, rfl⟩
abbrev main_call5_v3 : Ref sig .tc := ⟨.hbm, 124, rfl⟩
abbrev main_call5_cst_0 : Ref sig .tc := ⟨.hbm, 125, rfl⟩
abbrev main_call5_v4 : Ref sig .tc := ⟨.hbm, 126, rfl⟩
abbrev main_call5_v5 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_call6_v0 : Ref sig .tc := ⟨.hbm, 143, rfl⟩
abbrev main_call6_v1 : Ref sig .tc := ⟨.hbm, 144, rfl⟩
abbrev main_call6_cst : Ref sig .tc := ⟨.hbm, 145, rfl⟩
abbrev main_call6_v2 : Ref sig .tc := ⟨.hbm, 146, rfl⟩
abbrev main_call6_v3 : Ref sig .tc := ⟨.hbm, 147, rfl⟩
abbrev main_call6_cst_0 : Ref sig .tc := ⟨.hbm, 148, rfl⟩
abbrev main_call6_v4 : Ref sig .tc := ⟨.hbm, 149, rfl⟩
abbrev main_call6_v5 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_call8_v0 : Ref sig .tc := ⟨.hbm, 189, rfl⟩
abbrev main_call8_v1 : Ref sig .tc := ⟨.hbm, 190, rfl⟩
abbrev main_call8_cst : Ref sig .tc := ⟨.hbm, 191, rfl⟩
abbrev main_call8_v2 : Ref sig .tc := ⟨.hbm, 192, rfl⟩
abbrev main_call8_v3 : Ref sig .tc := ⟨.hbm, 193, rfl⟩
abbrev main_call8_cst_0 : Ref sig .tc := ⟨.hbm, 194, rfl⟩
abbrev main_call8_v4 : Ref sig .tc := ⟨.hbm, 195, rfl⟩
abbrev main_call8_v5 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩

abbrev nD : Nat := 1
abbrev τ : Topo := Topo.v7x

variable {F : FTy → Type} [FloatOps F]
-- ==== Kernel3.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_16 : BitVec 32 := 0#32
  let v26 : BitVec 1 := Scalar.cmpi .eq arg1 c0_i32_16
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S65536x2816, .f32⟩
  | .hbm, ⟨7, _⟩ => ⟨S65536x2816, .f32⟩
  | .hbm, ⟨8, _⟩ => ⟨S65536x2816, .f32⟩
  | .hbm, ⟨9, _⟩ => ⟨S_, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel4.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S65536x1024, .f32⟩
  | .hbm, ⟨9, _⟩ => ⟨S65536x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S65536x1024 : Shape := ⟨2, ![65536, 1024]⟩
abbrev S1024x3072 : Shape := ⟨2, ![1024, 3072]⟩
abbrev S65536x3072 : Shape := ⟨2, ![65536, 3072]⟩
abbrev S1024x1024 : Shape := ⟨2, ![1024, 1024]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S1024x3072, .bf16⟩
  | .hbm, ⟨3, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S65536x1024 : Shape := ⟨2, ![65536, 1024]⟩
abbrev S1024x3072 : Shape := ⟨2, ![1024, 3072]⟩
abbrev S65536x3072 : Shape := ⟨2, ![65536, 3072]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3072, .f32⟩
  | .hbm, ⟨2, _⟩ => ⟨S65536x3072, .f32⟩
  | .hbm, ⟨3, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S65536x1024 : Shape := ⟨2, ![65536, 1024]⟩
abbrev S1024x3584 : Shape := ⟨2, ![1024, 3584]⟩
abbrev S65536x3584 : Shape := ⟨2, ![65536, 3584]⟩
abbrev S1024x1024 : Shape := ⟨2, ![1024, 1024]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024x3584, .f32⟩
  | .hbm, ⟨2, _⟩ => ⟨S1024x3584, .bf16⟩
  | .hbm, ⟨3, _⟩ => ⟨S65536x3584, .bf16⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S65536x1024 : Shape := ⟨2, ![65536, 1024]⟩
abbrev S1024x3584 : Shape := ⟨2, ![1024, 3584]⟩
abbrev S65536x3584 : Shape := ⟨2, ![65536, 3584]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3584, .f32⟩
  | .hbm, ⟨2, _⟩ => ⟨S65536x3584, .f32⟩
  | .hbm, ⟨3, _⟩ => ⟨S65536x3584, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S65536x1024, .bf16⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel8.lean ====
abbrev S419 : Shape := ⟨1, ![419]⟩
abbrev S4x419 : Shape := ⟨2, ![4, 419]⟩
abbrev S65536x128 : Shape := ⟨2, ![65536, 128]⟩
abbrev S135168x1024 : Shape := ⟨2, ![135168, 1024]⟩
abbrev S65536x1024 : Shape := ⟨2, ![65536, 1024]⟩
abbrev S1024 : Shape := ⟨1, ![1024]⟩
abbrev S1x419 : Shape := ⟨2, ![1, 419]⟩
abbrev S1x1024 : Shape := ⟨2, ![1, 1024]⟩
abbrev S512x128 : Shape := ⟨2, ![512, 128]⟩
abbrev S1 : Shape := ⟨1, ![1]⟩
abbrev S512x1024 : Shape := ⟨2, ![512, 1024]⟩
abbrev S512x1 : Shape := ⟨2, ![512, 1]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩

abbrev nBuf : Space → Nat
  | .hbm => 18
  | .vmem => 17
  | .smem => 10
  | _ => 0

abbrev bufTy : (tb : Table) → Fin (tcTables nBuf tb) → BufTy
  | .hbm, ⟨0, _⟩ => ⟨S4x419, .i32⟩
  | .hbm, ⟨1, _⟩ => ⟨S4x419, .i32⟩
  | .hbm, ⟨2, _⟩ => ⟨S65536x128, .f32⟩
  | .hbm, ⟨3, _⟩ => ⟨S135168x1024, .bf16⟩
  | .hbm, ⟨4, _⟩ => ⟨S65536x1024, .f32⟩
  | .hbm, ⟨5, _⟩ => ⟨S1024, .f32⟩
  | .hbm, ⟨6, _⟩ => ⟨S1024, .f32⟩
  | .hbm, ⟨7, _⟩ => ⟨S1x419, .i32⟩
  | .hbm, ⟨8, _⟩ => ⟨S1x419, .i32⟩
  | .hbm, ⟨9, _⟩ => ⟨S1x419, .i32⟩
  | .hbm, ⟨10, _⟩ => ⟨S1x419, .i32⟩
  | .hbm, ⟨11, _⟩ => ⟨S1x419, .i32⟩
  | .hbm, ⟨12, _⟩ => ⟨S1x419, .i32⟩
  | .hbm, ⟨13, _⟩ => ⟨S1x419, .i32⟩
  | .hbm, ⟨14, _⟩ => ⟨S1x419, .i32⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S512x128, .f32⟩
  | .local _ .vmem, ⟨1, _⟩ => ⟨S512x128, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .smem, ⟨0, _⟩ => ⟨S419, .i32⟩
  | .local _ .smem, ⟨1, _⟩ => ⟨S419, .i32⟩
  | .local _ .smem, ⟨2, _⟩ => ⟨S419, .i32⟩
  | .local _ .smem, ⟨3, _⟩ => ⟨S419, .i32⟩
  | .local _ .smem, ⟨4, _⟩ => ⟨S419, .i32⟩
  | .local _ .smem, ⟨5, _⟩ => ⟨S419, .i32⟩
  | .local _ .smem, ⟨6, _⟩ => ⟨S419, .i32⟩
  | .local _ .smem, ⟨7, _⟩ => ⟨S419, .i32⟩
  | .local _ .smem, ⟨8, _⟩ => ⟨S419, .i32⟩
  | .local _ .smem, ⟨9, _⟩ => ⟨S419, .i32⟩
  | _, _ => ⟨S4x419, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v2 : Ref sig .tc := ⟨.hbm, 8, rfl⟩
abbrev main_v4 : Ref sig .tc := ⟨.hbm, 9, rfl⟩
abbrev main_v6 : Ref sig .tc := ⟨.hbm, 10, rfl⟩
abbrev main_v8 : Ref sig .tc := ⟨.hbm, 11, rfl⟩
abbrev main_v10 : Ref sig .tc := ⟨.hbm, 12, rfl⟩
abbrev main_v12 : Ref sig .tc := ⟨.hbm, 13, rfl⟩
abbrev main_v14 : Ref sig .tc := ⟨.hbm, 14, rfl⟩
abbrev main_v16 : Ref sig .tc := ⟨.hbm, 15, rfl⟩
abbrev main_v17 : Ref sig .tc := ⟨.hbm, 16, rfl⟩
abbrev main_v18 : Ref sig .tc := ⟨.hbm, 17, rfl⟩
abbrev main_arg0 : Ref sig .tc := ⟨.smem, 0, rfl⟩
abbrev main_arg1 : Ref sig .tc := ⟨.smem, 1, rfl⟩
abbrev main_v1 : Ref sig .tc := ⟨.smem, 2, rfl⟩
abbrev main_v3 : Ref sig .tc := ⟨.smem, 3, rfl⟩
abbrev main_v5 : Ref sig .tc := ⟨.smem, 4, rfl⟩
abbrev main_v7 : Ref sig .tc := ⟨.smem, 5, rfl⟩
abbrev main_v9 : Ref sig .tc := ⟨.smem, 6, rfl⟩
abbrev main_v11 : Ref sig .tc := ⟨.smem, 7, rfl⟩
abbrev main_v13 : Ref sig .tc := ⟨.smem, 8, rfl⟩
abbrev main_v15 : Ref sig .tc := ⟨.smem, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![419], ![false]⟩

abbrev pre0 : Pipeline.Prefetch sig := ⟨10, ![main_arg0.idx, main_arg1.idx, main_v1.idx, main_v3.idx, main_v5.idx, main_v7.idx, main_v9.idx, main_v11.idx, main_v13.idx, main_v15.idx], fun | 0 => main_arg0.names | 1 => main_arg1.names | 2 => main_v1.names | 3 => main_v3.names | 4 => main_v5.names | 5 => main_v7.names | 6 => main_v9.names | 7 => main_v11.names | 8 => main_v13.names | 9 => main_v15.names | ⟨_ + 10, h⟩ => absurd h (Nat.not_lt.2 (Nat.le_add_left _ _)), fun | 0 => rfl | 1 => rfl | 2 => rfl | 3 => rfl | 4 => rfl | 5 => rfl | 6 => rfl | 7 => rfl | 8 => rfl | 9 => rfl | ⟨_ + 10, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v37 : Index := Scalar.indexCast arg0
  ![v37.toNat]
def k0_mult1 (v38 : BitVec 32) : BitVec 32 :=
  v38
def k0_cond2 (v1 : BitVec 32) : BitVec 1 :=
  let c4_i32 : BitVec 32 := 4#32
  let v6 : BitVec 32 := Scalar.andi v1 c4_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c8_i32 : BitVec 32 := 8#32
  let v26 : BitVec 32 := Scalar.andi v1 c8_i32
  let c0_i32_11 : BitVec 32 := 0#32
  let v27 : BitVec 1 := Scalar.cmpi .ne v26 c0_i32_11
  let v32 : BitVec 32 := Scalar.extui v27
  let c0_i32_13 : BitVec 32 := 0#32
  let v33 : BitVec 1 := Scalar.cmpi .ne v32 c0_i32_13
  v33

def k0_off3 (i : grid0.Coords) : Fin 1 → Nat :=
  let arg0 : BitVec 32 := BitVec.ofNat 32 (i 0).val
  let v40 : Index := Scalar.indexCast arg0
  ![v40.toNat]
def k0_off4 (v38 : BitVec 32) : Fin 2 → Nat :=
  let v39 : BitVec 32 := v38
  let v57 : Index := Scalar.indexCast v39
  let c0_18 : Index := 0#32
  ![v57.toNat, 0]

def k0_chk1 (v1 : BitVec 32) (v38 : BitVec 32) : Prop :=
  (∀ (k0_h2 : k0_cond2 v1 = 1#1), ∀ (k0_h3 : k0_cond3 v1 = 1#1), 16 ∣ (k0_mult1 v38).toNat) ∧
  (∀ (k0_h2 : k0_cond2 v1 = 1#1), ∀ (k0_h3 : k0_cond3 v1 = 1#1), ∀ a, (k0_off4 v38) a + S256x1024.size a ≤ S512x1024.size a)
theorem k0_mult1_dvd : ∀ (v1 : BitVec 32) (v38 : BitVec 32) (k0_hw1 : k0_chk1 v1 v38), ∀ (k0_h2 : k0_cond2 v1 = 1#1), ∀ (k0_h3 : k0_cond3 v1 = 1#1), 16 ∣ (k0_mult1 v38).toNat := fun v1 v38 k0_hw1 k0_h2 k0_h3 => k0_hw1.1 k0_h2 k0_h3
theorem k0_off4_inb : ∀ (v1 : BitVec 32) (v38 : BitVec 32) (k0_hw1 : k0_chk1 v1 v38), ∀ (k0_h2 : k0_cond2 v1 = 1#1), ∀ (k0_h3 : k0_cond3 v1 = 1#1), ∀ a, (k0_off4 v38) a + S256x1024.size a ≤ S512x1024.size a := fun v1 v38 k0_hw1 k0_h2 k0_h3 => k0_hw1.2 k0_h2 k0_h3

def k0_off5 (i : grid0.Coords) : Fin 1 → Nat :=
  let arg0 : BitVec 32 := BitVec.ofNat 32 (i 0).val
  let v37 : Index := Scalar.indexCast arg0
  ![v37.toNat]
def k0_off6 (i : grid0.Coords) : Fin 1 → Nat :=
  let arg0 : BitVec 32 := BitVec.ofNat 32 (i 0).val
  let v37 : Index := Scalar.indexCast arg0
  ![v37.toNat]
def k0_mult2 (v38 : BitVec 32) : BitVec 32 :=
  v38
def k0_cond5 (v1 : BitVec 32) : BitVec 1 :=
  let c16_i32 : BitVec 32 := 16#32
  let v10 : BitVec 32 := Scalar.andi v1 c16_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def k0_cond6 (v1 : BitVec 32) : BitVec 1 :=
  let c32_i32 : BitVec 32 := 32#32
  let v26 : BitVec 32 := Scalar.andi v1 c32_i32
  let c0_i32_11 : BitVec 32 := 0#32
  let v27 : BitVec 1 := Scalar.cmpi .ne v26 c0_i32_11
  let v32 : BitVec 32 := Scalar.extui v27
  let c0_i32_13 : BitVec 32 := 0#32
  let v33 : BitVec 1 := Scalar.cmpi .ne v32 c0_i32_13
  v33

def k0_off7 (i : grid0.Coords) : Fin 1 → Nat :=
  let arg0 : BitVec 32 := BitVec.ofNat 32 (i 0).val
  let v40 : Index := Scalar.indexCast arg0
  ![v40.toNat]
def k0_off8 (v38 : BitVec 32) : Fin 2 → Nat :=
  let v39 : BitVec 32 := v38
  let v57 : Index := Scalar.indexCast v39
  let c0_18 : Index := 0#32
  ![v57.toNat, 0]

def k0_chk2 (v1 : BitVec 32) (v38 : BitVec 32) : Prop :=
  (∀ (k0_h5 : k0_cond5 v1 = 1#1), ∀ (k0_h6 : k0_cond6 v1 = 1#1), 16 ∣ (k0_mult2 v38).toNat) ∧
  (∀ (k0_h5 : k0_cond5 v1 = 1#1), ∀ (k0_h6 : k0_cond6 v1 = 1#1), ∀ a, (k0_off8 v38) a + S256x1024.size a ≤ S512x1024.size a)
theorem k0_mult2_dvd : ∀ (v1 : BitVec 32) (v38 : BitVec 32) (k0_hw2 : k0_chk2 v1 v38), ∀ (k0_h5 : k0_cond5 v1 = 1#1), ∀ (k0_h6 : k0_cond6 v1 = 1#1), 16 ∣ (k0_mult2 v38).toNat := fun v1 v38 k0_hw2 k0_h5 k0_h6 => k0_hw2.1 k0_h5 k0_h6
theorem k0_off8_inb : ∀ (v1 : BitVec 32) (v38 : BitVec 32) (k0_hw2 : k0_chk2 v1 v38), ∀ (k0_h5 : k0_cond5 v1 = 1#1), ∀ (k0_h6 : k0_cond6 v1 = 1#1), ∀ a, (k0_off8 v38) a + S256x1024.size a ≤ S512x1024.size a := fun v1 v38 k0_hw2 k0_h5 k0_h6 => k0_hw2.2 k0_h5 k0_h6

def k0_off9 (i : grid0.Coords) : Fin 1 → Nat :=
  let arg0 : BitVec 32 := BitVec.ofNat 32 (i 0).val
  let v37 : Index := Scalar.indexCast arg0
  ![v37.toNat]
def k0_off10 (i : grid0.Coords) : Fin 1 → Nat :=
  let arg0 : BitVec 32 := BitVec.ofNat 32 (i 0).val
  let v37 : Index := Scalar.indexCast arg0
  ![v37.toNat]
def k0_mult3 (v38 : BitVec 32) : BitVec 32 :=
  v38
def k0_cond8 (v1 : BitVec 32) : BitVec 1 :=
  let c64_i32 : BitVec 32 := 64#32
  let v14 : BitVec 32 := Scalar.andi v1 c64_i32
  let c0_i32_5 : BitVec 32 := 0#32
  let v15 : BitVec 1 := Scalar.cmpi .ne v14 c0_i32_5
  let v16 : BitVec 32 := Scalar.extui v15
  let c0_i32_6 : BitVec 32 := 0#32
  let v17 : BitVec 1 := Scalar.cmpi .ne v16 c0_i32_6
  v17

def k0_cond9 (v1 : BitVec 32) : BitVec 1 :=
  let c128_i32 : BitVec 32 := 128#32
  let v26 : BitVec 32 := Scalar.andi v1 c128_i32
  let c0_i32_11 : BitVec 32 := 0#32
  let v27 : BitVec 1 := Scalar.cmpi .ne v26 c0_i32_11
  let v32 : BitVec 32 := Scalar.extui v27
  let c0_i32_13 : BitVec 32 := 0#32
  let v33 : BitVec 1 := Scalar.cmpi .ne v32 c0_i32_13
  v33

def k0_off11 (i : grid0.Coords) : Fin 1 → Nat :=
  let arg0 : BitVec 32 := BitVec.ofNat 32 (i 0).val
  let v40 : Index := Scalar.indexCast arg0
  ![v40.toNat]
def k0_off12 (v38 : BitVec 32) : Fin 2 → Nat :=
  let v39 : BitVec 32 := v38
  let v57 : Index := Scalar.indexCast v39
  let c0_18 : Index := 0#32
  ![v57.toNat, 0]

def k0_chk3 (v1 : BitVec 32) (v38 : BitVec 32) : Prop :=
  (∀ (k0_h8 : k0_cond8 v1 = 1#1), ∀ (k0_h9 : k0_cond9 v1 = 1#1), 16 ∣ (k0_mult3 v38).toNat) ∧
  (∀ (k0_h8 : k0_cond8 v1 = 1#1), ∀ (k0_h9 : k0_cond9 v1 = 1#1), ∀ a, (k0_off12 v38) a + S256x1024.size a ≤ S512x1024.size a)
theorem k0_mult3_dvd : ∀ (v1 : BitVec 32) (v38 : BitVec 32) (k0_hw3 : k0_chk3 v1 v38), ∀ (k0_h8 : k0_cond8 v1 = 1#1), ∀ (k0_h9 : k0_cond9 v1 = 1#1), 16 ∣ (k0_mult3 v38).toNat := fun v1 v38 k0_hw3 k0_h8 k0_h9 => k0_hw3.1 k0_h8 k0_h9
theorem k0_off12_inb : ∀ (v1 : BitVec 32) (v38 : BitVec 32) (k0_hw3 : k0_chk3 v1 v38), ∀ (k0_h8 : k0_cond8 v1 = 1#1), ∀ (k0_h9 : k0_cond9 v1 = 1#1), ∀ a, (k0_off12 v38) a + S256x1024.size a ≤ S512x1024.size a := fun v1 v38 k0_hw3 k0_h8 k0_h9 => k0_hw3.2 k0_h8 k0_h9

def k0_off13 (i : grid0.Coords) : Fin 1 → Nat :=
  let arg0 : BitVec 32 := BitVec.ofNat 32 (i 0).val
  let v37 : Index := Scalar.indexCast arg0
  ![v37.toNat]
def k0_off14 (i : grid0.Coords) : Fin 1 → Nat :=
  let arg0 : BitVec 32 := BitVec.ofNat 32 (i 0).val
  let v37 : Index := Scalar.indexCast arg0
  ![v37.toNat]
def k0_mult4 (v38 : BitVec 32) : BitVec 32 :=
  v38
def k0_cond11 (v1 : BitVec 32) : BitVec 1 :=
  let c256_i32 : BitVec 32 := 256#32
  let v18 : BitVec 32 := Scalar.andi v1 c256_i32
  let c0_i32_7 : BitVec 32 := 0#32
  let v19 : BitVec 1 := Scalar.cmpi .ne v18 c0_i32_7
  let v20 : BitVec 32 := Scalar.extui v19
  let c0_i32_8 : BitVec 32 := 0#32
  let v21 : BitVec 1 := Scalar.cmpi .ne v20 c0_i32_8
  v21

def k0_cond12 (v1 : BitVec 32) : BitVec 1 :=
  let c512_i32 : BitVec 32 := 512#32
  let v26 : BitVec 32 := Scalar.andi v1 c512_i32
  let c0_i32_11 : BitVec 32 := 0#32
  let v27 : BitVec 1 := Scalar.cmpi .ne v26 c0_i32_11
  let v32 : BitVec 32 := Scalar.extui v27
  let c0_i32_13 : BitVec 32 := 0#32
  let v33 : BitVec 1 := Scalar.cmpi .ne v32 c0_i32_13
  v33

def k0_off15 (i : grid0.Coords) : Fin 1 → Nat :=
  let arg0 : BitVec 32 := BitVec.ofNat 32 (i 0).val
  let v40 : Index := Scalar.indexCast arg0
  ![v40.toNat]
def k0_off16 (v38 : BitVec 32) : Fin 2 → Nat :=
  let v39 : BitVec 32 := v38
  let v57 : Index := Scalar.indexCast v39
  let c0_19 : Index := 0#32
  ![v57.toNat, 0]

def k0_chk4 (v1 : BitVec 32) (v38 : BitVec 32) : Prop :=
  (∀ (k0_h11 : k0_cond11 v1 = 1#1), ∀ (k0_h12 : k0_cond12 v1 = 1#1), 16 ∣ (k0_mult4 v38).toNat) ∧
  (∀ (k0_h11 : k0_cond11 v1 = 1#1), ∀ (k0_h12 : k0_cond12 v1 = 1#1), ∀ a, (k0_off16 v38) a + S256x1024.size a ≤ S512x1024.size a)
theorem k0_mult4_dvd : ∀ (v1 : BitVec 32) (v38 : BitVec 32) (k0_hw4 : k0_chk4 v1 v38), ∀ (k0_h11 : k0_cond11 v1 = 1#1), ∀ (k0_h12 : k0_cond12 v1 = 1#1), 16 ∣ (k0_mult4 v38).toNat := fun v1 v38 k0_hw4 k0_h11 k0_h12 => k0_hw4.1 k0_h11 k0_h12
theorem k0_off16_inb : ∀ (v1 : BitVec 32) (v38 : BitVec 32) (k0_hw4 : k0_chk4 v1 v38), ∀ (k0_h11 : k0_cond11 v1 = 1#1), ∀ (k0_h12 : k0_cond12 v1 = 1#1), ∀ a, (k0_off16 v38) a + S256x1024.size a ≤ S512x1024.size a := fun v1 v38 k0_hw4 k0_h11 k0_h12 => k0_hw4.2 k0_h11 k0_h12

def k0_off17 (i : grid0.Coords) : Fin 1 → Nat :=
  let arg0 : BitVec 32 := BitVec.ofNat 32 (i 0).val
  let v37 : Index := Scalar.indexCast arg0
  ![v37.toNat]
def k0_cond14 (v1 : BitVec 32) : BitVec 1 :=
  let c2_i32 : BitVec 32 := 2#32
  let v22 : BitVec 32 := Scalar.andi v1 c2_i32
  let c0_i32_9 : BitVec 32 := 0#32
  let v23 : BitVec 1 := Scalar.cmpi .ne v22 c0_i32_9
  let v24 : BitVec 32 := Scalar.extui v23
  let c0_i32_10 : BitVec 32 := 0#32
  let v25 : BitVec 1 := Scalar.cmpi .ne v24 c0_i32_10
  v25

def cc0_transform_0 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S419) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S419) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S419) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 4 (Rect.unit (s := S419) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 5 (Rect.unit (s := S419) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S419) ![v0.toNat] S1.size (k0_off1_inb i)) numel1_S1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S419.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S419) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S419 : Shape := ⟨1, ![419]⟩
abbrev S4x419 : Shape := ⟨2, ![4, 419]⟩
abbrev S65536x128 : Shape := ⟨2, ![65536, 128]⟩
abbrev S135168x1024 : Shape := ⟨2, ![135168, 1024]⟩
abbrev S65536x1024 : Shape := ⟨2, ![65536, 1024]⟩
abbrev S1024 : Shape := ⟨1, ![1024]⟩
abbrev S65536x1 : Shape := ⟨2, ![65536, 1]⟩
abbrev S65536 : Shape := ⟨1, ![65536]⟩
abbrev S_ : Shape := ⟨0, ![]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S419, .i32⟩
  | .hbm, ⟨1, _⟩ => ⟨S419, .i32⟩
  | .hbm, ⟨2, _⟩ => ⟨S4x419, .i32⟩
  | .hbm, ⟨3, _⟩ => ⟨S4x419, .i32⟩
  | .hbm, ⟨4, _⟩ => ⟨S65536x128, .f32⟩
  | .hbm, ⟨5, _⟩ => ⟨S135168x1024, .bf16⟩
  | .hbm, ⟨6, _⟩ => ⟨S65536x1024, .f32⟩
  | .hbm, ⟨7, _⟩ => ⟨S1024, .f32⟩
  | .hbm, ⟨8, _⟩ => ⟨S1024, .f32⟩
  | .hbm, ⟨9, _⟩ => ⟨S65536x1, .f32⟩
  | .hbm, ⟨10, _⟩ => ⟨S65536, .f32⟩
  | .hbm, ⟨11, _⟩ => ⟨S65536, .i32⟩
  | .hbm, ⟨12, _⟩ => ⟨S65536x1, .i32⟩
  | .hbm, ⟨13, _⟩ => ⟨S65536x1024, .bf16⟩
  | .hbm, ⟨14, _⟩ => ⟨S65536x1024, .f32⟩
  | .hbm, ⟨15, _⟩ => ⟨S65536x1, .f32⟩
  | .hbm, ⟨16, _⟩ => ⟨S65536, .f32⟩
  | .hbm, ⟨17, _⟩ => ⟨S65536, .i32⟩
  | .hbm, ⟨18, _⟩ => ⟨S65536x1, .i32⟩
  | .hbm, ⟨19, _⟩ => ⟨S65536x1024, .bf16⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S419, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.Attn.Math.lean ====
module

public import Idealize.ShloMosaic.PureOps.Ideal

@[expose] public section

noncomputable section

/-! # A softmax-weighted sum over the extended reals

  What both programs compute for one query and one head: the values weighted by the exponentials of the scores
  less their maximum, over the sum of these weights. A key that the query may not see has the score `⊥` and so
  the weight 0. -/

namespace Cert.Attn

open Idealize.ShloMosaic

/-- The weighted sum of `V` by the exponentials of `L` less its maximum, divided once by the sum of the weights. -/
def soft {n : ℕ} (L V : Fin n → EReal) : EReal :=
  Ideal.div (∑ x, Ideal.exp (L x - Finset.univ.fold max ⊥ L) * V x) (∑ x, Ideal.exp (L x - Finset.univ.fold max ⊥ L))

/-- A maximum taken from `⊥` is the supremum. -/
theorem fold_max_eq_sup {ι : Type*} (s : Finset ι) (L : ι → EReal) : s.fold max ⊥ L = s.sup L := rfl

/-- A nonnegative real factor goes through a finite sum of extended reals. -/
theorem sum_mul_real {ι : Type*} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of reals, read in the extended reals. -/
theorem coe_sum_real {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A score below `⊤` less a real maximum has a real, nonnegative weight, positive where the score is real. -/
theorem weight_real (l : EReal) (hl : l ≠ ⊤) (μ : ℝ) :
    ∃ w : ℝ, 0 ≤ w ∧ (l ≠ ⊥ → 0 < w) ∧ Ideal.exp (l - (μ : EReal)) = (w : EReal) := by
  induction l with
  | bot => exact ⟨0, le_refl _, fun h => absurd rfl h, by rw [EReal.bot_sub]; rfl⟩
  | top => exact absurd rfl hl
  | coe r => exact ⟨Real.exp (r - μ), (Real.exp_pos _).le, fun _ => Real.exp_pos _, by rw [← EReal.coe_sub]; rfl⟩

/-- Where no score is `⊤` and one is not `⊥`, dividing every weight by the sum of the weights first and summing
    then gives the same. -/
theorem soft_eq_sum_div {n : ℕ} (L V : Fin n → EReal) (htop : ∀ x, L x ≠ ⊤) (x₀ : Fin n) (hbot : L x₀ ≠ ⊥) :
    soft L V = ∑ x, V x * Ideal.div (Ideal.exp (L x - Finset.univ.fold max ⊥ L))
      (∑ y, Ideal.exp (L y - Finset.univ.fold max ⊥ L)) := by
  unfold soft
  have hM : ∃ μ : ℝ, Finset.univ.fold max ⊥ L = (μ : EReal) := by
    rw [fold_max_eq_sup]
    obtain ⟨x₁, -, h₁⟩ := Finset.exists_mem_eq_sup (s := Finset.univ) ⟨x₀, Finset.mem_univ x₀⟩ L
    have hb : Finset.univ.sup L ≠ ⊥ := fun h => hbot (le_bot_iff.mp (h ▸ Finset.le_sup (f := L) (Finset.mem_univ x₀)))
    have ht : Finset.univ.sup L ≠ ⊤ := fun h => htop x₁ (h₁ ▸ h)
    exact ⟨_, (EReal.coe_toReal ht hb).symm⟩
  obtain ⟨μ, hμ⟩ := hM
  rw [hμ]
  choose w hw0 hwpos hw using fun x => weight_real (L x) (htop x) μ
  have hD : ∑ y, Ideal.exp (L y - (μ : EReal)) = ((∑ y, w y : ℝ) : EReal) := by
    rw [coe_sum_real]
    exact Finset.sum_congr rfl fun y _ => hw y
  have hpos : 0 < ∑ y, w y :=
    Finset.sum_pos' (fun y _ => hw0 y) ⟨x₀, Finset.mem_univ _, hwpos x₀ hbot⟩
  rw [hD, Ideal.div_coe hpos.ne', sum_mul_real _ _ _ (by positivity)]
  refine Finset.sum_congr rfl fun x _ => ?_
  rw [Ideal.div_coe hpos.ne']
  rw [mul_right_comm, mul_comm]

/-- Two lists of keys that list the same visible keys: `e` takes the keys of the first where `p` holds to keys of the
    second, one to one, with the same score and value; every other key of either has the score `⊥`. -/
theorem soft_reindex {n N : ℕ} (L V : Fin n → EReal) (L' V' : Fin N → EReal) (p : Fin n → Prop) [DecidablePred p] (e : Fin n → Fin N)
    (hinj : ∀ x y, p x → p y → e x = e y → x = y) (hL : ∀ x, p x → L x = L' (e x)) (hV : ∀ x, p x → V x = V' (e x))
    (hout : ∀ x, ¬ p x → L x = ⊥) (hout' : ∀ y, (∀ x, p x → e x ≠ y) → L' y = ⊥) : soft L V = soft L' V' := by
  have hM : Finset.univ.fold max ⊥ L = Finset.univ.fold max ⊥ L' := by
    rw [fold_max_eq_sup, fold_max_eq_sup]
    apply le_antisymm
    · refine Finset.sup_le fun x _ => ?_
      by_cases hx : p x
      · rw [hL x hx]; exact Finset.le_sup (f := L') (Finset.mem_univ _)
      · rw [hout x hx]; exact bot_le
    · refine Finset.sup_le fun y _ => ?_
      by_cases hy : ∃ x, p x ∧ e x = y
      · obtain ⟨x, hx, rfl⟩ := hy
        rw [← hL x hx]; exact Finset.le_sup (f := L) (Finset.mem_univ _)
      · rw [hout' y fun x hx he => hy ⟨x, hx, he⟩]; exact bot_le
  have hsum : ∀ (f : Fin n → EReal) (g : Fin N → EReal), (∀ x, p x → f x = g (e x)) → (∀ x, ¬ p x → f x = 0) →
      (∀ y, (∀ x, p x → e x ≠ y) → g y = 0) → ∑ x, f x = ∑ y, g y := by
    intro f g h1 h2 h3
    rw [← Finset.sum_filter_add_sum_filter_not Finset.univ p f,
      Finset.sum_eq_zero (s := Finset.univ.filter fun x => ¬ p x) (fun x hx => h2 x (Finset.mem_filter.mp hx).2), add_zero]
    refine Finset.sum_of_injOn e ?_ (fun _ _ => Finset.mem_coe.mpr (Finset.mem_univ _)) ?_ ?_
    · intro x hx y hy
      exact hinj x y (by simpa using hx) (by simpa using hy)
    · intro y _ hy
      exact h3 y fun x hx he => hy ⟨x, by simpa using hx, he⟩
    · intro x hx
      exact h1 x (Finset.mem_filter.mp hx).2
  unfold soft
  rw [hM]
  congr 1
  · refine hsum _ _ (fun x hx => by rw [hL x hx, hV x hx]) (fun x hx => ?_) (fun y hy => ?_)
    · rw [hout x hx, EReal.bot_sub, Ideal.exp_bot, zero_mul]
    · rw [hout' y hy, EReal.bot_sub, Ideal.exp_bot, zero_mul]
  · refine hsum _ _ (fun x hx => by rw [hL x hx]) (fun x hx => ?_) (fun y hy => ?_)
    · rw [hout x hx, EReal.bot_sub, Ideal.exp_bot]
    · rw [hout' y hy, EReal.bot_sub, Ideal.exp_bot]

end Cert.Attn

end
-- ==== Proof.Attn.RefStep.lean ====
module

public import proofs.«01_k».proof.Proof.Gen.ReferenceIdeal.Run
public import proofs.«01_k».proof.Proof.Attn.Math
public import Idealize.ShloMosaic.Lib.Pointwise
public import Idealize.ShloMosaic.Lib.ValueIdx
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe

variable (W : Valuation τ sig (Elt Ideal)) (k : Fin 64)

/-- The chunk's first row, as the loop computes it from its counter. -/
theorem start_at (h5 : ∀ z, (W (Proc.devRef .tc main_v30_5) : S_.Idx → BitVec 32) z = BitVec.ofNat 32 k)
    (h0 : ∀ i : Fin 64, (W (Proc.devRef .tc main_v30_0) : S64.Idx → BitVec 32) (ix1 i) = BitVec.ofNat 32 i) (z : S_.Idx) :
    (res_main_while0b_v35 (F := Ideal) W : S_.Idx → BitVec 32) z = BitVec.ofNat 32 (64 * k) := by
  unfold res_main_while0b_v35
  generalize W (Proc.devRef .tc main_v30_0) = A at *
  generalize W (Proc.devRef .tc main_v30_5) = B at *
  pointwise
  rw [h0]
  have e : (BitVec.toInt (B (Shape.Idx.first h_S_))) = (k : ℤ) := by
    rw [h5]
    clear h5
    revert k
    decide +kernel
  have e2 : ∀ h, Host.clampedStart (Proc.tc.devRef main_v30_0 : DevRef τ sig).ty.shape S1 h (fun _ => BitVec.toInt (B (Shape.Idx.first h_S_))) 0 = k := fun h =>
    Host.clampedStart_of_le h _ _ k e (by show (k : ℕ) + 1 ≤ 64; omega)
  rw [IntOp.muli]
  simp only [e2]
  clear e e2 h0 h5
  change (BitVec.ofNat 32 (k : ℕ) * 64#32 : BitVec 32) = BitVec.ofNat 32 (64 * k)
  revert k
  decide +kernel

/-- A slice of 64 rows of the queries, from row `64 k`. -/
theorem slice_q (x : S16x4096x16x64.Idx → EReal) (st : Fin 4 → ℤ) (h0 : st 0 = (0 : ℕ)) (h1 : st 1 = (64 * k : ℕ)) (h2 : st 2 = (0 : ℕ)) (h3 : st 3 = (0 : ℕ))
    (b : Fin 16) (i : Fin 64) (h : Fin 16) (d : Fin 64) :
    Host.dynamicSlice S16x64x16x64 x st sliceFits_S16x4096x16x64_S16x64x16x64 (ix4 b i h d) = x (ix4 b ⟨64 * k + i, by omega⟩ h d) := by
  pointwise
  refine congrArg x ?_
  have c0 := Host.clampedStart_of_le sliceFits_S16x4096x16x64_S16x64x16x64.1 st (0 : Fin 4) 0 h0 (by decide)
  have c1 := Host.clampedStart_of_le sliceFits_S16x4096x16x64_S16x64x16x64.1 st (1 : Fin 4) (64 * k) h1 (by show 64 * (k : ℕ) + 64 ≤ 4096; omega)
  have c2 := Host.clampedStart_of_le sliceFits_S16x4096x16x64_S16x64x16x64.1 st (2 : Fin 4) 0 h2 (by decide)
  have c3 := Host.clampedStart_of_le sliceFits_S16x4096x16x64_S16x64x16x64.1 st (3 : Fin 4) 0 h3 (by decide)
  simp only [c0, c1, c2, c3, Nat.zero_add, Fin.eta]

/-- A slice of 576 rows of the padded keys or values, from row `64 k`. -/
theorem slice_kv (x : S16x4608x16x64.Idx → EReal) (st : Fin 4 → ℤ) (h0 : st 0 = (0 : ℕ)) (h1 : st 1 = (64 * k : ℕ)) (h2 : st 2 = (0 : ℕ)) (h3 : st 3 = (0 : ℕ))
    (b : Fin 16) (u : Fin 576) (h : Fin 16) (d : Fin 64) :
    Host.dynamicSlice S16x576x16x64 x st sliceFits_S16x4608x16x64_S16x576x16x64 (ix4 b u h d) = x (ix4 b ⟨64 * k + u, by omega⟩ h d) := by
  pointwise
  refine congrArg x ?_
  have c0 := Host.clampedStart_of_le sliceFits_S16x4608x16x64_S16x576x16x64.1 st (0 : Fin 4) 0 h0 (by decide)
  have c1 := Host.clampedStart_of_le sliceFits_S16x4608x16x64_S16x576x16x64.1 st (1 : Fin 4) (64 * k) h1 (by show 64 * (k : ℕ) + 576 ≤ 4608; omega)
  have c2 := Host.clampedStart_of_le sliceFits_S16x4608x16x64_S16x576x16x64.1 st (2 : Fin 4) 0 h2 (by decide)
  have c3 := Host.clampedStart_of_le sliceFits_S16x4608x16x64_S16x576x16x64.1 st (3 : Fin 4) 0 h3 (by decide)
  simp only [c0, c1, c2, c3, Nat.zero_add, Fin.eta]

/-- The start words of a trip's slices, with the wrap of a negative start by `n`. -/
def starts (A : S_.Idx → BitVec 32) (n : BitVec 32) : Fin 4 → ℤ := fun k =>
  ((![constantI S_ 32 0#32, select (cmpi .slt A (constantI S_ 32 0#32)) (addi A (constantI S_ 32 n)) A, constantI S_ 32 0#32, constantI S_ 32 0#32] : Fin 4 → (⟨S_, .i32⟩ : BufTy).Contents (Elt Ideal)) k (Shape.Idx.first h_S_)).toInt

theorem starts_one (A : S_.Idx → BitVec 32) (n : BitVec 32) (hs : ∀ z, A z = BitVec.ofNat 32 (64 * k)) : starts A n 1 = (64 * k : ℕ) := by
  show BitVec.toInt (if (IntOp.cmpi .slt (A (Shape.Idx.first h_S_)) 0#32 : BitVec 1) = 1#1 then IntOp.addi (A (Shape.Idx.first h_S_)) n else A (Shape.Idx.first h_S_)) = _
  rw [hs]
  have e : ∀ k : Fin 64, (IntOp.cmpi .slt (BitVec.ofNat 32 (64 * k)) 0#32 : BitVec 1) = 0#1 ∧ BitVec.toInt (BitVec.ofNat 32 (64 * k)) = (64 * k : ℕ) := by decide +kernel
  rw [(e k).1, if_neg (by decide), (e k).2]

/-- The three slices that a trip takes: of the queries, of the padded keys and of the padded values. -/
def qPart : S16x64x16x64.Idx → EReal :=
  Host.dynamicSlice S16x64x16x64 (W (Proc.devRef .tc main_v30_1)) (starts (res_main_while0b_v35 (F := Ideal) W) 4096#32) sliceFits_S16x4096x16x64_S16x64x16x64
def kPart : S16x576x16x64.Idx → EReal :=
  Host.dynamicSlice S16x576x16x64 (W (Proc.devRef .tc main_v30_2)) (starts (res_main_while0b_v35 (F := Ideal) W) 4608#32) sliceFits_S16x4608x16x64_S16x576x16x64
def vPart : S16x576x16x64.Idx → EReal :=
  Host.dynamicSlice S16x576x16x64 (W (Proc.devRef .tc main_v30_3)) (starts (res_main_while0b_v35 (F := Ideal) W) 4608#32) sliceFits_S16x4608x16x64_S16x576x16x64

/-- The rows of chunk `k`: of the queries, … -/
theorem qPart_at (hs : ∀ z, (res_main_while0b_v35 (F := Ideal) W : S_.Idx → BitVec 32) z = BitVec.ofNat 32 (64 * k))
    (b : Fin 16) (i : Fin 64) (h : Fin 16) (d : Fin 64) :
    qPart W (ix4 b i h d) = (W (Proc.devRef .tc main_v30_1) : S16x4096x16x64.Idx → EReal) (ix4 b ⟨64 * k + i, by omega⟩ h d) :=
  slice_q k _ _ rfl (starts_one k _ _ hs) rfl rfl b i h d

/-- … of the padded keys, … -/
theorem kPart_at (hs : ∀ z, (res_main_while0b_v35 (F := Ideal) W : S_.Idx → BitVec 32) z = BitVec.ofNat 32 (64 * k))
    (b : Fin 16) (u : Fin 576) (h : Fin 16) (d : Fin 64) :
    kPart W (ix4 b u h d) = (W (Proc.devRef .tc main_v30_2) : S16x4608x16x64.Idx → EReal) (ix4 b ⟨64 * k + u, by omega⟩ h d) :=
  slice_kv k _ _ rfl (starts_one k _ _ hs) rfl rfl b u h d

/-- … and of the padded values. -/
theorem vPart_at (hs : ∀ z, (res_main_while0b_v35 (F := Ideal) W : S_.Idx → BitVec 32) z = BitVec.ofNat 32 (64 * k))
    (b : Fin 16) (u : Fin 576) (h : Fin 16) (d : Fin 64) :
    vPart W (ix4 b u h d) = (W (Proc.devRef .tc main_v30_3) : S16x4608x16x64.Idx → EReal) (ix4 b ⟨64 * k + u, by omega⟩ h d) :=
  slice_kv k _ _ rfl (starts_one k _ _ hs) rfl rfl b u h d

/-- The masked logits of a trip, of the slices. -/
def scores (Q : S16x64x16x64.Idx → EReal) (K : S16x576x16x64.Idx → EReal) (B : S16x64x576.Idx → EReal) (A : S_.Idx → BitVec 32) : S16x16x64x576.Idx → EReal :=
  select (broadcastInDim S16x16x64x576 ![0, 1, 2, 3] bcast_S1x1x1x576_S16x16x64x576_0_1_2_3 (broadcastInDim S1x1x1x576 ![3] bcast_S576_S1x1x1x576_3 (cmpi .sge (addi (broadcastInDim S576 ![] bcast_S_S576 (subi A (constantI S_ 32 512#32))) (iotaInDim S576 32 0)) (broadcastInDim S576 ![] bcast_S_S576 (constantI S_ 32 0#32))))) (addf (F := Ideal) (φ := .f32) (mulf (F := Ideal) (φ := .f32) (Host.dotGeneral (F := Ideal) (φ₁ := .f32) (φ₂ := .f32) dot_S16x64x16x64_S16x576x16x64_S16x16x64x576_3_3_1_1_02_02 none Q K) (broadcastInDim S16x16x64x576 ![] bcast_S_S16x16x64x576 (constant (F := Ideal) S_ .f32 0x3E000000#32))) (broadcastInDim S16x16x64x576 ![0, 1, 2, 3] bcast_S1x16x64x576_S16x16x64x576_0_1_2_3 (broadcastInDim S1x16x64x576 ![1, 2, 3] bcast_S16x64x576_S1x16x64x576_1_2_3 B))) (broadcastInDim S16x16x64x576 ![] bcast_S_S16x16x64x576 (id (constant (F := Ideal) S_ .f32 0xFF800000#32)))

theorem v61_eq : (res_main_while0b_v61 (F := Ideal) W : S16x16x64x576.Idx → EReal)
    = scores (qPart W) (kPart W) (W (Proc.devRef .tc main_v30_4)) (res_main_while0b_v35 (F := Ideal) W) := rfl

/-- The mask's word: whether the key's place lies inside the sequence. -/
theorem mask_word (u : Fin 576) : (IntOp.cmpi .sge (IntOp.addi (IntOp.subi (BitVec.ofNat 32 (64 * k)) 512#32) (BitVec.ofNat 32 u)) 0#32 : BitVec 1)
    = if 512 ≤ 64 * (k : ℕ) + u then 1#1 else 0#1 := by
  have e : ∀ n : Fin 4608, (IntOp.cmpi .sge (BitVec.ofNat 32 n - 512#32) 0#32 : BitVec 1) = if 512 ≤ (n : ℕ) then 1#1 else 0#1 := by decide +kernel
  have a : (IntOp.addi (IntOp.subi (BitVec.ofNat 32 (64 * k)) 512#32) (BitVec.ofNat 32 u) : BitVec 32) = BitVec.ofNat 32 (64 * k + u) - 512#32 := by
    rw [BitVec.ofNat_add]
    show BitVec.ofNat 32 (64 * k) - 512#32 + BitVec.ofNat 32 u = _
    rw [BitVec.sub_eq_add_neg, BitVec.sub_eq_add_neg, BitVec.add_assoc, BitVec.add_assoc, BitVec.add_comm (-512#32)]
  rw [a]
  exact e ⟨64 * k + u, by omega⟩

theorem word_eighth : Ideal.ofBits FTy.f32 1040187392#32 = ((1 / 8 : ℝ) : EReal) := by
  simp [Ideal.ofBits, Ideal.ieee]
  norm_cast
  norm_num

theorem word_bot : Ideal.ofBits FTy.f32 4286578688#32 = (⊥ : EReal) := by
  simp [Ideal.ofBits, Ideal.ieee]

/-- The logits of one chunk. -/
theorem scores_at (Q : S16x64x16x64.Idx → EReal) (K : S16x576x16x64.Idx → EReal) (B : S16x64x576.Idx → EReal) (A : S_.Idx → BitVec 32)
    (hs : ∀ z, A z = BitVec.ofNat 32 (64 * k)) (b h : Fin 16) (i : Fin 64) (u : Fin 576) :
    scores Q K B A (ix4 b h i u)
      = if 512 ≤ 64 * (k : ℕ) + u then (∑ d : Fin 64, Q (ix4 b i h d) * K (ix4 b u h d)) * ((1 / 8 : ℝ) : EReal) + B (ix3 h i u) else (⊥ : EReal) := by
  unfold scores
  pointwise
  rw [hs, mask_word, word_eighth, show (id (constant (F := Ideal) S_ .f32 4286578688#32) ix0 : EReal) = ⊥ from word_bot]
  split
  · rfl
  · rfl

end Cert.Attn.Ref

end
-- ==== Proof.Attn.RefOut.lean ====
module

public import proofs.«01_k».proof.Proof.Gen.ReferenceIdeal.Run
public import proofs.«01_k».proof.Proof.Attn.RefStep
public import Idealize.ShloMosaic.Lib.Pointwise
public import Idealize.ShloMosaic.Lib.ValueIdx
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe

variable (W : Valuation τ sig (Elt Ideal)) (k : Fin 64)

/-- The greatest logit of a row. -/
def rowMax (L : S16x16x64x576.Idx → EReal) : S16x16x64.Idx → EReal :=
  Host.reduce (FloatOps.maximumf (F := Ideal) (φ := .f32)) L (constant (F := Ideal) S_ .f32 0xFF800000#32) reducesTo_S16x16x64x576_S16x16x64_d3 h_S_

theorem rowMax_at (L : S16x16x64x576.Idx → EReal) (b h : Fin 16) (i : Fin 64) :
    rowMax L (ix3 b h i) = Finset.univ.fold max (⊥ : EReal) fun y : Fin 576 => L (ix4 b h i y) := by
  unfold rowMax
  pointwise
  rw [word_bot]

/-- The exponentials of a row's logits less a number of the row. -/
def weights (L : S16x16x64x576.Idx → EReal) (M : S16x16x64.Idx → EReal) : S16x16x64x576.Idx → EReal :=
  Host.exp (F := Ideal) (φ := .f32) (subf (F := Ideal) (φ := .f32) L (broadcastInDim S16x16x64x576 ![0, 1, 2, 3] bcast_S16x16x64x1_S16x16x64x576_0_1_2_3 (broadcastInDim S16x16x64x1 ![0, 1, 2] bcast_S16x16x64_S16x16x64x1_0_1_2 (maximumf (F := Ideal) (φ := .f32) (broadcastInDim S16x16x64 ![] bcast_S_S16x16x64 (constant (F := Ideal) S_ .f32 0xFF800000#32)) M))))

theorem v68_eq : (res_main_while0b_v68 (F := Ideal) W : S16x16x64x576.Idx → EReal) = weights (res_main_while0b_v61 (F := Ideal) W) (rowMax (res_main_while0b_v61 (F := Ideal) W)) := by
  unfold res_main_while0b_v68 weights rowMax
  generalize res_main_while0b_v61 (F := Ideal) W = L
  rfl

theorem weights_at (L : S16x16x64x576.Idx → EReal) (M : S16x16x64.Idx → EReal) (b h : Fin 16) (i : Fin 64) (u : Fin 576) :
    weights L M (ix4 b h i u) = Ideal.exp (L (ix4 b h i u) - M (ix3 b h i)) := by
  unfold weights
  pointwise
  rw [word_bot, max_eq_right bot_le]

/-- A trip's rows, of the weights and the values. -/
def chunkOut (E : S16x16x64x576.Idx → EReal) (Vp : S16x576x16x64.Idx → EReal) : S1x16x64x16x64.Idx → EReal :=
  broadcastInDim S1x16x64x16x64 ![1, 2, 3, 4] bcast_S16x64x16x64_S1x16x64x16x64_1_2_3_4 (transpose S16x64x16x64 [0, 3, 1, 2] (Host.dotGeneral (F := Ideal) (φ₁ := .f32) (φ₂ := .f32) dot_S16x576x16x64_S16x16x64x576_S16x16x64x64_1_3_3_2_02_01 none Vp (Host.divf (F := Ideal) (φ := .f32) E (broadcastInDim S16x16x64x576 ![0, 1, 2, 3] bcast_S16x16x64x1_S16x16x64x576_0_1_2_3 (broadcastInDim S16x16x64x1 ![0, 1, 2] bcast_S16x16x64_S16x16x64x1_0_1_2 (Host.reduceAdd (F := Ideal) (φ := .f32) E (constant (F := Ideal) S_ .f32 0x00000000#32) reducesTo_S16x16x64x576_S16x16x64_d3 h_S_))))) transposes_S16x16x64x64_S16x64x16x64_0_3_1_2)

theorem chunkOut_at (E : S16x16x64x576.Idx → EReal) (Vp : S16x576x16x64.Idx → EReal) (b h : Fin 16) (i d : Fin 64) (z : Fin 1) :
    chunkOut E Vp (ix5 z b i h d) = ∑ u : Fin 576, Vp (ix4 b u h d) * Ideal.div (E (ix4 b h i u)) (∑ y : Fin 576, E (ix4 b h i y)) := by
  unfold chunkOut
  pointwise

end Cert.Attn.Ref

end
-- ==== Proof.Attn.RefPre.lean ====
module

public import proofs.«01_k».proof.Proof.Gen.ReferenceIdeal.Run
public import proofs.«01_k».proof.Proof.Attn.RefOut
public import Idealize.ShloMosaic.Lib.Pointwise
public import Idealize.ShloMosaic.Lib.ValueIdx
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe

variable (W : Valuation τ sig (Elt Ideal))

theorem p0_v4 (b : Fin 16) (s : Fin 4096) (h : Fin 16) (d : Fin 64) :
    (StableHlo.after (hostOps0 (F := Ideal)) W main_v4 : S16x4096x16x64.Idx → EReal) (ix4 b s h d) = (W main_arg0 : S16x4096x3072.Idx → EReal) (ix3 b s ⟨64 * h + d, by omega⟩) := by
  after_reads_at
  simp only [Nat.mul_comm]
theorem p0_v5 (b : Fin 16) (s : Fin 4096) (h : Fin 16) (d : Fin 64) :
    (StableHlo.after (hostOps0 (F := Ideal)) W main_v5 : S16x4096x16x64.Idx → EReal) (ix4 b s h d) = (W main_arg0 : S16x4096x3072.Idx → EReal) (ix3 b s ⟨1024 + (64 * h + d), by omega⟩) := by
  after_reads_at
  simp only [Nat.mul_comm]
theorem p0_v6 (b : Fin 16) (s : Fin 4096) (h : Fin 16) (d : Fin 64) :
    (StableHlo.after (hostOps0 (F := Ideal)) W main_v6 : S16x4096x16x64.Idx → EReal) (ix4 b s h d) = (W main_arg0 : S16x4096x3072.Idx → EReal) (ix3 b s ⟨2048 + (64 * h + d), by omega⟩) := by
  after_reads_at
  simp only [Nat.mul_comm]
theorem p1_v7 (b : Fin 16) (y : Fin 4608) (h : Fin 16) (d : Fin 64) (hy : 512 ≤ (y : ℕ)) :
    (StableHlo.after (hostOps0_1 (F := Ideal)) W main_v7 : S16x4608x16x64.Idx → EReal) (ix4 b y h d) = (W main_v5 : S16x4096x16x64.Idx → EReal) (ix4 b ⟨y - 512, by omega⟩ h d) := by
  after_reads_at
  rw [dif_pos ⟨hy, by omega⟩]
theorem p3_v8 (b : Fin 16) (y : Fin 4608) (h : Fin 16) (d : Fin 64) (hy : 512 ≤ (y : ℕ)) :
    (StableHlo.after (hostOps0_3 (F := Ideal)) W main_v8 : S16x4608x16x64.Idx → EReal) (ix4 b y h d) = (W main_v6 : S16x4096x16x64.Idx → EReal) (ix4 b ⟨y - 512, by omega⟩ h d) := by
  after_reads_at
  rw [dif_pos ⟨hy, by omega⟩]
theorem p4_v17 (i : Fin 64) (u : Fin 576) :
    (StableHlo.after (hostOps0_4 (F := Ideal)) W main_v17 : S64x576.Idx → BitVec 32) (ix2 i u) = BitVec.ofNat 32 (i + 512) - BitVec.ofNat 32 u := by
  after_reads_at
  rw [BitVec.ofNat_add]
  rfl

/-- The distance, clipped to between −256 and 256, plus 256, as a word. -/
theorem clip_word : ∀ n : Fin 640, (let r := BitVec.ofNat 32 (512 + 63) - BitVec.ofNat 32 n
    let w := IntOp.addi (IntOp.minsi 256#32 (IntOp.maxsi 4294967040#32 r)) 256#32
    (Scalar.select (IntOp.cmpi .slt w 0#32) (IntOp.addi w 513#32) w).toInt = ((min (831 - (n : ℕ)) 512 : ℕ) : ℤ)) := by
  decide +kernel

theorem p4_c2 : (StableHlo.after (hostOps0_4 (F := Ideal)) W main_c_2 : S_.Idx → BitVec 32) ix0 = 4294967040#32 := by
  after_reads_at
theorem p4_c3 : (StableHlo.after (hostOps0_4 (F := Ideal)) W main_c_3 : S_.Idx → BitVec 32) ix0 = 256#32 := by
  after_reads_at

theorem p5_v18 (i : Fin 64) (u : Fin 576) (h2 : (W main_c_2 : S_.Idx → BitVec 32) ix0 = 4294967040#32) (h3 : (W main_c_3 : S_.Idx → BitVec 32) ix0 = 256#32) :
    (StableHlo.after (hostOps0_5 (F := Ideal)) W main_v18 : S64x576.Idx → BitVec 32) (ix2 i u)
      = IntOp.minsi 256#32 (IntOp.maxsi 4294967040#32 ((W main_v17 : S64x576.Idx → BitVec 32) (ix2 i u))) := by
  after_reads_at
  simp only [id, h2, h3]

/-- The gather of the bias table's column `n` at a row and a place. -/
theorem gather_at (x : S16x513.Idx → EReal) (idx : S64x576x1.Idx → BitVec 32) (h : Fin 16) (i : Fin 64) (u : Fin 576) (n : ℕ) (hn : n ≤ 512)
    (hw : (idx (ix3 i u 0)).toInt = (n : ℤ)) :
    Host.gather gather_S16x513_S64x576x1_S16x64x576_0_1_n_n_1_2_161 x idx (ix3 h i u) = x (ix2 h ⟨n, by omega⟩) := by
  show x _ = x _
  refine congrArg x ?_
  have hi : ∀ p, (gather_S16x513_S64x576x1_S16x64x576_0_1_n_n_1_2_161.siIdx (ix3 h i u) p) = ix3 i u 0 := by
    intro p
    funext a
    fin_cases a
    · rfl
    · rfl
    · apply Fin.ext
      exact Nat.lt_one_iff.mp (Fin.isLt _)
  funext a
  apply Fin.ext
  fin_cases a
  · show gather_S16x513_S64x576x1_S16x64x576_0_1_n_n_1_2_161.start (ix3 h i u) idx 0 + gather_S16x513_S64x576x1_S16x64x576_0_1_n_n_1_2_161.batchCoord (ix3 h i u) 0 + gather_S16x513_S64x576x1_S16x64x576_0_1_n_n_1_2_161.offCoord (ix3 h i u) 0 = (h : ℕ)
    rw [GatherDims.start, dif_neg (by decide), GatherDims.batchCoord_eq_zero _ _ _ (by decide), GatherDims.offCoord, dif_pos (by decide)]
    exact (Nat.zero_add _).trans rfl
  · show gather_S16x513_S64x576x1_S16x64x576_0_1_n_n_1_2_161.start (ix3 h i u) idx 1 + gather_S16x513_S64x576x1_S16x64x576_0_1_n_n_1_2_161.batchCoord (ix3 h i u) 1 + gather_S16x513_S64x576x1_S16x64x576_0_1_n_n_1_2_161.offCoord (ix3 h i u) 1 = n
    rw [GatherDims.start, dif_pos (by decide), GatherDims.batchCoord_eq_zero _ _ _ (by decide), GatherDims.offCoord_eq_zero _ _ _ (by decide), hi, hw]
    show min ((n : ℤ).toNat) (513 - 1) + 0 + 0 = n
    omega

theorem shift_both (A B C : BitVec 32) : A - C = A + B - (C + B) := by bv_omega

/-- The start word's chain on a clipped word. -/
theorem index_word (i : Fin 64) (u : Fin 576) (w : BitVec 32)
    (hw : w = IntOp.minsi 256#32 (IntOp.maxsi 4294967040#32 (BitVec.ofNat 32 (i + 512) - BitVec.ofNat 32 u))) :
    (Scalar.select (IntOp.cmpi .slt (IntOp.addi w 256#32) 0#32) (IntOp.addi (IntOp.addi w 256#32) 513#32) (IntOp.addi w 256#32)).toInt = ((min (i + 768 - u) 512 : ℕ) : ℤ) := by
  have e : BitVec.ofNat 32 (i + 512) - BitVec.ofNat 32 u = BitVec.ofNat 32 (512 + 63) - BitVec.ofNat 32 (u + (63 - i)) := by
    have h1 : (i : ℕ) + (63 - i) = 63 := by omega
    have h2 : BitVec.ofNat 32 (512 + 63) = BitVec.ofNat 32 (i + 512) + BitVec.ofNat 32 (63 - i) := by
      rw [← BitVec.ofNat_add]
      congr 1
      omega
    have h3 : BitVec.ofNat 32 (u + (63 - i)) = BitVec.ofNat 32 u + BitVec.ofNat 32 (63 - i) := BitVec.ofNat_add ..
    rw [h2, h3]
    exact shift_both _ _ _
  rw [hw, e]
  refine (clip_word ⟨u + (63 - i), by omega⟩).trans ?_
  show ((min (831 - (u + (63 - i))) 512 : ℕ) : ℤ) = _
  congr 2
  omega

theorem p6_v27 (h : Fin 16) (i : Fin 64) (u : Fin 576)
    (hw : (W main_v18 : S64x576.Idx → BitVec 32) (ix2 i u) = IntOp.minsi 256#32 (IntOp.maxsi 4294967040#32 (BitVec.ofNat 32 (i + 512) - BitVec.ofNat 32 u))) :
    (StableHlo.after (hostOps0_6 (F := Ideal)) W main_v30_4 : S16x64x576.Idx → EReal) (ix3 h i u)
      = (W main_arg1 : S16x513.Idx → EReal) (ix2 h ⟨min (i + 768 - u) 512, by omega⟩) := by
  after_reads_at
  simp only [id]
  refine gather_at _ _ h i u (min (i + 768 - u) 512) (by omega) ?_
  pointwise
  exact index_word i u _ hw

theorem p6_v30_0 (i : Fin 64) : (StableHlo.after (hostOps0_6 (F := Ideal)) W main_v30_0 : S64.Idx → BitVec 32) (ix1 i) = BitVec.ofNat 32 i := by
  after_reads_at
  rfl
theorem p6_v30_5 (z : S_.Idx) : (StableHlo.after (hostOps0_6 (F := Ideal)) W main_v30_5 : S_.Idx → BitVec 32) z = 0#32 := by
  after_reads_at
  rfl
theorem p6_v30_1 (j : S16x4096x16x64.Idx) : (StableHlo.after (hostOps0_6 (F := Ideal)) W main_v30_1 : S16x4096x16x64.Idx → EReal) j = (W main_v4 : S16x4096x16x64.Idx → EReal) j := by
  after_reads_at
  rfl
theorem p6_v30_2 (j : S16x4608x16x64.Idx) : (StableHlo.after (hostOps0_6 (F := Ideal)) W main_v30_2 : S16x4608x16x64.Idx → EReal) j = (W main_v7 : S16x4608x16x64.Idx → EReal) j := by
  after_reads_at
  rfl
theorem p6_v30_3 (j : S16x4608x16x64.Idx) : (StableHlo.after (hostOps0_6 (F := Ideal)) W main_v30_3 : S16x4608x16x64.Idx → EReal) j = (W main_v8 : S16x4608x16x64.Idx → EReal) j := by
  after_reads_at
  rfl

end Cert.Attn.Ref

end
-- ==== Proof.Attn.RefUpd.lean ====
module

public import proofs.«01_k».proof.Proof.Gen.ReferenceIdeal.Run
public import proofs.«01_k».proof.Proof.Attn.RefOut
public import Idealize.ShloMosaic.Lib.Pointwise
public import Idealize.ShloMosaic.Lib.ValueIdx
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe

variable (W : Valuation τ sig (Elt Ideal)) (k : Fin 64)

theorem step_eq : (step_main_v30_6 (F := Ideal) W : S64x16x64x16x64.Idx → EReal)
    = Host.dynamicUpdateSlice (W (Proc.devRef .tc main_v30_6)) (chunkOut (res_main_while0b_v68 (F := Ideal) W) (vPart W)) (fun k => (((![W (Proc.devRef .tc main_v30_5), constantI S_ 32 0#32, constantI S_ 32 0#32, constantI S_ 32 0#32, constantI S_ 32 0#32] : Fin 5 → (⟨S_, .i32⟩ : BufTy).Contents (Elt Ideal))) k (Shape.Idx.first h_S_)).toInt) updateFits_S64x16x64x16x64_S1x16x64x16x64 := by
  unfold step_main_v30_6 chunkOut vPart starts
  generalize res_main_while0b_v68 (F := Ideal) W = E
  generalize res_main_while0b_v35 (F := Ideal) W = A
  rfl

/-- A stack whose entry `k` is replaced. -/
theorem update_at (x : S64x16x64x16x64.Idx → EReal) (y : S1x16x64x16x64.Idx → EReal) (st : Fin 5 → ℤ) (h0 : st 0 = (k : ℕ)) (h1 : st 1 = (0 : ℕ))
    (h2 : st 2 = (0 : ℕ)) (h3 : st 3 = (0 : ℕ)) (h4 : st 4 = (0 : ℕ)) (j : Fin 64) (b : Fin 16) (i : Fin 64) (h : Fin 16) (d : Fin 64) :
    Host.dynamicUpdateSlice x y st updateFits_S64x16x64x16x64_S1x16x64x16x64 (ix5 j b i h d) = if j = k then y (ix5 0 b i h d) else x (ix5 j b i h d) := by
  have f := updateFits_S64x16x64x16x64_S1x16x64x16x64.1
  have c0 := Host.clampedStart_of_le f st (0 : Fin 5) k h0 (by show (k : ℕ) + 1 ≤ 64; omega)
  have c1 := Host.clampedStart_of_le f st (1 : Fin 5) 0 h1 (by show 0 + 16 ≤ 16; omega)
  have c2 := Host.clampedStart_of_le f st (2 : Fin 5) 0 h2 (by show 0 + 64 ≤ 64; omega)
  have c3 := Host.clampedStart_of_le f st (3 : Fin 5) 0 h3 (by show 0 + 16 ≤ 16; omega)
  have c4 := Host.clampedStart_of_le f st (4 : Fin 5) 0 h4 (by show 0 + 64 ≤ 64; omega)
  pointwise
  simp only [c0, c1, c2, c3, c4]
  by_cases hj : j = k
  · subst hj
    have hin : ((j : ℕ) ≤ j ∧ (j : ℕ) < j + 1) ∧ (0 ≤ (b : ℕ) ∧ (b : ℕ) < 0 + 16) ∧ (0 ≤ (i : ℕ) ∧ (i : ℕ) < 0 + 64) ∧ (0 ≤ (h : ℕ) ∧ (h : ℕ) < 0 + 16) ∧ 0 ≤ (d : ℕ) ∧ (d : ℕ) < 0 + 64 := by omega
    rw [dif_pos hin, if_pos rfl]
    simp only [Nat.sub_self, Nat.sub_zero, Fin.eta]
    rfl
  · rw [if_neg hj, dif_neg]
    rintro ⟨⟨p, q⟩, -⟩
    exact hj (Fin.ext (by omega))

/-- The stack after a trip at chunk `k`: the entries other than `k` as they were, and entry `k` the chunk's attention. -/
theorem step_at (h5 : ∀ z, (W (Proc.devRef .tc main_v30_5) : S_.Idx → BitVec 32) z = BitVec.ofNat 32 k)
    (j : Fin 64) (b : Fin 16) (i : Fin 64) (h : Fin 16) (d : Fin 64) :
    (step_main_v30_6 (F := Ideal) W : S64x16x64x16x64.Idx → EReal) (ix5 j b i h d)
      = if j = k then chunkOut (res_main_while0b_v68 (F := Ideal) W) (vPart W) (ix5 0 b i h d)
        else (W (Proc.devRef .tc main_v30_6) : S64x16x64x16x64.Idx → EReal) (ix5 j b i h d) := by
  rw [step_eq]
  refine update_at k _ _ _ ?_ rfl rfl rfl rfl j b i h d
  show BitVec.toInt ((W (Proc.devRef .tc main_v30_5) : S_.Idx → BitVec 32) (Shape.Idx.first h_S_)) = _
  rw [h5]
  clear h5
  revert k
  decide +kernel

end Cert.Attn.Ref

end
-- ==== Proof.Attn.RefLoop.lean ====
module

public import proofs.«01_k».proof.Proof.Gen.ReferenceIdeal.Run
public import proofs.«01_k».proof.Proof.Attn.RefUpd
public import Idealize.ShloMosaic.Lib.Pointwise
public import Idealize.ShloMosaic.Lib.ValueIdx
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe

/-- The masked logit of row `64 k + i` at the window's place `u`, of the queries, the padded keys and the bias table. -/
def tripLogit (Q : S16x4096x16x64.Idx → EReal) (K : S16x4608x16x64.Idx → EReal) (B : S16x64x576.Idx → EReal) (k : Fin 64) (b h : Fin 16) (i : Fin 64) (u : Fin 576) : EReal :=
  if 512 ≤ 64 * (k : ℕ) + u then (∑ d : Fin 64, Q (ix4 b ⟨64 * k + i, by omega⟩ h d) * K (ix4 b ⟨64 * k + u, by omega⟩ h d)) * ((1 / 8 : ℝ) : EReal) + B (ix3 h i u) else (⊥ : EReal)

/-- What a trip writes at row `i` of chunk `k`. -/
def tripOut (Q : S16x4096x16x64.Idx → EReal) (K Vp : S16x4608x16x64.Idx → EReal) (B : S16x64x576.Idx → EReal) (k : Fin 64) (b h : Fin 16) (i d : Fin 64) : EReal :=
  ∑ u : Fin 576, Vp (ix4 b ⟨64 * k + u, by omega⟩ h d)
    * Ideal.div (Ideal.exp (tripLogit Q K B k b h i u - Finset.univ.fold max (⊥ : EReal) (tripLogit Q K B k b h i)))
        (∑ y : Fin 576, Ideal.exp (tripLogit Q K B k b h i y - Finset.univ.fold max (⊥ : EReal) (tripLogit Q K B k b h i)))

variable (W : Valuation τ sig (Elt Ideal)) (k : Fin 64)

theorem trip_at (h5 : ∀ z, (W (Proc.devRef .tc main_v30_5) : S_.Idx → BitVec 32) z = BitVec.ofNat 32 k)
    (h0 : ∀ i : Fin 64, (W (Proc.devRef .tc main_v30_0) : S64.Idx → BitVec 32) (ix1 i) = BitVec.ofNat 32 i) (b h : Fin 16) (i d : Fin 64) :
    chunkOut (res_main_while0b_v68 (F := Ideal) W) (vPart W) (ix5 0 b i h d)
      = tripOut (W (Proc.devRef .tc main_v30_1)) (W (Proc.devRef .tc main_v30_2)) (W (Proc.devRef .tc main_v30_3)) (W (Proc.devRef .tc main_v30_4)) k b h i d := by
  have hs := start_at W k h5 h0
  have hl : ∀ u : Fin 576, (res_main_while0b_v61 (F := Ideal) W : S16x16x64x576.Idx → EReal) (ix4 b h i u)
      = tripLogit (W (Proc.devRef .tc main_v30_1)) (W (Proc.devRef .tc main_v30_2)) (W (Proc.devRef .tc main_v30_4)) k b h i u := fun u => by
    rw [v61_eq, scores_at k _ _ _ _ hs]
    unfold tripLogit
    simp only [qPart_at W k hs, kPart_at W k hs]
  rw [chunkOut_at, v68_eq]
  simp only [weights_at, rowMax_at, hl, vPart_at W k hs]
  rfl

/-- The loop's state after `n` trips: what is carried along unchanged, the counter, and the filled entries of the stack. -/
structure After (W0 W : Valuation τ sig (Elt Ideal)) (n : ℕ) : Prop where
  a0 : W (Proc.devRef .tc main_v30_0) = W0 (Proc.devRef .tc main_v30_0)
  a1 : W (Proc.devRef .tc main_v30_1) = W0 (Proc.devRef .tc main_v30_1)
  a2 : W (Proc.devRef .tc main_v30_2) = W0 (Proc.devRef .tc main_v30_2)
  a3 : W (Proc.devRef .tc main_v30_3) = W0 (Proc.devRef .tc main_v30_3)
  a4 : W (Proc.devRef .tc main_v30_4) = W0 (Proc.devRef .tc main_v30_4)
  a5 : ∀ z, (W (Proc.devRef .tc main_v30_5) : S_.Idx → BitVec 32) z = BitVec.ofNat 32 n
  a6 : ∀ (j : Fin 64) (b : Fin 16) (i : Fin 64) (h : Fin 16) (d : Fin 64), (j : ℕ) < n →
    (W (Proc.devRef .tc main_v30_6) : S64x16x64x16x64.Idx → EReal) (ix5 j b i h d)
      = tripOut (W0 (Proc.devRef .tc main_v30_1)) (W0 (Proc.devRef .tc main_v30_2)) (W0 (Proc.devRef .tc main_v30_3)) (W0 (Proc.devRef .tc main_v30_4)) j b h i d

theorem after_iter (W0 : Valuation τ sig (Elt Ideal)) (h5 : ∀ z, (W0 (Proc.devRef .tc main_v30_5) : S_.Idx → BitVec 32) z = 0#32)
    (h0 : ∀ i : Fin 64, (W0 (Proc.devRef .tc main_v30_0) : S64.Idx → BitVec 32) (ix1 i) = BitVec.ofNat 32 i) :
    ∀ n ≤ 64, After W0 (STEP^[n] W0) n := by
  intro n
  induction n with
  | zero => exact fun _ => ⟨rfl, rfl, rfl, rfl, rfl, h5, fun j _ _ _ _ hj => absurd hj (by omega)⟩
  | succ n ih =>
    intro hn
    have A := ih (by omega)
    rw [Function.iterate_succ_apply']
    generalize STEP^[n] W0 = W at A
    have h0' : ∀ i : Fin 64, (W (Proc.devRef .tc main_v30_0) : S64.Idx → BitVec 32) (ix1 i) = BitVec.ofNat 32 i := by rw [A.a0]; exact h0
    refine ⟨(STEP_main_v30_0 W).trans A.a0, (STEP_main_v30_1 W).trans A.a1, (STEP_main_v30_2 W).trans A.a2, (STEP_main_v30_3 W).trans A.a3, (STEP_main_v30_4 W).trans A.a4, fun z => ?_, fun j b i h d hj => ?_⟩
    · rw [STEP_main_v30_5]
      show IntOp.addi ((W (Proc.devRef .tc main_v30_5) : S_.Idx → BitVec 32) z) 1#32 = _
      rw [A.a5]
      exact (BitVec.ofNat_add ..).symm
    · rw [STEP_main_v30_6]
      refine (step_at W ⟨n, by omega⟩ A.a5 j b i h d).trans ?_
      by_cases e : j = ⟨n, by omega⟩
      · rw [if_pos e, trip_at W ⟨n, by omega⟩ A.a5 h0', A.a1, A.a2, A.a3, A.a4, e]
      · rw [if_neg e]
        refine A.a6 j b i h d ?_
        have : (j : ℕ) ≠ n := fun q => e (Fin.ext q)
        omega

/-- The reference's result after the loop, of the stack. -/
theorem out_at (W : Valuation τ sig (Elt Ideal)) (b : Fin 16) (s : Fin 4096) (x : Fin 1024) :
    (out_main_v33 (F := Ideal) W : S16x4096x1024.Idx → EReal) (ix3 b s x)
      = (W (Proc.devRef .tc main_v30_6) : S64x16x64x16x64.Idx → EReal) (ix5 ⟨s / 64, by omega⟩ b ⟨s % 64, by omega⟩ ⟨x / 64, by omega⟩ ⟨x % 64, by omega⟩) := by
  unfold out_main_v33
  pointwise

end Cert.Attn.Ref

end
-- ==== Proof.Attn.Spec.lean ====
module

public import proofs.«01_k».proof.Proof.Attn.Math
public import Idealize.ShloMosaic.Lib.Pointwise

@[expose] public section

noncomputable section

/-! # The attention as mathematics

  Queries, keys and values are the three thirds of the columns of `X`, 64 columns to a head. A query at position `s`
  sees the keys of its own chunk of 64 positions and of the eight chunks before it. Its score against the key at `y`
  is their product over the head's columns, times one eighth, plus the head's bias at the distance `s - y`,
  which the table holds from -256 to 256 and beyond which it stays at its end. -/

namespace Cert.Attn

open Idealize.ShloMosaic

/-- The query at position `s` sees the key at position `y`. -/
def vis (s y : ℕ) : Prop := y / 64 ≤ s / 64 ∧ s / 64 ≤ y / 64 + 8

instance (s y : ℕ) : Decidable (vis s y) := inferInstanceAs (Decidable (_ ∧ _))

variable (X : (⟨3, ![16, 4096, 3072]⟩ : Shape).Idx → EReal) (R : (⟨2, ![16, 513]⟩ : Shape).Idx → EReal)

/-- The score of a query against a key, before the mask. -/
def rawScore (b : Fin 16) (h : Fin 16) (s y : Fin 4096) : EReal :=
  (∑ d : Fin 64, X (ix3 b s ⟨64 * h + d, by omega⟩) * X (ix3 b y ⟨1024 + (64 * h + d), by omega⟩)) * ((1 / 8 : ℝ) : EReal)
    + R (ix2 h ⟨min (s + 256 - y) 512, by omega⟩)

/-- The score, `⊥` where the query does not see the key. -/
def logit (b : Fin 16) (h : Fin 16) (s y : Fin 4096) : EReal := if vis s y then rawScore X R b h s y else ⊥

/-- The attention's output at the batch `b`, position `s` and column `col`. -/
def attn (b : Fin 16) (s : Fin 4096) (col : Fin 1024) : EReal :=
  soft (logit X R b ⟨col / 64, by omega⟩ s) fun y => X (ix3 b y ⟨2048 + col, by omega⟩)

end Cert.Attn

end
-- ==== Proof.Attn.RefEntry.lean ====
module

public import proofs.«01_k».proof.Proof.Gen.ReferenceIdeal.Run
public import proofs.«01_k».proof.Proof.Attn.RefPre
public import proofs.«01_k».proof.Proof.Attn.RefLoop
public import proofs.«01_k».proof.Proof.Attn.Spec
public import Idealize.ShloMosaic.Lib.Pointwise
public import Idealize.ShloMosaic.Lib.ValueIdx
public import Idealize.ShloMosaic.Lib.StableHlo.RunLoop
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe Idealize.ShloMosaic.StableHlo

variable (m : (ℓ : Loc nD τ sig) → Buf (Elt Ideal) ℓ) (c : Dev nD)

theorem keep1_v4 (W : Valuation τ sig (Elt Ideal)) : StableHlo.after (hostOps0_1 (F := Ideal)) W main_v4 = W main_v4 := by
  after_reads_simp

theorem keep2_v4 (W : Valuation τ sig (Elt Ideal)) : StableHlo.after (hostOps0_2 (F := Ideal)) W main_v4 = W main_v4 := by
  after_reads_simp

theorem keep3_v4 (W : Valuation τ sig (Elt Ideal)) : StableHlo.after (hostOps0_3 (F := Ideal)) W main_v4 = W main_v4 := by
  after_reads_simp

theorem keep4_v4 (W : Valuation τ sig (Elt Ideal)) : StableHlo.after (hostOps0_4 (F := Ideal)) W main_v4 = W main_v4 := by
  after_reads_simp

theorem keep5_v4 (W : Valuation τ sig (Elt Ideal)) : StableHlo.after (hostOps0_5 (F := Ideal)) W main_v4 = W main_v4 := by
  after_reads_simp

theorem keep2_v7 (W : Valuation τ sig (Elt Ideal)) : StableHlo.after (hostOps0_2 (F := Ideal)) W main_v7 = W main_v7 := by
  after_reads_simp

theorem keep3_v7 (W : Valuation τ sig (Elt Ideal)) : StableHlo.after (hostOps0_3 (F := Ideal)) W main_v7 = W main_v7 := by
  after_reads_simp

theorem keep4_v7 (W : Valuation τ sig (Elt Ideal)) : StableHlo.after (hostOps0_4 (F := Ideal)) W main_v7 = W main_v7 := by
  after_reads_simp

theorem keep5_v7 (W : Valuation τ sig (Elt Ideal)) : StableHlo.after (hostOps0_5 (F := Ideal)) W main_v7 = W main_v7 := by
  after_reads_simp

theorem keep4_v8 (W : Valuation τ sig (Elt Ideal)) : StableHlo.after (hostOps0_4 (F := Ideal)) W main_v8 = W main_v8 := by
  after_reads_simp

theorem keep5_v8 (W : Valuation τ sig (Elt Ideal)) : StableHlo.after (hostOps0_5 (F := Ideal)) W main_v8 = W main_v8 := by
  after_reads_simp

theorem keep1_v6 (W : Valuation τ sig (Elt Ideal)) : StableHlo.after (hostOps0_1 (F := Ideal)) W main_v6 = W main_v6 := by
  after_reads_simp

theorem keep2_v6 (W : Valuation τ sig (Elt Ideal)) : StableHlo.after (hostOps0_2 (F := Ideal)) W main_v6 = W main_v6 := by
  after_reads_simp

theorem keep0_arg1 (W : Valuation τ sig (Elt Ideal)) : StableHlo.after (hostOps0 (F := Ideal)) W main_arg1 = W main_arg1 := by
  after_reads_simp

theorem keep1_arg1 (W : Valuation τ sig (Elt Ideal)) : StableHlo.after (hostOps0_1 (F := Ideal)) W main_arg1 = W main_arg1 := by
  after_reads_simp

theorem keep2_arg1 (W : Valuation τ sig (Elt Ideal)) : StableHlo.after (hostOps0_2 (F := Ideal)) W main_arg1 = W main_arg1 := by
  after_reads_simp

theorem keep3_arg1 (W : Valuation τ sig (Elt Ideal)) : StableHlo.after (hostOps0_3 (F := Ideal)) W main_arg1 = W main_arg1 := by
  after_reads_simp

theorem keep4_arg1 (W : Valuation τ sig (Elt Ideal)) : StableHlo.after (hostOps0_4 (F := Ideal)) W main_arg1 = W main_arg1 := by
  after_reads_simp

theorem keep5_arg1 (W : Valuation τ sig (Elt Ideal)) : StableHlo.after (hostOps0_5 (F := Ideal)) W main_arg1 = W main_arg1 := by
  after_reads_simp

/-- The two arrays that the reference takes. -/
def argX : (⟨3, ![16, 4096, 3072]⟩ : Shape).Idx → EReal := m ((c.tc : Thread nD τ).loc main_arg0)
def argR : (⟨2, ![16, 513]⟩ : Shape).Idx → EReal := m ((c.tc : Thread nD τ).loc main_arg1)

/-- The buffers when the loop is entered. -/
def entry : Valuation τ sig (Elt Ideal) := entryContents preI m c

theorem entry_eq : entry m c = StableHlo.after hostOps0_6 (StableHlo.after hostOps0_5 (StableHlo.after hostOps0_4 (StableHlo.after hostOps0_3 (StableHlo.after hostOps0_2
    (StableHlo.after hostOps0_1 (StableHlo.after hostOps0 (launchContents m c))))))) := rfl

theorem entry_q (b : Fin 16) (s : Fin 4096) (h : Fin 16) (d : Fin 64) :
    (entry m c (Proc.devRef .tc main_v30_1) : S16x4096x16x64.Idx → EReal) (ix4 b s h d) = argX m c (ix3 b s ⟨64 * h + d, by omega⟩) := by
  rw [entry_eq]
  refine (p6_v30_1 _ _).trans ?_
  rw [keep5_v4, keep4_v4, keep3_v4, keep2_v4, keep1_v4, p0_v4]
  rfl

theorem entry_k (b : Fin 16) (y : Fin 4608) (h : Fin 16) (d : Fin 64) (hy : 512 ≤ (y : ℕ)) :
    (entry m c (Proc.devRef .tc main_v30_2) : S16x4608x16x64.Idx → EReal) (ix4 b y h d) = argX m c (ix3 b ⟨y - 512, by omega⟩ ⟨1024 + (64 * h + d), by omega⟩) := by
  rw [entry_eq]
  refine (p6_v30_2 _ _).trans ?_
  rw [keep5_v7, keep4_v7, keep3_v7, keep2_v7, p1_v7 _ _ _ _ _ hy, p0_v5]
  rfl

theorem entry_v (b : Fin 16) (y : Fin 4608) (h : Fin 16) (d : Fin 64) (hy : 512 ≤ (y : ℕ)) :
    (entry m c (Proc.devRef .tc main_v30_3) : S16x4608x16x64.Idx → EReal) (ix4 b y h d) = argX m c (ix3 b ⟨y - 512, by omega⟩ ⟨2048 + (64 * h + d), by omega⟩) := by
  rw [entry_eq]
  refine (p6_v30_3 _ _).trans ?_
  rw [keep5_v8, keep4_v8, p3_v8 _ _ _ _ _ hy, keep2_v6, keep1_v6, p0_v6]
  rfl

theorem entry_bias (h : Fin 16) (i : Fin 64) (u : Fin 576) :
    (entry m c (Proc.devRef .tc main_v30_4) : S16x64x576.Idx → EReal) (ix3 h i u) = argR m c (ix2 h ⟨min (i + 768 - u) 512, by omega⟩) := by
  rw [entry_eq]
  refine (p6_v27 _ h i u ?_).trans ?_
  · rw [p5_v18 _ _ _ (p4_c2 _) (p4_c3 _), p4_v17]
  · rw [keep5_arg1, keep4_arg1, keep3_arg1, keep2_arg1, keep1_arg1, keep0_arg1]
    rfl

/-- The result of the reference, of its two arrays. -/
theorem result_at (b : Fin 16) (s : Fin 4096) (x : Fin 1024) :
    (out_main_v33 (F := Ideal) (STEP^[64] (entryContents preI m c)) : S16x4096x1024.Idx → EReal) (ix3 b s x)
      = tripOut (entry m c (Proc.devRef .tc main_v30_1)) (entry m c (Proc.devRef .tc main_v30_2)) (entry m c (Proc.devRef .tc main_v30_3)) (entry m c (Proc.devRef .tc main_v30_4))
          ⟨s / 64, by omega⟩ b ⟨x / 64, by omega⟩ ⟨s % 64, by omega⟩ ⟨x % 64, by omega⟩ := by
  have A := after_iter (entry m c) (by rw [entry_eq]; exact p6_v30_5 _) (by rw [entry_eq]; exact p6_v30_0 _) 64 le_rfl
  rw [out_at]
  exact A.a6 _ _ _ _ _ (by show (s : ℕ) / 64 < 64; omega)

end Cert.Attn.Ref

end
-- ==== Proof.Attn.RefEq.lean ====
module

public import proofs.«01_k».proof.Proof.Gen.ReferenceIdeal.Run
public import proofs.«01_k».proof.Proof.Attn.RefEntry
public import Idealize.ShloMosaic.Lib.Pointwise
public import Idealize.ShloMosaic.Lib.ValueIdx
public import Idealize.ShloMosaic.Lib.StableHlo.RunLoop
public import Idealize.ShloMosaic.Lib.StableHlo.ReadAt

@[expose] public section

set_option maxRecDepth 16384

noncomputable section

namespace Cert.Attn.Ref

open Idealize.ShloMosaic Idealize.SL.Sem Cert.ReferenceIdeal Cert.ReferenceIdeal.Gen Cert.ReferenceIdeal.Value Idealize.ShloMosaic.TcCoe Idealize.ShloMosaic.StableHlo

/-- A score of real queries, keys and biases is real. -/
theorem rawScore_real (X : (⟨3, ![16, 4096, 3072]⟩ : Shape).Idx → EReal) (R : (⟨2, ![16, 513]⟩ : Shape).Idx → EReal)
    (hX : ∀ (b : Fin 16) (s : Fin 4096) (j : Fin 2048), ∃ r : ℝ, X (ix3 b s ⟨j, by omega⟩) = (r : EReal))
    (hR : ∀ (h : Fin 16) (j : Fin 513), ∃ r : ℝ, R (ix2 h j) = (r : EReal)) (b h : Fin 16) (s y : Fin 4096) :
    ∃ r : ℝ, rawScore X R b h s y = (r : EReal) := by
  choose x hx using hX
  choose t ht using hR
  refine ⟨(∑ d : Fin 64, x b s ⟨64 * h + d, by omega⟩ * x b y ⟨1024 + (64 * h + d), by omega⟩) * (1 / 8) + t h ⟨min (s + 256 - y) 512, by omega⟩, ?_⟩
  unfold rawScore
  rw [ht, EReal.coe_add, EReal.coe_mul, coe_sum_real]
  congr 2
  refine Finset.sum_congr rfl fun d _ => ?_
  rw [EReal.coe_mul, ← hx b s ⟨64 * h + d, by omega⟩, ← hx b y ⟨1024 + (64 * h + d), by omega⟩]

variable (m : (ℓ : Loc nD τ sig) → Buf (Elt Ideal) ℓ) (c : Dev nD)

/-- The masked logit of a trip, of the arguments. -/
theorem logit_entry (k : Fin 64) (b h : Fin 16) (i : Fin 64) (u : Fin 576) :
    tripLogit (entry m c (Proc.devRef .tc main_v30_1)) (entry m c (Proc.devRef .tc main_v30_2)) (entry m c (Proc.devRef .tc main_v30_4)) k b h i u
      = if hu : 512 ≤ 64 * (k : ℕ) + u then rawScore (argX m c) (argR m c) b h ⟨64 * k + i, by omega⟩ ⟨64 * k + u - 512, by omega⟩ else (⊥ : EReal) := by
  unfold tripLogit
  by_cases hu : 512 ≤ 64 * (k : ℕ) + u
  · rw [if_pos hu, dif_pos hu, entry_bias]
    unfold rawScore
    have e : min ((i : ℕ) + 768 - u) 512 = min (64 * (k : ℕ) + i + 256 - (64 * k + u - 512)) 512 := by omega
    simp only [entry_k m c b ⟨64 * (k : ℕ) + u, by omega⟩ _ _ hu, e]
    refine congrArg (fun z => z * ((1 / 8 : ℝ) : EReal) + _) (Finset.sum_congr rfl fun d _ => ?_)
    rw [entry_q]
  · rw [if_neg hu, dif_neg hu]

/-- Where queries, keys and biases are real, the reference computes the attention of the specification. -/
theorem result_attn (hX : ∀ (b : Fin 16) (s : Fin 4096) (j : Fin 2048), ∃ r : ℝ, argX m c (ix3 b s ⟨j, by omega⟩) = (r : EReal))
    (hR : ∀ (h : Fin 16) (j : Fin 513), ∃ r : ℝ, argR m c (ix2 h j) = (r : EReal)) (b : Fin 16) (s : Fin 4096) (x : Fin 1024) :
    (out_main_v33 (F := Ideal) (STEP^[64] (entryContents preI m c)) : S16x4096x1024.Idx → EReal) (ix3 b s x) = attn (argX m c) (argR m c) b s x := by
  rw [result_at]
  unfold tripOut attn
  have hs : 64 * ((s : ℕ) / 64) + s % 64 = s := Nat.div_add_mod _ _
  have hx : 64 * ((x : ℕ) / 64) + x % 64 = x := Nat.div_add_mod _ _
  generalize hL : tripLogit (entry m c (Proc.devRef .tc main_v30_1)) (entry m c (Proc.devRef .tc main_v30_2)) (entry m c (Proc.devRef .tc main_v30_4))
    ⟨s / 64, by omega⟩ b ⟨x / 64, by omega⟩ ⟨s % 64, by omega⟩ = L
  have hLu : ∀ u : Fin 576, L u = if hu : 512 ≤ 64 * ((s : ℕ) / 64) + u then rawScore (argX m c) (argR m c) b ⟨x / 64, by omega⟩ s ⟨64 * (s / 64) + u - 512, by omega⟩ else (⊥ : EReal) := by
    intro u
    rw [← hL, logit_entry]
    simp only [hs, Fin.eta]
  rw [← soft_eq_sum_div L (fun u => (entry m c (Proc.devRef .tc main_v30_3) : S16x4608x16x64.Idx → EReal) (ix4 b ⟨64 * (s / 64) + u, by omega⟩ ⟨x / 64, by omega⟩ ⟨x % 64, by omega⟩)) ?_ ⟨512 + s % 64, by omega⟩ ?_]
  · refine soft_reindex _ _ _ _ (fun u => 512 ≤ 64 * ((s : ℕ) / 64) + u) (fun u => ⟨64 * (s / 64) + u - 512, by omega⟩) ?_ ?_ ?_ ?_ ?_
    · intro u v hu hv e
      have := congrArg Fin.val e
      simp only at this hu hv
      exact Fin.ext (by omega)
    · intro u hu
      rw [hLu, dif_pos hu, logit, if_pos]
      unfold vis
      simp only at hu ⊢
      omega
    · intro u hu
      rw [entry_v _ _ _ _ _ _ hu]
      refine congrArg (argX m c) ?_
      have e : 2048 + (64 * ((x : ℕ) / 64) + x % 64) = 2048 + x := by omega
      simp only [e]
    · intro u hu
      rw [hLu, dif_neg hu]
    · intro y hy
      rw [logit, if_neg]
      rintro ⟨h1, h2⟩
      refine hy ⟨y + 512 - 64 * (s / 64), by omega⟩ ?_ ?_
      · show 512 ≤ 64 * ((s : ℕ) / 64) + (y + 512 - 64 * (s / 64))
        omega
      · apply Fin.ext
        show 64 * ((s : ℕ) / 64) + (y + 512 - 64 * (s / 64)) - 512 = y
        omega
  · intro u
    rw [hLu]
    split
    · obtain ⟨r, hr⟩ := rawScore_real _ _ hX hR b ⟨x / 64, by omega⟩ s ⟨64 * (s / 64) + u - 512, by omega⟩
      rw [hr]
      exact EReal.coe_ne_top r
    · exact bot_ne_top
  · rw [hLu, dif_pos (by show 512 ≤ 64 * ((s : ℕ) / 64) + (512 + s % 64); omega)]
    obtain ⟨r, hr⟩ := rawScore_real _ _ hX hR b ⟨x / 64, by omega⟩ s ⟨64 * (s / 64) + (512 + s % 64) - 512, by omega⟩
    rw [hr]
    exact EReal.coe_ne_bot r

end Cert.Attn.Ref

end
-- ==== Proof.Attn.Pay.lean ====
module

public import proofs.«01_k».proof.Proof.Attn.Math
public import proofs.«01_k».proof.Proof.Gen.KernelIdeal.Value
public import Idealize.ShloMosaic.Lib.Pointwise
public import Idealize.ShloMosaic.Lib.ValueIdx

@[expose] public section

set_option maxRecDepth 16384

noncomputable section

/-! # What the kernel's body stores, entry by entry

  A pair of heads lies side by side in 128 lanes. The scores of each head are a product over all 128 lanes in which
  the lanes of the other head are zero, so they are products over the head's own 64 lanes. -/

namespace Cert.Attn

open Idealize.ShloMosaic Cert.KernelIdeal Cert.KernelIdeal.Gen

/-- The kernel's scale, the bf16 word of one eighth. -/
theorem eighth : Ideal.ofBits .bf16 15872#16 = (((1 / 8 : ℝ)) : EReal) := by
  simp [Ideal.ofBits, Ideal.ieee]
  norm_cast
  norm_num

/-- The lane mask: whether the lane is one of the first 64. -/
theorem lane_lt (l : Fin 128) : IntOp.cmpi .slt (BitVec.ofNat 32 (l : ℕ)) 64#32 = if (l : ℕ) < 64 then 1#1 else 0#1 := by
  revert l
  decide +kernel

/-- A sum over the lanes that keeps the first 64. -/
theorem sum_first (f : Fin 128 → EReal) :
    ∑ l : Fin 128, Scalar.select (IntOp.cmpi .slt (BitVec.ofNat 32 (l : ℕ)) 64#32) (f l) 0 = ∑ d : Fin 64, f ⟨64 * (0 : Fin 2) + d, by omega⟩ := by
  have h := Fin.sum_univ_add (a := 64) (b := 64) fun l : Fin 128 => Scalar.select (IntOp.cmpi .slt (BitVec.ofNat 32 (l : ℕ)) 64#32) (f l) 0
  refine h.trans ?_
  rw [Finset.sum_eq_zero (s := Finset.univ) (f := fun i : Fin 64 => Scalar.select (IntOp.cmpi .slt (BitVec.ofNat 32 ((Fin.natAdd 64 i : Fin 128) : ℕ)) 64#32) _ _), add_zero]
  · refine Finset.sum_congr rfl fun d _ => ?_
    rw [lane_lt, if_pos (show ((Fin.castAdd 64 d : Fin 128) : ℕ) < 64 from d.2)]
    show f _ = f _
    congr 1
    apply Fin.ext
    show (d : ℕ) = 64 * 0 + d
    omega
  · intro d _
    rw [lane_lt, if_neg (show ¬ ((Fin.natAdd 64 d : Fin 128) : ℕ) < 64 from by simp)]
    rfl

/-- A sum over the lanes that keeps the last 64. -/
theorem sum_last (f : Fin 128 → EReal) :
    ∑ l : Fin 128, Scalar.select (IntOp.cmpi .slt (BitVec.ofNat 32 (l : ℕ)) 64#32) 0 (f l) = ∑ d : Fin 64, f ⟨64 * (1 : Fin 2) + d, by omega⟩ := by
  have h := Fin.sum_univ_add (a := 64) (b := 64) fun l : Fin 128 => Scalar.select (IntOp.cmpi .slt (BitVec.ofNat 32 (l : ℕ)) 64#32) 0 (f l)
  refine h.trans ?_
  rw [Finset.sum_eq_zero (s := Finset.univ) (f := fun i : Fin 64 => Scalar.select (IntOp.cmpi .slt (BitVec.ofNat 32 ((Fin.castAdd 64 i : Fin 128) : ℕ)) 64#32) _ _), zero_add]
  · refine Finset.sum_congr rfl fun d _ => ?_
    rw [lane_lt, if_neg (show ¬ ((Fin.natAdd 64 d : Fin 128) : ℕ) < 64 from by simp)]
    show f _ = f _
    congr 1
  · intro d _
    rw [lane_lt, if_pos (show ((Fin.castAdd 64 d : Fin 128) : ℕ) < 64 from d.2)]
    rfl

variable (q : Vec Ideal S1x256x128 .bf16) (k : Vec Ideal S1x768x128 .bf16)

/-- The score of the query row `r` against the window's key `x`, of the first or second head of a pair. -/
def score (hh : Fin 2) (r : Fin 256) (x : Fin 768) : EReal :=
  (∑ d : Fin 64, (q (ix3 0 r ⟨64 * hh + d, by omega⟩) : EReal) * k (ix3 0 x ⟨64 * hh + d, by omega⟩)) * ((1 / 8 : ℝ) : EReal)

theorem scaled (hh : Fin 2) (r : Fin 256) (x : Fin 768) :
    ∑ d : Fin 64, (q (ix3 0 r ⟨64 * hh + d, by omega⟩) : EReal) * Ideal.ofBits .bf16 15872#16 * k (ix3 0 x ⟨64 * hh + d, by omega⟩) = score q k hh r x := by
  unfold score
  rw [eighth, sum_mul_real _ _ _ (by norm_num)]
  exact Finset.sum_congr rfl fun d _ => mul_right_comm ..

theorem pay5 (r : Fin 256) (x : Fin 768) : k0_pay5 (F := Ideal) q k (ix2 r x) = score q k 0 r x := by
  unfold_payloads
  pointwise
  exact (sum_first fun l => (q (ix3 0 r l) : EReal) * Ideal.ofBits .bf16 15872#16 * k (ix3 0 x l)).trans (scaled q k 0 r x)

theorem pay6 (r : Fin 256) (x : Fin 768) : k0_pay6 (F := Ideal) q k (ix2 r x) = score q k 1 r x := by
  unfold_payloads
  pointwise
  exact (sum_last fun l => (q (ix3 0 r l) : EReal) * Ideal.ofBits .bf16 15872#16 * k (ix3 0 x l)).trans (scaled q k 1 r x)

theorem pay10 (r : Fin 256) (x : Fin 768) :
    k0_pay10 (F := Ideal) (k0_pay8 k) (k0_pay9 q) (constant S256x768 .f32 0#32) (ix2 r x) = score q k 0 r x := by
  unfold_payloads
  pointwise
  exact (sum_first fun l => (q (ix3 0 r l) : EReal) * Ideal.ofBits .bf16 15872#16 * k (ix3 0 x l)).trans (scaled q k 0 r x)

theorem pay11 (r : Fin 256) (x : Fin 768) : k0_pay11 (F := Ideal) k0_pay2 (k0_pay7 q) (k0_pay8 k) (ix2 r x) = score q k 1 r x := by
  unfold_payloads
  pointwise
  exact (sum_last fun l => (q (ix3 0 r l) : EReal) * Ideal.ofBits .bf16 15872#16 * k (ix3 0 x l)).trans (scaled q k 1 r x)

theorem pay14 (r : Fin 256) (x : Fin 768) : k0_pay14 (F := Ideal) k0_pay2 q k (ix2 r x) = score q k 0 r x := by
  unfold_payloads
  pointwise
  exact (sum_first fun l => (q (ix3 0 r l) : EReal) * Ideal.ofBits .bf16 15872#16 * k (ix3 0 x l)).trans (scaled q k 0 r x)

theorem pay15 (r : Fin 256) (x : Fin 768) : k0_pay15 (F := Ideal) k0_pay2 q k (ix2 r x) = score q k 1 r x := by
  unfold_payloads
  pointwise
  exact (sum_last fun l => (q (ix3 0 r l) : EReal) * Ideal.ofBits .bf16 15872#16 * k (ix3 0 x l)).trans (scaled q k 1 r x)

theorem pay18 (r : Fin 256) (x : Fin 768) : k0_pay18 (F := Ideal) k0_pay2 q k (ix2 r x) = score q k 0 r x := by
  unfold_payloads
  pointwise
  exact (sum_first fun l => (q (ix3 0 r l) : EReal) * Ideal.ofBits .bf16 15872#16 * k (ix3 0 x l)).trans (scaled q k 0 r x)

theorem pay20 (r : Fin 256) (x : Fin 768) : k0_pay20 (F := Ideal) (k0_pay17 k) (k0_pay19 k0_pay2 q) (ix2 r x) = score q k 1 r x := by
  unfold_payloads
  pointwise
  exact (sum_last fun l => (q (ix3 0 r l) : EReal) * Ideal.ofBits .bf16 15872#16 * k (ix3 0 x l)).trans (scaled q k 1 r x)

variable (a b : FVec Ideal S256x768 .f32) (p0 p1 : Vec Ideal S1x1x256x768 .f32) (v : Vec Ideal S1x768x128 .bf16)

/-- The pair's output at row `r`, lane `l`: the lane's head's softmax of scores and bias, applied to the lane's values. -/
def pairOut (r : Fin 256) (l : Fin 128) : EReal :=
  if (l : ℕ) < 64 then soft (fun x : Fin 768 => (a (ix2 r x) : EReal) + p0 (ix4 0 0 r x)) fun x => (v (ix3 0 x l) : EReal)
  else soft (fun x : Fin 768 => (b (ix2 r x) : EReal) + p1 (ix4 0 0 r x)) fun x => (v (ix3 0 x l) : EReal)

theorem neg_inf : Ideal.ofBits .f32 4286578688#32 = (⊥ : EReal) := by
  simp [Ideal.ofBits, Ideal.ieee]

theorem mask_at (l : Fin 128) : k0_pay2 (ix2 0 l) = if (l : ℕ) < 64 then 1#1 else 0#1 := by
  unfold_payloads
  pointwise
  exact lane_lt l

theorem select_lane (l : Fin 128) (X Y : EReal) : Scalar.select (if (l : ℕ) < 64 then 1#1 else 0#1) X Y = if (l : ℕ) < 64 then X else Y := by
  split <;> rfl

theorem pay21 (r : Fin 256) (l : Fin 128) : k0_pay21 (F := Ideal) k0_pay2 a b p0 p1 v (ix3 0 r l) = pairOut a b p0 p1 v r l := by
  unfold_payloads
  pointwise
  rw [lane_lt, select_lane, neg_inf]
  rfl

theorem pay22 (r : Fin 256) (l : Fin 128) : k0_pay22 (F := Ideal) k0_pay2 a b p0 p1 v (ix3 0 r l) = pairOut a b p0 p1 v r l := by
  unfold_payloads
  pointwise
  rw [lane_lt, select_lane, neg_inf]
  rfl

theorem pay23 (r : Fin 256) (l : Fin 128) : k0_pay23 (F := Ideal) k0_pay2 a b p0 p1 v (ix3 0 r l) = pairOut a b p0 p1 v r l := by
  unfold_payloads
  pointwise
  rw [lane_lt, select_lane, neg_inf]
  rfl

theorem pay1 (r : Fin 256) (l : Fin 128) : k0_pay1 (F := Ideal) k0_pay2 a b p0 p1 v (ix3 0 r l) = pairOut a b p0 p1 v r l := by
  unfold_payloads
  pointwise
  rw [lane_lt, select_lane, neg_inf]
  rfl

end Cert.Attn

end
-- ==== Proof.Attn.Block.lean ====
module

public import proofs.«01_k».proof.Proof.Attn.Pay
public import Idealize.ShloMosaic.Lib.Pipeline.ValueKit.Tiles

@[expose] public section

set_option maxRecDepth 16384

noncomputable section

/-! # The block that one grid point leaves

  Each of the four stores of a grid point holds a pair of heads; together they are one function of the point's
  input blocks: at row `r` and column `col`, the head `col / 64`'s softmax over the 768 keys of the window. -/

namespace Cert.Attn

open Idealize.ShloMosaic Cert.KernelIdeal Cert.KernelIdeal.Gen

/-- The row of a block at which a point's window of keys begins. -/
def start (i : grid0.Coords) : ℕ := 256 * (i 2).val - 512

theorem start_le (i : grid0.Coords) : start i ≤ 3328 := by
  have : (i 2).val < 16 := (i 2).isLt
  unfold start
  omega

theorem off1 (i : grid0.Coords) : k0_off1 i = ![0, start i, 0] := by
  have h : ∀ t : Fin 16, k0_off1 (fun a => if h : a = 2 then h ▸ t else ⟨0, by fin_cases a <;> decide⟩) 1 = 256 * t.val - 512 := by decide +kernel
  funext a
  fin_cases a
  · rfl
  · exact h (i 2)
  · rfl

theorem off2 (i : grid0.Coords) : k0_off2 i = ![0, start i, 128] := by
  funext a
  fin_cases a
  · rfl
  · exact congrFun (off1 i) 1
  · rfl

theorem off3 (i : grid0.Coords) : k0_off3 i = ![0, start i, 256] := by
  funext a
  fin_cases a
  · rfl
  · exact congrFun (off1 i) 1
  · rfl

theorem off4 (i : grid0.Coords) : k0_off4 i = ![0, start i, 384] := by
  funext a
  fin_cases a
  · rfl
  · exact congrFun (off1 i) 1
  · rfl

variable (x0 : Vec Ideal S1x256x512 .bf16) (x1 x2 : Vec Ideal S1x4096x512 .bf16) (x3 : Vec Ideal S1x1x2048x768 .f32)

/-- What the block holds: at row `r` and column `col`, the softmax-weighted values of the head `col / 64`. -/
def blockOut (i : grid0.Coords) (r : Fin 256) (col : Fin 512) : EReal :=
  soft (fun x : Fin 768 =>
      (∑ d : Fin 64, (x0 (ix3 0 r ⟨64 * (col / 64) + d, by omega⟩) : EReal)
          * x1 (ix3 0 ⟨start i + x, by have := start_le i; omega⟩ ⟨64 * (col / 64) + d, by omega⟩)) * ((1 / 8 : ℝ) : EReal)
        + x3 (ix4 0 0 ⟨256 * (col / 64) + r, by omega⟩ x))
    fun x : Fin 768 => (x2 (ix3 0 ⟨start i + x, by have := start_le i; omega⟩ col) : EReal)

/-- One pair of heads, whose loads read the blocks at the pair's columns. -/
theorem pair_block (i : grid0.Coords) (j : Fin 4) (q : Vec Ideal S1x256x128 .bf16) (k v : Vec Ideal S1x768x128 .bf16)
    (p0 p1 : Vec Ideal S1x1x256x768 .f32) (a b : FVec Ideal S256x768 .f32)
    (ha : ∀ r x, a (ix2 r x) = score q k 0 r x) (hb : ∀ r x, b (ix2 r x) = score q k 1 r x)
    (hq : ∀ r l, q (ix3 0 r l) = x0 (ix3 0 r ⟨128 * j + l, by omega⟩))
    (hk : ∀ x l, k (ix3 0 x l) = x1 (ix3 0 ⟨start i + x, by have := start_le i; omega⟩ ⟨128 * j + l, by omega⟩))
    (hv : ∀ x l, v (ix3 0 x l) = x2 (ix3 0 ⟨start i + x, by have := start_le i; omega⟩ ⟨128 * j + l, by omega⟩))
    (h0 : ∀ r x, p0 (ix4 0 0 r x) = x3 (ix4 0 0 ⟨512 * j + r, by omega⟩ x))
    (h1 : ∀ r x, p1 (ix4 0 0 r x) = x3 (ix4 0 0 ⟨512 * j + 256 + r, by omega⟩ x))
    (r : Fin 256) (l : Fin 128) : pairOut a b p0 p1 v r l = blockOut x0 x1 x2 x3 i r ⟨128 * j + l, by omega⟩ := by
  unfold pairOut blockOut
  by_cases hl : (l : ℕ) < 64
  · rw [if_pos hl]
    have e : (128 * (j : ℕ) + l) / 64 = 2 * j := by omega
    congr 1
    · funext x
      rw [ha, h0]
      unfold score
      simp only [hq, hk, e]
      refine congrArg₂ (· + ·) (congrArg (· * ((1 / 8 : ℝ) : EReal)) (Finset.sum_congr rfl fun d _ => ?_)) ?_
      · congr 3 <;> apply Fin.ext <;> show 128 * (j : ℕ) + (64 * 0 + d) = 64 * (2 * j) + d <;> omega
      · congr 2
        apply Fin.ext
        show 512 * (j : ℕ) + r = 256 * (2 * j) + r
        omega
    · funext x
      rw [hv]
  · rw [if_neg hl]
    have e : (128 * (j : ℕ) + l) / 64 = 2 * j + 1 := by omega
    congr 1
    · funext x
      rw [hb, h1]
      unfold score
      simp only [hq, hk, e]
      refine congrArg₂ (· + ·) (congrArg (· * ((1 / 8 : ℝ) : EReal)) (Finset.sum_congr rfl fun d _ => ?_)) ?_
      · congr 3 <;> apply Fin.ext <;> show 128 * (j : ℕ) + (64 * 1 + d) = 64 * (2 * j + 1) + d <;> omega
      · congr 2
        apply Fin.ext
        show 512 * (j : ℕ) + 256 + r = 256 * (2 * j + 1) + r
        omega
    · funext x
      rw [hv]

section Loads

open View

theorem ld_q (off : Fin 3 → ℕ) (inb) (j : Fin 4) (h : off = ![0, 0, 128 * (j : ℕ)]) (r : Fin 256) (l : Fin 128) :
    (View.ld x0 (Rect.unit (s := S1x256x512) off S1x256x128.size inb) : S1x256x128.Idx → EReal) (ix3 0 r l) = x0 (ix3 0 r ⟨128 * j + l, by omega⟩) := by
  subst h
  unfold View.ld
  congr 1
  funext a
  apply Fin.ext
  fin_cases a
  · rfl
  · show 0 + 1 * (r : ℕ) = r
    omega
  · show 128 * (j : ℕ) + 1 * l = 128 * j + l
    omega

theorem ld_k (i : grid0.Coords) (off : Fin 3 → ℕ) (inb) (j : Fin 4) (h : off = ![0, start i, 128 * (j : ℕ)]) (x : Fin 768) (l : Fin 128) :
    (View.ld x1 (Rect.unit (s := S1x4096x512) off S1x768x128.size inb) : S1x768x128.Idx → EReal) (ix3 0 x l)
      = x1 (ix3 0 ⟨start i + x, by have := start_le i; omega⟩ ⟨128 * j + l, by omega⟩) := by
  subst h
  unfold View.ld
  congr 1
  funext a
  apply Fin.ext
  fin_cases a
  · rfl
  · show start i + 1 * (x : ℕ) = start i + x
    omega
  · show 128 * (j : ℕ) + 1 * l = 128 * j + l
    omega

theorem ld_b (off : Fin 4 → ℕ) (inb) (n : ℕ) (hn : n ≤ 1792) (h : off = ![0, 0, n, 0]) (r : Fin 256) (x : Fin 768) :
    (View.ld x3 (Rect.unit (s := S1x1x2048x768) off S1x1x256x768.size inb) : S1x1x256x768.Idx → EReal) (ix4 0 0 r x) = x3 (ix4 0 0 ⟨n + r, by omega⟩ x) := by
  subst h
  unfold View.ld
  congr 1
  funext a
  apply Fin.ext
  fin_cases a
  · rfl
  · rfl
  · show n + 1 * (r : ℕ) = n + r
    omega
  · show 0 + 1 * (x : ℕ) = x
    omega

end Loads

/-- The block after the body, at every entry. -/
theorem out_block (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x1x2048x768 .f32) (harg6 : arg6.IsWhole) (arg7 : Memref sig .tc .vmem S1x256x512 .bf16) (harg7 : arg7.IsWhole)
    (r : Fin 256) (col : Fin 512) :
    out0_A_4 (F := Ideal) c i arg3 harg3 arg4 harg4 arg5 harg5 arg6 harg6 arg7 harg7 x0 x1 x2 x3 (ix3 0 r col) = blockOut x0 x1 x2 x3 i r col := by
  unfold out0_A_4
  rw [View.read_writes_eq_canon _ _ _ (cover0_A_4 c i arg3 harg3 arg4 harg4 arg5 harg5 arg6 harg6 arg7 harg7 x0 x1 x2 x3)]
  refine View.canon_eq_of_allAt _ _ _ (cover0_A_4 c i arg3 harg3 arg4 harg4 arg5 harg5 arg6 harg6 arg7 harg7 x0 x1 x2 x3 _) ?_
  unfold kernelRun0_A
  dsimp only
  sl_unfold_words
  simp only [View.readAt_eq_ld, harg3.read_unread, harg4.read_unread, harg5.read_unread, harg6.read_unread]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro z hx
    idx_vars z
    obtain rfl : z0 = 0 := Subsingleton.elim _ _
    obtain rfl : z1 = r := Fin.ext (by have h : (r : ℕ) = 0 + z1 := hx 1; omega)
    obtain rfl : col = ⟨128 * (3 : Fin 4) + z2, by omega⟩ := Fin.ext (show (col : ℕ) = 384 + z2 from hx 2)
    refine (pay1 _ _ _ _ _ _ _).trans (pair_block x0 x1 x2 x3 i 3 _ _ _ _ _ _ _ (pay18 _ _) (pay20 _ _)
      (ld_q x0 _ _ 3 rfl) (ld_k x1 i _ _ 3 (off4 i)) (ld_k x2 i _ _ 3 (off4 i)) (ld_b x3 _ _ 1536 (by omega) rfl) (ld_b x3 _ _ 1792 (by omega) rfl) _ _)
  · intro z hx
    idx_vars z
    obtain rfl : z0 = 0 := Subsingleton.elim _ _
    obtain rfl : z1 = r := Fin.ext (by have h : (r : ℕ) = 0 + z1 := hx 1; omega)
    obtain rfl : col = ⟨128 * (2 : Fin 4) + z2, by omega⟩ := Fin.ext (show (col : ℕ) = 256 + z2 from hx 2)
    refine (pay23 _ _ _ _ _ _ _).trans (pair_block x0 x1 x2 x3 i 2 _ _ _ _ _ _ _ (pay14 _ _) (pay15 _ _)
      (ld_q x0 _ _ 2 rfl) (ld_k x1 i _ _ 2 (off3 i)) (ld_k x2 i _ _ 2 (off3 i)) (ld_b x3 _ _ 1024 (by omega) rfl) (ld_b x3 _ _ 1280 (by omega) rfl) _ _)
  · intro z hx
    idx_vars z
    obtain rfl : z0 = 0 := Subsingleton.elim _ _
    obtain rfl : z1 = r := Fin.ext (by have h : (r : ℕ) = 0 + z1 := hx 1; omega)
    obtain rfl : col = ⟨128 * (1 : Fin 4) + z2, by omega⟩ := Fin.ext (show (col : ℕ) = 128 + z2 from hx 2)
    refine (pay22 _ _ _ _ _ _ _).trans (pair_block x0 x1 x2 x3 i 1 _ _ _ _ _ _ _ (pay10 _ _) (pay11 _ _)
      (ld_q x0 _ _ 1 rfl) (ld_k x1 i _ _ 1 (off2 i)) (ld_k x2 i _ _ 1 (off2 i)) (ld_b x3 _ _ 512 (by omega) rfl) (ld_b x3 _ _ 768 (by omega) rfl) _ _)
  · intro z hx
    idx_vars z
    obtain rfl : z0 = 0 := Subsingleton.elim _ _
    obtain rfl : z1 = r := Fin.ext (by have h : (r : ℕ) = 0 + z1 := hx 1; omega)
    obtain rfl : col = ⟨128 * (0 : Fin 4) + z2, by omega⟩ := Fin.ext (show (col : ℕ) = 0 + z2 from hx 2)
    refine (pay21 _ _ _ _ _ _ _).trans (pair_block x0 x1 x2 x3 i 0 _ _ _ _ _ _ _ (pay5 _ _) (pay6 _ _)
      (ld_q x0 _ _ 0 rfl) (ld_k x1 i _ _ 0 (off1 i)) (ld_k x2 i _ _ 0 (off1 i)) (ld_b x3 _ _ 0 (by omega) rfl) (ld_b x3 _ _ 256 (by omega) rfl) _ _)

end Cert.Attn

end
-- ==== Proof.Attn.Mask.lean ====
module

public import proofs.«01_k».proof.Proof.Gen.KernelIdeal.Value
public import Idealize.ShloMosaic.Lib.Pointwise
public import Idealize.ShloMosaic.Lib.ValueIdx
public import Idealize.ShloMosaic.Lib.StableHlo.ReadAt

@[expose] public section

set_option maxRecDepth 16384

noncomputable section

namespace Cert.Attn

open Idealize.ShloMosaic Idealize.SL.Sem Cert.KernelIdeal Cert.KernelIdeal.Gen Idealize.ShloMosaic.TcCoe

variable (W : Valuation τ sig (Elt Ideal))

theorem v12_at (h : Fin 16) (r : Fin 256) (x : Fin 768) :
    (StableHlo.after (hostOps0 (F := Ideal)) W main_v12 : S16x256x768.Idx → EReal) (ix3 h r x) = (W main_arg1 : S16x513.Idx → EReal) (ix2 h ⟨min (768 + r - x) 512, by omega⟩) := by
  after_reads_at
  have e : ((r : ℕ) * 1023 + (255 + x)) % 1024 = 255 + x - r := by omega
  rw [dif_pos (by omega)]
  simp only [e]
  after_reads_at
  simp only [List.mem_cons, List.not_mem_nil, or_false, zero_ne_one, ↓reduceIte, Fin.rev]
  split
  · after_reads_at
    congr 2
    apply Fin.ext
    show 1 + (1023 - (255 + (x : ℕ) - r + 1)) = min (768 + (r : ℕ) - x) 512
    omega
  · after_reads_at
    congr 2
    apply Fin.ext
    show 512 = min (768 + (r : ℕ) - x) 512
    omega

theorem v14_at (r : Fin 256) : (StableHlo.after (hostOps0 (F := Ideal)) W main_v14 : S256x1.Idx → BitVec 32) (ix2 r 0) = BitVec.ofNat 32 r := by
  after_reads_at

theorem c_at : (StableHlo.after (hostOps0 (F := Ideal)) W main_c : S_.Idx → BitVec 32) ix0 = 64#32 := by
  after_reads_at

theorem v15_at (r : Fin 256) (h : (W main_v14 : S256x1.Idx → BitVec 32) (ix2 r 0) = BitVec.ofNat 32 r) (hc : (W main_c : S_.Idx → BitVec 32) ix0 = 64#32) :
    (StableHlo.after (hostOps0_1 (F := Ideal)) W main_v15 : S256x1.Idx → BitVec 32) (ix2 r 0) = BitVec.ofNat 32 (r / 64) := by
  after_reads_at
  simp only [id, h, hc]
  clear h hc
  revert r
  decide +kernel

theorem v17_at (r : Fin 256) (h : (W main_v15 : S256x1.Idx → BitVec 32) (ix2 r 0) = BitVec.ofNat 32 (r / 64)) :
    (StableHlo.after (hostOps0_2 (F := Ideal)) W main_v17 : S256x1.Idx → BitVec 32) (ix2 r 0) = BitVec.ofNat 32 (r / 64 + 8) := by
  after_reads_at
  simp only [h]
  exact (BitVec.ofNat_add ..).symm

theorem v19_at (x : Fin 768) :
    (StableHlo.after (hostOps0_2 (F := Ideal)) W main_v19 : S1x768.Idx → BitVec 32) (ix2 0 x) = BitVec.ofNat 32 x := by
  after_reads_at

theorem c1_at : (StableHlo.after (hostOps0_2 (F := Ideal)) W main_c_1 : S_.Idx → BitVec 32) ix0 = 64#32 := by
  after_reads_at

theorem v20_at (x : Fin 768) (h : (W main_v19 : S1x768.Idx → BitVec 32) (ix2 0 x) = BitVec.ofNat 32 x) (hc : (W main_c_1 : S_.Idx → BitVec 32) ix0 = 64#32) :
    (StableHlo.after (hostOps0_3 (F := Ideal)) W main_v20 : S1x768.Idx → BitVec 32) (ix2 0 x) = BitVec.ofNat 32 (x / 64) := by
  after_reads_at
  simp only [id, h, hc]
  clear h hc
  revert x
  decide +kernel

theorem v30_at (r : Fin 256) (x : Fin 768) (h : (W main_v20 : S1x768.Idx → BitVec 32) (ix2 0 x) = BitVec.ofNat 32 (x / 64))
    (h' : (W main_v17 : S256x1.Idx → BitVec 32) (ix2 r 0) = BitVec.ofNat 32 (r / 64 + 8)) :
    (StableHlo.after (hostOps0_4 (F := Ideal)) W main_v30 : S1x256x768.Idx → BitVec 1) (ix3 0 r x) = if (r : ℕ) / 64 ≤ x / 64 ∧ (x : ℕ) / 64 ≤ r / 64 + 8 then 1#1 else 0#1 := by
  after_reads_at
  simp only [h, h']
  exact (by decide +kernel : ∀ (a : Fin 4) (b : Fin 12), IntOp.andi (IntOp.cmpi CmpIPredicate.sge (BitVec.ofNat 32 b) (IntOp.subi (BitVec.ofNat 32 (a + 8)) 8#32)) (IntOp.cmpi CmpIPredicate.sle (BitVec.ofNat 32 b) (BitVec.ofNat 32 (a + 8))) = if (a : ℕ) ≤ b ∧ (b : ℕ) ≤ a + 8 then 1#1 else 0#1)
    ⟨r / 64, by omega⟩ ⟨x / 64, by omega⟩

theorem cst3_at : (StableHlo.after (hostOps0_4 (F := Ideal)) W main_cst_3 : S_.Idx → EReal) ix0 = (⊥ : EReal) := by
  after_reads_at
  simp [Ideal.ofBits, Ideal.ieee]

theorem v31_at (h : Fin 16) (r : Fin 256) (x : Fin 768) (hc : (W main_cst_3 : S_.Idx → EReal) ix0 = (⊥ : EReal))
    (hb : (W main_v30 : S1x256x768.Idx → BitVec 1) (ix3 0 r x) = if (r : ℕ) / 64 ≤ x / 64 ∧ (x : ℕ) / 64 ≤ r / 64 + 8 then 1#1 else 0#1) :
    (StableHlo.after (hostOps0_5 (F := Ideal)) W main_v31 : S16x256x768.Idx → EReal) (ix3 h r x)
      = if (r : ℕ) / 64 ≤ x / 64 ∧ (x : ℕ) / 64 ≤ r / 64 + 8 then (W main_v12 : S16x256x768.Idx → EReal) (ix3 h r x) else (⊥ : EReal) := by
  after_reads_at
  simp only [id, hc, hb]
  split <;> rfl

theorem v43_at (p : Fin 2) (v : Fin 3) (r : Fin 2048) (x : Fin 768) :
    (StableHlo.after ([hostOps0_6, hostOps0_7, hostOps0_8, hostOps0_9, hostOps0_10, hostOps0_11, hostOps0_12] : List (List (HloOp τ sig (Elt Ideal)))).flatten W main_v43 : S2x3x2048x768.Idx → EReal) (ix4 p v r x)
      = if hx : (x : ℕ) + 256 * v < 768 then (W main_v31 : S16x256x768.Idx → EReal) (ix3 ⟨8 * p + r / 256, by omega⟩ ⟨r % 256, by omega⟩ ⟨x + 256 * v, hx⟩) else (⊥ : EReal) := by
  have bot : (id (constant (F := Ideal) S_ FTy.f32 4286578688#32) (Shape.Idx.first h_S_) : EReal) = ⊥ := by
    simp [constant, Ideal.ofBits, Ideal.ieee]
  have hp : (p : ℕ) * 8 + r / 256 < 16 := by omega
  have hr : (r : ℕ) % 256 < 256 := by omega
  have e : ∀ (a b c : ℕ) (ha : a < 16) (hb : b < 768) (hc : c < 768), a = 8 * p + r / 256 → b = c →
      (W main_v31 : S16x256x768.Idx → EReal) (ix3 ⟨a, ha⟩ ⟨r % 256, hr⟩ ⟨b, hb⟩)
        = (W main_v31 : S16x256x768.Idx → EReal) (ix3 ⟨8 * p + r / 256, by omega⟩ ⟨r % 256, by omega⟩ ⟨c, hc⟩) := by
    intro a b c _ _ _ h h'
    subst h h'
    rfl
  by_cases hx : (x : ℕ) + 256 * v < 768
  · rw [dif_pos hx]
    after_reads_at
    by_cases h0 : (v : ℕ) < 1
    · rw [dif_pos h0]
      after_reads_at
      rw [dif_pos ⟨hp, hr⟩]
      exact e _ _ _ _ _ _ (by omega) (by omega)
    · rw [dif_neg h0]
      by_cases h1 : (v : ℕ) - 1 < 1
      · rw [dif_pos h1]
        after_reads_at
        rw [dif_pos ⟨hp, hr, show (x : ℕ) < 512 by omega⟩]
        exact e _ _ _ _ _ _ (by omega) (by omega)
      · rw [dif_neg h1]
        after_reads_at
        rw [dif_pos ⟨hp, hr, show (x : ℕ) < 256 by omega⟩]
        exact e _ _ _ _ _ _ (by omega) (by omega)
  · rw [dif_neg hx]
    after_reads_at
    by_cases h0 : (v : ℕ) < 1
    · omega
    · rw [dif_neg h0]
      by_cases h1 : (v : ℕ) - 1 < 1
      · rw [dif_pos h1]
        after_reads_at
        rw [dif_neg fun h => absurd h.2.2 (show ¬ (x : ℕ) < 512 by omega)]
        exact bot
      · rw [dif_neg h1]
        after_reads_at
        rw [dif_neg fun h => absurd h.2.2 (show ¬ (x : ℕ) < 256 by omega)]
        exact bot

end Cert.Attn

end
-- ==== Proof.Attn.Bias.lean ====
module

public import proofs.«01_k».proof.Proof.Attn.Mask
public import Idealize.ShloMosaic.Lib.StableHlo.RunLoop

@[expose] public section

set_option maxRecDepth 16384

noncomputable section

namespace Cert.Attn

open Idealize.ShloMosaic Idealize.SL.Sem Cert.KernelIdeal Cert.KernelIdeal.Gen Idealize.ShloMosaic.TcCoe

/-- Whether the place `w` of a row's 768 places is one of the chunks that row `r` of a 256-row block attends to. -/
def near (r w : ℕ) : Prop := r / 64 ≤ w / 64 ∧ w / 64 ≤ r / 64 + 8

instance (r w : ℕ) : Decidable (near r w) := inferInstanceAs (Decidable (_ ∧ _))

/-- The buffers after the host code up to the masking of the table. -/
def prefixW (W : Valuation τ sig (Elt Ideal)) : Valuation τ sig (Elt Ideal) :=
  StableHlo.after hostOps0_5 (StableHlo.after hostOps0_4 (StableHlo.after hostOps0_3 (StableHlo.after hostOps0_2
    (StableHlo.after hostOps0_1 (StableHlo.after hostOps0 W)))))

theorem keep17 (W : Valuation τ sig (Elt Ideal)) : StableHlo.after hostOps0_3 W main_v17 = W main_v17 := by
  after_reads_simp

theorem keep12_1 (W : Valuation τ sig (Elt Ideal)) : StableHlo.after hostOps0_1 W main_v12 = W main_v12 := by
  after_reads_simp

theorem keep12_2 (W : Valuation τ sig (Elt Ideal)) : StableHlo.after hostOps0_2 W main_v12 = W main_v12 := by
  after_reads_simp

theorem keep12_3 (W : Valuation τ sig (Elt Ideal)) : StableHlo.after hostOps0_3 W main_v12 = W main_v12 := by
  after_reads_simp

theorem keep12_4 (W : Valuation τ sig (Elt Ideal)) : StableHlo.after hostOps0_4 W main_v12 = W main_v12 := by
  after_reads_simp

/-- The masked table of one head: the clipped bias at the chunks attended to, `⊥` elsewhere. -/
theorem prefix_v31 (W : Valuation τ sig (Elt Ideal)) (h : Fin 16) (r : Fin 256) (x : Fin 768) :
    (prefixW W main_v31 : S16x256x768.Idx → EReal) (ix3 h r x)
      = if near r x then (W main_arg1 : S16x513.Idx → EReal) (ix2 h ⟨min (768 + r - x) 512, by omega⟩) else (⊥ : EReal) := by
  unfold prefixW
  refine (v31_at _ _ _ _ (cst3_at _) (v30_at _ _ _ (v20_at _ _ (v19_at _ _) (c1_at _)) ?_)).trans ?_
  · rw [keep17]
    exact v17_at _ _ (v15_at _ _ (v14_at _ _) (c_at _))
  · rw [keep12_4, keep12_3, keep12_2, keep12_1, v12_at]
    rfl

/-- The bias table as the host leaves it: at the group `p`, variant `v`, row `r` and place `x`. -/
theorem V_main_v43 (m : (ℓ : Loc nD τ sig) → Buf (Elt Ideal) ℓ) (c : Dev nD) (p : Fin 2) (v : Fin 3) (r : Fin 2048) (x : Fin 768) :
    (V m c main_v43 : S2x3x2048x768.Idx → EReal) (ix4 p v r x)
      = if hx : (x : ℕ) + 256 * v < 768 then
          if near (r % 256) (x + 256 * v) then
            (m (c, main_arg1) : S16x513.Idx → EReal) (ix2 ⟨8 * p + r / 256, by omega⟩ ⟨min (768 + r % 256 - (x + 256 * v)) 512, by omega⟩)
          else (⊥ : EReal)
        else (⊥ : EReal) := by
  have hV : V m c main_v43 = StableHlo.after ([hostOps0_6, hostOps0_7, hostOps0_8, hostOps0_9, hostOps0_10, hostOps0_11, hostOps0_12] : List (List (HloOp τ sig (Elt Ideal)))).flatten
      (prefixW fun b => m (c, b)) main_v43 := by
    unfold V prefixW
    simp only [← Idealize.ShloMosaic.StableHlo.afterL_eq_after_flatten, Idealize.ShloMosaic.StableHlo.afterL_cons]
  rw [hV, v43_at]
  by_cases hx : (x : ℕ) + 256 * v < 768
  · rw [dif_pos hx, dif_pos hx, prefix_v31]
  · rw [dif_neg hx, dif_neg hx]

end Cert.Attn

end
-- ==== Proof.Attn.Kern.lean ====
module

public import proofs.«01_k».proof.Proof.Attn.Spec
public import proofs.«01_k».proof.Proof.Attn.Block
public import proofs.«01_k».proof.Proof.Attn.Bias
public import Idealize.ShloMosaic.Lib.Pipeline.Value

@[expose] public section

set_option maxRecDepth 16384

noncomputable section

/-! # What the kernel's result array holds

  The grid point of batch `b`, head group `p` and row block `t` writes the rows `256 t` to `256 t + 255` and the columns
  `512 p` to `512 p + 511` of the batch; together the points' blocks are the attention. -/

namespace Cert.Attn

open Idealize.ShloMosaic Cert.KernelIdeal Cert.KernelIdeal.Gen Idealize.ShloMosaic.TcCoe
open Idealize.ShloMosaic.Pipeline (Dat)

variable (m : (ℓ : Loc nD τ sig) → Buf (Elt Ideal) ℓ) (c : Dev nD)

/-- The three coordinates of a grid point. -/
theorem coords_at : ∀ t : Fin grid0.N, ((grid0.coords t) 0).val = t.val / 32 ∧ ((grid0.coords t) 1).val = t.val / 16 % 2 ∧ ((grid0.coords t) 2).val = t.val % 16 := by
  decide +kernel

theorem index0 : ∀ t : Fin grid0.N, win0_0.index t 0 = t.val / 32 ∧ win0_0.index t 1 = t.val % 16 ∧ win0_0.index t 2 = t.val / 16 % 2 := by
  decide +kernel

theorem index1 : ∀ t : Fin grid0.N, win0_1.index t 0 = t.val / 32 ∧ win0_1.index t 1 = 0 ∧ win0_1.index t 2 = 2 + t.val / 16 % 2 := by
  decide +kernel

theorem index2 : ∀ t : Fin grid0.N, win0_2.index t 0 = t.val / 32 ∧ win0_2.index t 1 = 0 ∧ win0_2.index t 2 = 4 + t.val / 16 % 2 := by
  decide +kernel

theorem index3 : ∀ t : Fin grid0.N, win0_3.index t 0 = t.val / 16 % 2 ∧ win0_3.index t 1 = 2 - t.val % 16 ∧ win0_3.index t 2 = 0 ∧ win0_3.index t 3 = 0 := by
  decide +kernel

theorem index4 : ∀ t : Fin grid0.N, win0_4.index t 0 = t.val / 32 ∧ win0_4.index t 1 = t.val % 16 ∧ win0_4.index t 2 = t.val / 16 % 2 := by
  decide +kernel

theorem lt_N (t : Fin cfg0.N) : t.val < 512 := t.isLt

/-- The block of queries that a point reads. -/
theorem blk_q (t : Fin cfg0.N) (r : Fin 256) (l : Fin 512) :
    (iblk m c 0 t : S1x256x512.Idx → EReal) (ix3 0 r l)
      = (m (c, main_arg0) : S16x4096x3072.Idx → EReal) (ix3 ⟨t.val / 32, by have := lt_N t; omega⟩ ⟨256 * (t.val % 16) + r, by omega⟩ ⟨512 * (t.val / 16 % 2) + l, by omega⟩) := by
  obtain ⟨e0, e1, e2⟩ := index0 t
  have hV := V_main_arg0 m c
  unfold iblk
  generalize V m c = W at hV ⊢
  rw [View.read_apply, cast_eq]
  show (W main_arg0 : S16x4096x3072.Idx → EReal) _ = _
  rw [hV]
  congr 1
  funext a
  apply Fin.ext
  fin_cases a
  · show win0_0.index t 0 * 1 + 1 * 0 = t.val / 32
    omega
  · show win0_0.index t 1 * 256 + 1 * (r : ℕ) = 256 * (t.val % 16) + r
    omega
  · show win0_0.index t 2 * 512 + 1 * (l : ℕ) = 512 * (t.val / 16 % 2) + l
    omega

/-- The block of keys that a point reads. -/
theorem blk_k (t : Fin cfg0.N) (y : Fin 4096) (l : Fin 512) :
    (iblk m c 1 t : S1x4096x512.Idx → EReal) (ix3 0 y l)
      = (m (c, main_arg0) : S16x4096x3072.Idx → EReal) (ix3 ⟨t.val / 32, by have := lt_N t; omega⟩ y ⟨1024 + (512 * (t.val / 16 % 2) + l), by omega⟩) := by
  obtain ⟨e0, e1, e2⟩ := index1 t
  have hV := V_main_arg0 m c
  unfold iblk
  generalize V m c = W at hV ⊢
  rw [View.read_apply, cast_eq]
  show (W main_arg0 : S16x4096x3072.Idx → EReal) _ = _
  rw [hV]
  congr 1
  funext a
  apply Fin.ext
  fin_cases a
  · show win0_1.index t 0 * 1 + 1 * 0 = t.val / 32
    omega
  · show win0_1.index t 1 * 4096 + 1 * (y : ℕ) = y
    omega
  · show win0_1.index t 2 * 512 + 1 * (l : ℕ) = 1024 + (512 * (t.val / 16 % 2) + l)
    omega

/-- The block of values that a point reads. -/
theorem blk_v (t : Fin cfg0.N) (y : Fin 4096) (l : Fin 512) :
    (iblk m c 2 t : S1x4096x512.Idx → EReal) (ix3 0 y l)
      = (m (c, main_arg0) : S16x4096x3072.Idx → EReal) (ix3 ⟨t.val / 32, by have := lt_N t; omega⟩ y ⟨2048 + (512 * (t.val / 16 % 2) + l), by omega⟩) := by
  obtain ⟨e0, e1, e2⟩ := index2 t
  have hV := V_main_arg0 m c
  unfold iblk
  generalize V m c = W at hV ⊢
  rw [View.read_apply, cast_eq]
  show (W main_arg0 : S16x4096x3072.Idx → EReal) _ = _
  rw [hV]
  congr 1
  funext a
  apply Fin.ext
  fin_cases a
  · show win0_2.index t 0 * 1 + 1 * 0 = t.val / 32
    omega
  · show win0_2.index t 1 * 4096 + 1 * (y : ℕ) = y
    omega
  · show win0_2.index t 2 * 512 + 1 * (l : ℕ) = 2048 + (512 * (t.val / 16 % 2) + l)
    omega

/-- The block of the bias table that a point reads. -/
theorem blk_b (t : Fin cfg0.N) (r : Fin 2048) (x : Fin 768) :
    (iblk m c 3 t : S1x1x2048x768.Idx → EReal) (ix4 0 0 r x)
      = (V m c main_v43 : S2x3x2048x768.Idx → EReal) (ix4 ⟨t.val / 16 % 2, by omega⟩ ⟨2 - t.val % 16, by omega⟩ r x) := by
  obtain ⟨e0, e1, e2, e3⟩ := index3 t
  unfold iblk
  generalize V m c = W
  rw [View.read_apply, cast_eq]
  show (W main_v43 : S2x3x2048x768.Idx → EReal) _ = _
  refine congrArg (W main_v43 : S2x3x2048x768.Idx → EReal) ?_
  funext a
  apply Fin.ext
  fin_cases a
  · show win0_3.index t 0 * 1 + 1 * 0 = t.val / 16 % 2
    omega
  · show win0_3.index t 1 * 1 + 1 * 0 = 2 - t.val % 16
    omega
  · show win0_3.index t 2 * 2048 + 1 * (r : ℕ) = r
    omega
  · show win0_3.index t 3 * 768 + 1 * (x : ℕ) = x
    omega

/-- The arguments of the program: the packed queries, keys and values, and the bias table. -/
abbrev argX : S16x4096x3072.Idx → EReal := (m (c, main_arg0) : S16x4096x3072.Idx → EReal)
abbrev argR : S16x513.Idx → EReal := (m (c, main_arg1) : S16x513.Idx → EReal)

/-- The block of a point is the attention at the block's rows and columns. -/
theorem block_attn (t : Fin cfg0.N) (r : Fin 256) (l : Fin 512) :
    blockOut (iblk m c 0 t) (iblk m c 1 t) (iblk m c 2 t) (iblk m c 3 t) (grid0.coords t) r l
      = attn (argX m c) (argR m c) ⟨t.val / 32, by have := lt_N t; omega⟩ ⟨256 * (t.val % 16) + r, by omega⟩ ⟨512 * (t.val / 16 % 2) + l, by omega⟩ := by
  have hN := lt_N t
  have hs : start (grid0.coords t) = 256 * (t.val % 16) - 512 := by
    unfold start
    rw [(coords_at t).2.2]
  have hle := start_le (grid0.coords t)
  unfold blockOut attn
  refine soft_reindex _ _ _ _ (fun _ => True) (fun x => ⟨start (grid0.coords t) + x, by omega⟩) ?_ ?_ ?_ ?_ ?_
  · intro x y _ _ h
    have : start (grid0.coords t) + (x : ℕ) = start (grid0.coords t) + y := congrArg Fin.val h
    exact Fin.ext (by omega)
  · intro x _
    simp only [blk_q, blk_k]
    rw [(blk_b m c t _ x).trans (V_main_v43 m c _ _ _ x)]
    unfold logit
    by_cases hx : (x : ℕ) + 256 * (2 - t.val % 16) < 768
    · rw [dif_pos hx]
      have hr : (256 * (l.val / 64) + r.val) % 256 = r.val := by omega
      have hd : (256 * (l.val / 64) + r.val) / 256 = l.val / 64 := by omega
      have hv : near ((256 * (l.val / 64) + r.val) % 256) (x + 256 * (2 - t.val % 16)) ↔ vis (256 * (t.val % 16) + r) (start (grid0.coords t) + x) := by
        rw [hs, hr]
        unfold near vis
        omega
      by_cases hn : vis (256 * (t.val % 16) + r) (start (grid0.coords t) + x)
      · rw [if_pos (hv.mpr hn), if_pos hn]
        unfold rawScore
        refine congrArg₂ (· + ·) (congrArg (· * ((1 / 8 : ℝ) : EReal)) (Finset.sum_congr rfl fun d _ => ?_)) ?_
        · congr 3 <;> apply Fin.ext
          · show 512 * (t.val / 16 % 2) + (64 * (l.val / 64) + d.val) = 64 * ((512 * (t.val / 16 % 2) + l.val) / 64) + d.val
            omega
          · show 1024 + (512 * (t.val / 16 % 2) + (64 * (l.val / 64) + d.val)) = 1024 + (64 * ((512 * (t.val / 16 % 2) + l.val) / 64) + d.val)
            omega
        · congr 2 <;> apply Fin.ext
          · show 8 * (t.val / 16 % 2) + (256 * (l.val / 64) + r.val) / 256 = (512 * (t.val / 16 % 2) + l.val) / 64
            omega
          · show min (768 + (256 * (l.val / 64) + r.val) % 256 - (x.val + 256 * (2 - t.val % 16))) 512 = min (256 * (t.val % 16) + r.val + 256 - (start (grid0.coords t) + x.val)) 512
            rw [hs, hr]
            omega
      · rw [if_neg (fun h => hn (hv.mp h)), if_neg hn]
        exact EReal.add_bot _
    · rw [dif_neg hx, if_neg]
      · exact EReal.add_bot _
      · show ¬ vis (256 * (t.val % 16) + r) (start (grid0.coords t) + x)
        rw [hs]
        unfold vis
        omega
  · intro x _
    rw [blk_v]
  · intro x h
    exact absurd trivial h
  · intro y hy
    unfold logit
    rw [if_neg]
    show ¬ vis (256 * (t.val % 16) + r) y
    intro hv
    have hy' : ∀ n : ℕ, n < 768 → start (grid0.coords t) + n ≠ y := fun n hn e => hy ⟨n, hn⟩ trivial (Fin.ext e)
    have := hy' (y - start (grid0.coords t))
    rw [hs] at this
    unfold vis at hv
    omega

/-- The attention, as an array. -/
def out : S16x4096x1024.Idx → EReal := fun i => attn (argX m c) (argR m c) (i 0) (i 1) (i 2)

/-- What a point writes back is its block of the attention. -/
theorem flushed_attn (t : Fin cfg0.N) :
    (Cert.KernelIdeal.Gen.dats m 0 c).flushed 4 t = (win0_4.blk t).view.read (Elt Ideal) (out m c) := by
  rw [Cert.KernelIdeal.Value.flushed4_A]
  obtain ⟨e0, e1, e2⟩ := index4 t
  funext j
  have hN := lt_N t
  idx_vars j
  obtain rfl : j0 = 0 := Subsingleton.elim _ _
  rw [View.read_apply]
  refine (out_block (iblk m c 0 t) (iblk m c 1 t) (iblk m c 2 t) (iblk m c 3 t) c (grid0.coords t) _ _ _ _ _ _ _ _ _ _ j1 j2).trans ?_
  rw [block_attn]
  show _ = attn _ _ _ _ _
  congr 1 <;> apply Fin.ext
  · show t.val / 32 = win0_4.index t 0 * 1 + 1 * 0
    omega
  · show 256 * (t.val % 16) + j1.val = win0_4.index t 1 * 256 + 1 * j1.val
    omega
  · show 512 * (t.val / 16 % 2) + j2.val = win0_4.index t 2 * 512 + 1 * j2.val
    omega

theorem cover_attn (i : S16x4096x1024.Idx) :
    ∃ t : Fin cfg0.N, (cfg0.win 4).flush t = true ∧ i ∈ ((cfg0.win 4).blk t).view.set := by
  have h0 : (i 0 : ℕ) < 16 := (i 0).isLt
  have h1 : (i 1 : ℕ) < 4096 := (i 1).isLt
  have h2 : (i 2 : ℕ) < 1024 := (i 2).isLt
  have hlt : 32 * (i 0 : ℕ) + 16 * ((i 2 : ℕ) / 512) + (i 1 : ℕ) / 256 < 512 := by omega
  refine ⟨⟨32 * (i 0 : ℕ) + 16 * ((i 2 : ℕ) / 512) + (i 1 : ℕ) / 256, hlt⟩, flush0_4 _, ?_⟩
  generalize ht : (⟨32 * (i 0 : ℕ) + 16 * ((i 2 : ℕ) / 512) + (i 1 : ℕ) / 256, hlt⟩ : Fin cfg0.N) = t
  have hv : t.val = 32 * (i 0 : ℕ) + 16 * ((i 2 : ℕ) / 512) + (i 1 : ℕ) / 256 := by rw [← ht]
  obtain ⟨e0, e1, e2⟩ := index4 t
  show i ∈ ((View.whole main_v44).slice (win0_4.rect t)).set
  rw [View.set_slice_whole, Rect.mem_set_unit]
  intro a
  fin_cases a
  · show win0_4.index t 0 * 1 ≤ (i 0 : ℕ) ∧ (i 0 : ℕ) < win0_4.index t 0 * 1 + 1
    omega
  · show win0_4.index t 1 * 256 ≤ (i 1 : ℕ) ∧ (i 1 : ℕ) < win0_4.index t 1 * 256 + 256
    omega
  · show win0_4.index t 2 * 512 ≤ (i 2 : ℕ) ∧ (i 2 : ℕ) < win0_4.index t 2 * 512 + 512
    omega

/-- The kernel's result array ends holding the attention. -/
theorem final_attn : (Cert.KernelIdeal.Gen.dats m 0 c).arrAt 4 cfg0.N = out m c :=
  (Cert.KernelIdeal.Gen.dats m 0 c).arrAt_eq_of_cover 4 (out m c) (fun t _ => flushed_attn m c t) cover_attn

end Cert.Attn

end
-- ==== Proof.Attn.Pre.lean ====
module

public import proofs.«01_k».proof.Pre_finite
public import proofs.«01_k».proof.Proof.Gen.Pre_finite
public import Idealize.ShloMosaic.Lib.ReduceAll
public import Idealize.ShloMosaic.Lib.Pointwise
public import Idealize.ShloMosaic.Lib.ValueIdx
public import Idealize.ShloMosaic.PureOps.Ideal

@[expose] public section

noncomputable section

namespace Cert.Attn

open Idealize.ShloMosaic Cert.Pre_finite Cert.Pre_finite.Facts

theorem word_top : Ideal.ofBits FTy.f32 0x7F800000#32 = (⊤ : EReal) := by
  simp [Ideal.ofBits, Ideal.ieee]

/-- An extended real whose absolute value is below `⊤` is a real. -/
theorem real_of_abs_lt (x : EReal) (h : max x (-x) < ⊤) : ∃ r : ℝ, x = (r : EReal) := by
  induction x with
  | bot => simp at h
  | top => simp at h
  | coe r => exact ⟨r, rfl⟩

/-- What the precondition says: the queries, the keys and the bias table are real. -/
theorem finite_real (X : S16x4096x3072.Idx → EReal) (R : S16x513.Idx → EReal) (h : Cert.Pre_finite.fn (F := Ideal) X R = fun _ => 1#1) :
    (∀ (b : Fin 16) (s : Fin 4096) (j : Fin 2048), ∃ r : ℝ, X (ix3 b s ⟨j, by omega⟩) = (r : EReal))
    ∧ ∀ (g : Fin 16) (j : Fin 513), ∃ r : ℝ, R (ix2 g j) = (r : EReal) := by
  have h0 := congrFun h ix0
  dsimp only [Cert.Pre_finite.fn] at h0
  obtain ⟨hX, hR⟩ := IntOp.andi_eq_one.1 h0
  have : Subsingleton S_.Idx := ⟨fun a b => funext fun i => i.elim0⟩
  constructor
  · intro b s j
    have e := Host.reduce_andi_all _ _ _ _ _ hX (ix3 b s j)
    have e' : Ideal.cmp .olt (max (X (ix3 b s ⟨j, by omega⟩)) (-X (ix3 b s ⟨j, by omega⟩))) (Ideal.ofBits FTy.f32 0x7F800000#32) = 1#1 := by
      revert e
      pointwise
      exact id
    rw [word_top] at e'
    apply real_of_abs_lt
    by_contra hn
    rw [Ideal.cmp, decide_eq_false hn] at e'
    exact absurd e' (by decide)
  · intro g j
    have e := Host.reduce_andi_all _ _ _ _ _ hR (ix2 g j)
    have e' : Ideal.cmp .olt (max (R (ix2 g j)) (-R (ix2 g j))) (Ideal.ofBits FTy.f32 0x7F800000#32) = 1#1 := e
    rw [word_top] at e'
    apply real_of_abs_lt
    by_contra hn
    rw [Ideal.cmp, decide_eq_false hn] at e'
    exact absurd e' (by decide)

end Cert.Attn

end
-- ==== Proof.Ffn.Table.lean ====
/- The two prefetched tables in numbers: how many tiles are used and which expert each tile has. What the index maps
   and the body's conditions are at tables that hold such numbers, and the region's side condition of them. -/
module

public import proofs.«01_k».proof.Proof.Gen.Kernel2Ideal.Launch
public import Idealize.ShloMosaic.Lib.WordCmp
public import Idealize.ShloMosaic.Lib.Pipeline.TableIdle
public import Idealize.ShloMosaic.Lib.Pointwise

@[expose] public section

set_option maxRecDepth 16384

noncomputable section

namespace Cert.Ffn

open Idealize.ShloMosaic Idealize.SL.Sem Idealize.ShloMosaic.TcCoe
open Cert.Kernel2Ideal Cert.Kernel2Ideal.Gen

variable {F : FTy → Type} [FloatOps F]

/-- The number of used tiles, and tile `i`'s expert, as the tables give them. -/
def used (pf : pre0.Contents (Elt F)) : ℕ := (show BitVec 32 from pf 1 (ix1 (0 : Fin 1) : S1.Idx)).toNat
def expertWord (pf : pre0.Contents (Elt F)) (x : S264.Idx) : BitVec 32 := pf 0 x

/-- Tables a routing can give: at least one used tile, no more than there are, and experts in range. -/
structure Good (pf : pre0.Contents (Elt F)) : Prop where
  pos : 1 ≤ used pf
  le : used pf ≤ 264
  expert : ∀ x, (expertWord pf x).toNat < 8

/-- The chunk of the weights a point's window names: its own while the tile is used, the last one past that. -/
def chunk (u i f : ℕ) : ℕ := if i < u then f else 1

variable {pf : pre0.Contents (Elt F)}

theorem coord0_lt (i : grid0.Coords) : (i 0).val < 264 := (i 0).isLt
theorem coord1_lt (i : grid0.Coords) : (i 1).val < 2 := (i 1).isLt

theorem used_word (x : S1.Idx) : (show BitVec 32 from pf 1 x) = BitVec.ofNat 32 (used pf) := by
  have hx : x = (ix1 (0 : Fin 1) : S1.Idx) := funext fun a => Fin.ext (by
    have := (x a).isLt
    fin_cases a
    change (x 0).val < 1 at this
    show (x 0).val = 0
    omega)
  subst hx
  unfold used
  rw [BitVec.ofNat_toNat, BitVec.setWidth_eq]

theorem cond1_iff (i : grid0.Coords) {u : ℕ} (hu : u ≤ 264) : k0_cond1 i (BitVec.ofNat 32 u) = 1#1 ↔ (i 0).val < u := by
  have hi := coord0_lt i
  unfold k0_cond1
  dsimp only
  generalize (i 0).val = a at hi ⊢
  word_cmp

theorem cond3_iff (i : grid0.Coords) : k0_cond3 i = 1#1 ↔ (i 1).val = 1 := by
  have hi := coord1_lt i
  unfold k0_cond3
  dsimp only
  generalize (i 1).val = a at hi ⊢
  obtain rfl | rfl : a = 0 ∨ a = 1 := by omega
  all_goals decide

theorem first_iff (i : grid0.Coords) :
    Scalar.cmpi .ne (Scalar.extui (Scalar.cmpi .eq (BitVec.ofNat 32 (i 1).val) 0#32) : BitVec 32) 0#32 = 1#1 ↔ (i 1).val = 0 := by
  have hi := coord1_lt i
  generalize (i 1).val = a at hi ⊢
  obtain rfl | rfl : a = 0 ∨ a = 1 := by omega
  all_goals decide

theorem atD_word : (show BitVec 32 from pf.atD 1 ![0]) = BitVec.ofNat 32 (used pf) := by
  unfold Pipeline.Prefetch.Contents.atD
  rw [dif_pos (by decide)]
  exact used_word _

/-- The output is stored at the second chunk of a used tile, and nowhere else. -/
theorem idle_iff (h : Good pf) (i : grid0.Coords) : idle0 pf 5 i = !(decide ((i 0).val < used pf) && decide ((i 1).val = 1)) := by
  show (!(k0_cond1 i (pf.atD 1 ![0]) == 1#1 && k0_cond3 i == 1#1)) = _
  rw [show pf.atD 1 ![0] = BitVec.ofNat 32 (used pf) from atD_word]
  congr 2
  · rw [Bool.eq_iff_iff, beq_iff_eq, cond1_iff i h.le, decide_eq_true_iff]
  · rw [Bool.eq_iff_iff, beq_iff_eq, cond3_iff i, decide_eq_true_iff]

theorem minsi_pred {a u : ℕ} (ha : a < 264) (h1 : 1 ≤ u) (hu : u ≤ 264) :
    (Scalar.minsi (BitVec.ofNat 32 a) (Scalar.subi (BitVec.ofNat 32 u) 1#32)).toNat = min a (u - 1) := by
  have e : Scalar.subi (BitVec.ofNat 32 u) 1#32 = BitVec.ofNat 32 (u - 1) := by
    show BitVec.ofNat 32 u - 1#32 = _
    apply BitVec.eq_of_toNat_eq
    rw [BitVec.toNat_sub]
    simp only [BitVec.toNat_ofNat]
    omega
  rw [e]
  show (IntOp.minsi _ _).toNat = _
  unfold IntOp.minsi
  have hs : (BitVec.ofNat 32 a).slt (BitVec.ofNat 32 (u - 1)) = decide (a < u - 1) := by
    rw [BitVec.slt, WordCmp.toInt_ofNat_of_lt (by omega), WordCmp.toInt_ofNat_of_lt (by omega)]
    simp only [Nat.cast_lt]
  rw [hs]
  by_cases c : a < u - 1
  · rw [if_pos (decide_eq_true c), BitVec.toNat_ofNat]; omega
  · rw [if_neg (by simpa using c), BitVec.toNat_ofNat]; omega

theorem row_index (h : Good pf) (i : grid0.Coords) : cc0_transform_0 inb_S1_S1_0 numel1_S1 pf i = ![min (i 0).val (used pf - 1), 0] := by
  unfold cc0_transform_0
  dsimp only
  rw [show pf.at 1 (Rect.unit (s := S1) ![0] S1.size inb_S1_S1_0) numel1_S1 = BitVec.ofNat 32 (used pf) from used_word _,
    minsi_pred (coord0_lt i) h.pos h.le]
  rfl

theorem row_index1 (pf : pre0.Contents (Elt F)) (i : grid0.Coords) :
    cc0_transform_1 inb_S1_S1_0 numel1_S1 pf i = cc0_transform_0 inb_S1_S1_0 numel1_S1 pf i := rfl
theorem row_index5 (pf : pre0.Contents (Elt F)) (i : grid0.Coords) :
    cc0_transform_5 inb_S1_S1_0 numel1_S1 pf i = cc0_transform_0 inb_S1_S1_0 numel1_S1 pf i := rfl

/-- Tile `i`'s expert, by its number. -/
def expertAt (pf : pre0.Contents (Elt F)) (i : Fin 264) : ℕ := (expertWord pf (ix1 i : S264.Idx)).toNat

theorem expertAt_lt (h : Good pf) (i : Fin 264) : expertAt pf i < 8 := h.expert _

/-- The one index of a table's unit rectangle. -/
theorem unit_emb (off : Fin 1 → ℕ) (hinb : ∀ a, off a + S1.size a ≤ S264.size a) (k : Fin 264) (hk : off 0 = k.val)
    (x : S1.Idx) : (Rect.unit (s := S264) off S1.size hinb).emb x = (ix1 k : S264.Idx) := by
  funext a
  apply Fin.ext
  fin_cases a
  have hx : (x 0).val < 1 := (x 0).isLt
  show off 0 + 1 * (x 0).val = k.val
  omega

theorem expert_word (i : grid0.Coords) (hinb) (hn) :
    (show BitVec 32 from pf.at 0 (Rect.unit (s := S264) ![(Scalar.indexCast (BitVec.ofNat 32 (i 0).val) : Index).toNat] S1.size hinb) hn)
      = expertWord pf (ix1 (⟨(i 0).val, coord0_lt i⟩ : Fin 264) : S264.Idx) := by
  exact congrArg (expertWord pf) (unit_emb _ _ _ (by
    show (BitVec.ofNat 32 (i 0).val).toNat = (i 0).val
    have hi := coord0_lt i
    rw [BitVec.toNat_ofNat]
    omega) _)

theorem chunk_word (i : grid0.Coords) {u : ℕ} (hu : u ≤ 264) :
    (Scalar.select (Scalar.cmpi .slt (BitVec.ofNat 32 (i 0).val) (BitVec.ofNat 32 u)) (BitVec.ofNat 32 (i 1).val) 1#32 : BitVec 32).toNat
      = chunk u (i 0).val (i 1).val := by
  have h0 := coord0_lt i
  have h1 := coord1_lt i
  rw [WordCmp.scalar_cmpi_eq, WordCmp.cmpi_slt_ofNat (by omega) (by omega), WordCmp.select_ofBool]
  unfold chunk
  by_cases c : (i 0).val < u
  · rw [if_pos (decide_eq_true c), if_pos c, BitVec.toNat_ofNat]; omega
  · rw [if_neg (by simpa using c), if_neg c]; rfl

theorem weight_index (h : Good pf) (i : grid0.Coords) : cc0_transform_2 k0_off1_inb numel1_S1 inb_S1_S1_0 pf i
    = ![expertAt pf ⟨(i 0).val, coord0_lt i⟩, 0, chunk (used pf) (i 0).val (i 1).val] := by
  unfold cc0_transform_2
  dsimp only
  rw [show pf.at 1 (Rect.unit (s := S1) ![0] S1.size inb_S1_S1_0) numel1_S1 = BitVec.ofNat 32 (used pf) from used_word _]
  refine congrArg₂ (fun a b : ℕ => (![a, 0, b] : Fin 3 → ℕ)) ?_ (chunk_word i h.le)
  exact congrArg BitVec.toNat (expert_word i _ _)

theorem weight_index3 (pf : pre0.Contents (Elt F)) (i : grid0.Coords) : cc0_transform_3 k0_off1_inb numel1_S1 inb_S1_S1_0 pf i
    = cc0_transform_2 k0_off1_inb numel1_S1 inb_S1_S1_0 pf i := rfl

theorem weight_index4 (h : Good pf) (i : grid0.Coords) : cc0_transform_4 k0_off1_inb numel1_S1 inb_S1_S1_0 pf i
    = ![expertAt pf ⟨(i 0).val, coord0_lt i⟩, chunk (used pf) (i 0).val (i 1).val, 0] := by
  unfold cc0_transform_4
  dsimp only
  rw [show pf.at 1 (Rect.unit (s := S1) ![0] S1.size inb_S1_S1_0) numel1_S1 = BitVec.ofNat 32 (used pf) from used_word _]
  refine congrArg₂ (fun a b : ℕ => (![a, b, 0] : Fin 3 → ℕ)) ?_ (chunk_word i h.le)
  exact congrArg BitVec.toNat (expert_word i _ _)

theorem chunk_lt (u a : ℕ) {f : ℕ} (hf : f < 2) : chunk u a f < 2 := by unfold chunk; split <;> omega

/-- The region's side condition holds of good tables: every block the index maps name lies inside its array. -/
theorem ok_of_good (h : Good pf) : ok0 pf := by
  have hp := h.pos
  have hl := h.le
  have row : ∀ i : grid0.Coords, min (i 0).val (used pf - 1) < 264 := fun i => by have := coord0_lt i; omega
  have hw : ∀ i : grid0.Coords, ∀ a, (cc0_transform_2 k0_off1_inb numel1_S1 inb_S1_S1_0 pf i a + 1) * S1x1024x1792.size a ≤ S8x1024x3584.size a := fun i a => by
    rw [weight_index h]
    have h0 := expertAt_lt h ⟨(i 0).val, coord0_lt i⟩
    have h1 := chunk_lt (used pf) (i 0).val (coord1_lt i)
    fin_cases a
    · show (expertAt pf ⟨(i 0).val, coord0_lt i⟩ + 1) * 1 ≤ 8; omega
    · show (0 + 1) * 1024 ≤ 1024; omega
    · show (chunk (used pf) (i 0).val (i 1).val + 1) * 1792 ≤ 3584; omega
  have hr : ∀ i : grid0.Coords, ∀ a, (cc0_transform_0 inb_S1_S1_0 numel1_S1 pf i a + 1) * S512x1024.size a ≤ S135168x1024.size a := fun i a => by
    rw [row_index h]
    have := row i
    fin_cases a
    · show (min (i 0).val (used pf - 1) + 1) * 512 ≤ 135168; omega
    · show (0 + 1) * 1024 ≤ 1024; omega
  refine ⟨fun i => ⟨hr i, .inr (Affine.block_words_dvd (of_decide_eq_true rfl) (by decide))⟩, fun i => ⟨fun a => ?_, .inl rfl⟩,
    fun i => ⟨hw i, .inr (Affine.block_words_dvd (of_decide_eq_true rfl) (by decide))⟩,
    fun i => ⟨hw i, .inr (Affine.block_words_dvd (of_decide_eq_true rfl) (by decide))⟩,
    fun i => ⟨fun a => ?_, .inr (Affine.block_words_dvd (of_decide_eq_true rfl) (by decide))⟩,
    fun i => ⟨hr i, .inr (Affine.block_words_dvd (of_decide_eq_true rfl) (by decide))⟩⟩
  · rw [row_index1, row_index h]
    have := row i
    fin_cases a
    · show (min (i 0).val (used pf - 1) + 1) * 512 ≤ 135168; omega
    · show (0 + 1) * 256 ≤ 256; omega
  · rw [weight_index4 h]
    have h0 := expertAt_lt h ⟨(i 0).val, coord0_lt i⟩
    have h1 := chunk_lt (used pf) (i 0).val (coord1_lt i)
    fin_cases a
    · show (expertAt pf ⟨(i 0).val, coord0_lt i⟩ + 1) * 1 ≤ 8; omega
    · show (chunk (used pf) (i 0).val (i 1).val + 1) * 1792 ≤ 3584; omega
    · show (0 + 1) * 1024 ≤ 1024; omega

/-! The grid's points: tile `t / 2`, chunk `t % 2`. -/

theorem point_lt (t : Fin grid0.N) : t.val < 528 := lt_of_lt_of_eq t.isLt N_0
theorem coords0 (t : Fin grid0.N) : (grid0.coords t 0).val = t.val / 2 := by
  rw [Pipeline.Grid.coords_val t 0 (S := 2) (B := 264) (by decide) rfl]
  have := point_lt t
  omega
theorem coords1 (t : Fin grid0.N) : (grid0.coords t 1).val = t.val % 2 := by
  rw [Pipeline.Grid.coords_val t 1 (S := 1) (B := 2) (by decide) rfl, Nat.div_one]

end Cert.Ffn

end
-- ==== Proof.Ffn.Body.lean ====
/- The body of the expert call run once for each kind of grid point: a point past the used tiles, the first chunk of a
   used tile, its second chunk. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The offsets of the body's whole loads and stores are zero. -/
theorem zero2 : (![0, 0] : Fin 2 → Nat) = fun _ => 0 := by decide
theorem zero3 : (![0, 0, 0] : Fin 3 → Nat) = fun _ => 0 := by decide

/-- A whole store made last is what the buffer reads. -/
theorem read_whole_store {e : EltTy} {sp : Space} (v : View sig .tc sp S512x1024 e) (f : v.ty.Contents (Elt F))
    (w : S512x1024.Idx → Elt F e) (L : List (View.Piece (Elt F) S512x1024 e)) :
    v.read (Elt F) (v.writes (Elt F) f ((⟨Rect.unit ![0, 0] S512x1024.size inb_S512x1024_S512x1024_0_0, w⟩ : View.Piece (Elt F) S512x1024 e) :: L)) = w := by
  rw [View.read_writes_eq_canon _ _ _ (fun y => ⟨_, List.mem_cons_self, View.mem_set_unit_zero zero2 inb_S512x1024_S512x1024_0_0 y⟩)]
  exact View.canon_cons_unit_zero zero2 _ w L

/-- A point past the used tiles touches nothing. -/
theorem body_unused (c : Dev nD) (i : grid0.Coords) (arg2 : Memref sig .tc .smem S264 .i32) (harg2 : arg2.IsWhole) (arg3 : Memref sig .tc .smem S1 .i32) (harg3 : arg3.IsWhole)
    (arg4 : Memref sig .tc .vmem S512x1024 .bf16) (harg4 : arg4.IsWhole) (arg5 : Memref sig .tc .vmem S512x256 .f32) (harg5 : arg5.IsWhole)
    (arg6 : Memref sig .tc .vmem S1x1024x1792 .bf16) (harg6 : arg6.IsWhole) (arg7 : Memref sig .tc .vmem S1x1024x1792 .bf16) (harg7 : arg7.IsWhole)
    (arg8 : Memref sig .tc .vmem S1x1792x1024 .bf16) (harg8 : arg8.IsWhole) (arg9 : Memref sig .tc .vmem S512x1024 .bf16) (harg9 : arg9.IsWhole)
    (arg10 : Memref sig .tc .vmem S512x1024 .f32) (harg10 : arg10.IsWhole)
    (q : PosShare TreeShare) (used : BitVec 32) (h1 : ¬ k0_cond1 i used = 1#1) (E : Set ℕ) (K : PUnit → sProp 𝕄) :
    iprop(owns (c : Thread nD τ) arg3 q (fun _ => used)
        ∗ (owns (c : Thread nD τ) arg3 q (fun _ => used) -∗ K ⟨⟩))
      ⊢ wp frame (wpE (defs₀ (F := F)) Variants.none c none) E
          (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f3, %hf3, H3⟩, Hk⟩
  obtain rfl := harg3.eq_unread hf3
  sl_exec
  have hr : body_unused.sl.r (F := F) c arg3 harg3 used = used := by
    unfold body_unused.sl.r
    rw [View.readAt_eq_ld, harg3.read_unread]
  rw [hr, dif_neg h1]
  sl_exec
  sl_step
  iapply Hk
  iexists _; isplitr
  swap; · iexact H3
  ipureintro; exact harg3.read_unread _

/-- The first chunk of a used tile leaves the accumulator at the chunk's product added to zeros. -/
theorem body_first (c : Dev nD) (i : grid0.Coords) (arg2 : Memref sig .tc .smem S264 .i32) (harg2 : arg2.IsWhole) (arg3 : Memref sig .tc .smem S1 .i32) (harg3 : arg3.IsWhole)
    (arg4 : Memref sig .tc .vmem S512x1024 .bf16) (harg4 : arg4.IsWhole) (arg5 : Memref sig .tc .vmem S512x256 .f32) (harg5 : arg5.IsWhole)
    (arg6 : Memref sig .tc .vmem S1x1024x1792 .bf16) (harg6 : arg6.IsWhole) (arg7 : Memref sig .tc .vmem S1x1024x1792 .bf16) (harg7 : arg7.IsWhole)
    (arg8 : Memref sig .tc .vmem S1x1792x1024 .bf16) (harg8 : arg8.IsWhole) (arg9 : Memref sig .tc .vmem S512x1024 .bf16) (harg9 : arg9.IsWhole)
    (arg10 : Memref sig .tc .vmem S512x1024 .f32) (harg10 : arg10.IsWhole)
    (q : PosShare TreeShare) (used : BitVec 32) (x : Vec F S512x1024 .bf16) (wg wu : Vec F S1x1024x1792 .bf16) (wd : Vec F S1x1792x1024 .bf16)
    (h1 : k0_cond1 i used = 1#1)
    (h2 : Scalar.cmpi .ne (Scalar.extui (Scalar.cmpi .eq (BitVec.ofNat 32 (i 1).val) 0#32) : BitVec 32) 0#32 = 1#1)
    (h3 : ¬ k0_cond3 i = 1#1) (E : Set ℕ) (K : PUnit → sProp 𝕄) :
    iprop(owns (c : Thread nD τ) arg3 q (fun _ => used) ∗ owns (c : Thread nD τ) arg4 fullShare x ∗ owns (c : Thread nD τ) arg6 fullShare wg
        ∗ owns (c : Thread nD τ) arg7 fullShare wu ∗ owns (c : Thread nD τ) arg8 fullShare wd ∗ (∃ d, owns (c : Thread nD τ) arg10 fullShare d)
        ∗ (iprop(owns (c : Thread nD τ) arg3 q (fun _ => used) ∗ owns (c : Thread nD τ) arg4 fullShare x ∗ owns (c : Thread nD τ) arg6 fullShare wg
            ∗ owns (c : Thread nD τ) arg7 fullShare wu ∗ owns (c : Thread nD τ) arg8 fullShare wd
            ∗ owns (c : Thread nD τ) arg10 fullShare (k0_pay2 x wg wu k0_pay1 wd)) -∗ K ⟨⟩))
      ⊢ wp frame (wpE (defs₀ (F := F)) Variants.none c none) E
          (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f3, %hf3, H3⟩, ⟨%f4, %hf4, H4⟩, ⟨%f6, %hf6, H6⟩, ⟨%f7, %hf7, H7⟩, ⟨%f8, %hf8, H8⟩, ⟨%d, %f10, -, H10⟩, Hk⟩
  obtain rfl := harg3.eq_unread hf3
  obtain rfl := harg4.eq_unread hf4
  obtain rfl := harg6.eq_unread hf6
  obtain rfl := harg7.eq_unread hf7
  obtain rfl := harg8.eq_unread hf8
  sl_exec
  have hr : body_first.sl.r (F := F) c arg3 harg3 used = used := by
    unfold body_first.sl.r
    rw [View.readAt_eq_ld, harg3.read_unread]
  have hv : body_first.sl.v22 (F := F) c arg10 = k0_pay1 := by
    unfold body_first.sl.v22 body_first.sl.H10_1
    exact View.readCov_unit_zero _ zero2 _ _
  rw [hr, dif_pos h1, hv]
  rw [View.readAt_eq_ld, View.readAt_eq_ld, View.readAt_eq_ld, View.readAt_eq_ld, harg4.read_unread, harg6.read_unread, harg7.read_unread, harg8.read_unread]
  sl_step
  iapply Hk
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  iexists _; isplitr
  swap; · iexact H10
  ipureintro
  rw [read_whole_store, View.ld_unit_zero (S := S512x1024) zero2, View.ld_unit_zero (S := S1x1024x1792) zero3, View.ld_unit_zero (S := S1x1024x1792) zero3,
    View.ld_unit_zero (S := S1x1792x1024) zero3]

/-- What the last chunk of a tile stores: the accumulator times the gate of the tile's expert. -/
def tileOut (i : grid0.Coords) (h3 : k0_cond3 i = 1#1) (g : Vec F S512x256 .f32) (T : Vec F S264 .i32) (acc : Vec F S512x1024 .f32) : Vec F S512x1024 .bf16 :=
  k0_pay3 (View.ld g (Rect.unit (s := S512x256) ![0, 0] S512x128.size inb_S512x256_S512x128_0_0))
    (View.ld g (Rect.unit (s := S512x256) ![0, 128] S512x128.size inb_S512x256_S512x128_0_128))
    (View.ld T (Rect.unit (s := S264) (k0_off2 i) S1.size (k0_off2_inb i h3)) (Shape.Idx.first (s := S1) (by decide))) acc

set_option maxHeartbeats 1000000 in
/-- The second chunk of a used tile adds its product to the accumulator, and stores the accumulator gated. -/
theorem body_second (c : Dev nD) (i : grid0.Coords) (arg2 : Memref sig .tc .smem S264 .i32) (harg2 : arg2.IsWhole) (arg3 : Memref sig .tc .smem S1 .i32) (harg3 : arg3.IsWhole)
    (arg4 : Memref sig .tc .vmem S512x1024 .bf16) (harg4 : arg4.IsWhole) (arg5 : Memref sig .tc .vmem S512x256 .f32) (harg5 : arg5.IsWhole)
    (arg6 : Memref sig .tc .vmem S1x1024x1792 .bf16) (harg6 : arg6.IsWhole) (arg7 : Memref sig .tc .vmem S1x1024x1792 .bf16) (harg7 : arg7.IsWhole)
    (arg8 : Memref sig .tc .vmem S1x1792x1024 .bf16) (harg8 : arg8.IsWhole) (arg9 : Memref sig .tc .vmem S512x1024 .bf16) (harg9 : arg9.IsWhole)
    (arg10 : Memref sig .tc .vmem S512x1024 .f32) (harg10 : arg10.IsWhole)
    (q : PosShare TreeShare) (used : BitVec 32) (x : Vec F S512x1024 .bf16) (wg wu : Vec F S1x1024x1792 .bf16) (wd : Vec F S1x1792x1024 .bf16)
    (T : Vec F S264 .i32) (g : Vec F S512x256 .f32) (acc : Vec F S512x1024 .f32)
    (h1 : k0_cond1 i used = 1#1)
    (h2 : ¬ Scalar.cmpi .ne (Scalar.extui (Scalar.cmpi .eq (BitVec.ofNat 32 (i 1).val) 0#32) : BitVec 32) 0#32 = 1#1)
    (h3 : k0_cond3 i = 1#1) (E : Set ℕ) (K : PUnit → sProp 𝕄) :
    iprop(owns (c : Thread nD τ) arg3 q (fun _ => used) ∗ owns (c : Thread nD τ) arg4 fullShare x ∗ owns (c : Thread nD τ) arg6 fullShare wg
        ∗ owns (c : Thread nD τ) arg7 fullShare wu ∗ owns (c : Thread nD τ) arg8 fullShare wd ∗ owns (c : Thread nD τ) arg10 fullShare acc ∗ owns (c : Thread nD τ) arg2 q T ∗ owns (c : Thread nD τ) arg5 fullShare g ∗ (∃ d, owns (c : Thread nD τ) arg9 fullShare d)
        ∗ (iprop(owns (c : Thread nD τ) arg3 q (fun _ => used) ∗ owns (c : Thread nD τ) arg4 fullShare x ∗ owns (c : Thread nD τ) arg6 fullShare wg
            ∗ owns (c : Thread nD τ) arg7 fullShare wu ∗ owns (c : Thread nD τ) arg8 fullShare wd
            ∗ owns (c : Thread nD τ) arg10 fullShare (k0_pay2 x wg wu acc wd) ∗ owns (c : Thread nD τ) arg2 q T ∗ owns (c : Thread nD τ) arg5 fullShare g
            ∗ owns (c : Thread nD τ) arg9 fullShare (tileOut i h3 g T (k0_pay2 x wg wu acc wd))) -∗ K ⟨⟩))
      ⊢ wp frame (wpE (defs₀ (F := F)) Variants.none c none) E
          (cc0_moe_ffn i arg2 harg2 arg3 harg3 arg4 harg4 arg5 harg5 arg6 harg6 arg7 harg7 arg8 harg8 arg9 harg9 arg10 harg10) K := by
  simp only [cc0_moe_ffn_eq_skeleton]; unfold cc0_moe_ffn_skel
  unfold owns
  iintro ⟨⟨%f3, %hf3, H3⟩, ⟨%f4, %hf4, H4⟩, ⟨%f6, %hf6, H6⟩, ⟨%f7, %hf7, H7⟩, ⟨%f8, %hf8, H8⟩, ⟨%f10, %hf10, H10⟩, ⟨%f2, %hf2, H2⟩, ⟨%f5, %hf5, H5⟩, ⟨%d, %f9, -, H9⟩, Hk⟩
  obtain rfl := harg3.eq_unread hf3
  obtain rfl := harg4.eq_unread hf4
  obtain rfl := harg6.eq_unread hf6
  obtain rfl := harg7.eq_unread hf7
  obtain rfl := harg8.eq_unread hf8
  obtain rfl := harg10.eq_unread hf10
  obtain rfl := harg2.eq_unread hf2
  obtain rfl := harg5.eq_unread hf5
  sl_exec
  have hr : body_second.sl.r (F := F) c arg3 harg3 used = used := by
    unfold body_second.sl.r
    rw [View.readAt_eq_ld, harg3.read_unread]
  have hL : body_second.sl.H10_1 (F := F) c arg4 harg4 arg6 harg6 arg7 harg7 arg8 harg8 arg10 harg10 x wg wu wd acc
      = [⟨Rect.unit ![0, 0] S512x1024.size inb_S512x1024_S512x1024_0_0, k0_pay2 x wg wu acc wd⟩] := by
    unfold body_second.sl.H10_1
    simp only [View.readAt_eq_ld]
    rw [harg4.read_unread, harg6.read_unread, harg7.read_unread, harg8.read_unread, harg10.read_unread,
      View.ld_unit_zero (S := S512x1024) zero2, View.ld_unit_zero (S := S1x1024x1792) zero3, View.ld_unit_zero (S := S1x1024x1792) zero3,
      View.ld_unit_zero (S := S512x1024) zero2, View.ld_unit_zero (S := S1x1792x1024) zero3]
  have hv : body_second.sl.v45 (F := F) c arg4 harg4 arg6 harg6 arg7 harg7 arg8 harg8 arg10 harg10 x wg wu wd acc = k0_pay2 x wg wu acc wd := by
    unfold body_second.sl.v45
    rw [hL]
    exact View.readCov_unit_zero _ zero2 _ _
  have ht : body_second.sl.r_1 (F := F) c i arg2 harg2 T h3
      = View.ld T (Rect.unit (s := S264) (k0_off2 i) S1.size (k0_off2_inb i h3)) (Shape.Idx.first (s := S1) (by decide)) := by
    unfold body_second.sl.r_1
    rw [View.readAt_eq_ld, harg2.read_unread]
  rw [hr, dif_pos h1, dif_pos h1, hL, hv, ht]
  simp only [View.readAt_eq_ld]
  rw [harg5.read_unread]
  sl_step
  iapply Hk
  isplitl [H3]
  · iexists _; isplitr
    swap; · iexact H3
    ipureintro; exact harg3.read_unread _
  isplitl [H4]
  · iexists _; isplitr
    swap; · iexact H4
    ipureintro; exact harg4.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H10]
  · iexists _; isplitr
    swap; · iexact H10
    ipureintro; exact read_whole_store _ _ _ _
  isplitl [H2]
  · iexists _; isplitr
    swap; · iexact H2
    ipureintro; exact harg2.read_unread _
  isplitl [H5]
  · iexists _; isplitr
    swap; · iexact H5
    ipureintro; exact harg5.read_unread _
  iexists _; isplitr
  swap; · iexact H9
  ipureintro
  exact read_whole_store _ _ _ _

end Cert.Ffn

end
-- ==== Proof.Ffn.Data.lean ====
/- What the expert call's buffers hold from point to point: the weights' and tokens' blocks, the accumulator after each
   chunk, the tile the last chunk stores; and the schedule of the output's write-backs, all at tables that give a number
   of used tiles and an expert for each tile. -/
module

public import proofs.«01_k».proof.Proof.Ffn.Table
public import proofs.«01_k».proof.Proof.Ffn.Body

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel2Ideal Cert.Kernel2Ideal.Gen

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c.tc : Thread nD τ).loc b))

/-- Window `w`'s block at point `t`, read off its array. -/
def blk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Pipeline.arrRef spec0 w))

/-- The point numbered `k`. -/
def pt (k : ℕ) : Fin (cfg0 a).N := ⟨k % 528, lt_of_lt_of_eq (Nat.mod_lt _ (by decide)) N_0.symm⟩

theorem pt_self (t : Fin (cfg0 a).N) : pt a t.val = t := Fin.ext (Nat.mod_eq_of_lt (point_lt t))

/-- The accumulator after a tile's first chunk, at the chunk's point; -/
def acc1 (c : Dev nD) (t : Fin (cfg0 a).N) : Vec F S512x1024 .f32 :=
  k0_pay2 (blk a W c 0 t) (blk a W c 2 t) (blk a W c 3 t) k0_pay1 (blk a W c 4 t)

/-- and after its second, at that chunk's point. -/
def acc2 (c : Dev nD) (t : Fin (cfg0 a).N) : Vec F S512x1024 .f32 :=
  k0_pay2 (blk a W c 0 t) (blk a W c 2 t) (blk a W c 3 t) (acc1 a W c (pt a (t.val - 1))) (blk a W c 4 t)

theorem last_chunk (k : ℕ) : k0_cond3 (grid0.coords (pt a (2 * k + 1))) = 1#1 := by
  rw [cond3_iff, coords1]
  show (2 * k + 1) % 528 % 2 = 1
  omega

/-- Tile `k`'s result. -/
def tile (c : Dev nD) (k : ℕ) : Vec F S512x1024 .bf16 :=
  tileOut (grid0.coords (pt a (2 * k + 1))) (last_chunk a k) (blk a W c 1 (pt a (2 * k + 1))) (a.1 0) (acc2 a W c (pt a (2 * k + 1)))

/-- Before point `n` the accumulator holds the first chunk's product, at the second chunk of a used tile; elsewhere
    anything. -/
def inv (c : Dev nD) (n : ℕ) : sProp 𝕄 :=
  iprop((∃ X : Vec F S512x1024 .f32, ⌜n % 2 = 1 → n / 2 < used a.1 → X = acc1 a W c (pt a (n - 1))⌝
      ∗ owns (c.tc : Thread nD τ) (Memref.whole cc0_scratch0) fullShare X)
    ∗ (∃ r, prngReg c r) ∗ Pipeline.ΦT pre0 a.1 c)

/-- The proof data: inputs stay at their blocks, the output's buffer holds the result of the tile the point is at, the
    last used one past the used tiles. -/
def dat (c : Dev nD) : Dat τ (Elt F) Unit ℕ (UR sig nD τ) ℕ (cfg0 a) c where
  A w := W c (Pipeline.arrRef spec0 w)
  after w t := match w with
    | ⟨0, _⟩ => blk a W c 0 t
    | ⟨1, _⟩ => blk a W c 1 t
    | ⟨2, _⟩ => blk a W c 2 t
    | ⟨3, _⟩ => blk a W c 3 t
    | ⟨4, _⟩ => blk a W c 4 t
    | ⟨5, _⟩ => tile a W c (min (t.val / 2) (used a.1 - 1))
  Φ n := inv a W c n.val
  q _ := fullShare
  owed _ := 0

theorem A_eq (c : Dev nD) (w : Fin (cfg0 a).W) : (dat a W c).A w = W c (Pipeline.arrRef spec0 w) := by dsimp only [dat]

theorem after_0 (c : Dev nD) (t : Fin (cfg0 a).N) : (dat a W c).after 0 t = blk a W c 0 t := by unfold dat; rfl
theorem after_1 (c : Dev nD) (t : Fin (cfg0 a).N) : (dat a W c).after 1 t = blk a W c 1 t := by unfold dat; rfl
theorem after_2 (c : Dev nD) (t : Fin (cfg0 a).N) : (dat a W c).after 2 t = blk a W c 2 t := by unfold dat; rfl
theorem after_3 (c : Dev nD) (t : Fin (cfg0 a).N) : (dat a W c).after 3 t = blk a W c 3 t := by unfold dat; rfl
theorem after_4 (c : Dev nD) (t : Fin (cfg0 a).N) : (dat a W c).after 4 t = blk a W c 4 t := by unfold dat; rfl
theorem after_5 (c : Dev nD) (t : Fin (cfg0 a).N) : (dat a W c).after 5 t = tile a W c (min (t.val / 2) (used a.1 - 1)) := by unfold dat; rfl

/-- Each input's buffer holds its block at every point. -/
theorem before_0 (c : Dev nD) (t : Fin (cfg0 a).N) (d) : (dat a W c).before 0 t d = blk a W c 0 t :=
  ((dat a W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 a).N) (d) : (dat a W c).before 1 t d = blk a W c 1 t :=
  ((dat a W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 a).N) (d) : (dat a W c).before 2 t d = blk a W c 2 t :=
  ((dat a W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 a).N) (d) : (dat a W c).before 3 t d = blk a W c 3 t :=
  ((dat a W c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin (cfg0 a).N) (d) : (dat a W c).before 4 t d = blk a W c 4 t :=
  ((dat a W c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

/-! The output's schedule. -/

variable (hg : Good a.1)

include hg in
theorem idle_out (t : Fin (cfg0 a).N) : (cfg0 a).idle 5 ((cfg0 a).grid.coords t) = !(decide (t.val / 2 < used a.1) && decide (t.val % 2 = 1)) := by
  show idle0 a.1 5 (grid0.coords t) = _
  rw [idle_iff hg]
  simp only [coords0, coords1]

include hg in
theorem index_out (t : Fin (cfg0 a).N) : ((cfg0 a).win 5).index t = ![min (t.val / 2) (used a.1 - 1), 0] := by
  show cc0_transform_5 inb_S1_S1_0 numel1_S1 a.1 (grid0.coords t) = _
  rw [row_index5, row_index hg]
  simp only [coords0]

include hg in
/-- The output's block is written back at the last chunk of every used tile but the last, and at the end. -/
theorem flush_out (t : Fin (cfg0 a).N) : ((cfg0 a).win 5).flush t = true ↔ t.val = 527 ∨ (t.val % 2 = 1 ∧ t.val / 2 + 1 < used a.1) := by
  have ht := point_lt t
  have hN : grid0.N = 528 := N_0
  have hp := hg.pos
  have hl := hg.le
  rw [Window.flush_eq_flushF]
  unfold Window.flushF
  rw [show ((cfg0 a).win 5).isOut = true from rfl, Bool.true_and, Bool.or_eq_true, decide_eq_true_iff, decide_eq_true_iff]
  constructor
  · rintro (h | ⟨h, x, hx⟩)
    · left
      have h' : t.val + 1 = grid0.N := h
      omega
    · rw [index_out a hg, index_out a hg] at hx
      have h' : t.val + 1 < grid0.N := h
      right
      have hne : min ((t.val + 1) / 2) (used a.1 - 1) ≠ min (t.val / 2) (used a.1 - 1) := by
        intro e
        apply hx
        show (![min ((t.val + 1) / 2) (used a.1 - 1), 0] : Fin 2 → ℕ) x = _
        rw [e]
      omega
  · rintro (h | ⟨h1, h2⟩)
    · left
      show t.val + 1 = grid0.N
      omega
    · right
      have hlt : t.val + 1 < grid0.N := by omega
      refine ⟨hlt, (0 : Fin 2), ?_⟩
      rw [index_out a hg, index_out a hg]
      show min ((t.val + 1) / 2) (used a.1 - 1) ≠ min (t.val / 2) (used a.1 - 1)
      omega

include hg in
/-- The output's buffer holds nothing stored until the last used tile's last chunk has stored it. -/
theorem fresh_out : ∀ n : ℕ, n < 528 → (cfg0 a).fresh 5 n = decide (n < 2 * used a.1)
  | 0, _ => by
    have := hg.pos
    rw [Cfg.fresh_zero]
    exact (decide_eq_true (by omega)).symm
  | n + 1, h => by
    have hp := hg.pos
    have hN : n < (cfg0 a).N := lt_of_lt_of_eq (by omega : n < 528) N_0.symm
    rw [Cfg.fresh_succ _ _ _ hN, fresh_out n (by omega), idle_out a hg]
    rw [Bool.eq_iff_iff]
    simp only [Bool.or_eq_true, Bool.and_eq_true, Bool.not_eq_true', Bool.and_eq_false_iff, decide_eq_false_iff_not, decide_eq_true_iff]
    rw [flush_out a hg]
    show (n = 527 ∨ _) ∨ _ ↔ _
    dsimp only
    omega

include hg in
/-- What the body finds in the output's buffer. -/
theorem before_5 (c : Dev nD) (t : Fin (cfg0 a).N) (d) :
    (dat a W c).before 5 t d = if (cfg0 a).fresh 5 t.val then d else (dat a W c).after 5 ⟨t.val - 1, by omega⟩ := by
  refine (dat a W c).before_out_traj 5 rfl (fun _ _ => rfl) ?_ t.val t rfl d
  intro t ht hi hf
  have hlt := point_lt t
  have hp := hg.pos
  rw [fresh_out a hg _ hlt, decide_eq_false_iff_not] at hf
  rw [after_5, after_5]
  refine congrArg (tile a W c) ?_
  show _ = min ((t.val - 1) / 2) (used a.1 - 1)
  omega

end Cert.Ffn

end
-- ==== Proof.Ffn.Run.lean ====
/- The expert call's body at every point of its grid, and its run from good tables. -/
module

public import proofs.«01_k».proof.Proof.Ffn.Data

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel2Ideal Cert.Kernel2Ideal.Gen

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c.tc : Thread nD τ).loc b))

/-- The two tables, as the body reads them: the experts, and the number of used tiles. -/
theorem tables (c : Dev nD) : (Pipeline.ΦT pre0 a.1 c : sProp 𝕄)
    = iprop(owns (c.tc : Thread nD τ) (Memref.whole main_v14) fullShare.right (a.1 0 : Vec F S264 .i32)
      ∗ owns (c.tc : Thread nD τ) (Memref.whole main_arg1) fullShare.right (fun _ => BitVec.ofNat 32 (used a.1) : Vec F S1 .i32)) := by
  have h1 : (fun _ => BitVec.ofNat 32 (used a.1) : Vec F S1 .i32) = a.1 1 := funext fun x => (used_word (pf := a.1) x).symm
  rw [h1, owns_whole (c.tc : Thread nD τ) main_v14 fullShare.right (a.1 0), owns_whole (c.tc : Thread nD τ) main_arg1 fullShare.right (a.1 1)]
  exact bigSep_univ_eq_bigSepL [(0 : Fin 2), (1 : Fin 2)] (by decide) (by decide) _

/-- The body at point `t`, on the windows' current buffers. -/
abbrev bodyAt (t : Fin (cfg0 a).N) : Prog (TpuEff nD τ sig (Elt F) Λ₀ .tc) PUnit :=
  cc0_moe_ffn (grid0.coords t) (Memref.whole main_v14) (Memref.isWhole_whole _) (Memref.whole main_arg1) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (spec0_5.stage ((cfg0 a).slots t 5)) (hstage0_5 (((cfg0 a).slots t 5).cast nbuf0_5))
    (Memref.whole cc0_scratch0) (Memref.isWhole_whole _)

abbrev mem0 (t : Fin (cfg0 a).N) : Memref sig .tc .vmem S512x1024 .bf16 := spec0_0.stage ((cfg0 a).slots t 0)
abbrev mem1 (t : Fin (cfg0 a).N) : Memref sig .tc .vmem S512x256 .f32 := spec0_1.stage ((cfg0 a).slots t 1)
abbrev mem2 (t : Fin (cfg0 a).N) : Memref sig .tc .vmem S1x1024x1792 .bf16 := spec0_2.stage ((cfg0 a).slots t 2)
abbrev mem3 (t : Fin (cfg0 a).N) : Memref sig .tc .vmem S1x1024x1792 .bf16 := spec0_3.stage ((cfg0 a).slots t 3)
abbrev mem4 (t : Fin (cfg0 a).N) : Memref sig .tc .vmem S1x1792x1024 .bf16 := spec0_4.stage ((cfg0 a).slots t 4)
abbrev mem5 (t : Fin (cfg0 a).N) : Memref sig .tc .vmem S512x1024 .bf16 := spec0_5.stage ((cfg0 a).slots t 5)

/-- What the body leaves of the output's buffer. -/
def left5 (c : Dev nD) (t : Fin (cfg0 a).N) : sProp 𝕄 :=
  match (cfg0 a).idle 5 ((cfg0 a).grid.coords t) with
  | true =>
    match ((cfg0 a).win 5).flush t with
    | false => iprop(∃ d, owns (c.tc : Thread nD τ) (mem5 a t) fullShare ((dat a W c).before 5 t d))
    | true => owns (c.tc : Thread nD τ) (mem5 a t) fullShare ((dat a W c).after 5 t)
  | false => owns (c.tc : Thread nD τ) (mem5 a t) fullShare ((dat a W c).after 5 t)

def bodyPre (c : Dev nD) (t : Fin (cfg0 a).N) : sProp 𝕄 :=
  iprop((dat a W c).Φ t.castSucc ∗ (dat a W c).owesAt () t.castSucc
    ∗ (∃ d, owns (c.tc : Thread nD τ) (mem0 a t) fullShare ((dat a W c).before 0 t d))
    ∗ (∃ d, owns (c.tc : Thread nD τ) (mem1 a t) fullShare ((dat a W c).before 1 t d))
    ∗ (∃ d, owns (c.tc : Thread nD τ) (mem2 a t) fullShare ((dat a W c).before 2 t d))
    ∗ (∃ d, owns (c.tc : Thread nD τ) (mem3 a t) fullShare ((dat a W c).before 3 t d))
    ∗ (∃ d, owns (c.tc : Thread nD τ) (mem4 a t) fullShare ((dat a W c).before 4 t d))
    ∗ (∃ d, owns (c.tc : Thread nD τ) (mem5 a t) fullShare ((dat a W c).before 5 t d)))

def bodyPost (c : Dev nD) (t : Fin (cfg0 a).N) : sProp 𝕄 :=
  iprop((dat a W c).Φ t.succ ∗ (dat a W c).owesAt () t.succ
    ∗ owns (c.tc : Thread nD τ) (mem0 a t) fullShare ((dat a W c).after 0 t)
    ∗ owns (c.tc : Thread nD τ) (mem1 a t) fullShare ((dat a W c).after 1 t)
    ∗ owns (c.tc : Thread nD τ) (mem2 a t) fullShare ((dat a W c).after 2 t)
    ∗ owns (c.tc : Thread nD τ) (mem3 a t) fullShare ((dat a W c).after 3 t)
    ∗ owns (c.tc : Thread nD τ) (mem4 a t) fullShare ((dat a W c).after 4 t)
    ∗ left5 a W c t)

/-- The invariant before a point and after it. -/
theorem Φ_before (c : Dev nD) (t : Fin (cfg0 a).N) : (dat a W c).Φ t.castSucc = inv a W c t.val := by unfold dat; rfl
theorem Φ_after (c : Dev nD) (t : Fin (cfg0 a).N) : (dat a W c).Φ t.succ = inv a W c (t.val + 1) := by unfold dat; rfl
theorem owes_same (c : Dev nD) (t : Fin (cfg0 a).N) : (dat a W c).owesAt () t.succ = (dat a W c).owesAt () t.castSucc := by unfold dat; rfl

variable (hg : Good a.1)

include hg in
/-- Past the used tiles the output's buffer stays at the last used tile's result. -/
theorem left_unused (c : Dev nD) (t : Fin (cfg0 a).N) (h : used a.1 ≤ t.val / 2) :
    left5 a W c t = if ((cfg0 a).win 5).flush t then owns (c.tc : Thread nD τ) (mem5 a t) fullShare ((dat a W c).after 5 t)
      else iprop(∃ d, owns (c.tc : Thread nD τ) (mem5 a t) fullShare ((dat a W c).before 5 t d)) := by
  have hi : (cfg0 a).idle 5 ((cfg0 a).grid.coords t) = true := by
    rw [idle_out a hg, decide_eq_false (by omega)]
    rfl
  unfold left5
  rw [hi]
  cases ((cfg0 a).win 5).flush t <;> rfl

include hg in
theorem before_unused (c : Dev nD) (t : Fin (cfg0 a).N) (h : used a.1 ≤ t.val / 2) (d) : (dat a W c).before 5 t d = (dat a W c).after 5 t := by
  have hlt := point_lt t
  have hp := hg.pos
  rw [before_5 a W hg, fresh_out a hg _ hlt, decide_eq_false (by omega), if_neg Bool.false_ne_true, after_5, after_5]
  refine congrArg (tile a W c) ?_
  show min ((t.val - 1) / 2) (used a.1 - 1) = _
  omega

include hg in
theorem left_first (c : Dev nD) (t : Fin (cfg0 a).N) (h : t.val / 2 < used a.1) (h2 : t.val % 2 = 0) :
    left5 a W c t = iprop(∃ d, owns (c.tc : Thread nD τ) (mem5 a t) fullShare ((dat a W c).before 5 t d)) := by
  have hi : (cfg0 a).idle 5 ((cfg0 a).grid.coords t) = true := by
    rw [idle_out a hg, decide_eq_false (by omega : ¬ t.val % 2 = 1), Bool.and_false]
    rfl
  have hf : ((cfg0 a).win 5).flush t = false := by
    rw [Bool.eq_false_iff, ne_eq, flush_out a hg]
    omega
  unfold left5
  rw [hi, hf]

include hg in
theorem left_second (c : Dev nD) (t : Fin (cfg0 a).N) (h : t.val / 2 < used a.1) (h2 : t.val % 2 = 1) :
    left5 a W c t = owns (c.tc : Thread nD τ) (mem5 a t) fullShare ((dat a W c).after 5 t) := by
  have hi : (cfg0 a).idle 5 ((cfg0 a).grid.coords t) = false := by
    rw [idle_out a hg, decide_eq_true h, decide_eq_true h2]
    rfl
  unfold left5
  rw [hi]

include hg in
theorem sound_unused (c : Dev nD) (t : Fin (cfg0 a).N) (h : used a.1 ≤ t.val / 2) :
    bodyPre a W c t ⊢ wp frame (wpE (defs₀ (F := F)) Variants.none c none) Set.univ (bodyAt a t) (fun _ => bodyPost a W c t) := by
  have hlt := point_lt t
  unfold bodyPre bodyPost bodyAt
  simp only [before_0, before_1, before_2, before_3, before_4, after_0, after_1, after_2, after_3, after_4]
  simp only [before_unused a W hg c t h, left_unused a W hg c t h]
  rw [Φ_before, Φ_after, owes_same]
  unfold inv
  rw [tables]
  iintro ⟨⟨⟨%X, %hX, Hs⟩, Hr, Ht0, Ht1⟩, Ho, ⟨%d0, H0⟩, ⟨%d1, H1⟩, ⟨%d2, H2⟩, ⟨%d3, H3⟩, ⟨%d4, H4⟩, ⟨%d5, H5⟩⟩
  iapply (body_unused c (grid0.coords t) _ _ _ _ _ _ _ _ _ _ _ _ _ _ _ _ _ _ fullShare.right (BitVec.ofNat 32 (used a.1))
    (by rw [cond1_iff _ hg.le, coords0]; omega) Set.univ _)
  isplitl [Ht1]; · iexact Ht1
  iintro Ht1
  isplitl [Hs Hr Ht0 Ht1]
  · isplitl [Hs]
    · iexists X
      isplitr
      · ipureintro
        intro _ h3
        omega
      · iexact Hs
    isplitl [Hr]; · iexact Hr
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  by_cases hf : ((cfg0 a).win 5).flush t
  · rw [if_pos hf]
    iexact H5
  · rw [if_neg hf]
    iexists d5
    iexact H5

include hg in
theorem sound_first (c : Dev nD) (t : Fin (cfg0 a).N) (h : t.val / 2 < used a.1) (h2 : t.val % 2 = 0) :
    bodyPre a W c t ⊢ wp frame (wpE (defs₀ (F := F)) Variants.none c none) Set.univ (bodyAt a t) (fun _ => bodyPost a W c t) := by
  have hlt := point_lt t
  unfold bodyPre bodyPost bodyAt
  simp only [before_0, before_1, before_2, before_3, before_4, after_0, after_1, after_2, after_3, after_4]
  simp only [left_first a W hg c t h h2]
  rw [Φ_before, Φ_after, owes_same]
  unfold inv
  rw [tables]
  iintro ⟨⟨⟨%X, %hX, Hs⟩, Hr, Ht0, Ht1⟩, Ho, ⟨%d0, H0⟩, ⟨%d1, H1⟩, ⟨%d2, H2⟩, ⟨%d3, H3⟩, ⟨%d4, H4⟩, H5⟩
  iapply (body_first c (grid0.coords t) _ _ _ _ _ _ _ _ _ _ _ _ _ _ _ _ _ _ fullShare.right (BitVec.ofNat 32 (used a.1))
    (blk a W c 0 t) (blk a W c 2 t) (blk a W c 3 t) (blk a W c 4 t)
    (by rw [cond1_iff _ hg.le, coords0]; exact h) (by rw [first_iff, coords1]; exact h2) (by rw [cond3_iff, coords1]; omega) Set.univ _)
  isplitl [Ht1]; · iexact Ht1
  isplitl [H0]; · iexact H0
  isplitl [H2]; · iexact H2
  isplitl [H3]; · iexact H3
  isplitl [H4]; · iexact H4
  isplitl [Hs]; · iexists X; iexact Hs
  iintro ⟨Ht1, H0, H2, H3, H4, Hs⟩
  isplitl [Hs Hr Ht0 Ht1]
  · isplitl [Hs]
    · iexists _
      isplitr
      swap; · iexact Hs
      ipureintro
      intro _ _
      rw [Nat.add_sub_cancel, pt_self]
      rfl
    isplitl [Hr]; · iexact Hr
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  iexact H5

/-- A used tile's result, at its last chunk's point. -/
theorem tile_at (c : Dev nD) (t : Fin (cfg0 a).N) (h : t.val / 2 < used a.1) (h2 : t.val % 2 = 1) (h3 : k0_cond3 (grid0.coords t) = 1#1) :
    tile a W c (min (t.val / 2) (used a.1 - 1)) = tileOut (grid0.coords t) h3 (blk a W c 1 t) (a.1 0) (acc2 a W c t) := by
  have e : pt a (2 * min (t.val / 2) (used a.1 - 1) + 1) = t := by
    rw [show 2 * min (t.val / 2) (used a.1 - 1) + 1 = t.val by omega, pt_self]
  unfold tile
  generalize last_chunk a (min (t.val / 2) (used a.1 - 1)) = hl
  revert hl
  rw [e]
  intro hl
  rfl

include hg in
theorem sound_second (c : Dev nD) (t : Fin (cfg0 a).N) (h : t.val / 2 < used a.1) (h2 : t.val % 2 = 1) :
    bodyPre a W c t ⊢ wp frame (wpE (defs₀ (F := F)) Variants.none c none) Set.univ (bodyAt a t) (fun _ => bodyPost a W c t) := by
  have hlt := point_lt t
  have h3 : k0_cond3 (grid0.coords t) = 1#1 := by rw [cond3_iff, coords1]; exact h2
  unfold bodyPre bodyPost bodyAt
  simp only [before_0, before_1, before_2, before_3, before_4, after_0, after_1, after_2, after_3, after_4]
  simp only [left_second a W hg c t h h2, after_5, tile_at a W c t h h2 h3]
  rw [Φ_before, Φ_after, owes_same]
  unfold inv
  rw [tables]
  iintro ⟨⟨⟨%X, %hX, Hs⟩, Hr, Ht0, Ht1⟩, Ho, ⟨%d0, H0⟩, ⟨%d1, H1⟩, ⟨%d2, H2⟩, ⟨%d3, H3⟩, ⟨%d4, H4⟩, ⟨%d5, H5⟩⟩
  obtain rfl := hX h2 h
  iapply (body_second c (grid0.coords t) _ _ _ _ _ _ _ _ _ _ _ _ _ _ _ _ _ _ fullShare.right (BitVec.ofNat 32 (used a.1))
    (blk a W c 0 t) (blk a W c 2 t) (blk a W c 3 t) (blk a W c 4 t) (a.1 0) (blk a W c 1 t) (acc1 a W c (pt a (t.val - 1)))
    (by rw [cond1_iff _ hg.le, coords0]; exact h) (by rw [first_iff, coords1]; omega) h3 Set.univ _)
  isplitl [Ht1]; · iexact Ht1
  isplitl [H0]; · iexact H0
  isplitl [H2]; · iexact H2
  isplitl [H3]; · iexact H3
  isplitl [H4]; · iexact H4
  isplitl [Hs]; · iexact Hs
  isplitl [Ht0]; · iexact Ht0
  isplitl [H1]; · iexact H1
  isplitl [H5]; · iexists _; iexact H5
  iintro ⟨Ht1, H0, H2, H3, H4, Hs, Ht0, H1, H5⟩
  isplitl [Hs Hr Ht0 Ht1]
  · isplitl [Hs]
    · iexists _
      isplitr
      swap; · iexact Hs
      ipureintro
      intro h4 _
      omega
    isplitl [Hr]; · iexact Hr
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfg0 a).N) :
    defs₀ (F := F) .tc (cfg0 a).body ((cfg0 a).bodyArgs t ((cfg0 a).slots t)) = bodyAt a t := by
  unfold defs₀; rw [Defs.onTc_tc]

include hg in
theorem body_obligation (c : Dev nD) : BodyObligation (dat a W c) (defs₀ (F := F)) Variants.none () Set.univ := fun t => by
  rw [bigSep_W0, bigSep_W0, defs₀_row]
  have hs : bodyPre a W c t ⊢ wp frame (wpE (defs₀ (F := F)) Variants.none c none) Set.univ (bodyAt a t) (fun _ => bodyPost a W c t) := by
    by_cases h : t.val / 2 < used a.1
    · obtain h2 | h2 := Nat.mod_two_eq_zero_or_one t.val
      · exact sound_first a W hg c t h h2
      · exact sound_second a W hg c t h h2
    · exact sound_unused a W hg c t (by omega)
  exact triple_restated hs rfl .rfl fun _ => .rfl

end Cert.Ffn

end
-- ==== Proof.Ffn.Launch.lean ====
/- The run of the expert call from any memory whose tables are good, and its frame. -/
module

public import proofs.«01_k».proof.Proof.Ffn.Run

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: after the host operations before it. -/
def V (c : Dev nD) (b : Ref sig .tc) : Buf (Elt F) ((c.tc : Thread nD τ).loc b) := StableHlo.after hostOps0 (fun b => m (c, b)) b

/-- The two tables. -/
def tbl : pre0.Contents (Elt F) := fun k => V m 0 (pre0.ref k)

variable (hg : Good (tbl m))

/-- The tables with the call's side conditions. -/
def adm : (pcfg0 (F := F)).Adm := ⟨tbl m, ok_of_good hg⟩

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

/-- The arguments are as launched when the call starts. -/
theorem V_of_not_written (c : Dev nD) (b : Ref sig .tc) (h : hostOps0.Forall fun op : HloOp τ sig (Elt F) => Proc.devRef .tc b ∉ op.writes) :
    V m c b = m ((c.tc : Thread nD τ).loc b) :=
  StableHlo.after_of_forall_not_mem (b := Proc.devRef .tc b) _ _ (List.forall_iff_forall_mem.mp h)

theorem V_arg0 (c : Dev nD) : V m c main_arg0 = m ((c.tc : Thread nD τ).loc main_arg0) :=
  V_of_not_written m c main_arg0 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg1 (c : Dev nD) : V m c main_arg1 = m ((c.tc : Thread nD τ).loc main_arg1) :=
  V_of_not_written m c main_arg1 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg2 (c : Dev nD) : V m c main_arg2 = m ((c.tc : Thread nD τ).loc main_arg2) :=
  V_of_not_written m c main_arg2 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg3 (c : Dev nD) : V m c main_arg3 = m ((c.tc : Thread nD τ).loc main_arg3) :=
  V_of_not_written m c main_arg3 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg4 (c : Dev nD) : V m c main_arg4 = m ((c.tc : Thread nD τ).loc main_arg4) :=
  V_of_not_written m c main_arg4 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg5 (c : Dev nD) : V m c main_arg5 = m ((c.tc : Thread nD τ).loc main_arg5) :=
  V_of_not_written m c main_arg5 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg6 (c : Dev nD) : V m c main_arg6 = m ((c.tc : Thread nD τ).loc main_arg6) :=
  V_of_not_written m c main_arg6 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem inv_start (a : (pcfg0 (F := F)).Adm) (W : (c : Dev nD) → (b : Ref sig .tc) → Buf (Elt F) ((c.tc : Thread nD τ).loc b)) (c : Dev nD) :
    iprop(Pipeline.ΦA spec0 c ∗ Pipeline.ΦT pre0 a.1 c) ⊢ inv a W c 0 := by
  unfold Pipeline.ΦA inv
  rw [scopedRest0_eq]
  iintro ⟨⟨⟨%f, Hs⟩, Hr⟩, Ht⟩
  isplitl [Hs]
  · iexists (f : Vec F S512x1024 .f32)
    isplitr
    · ipureintro
      intro h
      exact absurd h (by decide)
    · rw [owns_whole (c.tc : Thread nD τ) cc0_scratch0 fullShare f]
      iexact Hs
  isplitl [Hr]; · iexact Hr
  iexact Ht

theorem inv_end (a : (pcfg0 (F := F)).Adm) (W : (c : Dev nD) → (b : Ref sig .tc) → Buf (Elt F) ((c.tc : Thread nD τ).loc b)) (c : Dev nD) (n : ℕ) :
    inv a W c n ⊢ Pipeline.ΦA spec0 c := by
  unfold Pipeline.ΦA inv
  rw [scopedRest0_eq]
  iintro ⟨⟨%X, %hX, Hs⟩, Hr, Ht⟩
  iclear Ht
  isplitl [Hs]
  · iexists X
    rw [owns_whole (c.tc : Thread nD τ) cc0_scratch0 fullShare X]
    exact .rfl
  iexact Hr

/-- The run's data. -/
def dats (_ : Fin 1) (c : Dev nD) : Dat τ (Elt F) Unit ℕ (UR sig nD τ) ℕ (cfg0 (adm m hg)) c := dat (adm m hg) (V m) c

set_option backward.isDefEq.respectTransparency.types false in
/-- Every execution ends, with each array at what the data say and every semaphore counter at zero. -/
theorem run_quiescent : θ_run defs (onTc (τ := τ) (main (F := F))) (s₀ m ρ)
    (fun r => (Pipeline.FramePost (Pipeline.pin (pcfgs (F := F)) (fun _ => adm m hg)) (dats m hg) 0 (V m)) r ∧ r.2.sem = fun _ => 0) :=
  Pipeline.θ_run_frameP_track (Q' := _) pcfgs (fun _ => adm m hg) (dats m hg) (0 : Fin 1) launch0 defs₀ Variants.none m ρ main
    (hbody := fun c => (body_obligation (adm m hg) (V m) hg c).loose) (hshare := fun _ w => by unfold dats dat Dat.share; fin_cases w <;> rfl)
    (howed := fun _ _ => rfl) (V := V m) (hmain := hmain m) (hA := fun c w => A_eq (adm m hg) (V m) c w)
    (hpf := fun c k => by obtain rfl : c = 0 := Subsingleton.elim _ _; rfl)
    (hin := fun c => inv_start (adm m hg) (V m) c) (hout := fun c => inv_end (adm m hg) (V m) c _)

end Cert.Ffn

end
-- ==== Proof.Ffn.Entry.lean ====
/- The tables the expert call prefetches, from its arguments: the number of used tiles as it is, and at each tile the
   expert of that tile or, past the used ones, of the last used one. -/
module

public import proofs.«01_k».proof.Proof.Ffn.Launch
public import proofs.«01_k».proof.Proof.Gen.Pre_routed
public import Idealize.ShloMosaic.Lib.ReduceAll
public import Idealize.ShloMosaic.Lib.Pointwise
public import Idealize.ShloMosaic.Lib.ValueIdx
public import Idealize.ShloMosaic.Lib.StableHlo.ReadAt

@[expose] public section

set_option maxRecDepth 16384

noncomputable section

namespace Cert.Ffn

open Idealize.ShloMosaic Idealize.ShloMosaic.TcCoe Idealize.ShloMosaic.Tactic
open Cert.Kernel2Ideal Cert.Kernel2Ideal.Gen

variable {F : FTy → Type} [FloatOps F]

/-- The look-up in the experts' table at a place. -/
theorem lookup_at (x : S264.Idx → BitVec 32) (idx : S264x1.Idx → BitVec 32) (k : Fin 264) (n : ℕ) (hn : n < 264)
    (hw : (idx (ix2 k 0)).toInt = (n : ℤ)) :
    Host.gather gather_S264_S264x1_S264_n_0_n_n_0_1_1 x idx (ix1 k) = x (ix1 ⟨n, hn⟩) := by
  show x _ = x _
  refine congrArg x ?_
  have hi : ∀ p, (gather_S264_S264x1_S264_n_0_n_n_0_1_1.siIdx (ix1 k) p) = ix2 k 0 := by
    intro p
    funext a
    fin_cases a
    · rfl
    · apply Fin.ext
      exact Nat.lt_one_iff.mp (Fin.isLt _)
  funext a
  apply Fin.ext
  fin_cases a
  show gather_S264_S264x1_S264_n_0_n_n_0_1_1.start (ix1 k) idx 0 + gather_S264_S264x1_S264_n_0_n_n_0_1_1.batchCoord (ix1 k) 0 + gather_S264_S264x1_S264_n_0_n_n_0_1_1.offCoord (ix1 k) 0 = n
  rw [GatherDims.start, dif_pos (by decide), GatherDims.batchCoord_eq_zero _ _ _ (by decide), GatherDims.offCoord_eq_zero _ _ _ (by decide), hi, hw]
  show min ((n : ℤ).toNat) (264 - 1) + 0 + 0 = n
  omega

/-- The look-up's index word: the tile, at most the last used one. -/
theorem tile_word {a u : ℕ} (ha : a < 264) (h1 : 1 ≤ u) (hu : u ≤ 264) :
    (Scalar.select (IntOp.cmpi .slt (IntOp.minsi (BitVec.ofNat 32 a) (IntOp.subi (BitVec.ofNat 32 u) 1#32)) 0#32)
      (IntOp.addi (IntOp.minsi (BitVec.ofNat 32 a) (IntOp.subi (BitVec.ofNat 32 u) 1#32)) 264#32)
      (IntOp.minsi (BitVec.ofNat 32 a) (IntOp.subi (BitVec.ofNat 32 u) 1#32))).toInt = ((min a (u - 1) : ℕ) : ℤ) := by
  have e : IntOp.minsi (BitVec.ofNat 32 a) (IntOp.subi (BitVec.ofNat 32 u) 1#32) = BitVec.ofNat 32 (min a (u - 1)) := by
    apply BitVec.eq_of_toNat_eq
    refine (minsi_pred ha h1 hu).trans ?_
    rw [BitVec.toNat_ofNat]
    omega
  rw [e]
  have hb : min a (u - 1) < 264 := by omega
  generalize min a (u - 1) = b at hb
  have hc : IntOp.cmpi .slt (BitVec.ofNat 32 b) 0#32 = 0#1 := by
    word_cmp
  rw [hc]
  exact WordCmp.toInt_ofNat_of_lt (by omega)

/-- The prefetched experts. -/
theorem experts_at (W : Valuation τ sig (Elt F)) (u : ℕ) (h1 : 1 ≤ u) (hu : u ≤ 264)
    (hw : ∀ x, (W main_arg1 : S1.Idx → BitVec 32) x = BitVec.ofNat 32 u) (k : Fin 264) :
    (StableHlo.after (hostOps0 (F := F)) W main_v14 : S264.Idx → BitVec 32) (ix1 k) = (W main_arg0 : S264.Idx → BitVec 32) (ix1 ⟨min k (u - 1), by omega⟩) := by
  after_reads_at
  refine lookup_at _ _ k (min k (u - 1)) (by omega) ?_
  pointwise
  rw [hw (ix1 0)]
  exact tile_word k.isLt h1 hu

theorem toInt_of_sge {w : BitVec 32} {k : ℤ} {v : BitVec 32} (hv : v.toInt = k) (h : IntOp.cmpi .sge w v = 1#1) : k ≤ w.toInt := by
  have h' : BitVec.ofBool (v.sle w) = 1#1 := h
  rw [BitVec.sle, hv] at h'
  by_contra hn
  rw [decide_eq_false hn] at h'
  exact absurd h' (by decide)

theorem toInt_of_sle {w : BitVec 32} {k : ℤ} {v : BitVec 32} (hv : v.toInt = k) (h : IntOp.cmpi .sle w v = 1#1) : w.toInt ≤ k := by
  have h' : BitVec.ofBool (w.sle v) = 1#1 := h
  rw [BitVec.sle, hv] at h'
  by_contra hn
  rw [decide_eq_false hn] at h'
  exact absurd h' (by decide)

theorem toInt_of_slt {w : BitVec 32} {k : ℤ} {v : BitVec 32} (hv : v.toInt = k) (h : IntOp.cmpi .slt w v = 1#1) : w.toInt < k := by
  have h' : BitVec.ofBool (w.slt v) = 1#1 := h
  rw [BitVec.slt, hv] at h'
  by_contra hn
  rw [decide_eq_false hn] at h'
  exact absurd h' (by decide)

theorem toNat_of_toInt {w : BitVec 32} (h : 0 ≤ w.toInt) : (w.toNat : ℤ) = w.toInt := by
  have := BitVec.toInt_eq_toNat_cond w
  have hl := w.isLt
  split at this <;> omega

/-- What the precondition says: every tile's expert is one of the eight, and some tile, no more than all, is used. -/
theorem routed_facts (T : S264.Idx → BitVec 32) (U : S1.Idx → BitVec 32) (X : FVec F S135168x1024 .bf16) (G : FVec F S135168x256 .f32)
    (A B : FVec F S8x1024x3584 .f32) (D : FVec F S8x3584x1024 .f32) (h : Cert.Pre_routed.fn (F := F) T U X G A B D = fun _ => 1#1) :
    (∀ x, (T x).toNat < 8) ∧ ∀ x, 1 ≤ (U x).toNat ∧ (U x).toNat ≤ 264 := by
  have h0 := congrFun h ix0
  dsimp only [Cert.Pre_routed.fn] at h0
  obtain ⟨h1, h2⟩ := IntOp.andi_eq_one.1 h0
  obtain ⟨h3, h4⟩ := IntOp.andi_eq_one.1 h1
  obtain ⟨h5, h6⟩ := IntOp.andi_eq_one.1 h3
  have : Subsingleton Cert.Pre_routed.S_.Idx := ⟨fun a b => funext fun i => i.elim0⟩
  constructor
  · intro x
    have e5 := toInt_of_sge (w := T x) (v := 0#32) (k := 0) (by decide) (Host.reduce_andi_all _ _ _ _ _ h5 x)
    have e6 := toInt_of_slt (w := T x) (v := 8#32) (k := 8) (by decide) (Host.reduce_andi_all _ _ _ _ _ h6 x)
    have := toNat_of_toInt e5
    omega
  · intro x
    have e4 := toInt_of_sge (w := U x) (v := 1#32) (k := 1) (by decide) (Host.reduce_andi_all _ _ _ _ _ h4 x)
    have e2 := toInt_of_sle (w := U x) (v := 264#32) (k := 264) (by decide) (Host.reduce_andi_all _ _ _ _ _ h2 x)
    have := toNat_of_toInt (w := U x) (by omega)
    omega

variable (m : (ℓ : Loc nD τ sig) → Buf (Elt F) ℓ)

/-- The experts' table and the number of used tiles as launched. -/
def argT (c : Dev nD) : S264.Idx → BitVec 32 := m ((c.tc : Thread nD τ).loc main_arg0)
def argU (c : Dev nD) : S1.Idx → BitVec 32 := m ((c.tc : Thread nD τ).loc main_arg1)

theorem used_tbl : used (tbl m) = (argU m 0 (ix1 0)).toNat := by
  unfold used tbl argU
  exact congrArg BitVec.toNat (congrFun (V_arg1 m 0) (ix1 0))

theorem good_of (hT : ∀ x, (argT m 0 x).toNat < 8) (hU : ∀ x, 1 ≤ (argU m 0 x).toNat ∧ (argU m 0 x).toNat ≤ 264) : Good (tbl m) where
  pos := by rw [used_tbl]; exact (hU _).1
  le := by rw [used_tbl]; exact (hU _).2
  expert x := by
    obtain ⟨k, rfl⟩ : ∃ k : Fin 264, x = ix1 k := ⟨x 0, by funext a; fin_cases a; rfl⟩
    have hu := hU (ix1 0)
    have e : (V m 0 main_v14 : S264.Idx → BitVec 32) (ix1 k) = argT m 0 (ix1 ⟨min k ((argU m 0 (ix1 0)).toNat - 1), by omega⟩) :=
      experts_at (fun b => m (0, b)) (argU m 0 (ix1 0)).toNat hu.1 hu.2 (fun x => by
        have hx : x = (ix1 0 : S1.Idx) := by
          funext a
          apply Fin.ext
          fin_cases a
          have := (x 0).isLt
          exact Nat.lt_one_iff.mp this
        subst hx
        rw [BitVec.ofNat_toNat, BitVec.setWidth_eq]
        rfl) k
    show (show BitVec 32 from V m 0 main_v14 (ix1 k)).toNat < 8
    rw [e]
    exact hT _

/-- A used tile's expert, in the prefetched table, is its own. -/
theorem expertAt_tbl (hU : ∀ x, 1 ≤ (argU m 0 x).toNat ∧ (argU m 0 x).toNat ≤ 264) (k : Fin 264) (hk : k.val < used (tbl m)) :
    expertAt (tbl m) k = (argT m 0 (ix1 k)).toNat := by
  have hu := hU (ix1 0)
  rw [used_tbl] at hk
  have e : (V m 0 main_v14 : S264.Idx → BitVec 32) (ix1 k) = argT m 0 (ix1 ⟨min k ((argU m 0 (ix1 0)).toNat - 1), by omega⟩) :=
    experts_at (fun b => m (0, b)) (argU m 0 (ix1 0)).toNat hu.1 hu.2 (fun x => by
      have hx : x = (ix1 0 : S1.Idx) := by
        funext a
        apply Fin.ext
        fin_cases a
        have := (x 0).isLt
        exact Nat.lt_one_iff.mp this
      subst hx
      rw [BitVec.ofNat_toNat, BitVec.setWidth_eq]
      rfl) k
  show (show BitVec 32 from V m 0 main_v14 (ix1 k)).toNat = _
  rw [e]
  refine congrArg (fun n => (argT m 0 (ix1 n)).toNat) (Fin.ext ?_)
  show min k.val _ = k.val
  omega

end Cert.Ffn

end
-- ==== Proof.Ffn.Frame.lean ====
/- The expert call's frame: from good tables every execution ends with the arguments as launched and every semaphore
   counter at zero. -/
module

public import proofs.«01_k».proof.Proof.Ffn.Entry

@[expose] public section

set_option maxRecDepth 16384

noncomputable section

namespace Cert.Ffn

open Idealize.ShloMosaic Idealize.ShloMosaic.TcCoe Idealize.ShloMosaic.Tactic
open Idealize.SL Idealize.SL.Sem
open Cert.Kernel2Ideal Cert.Kernel2Ideal.Gen

variable {F : FTy → Type} [FloatOps F]
variable (m : (ℓ : Loc nD τ sig) → Buf (Elt F) ℓ) (ρ : Dev nD → PrngReg) (hg : Good (tbl m))

/-- What a run from `m` ends in: the result array as the data say, the arguments as launched, the counters at zero. -/
def Ends (r : PUnit × MemSt nD τ sig (Elt F)) : Prop :=
  (∀ c : Dev nD, r.2.mem ((c.tc : Thread nD τ).loc main_v15) = (dats m hg 0 c).arrAt 5 (cfg0 (adm m hg)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

/-- A buffer that is no window's array. -/
theorem not_staged {b : Ref sig .tc} (h : ∀ w : Fin 6, (spec0 w).arr.view.ref ≠ b) : ∀ w : Fin 6, (spec0 w).arr.view.ref ≠ b := h

theorem run_ends : θ_run defs (onTc (τ := τ) (main (F := F))) ⟨m, fun _ => 0, ρ⟩ (Ends m hg) :=
  (θ_run defs _ _).mono (fun r h => ⟨fun c => ⟨(h.1 c).1 5,
      ((h.1 c).2 main_arg0 (Pipeline.mem_restRefs_of main_arg0 (by decide) (not_staged (b := main_arg0) (by decide)))).trans (V_arg0 m c),
      ((h.1 c).2 main_arg1 (Pipeline.mem_restRefs_of main_arg1 (by decide) (not_staged (b := main_arg1) (by decide)))).trans (V_arg1 m c),
      ((h.1 c).1 0).trans (((dats m hg 0 c).arrAt_in 0 rfl _).trans ((A_eq (adm m hg) (V m) c 0).trans (V_arg2 m c))),
      ((h.1 c).1 1).trans (((dats m hg 0 c).arrAt_in 1 rfl _).trans ((A_eq (adm m hg) (V m) c 1).trans (V_arg3 m c))),
      ((h.1 c).2 main_arg4 (Pipeline.mem_restRefs_of main_arg4 (by decide) (not_staged (b := main_arg4) (by decide)))).trans (V_arg4 m c),
      ((h.1 c).2 main_arg5 (Pipeline.mem_restRefs_of main_arg5 (by decide) (not_staged (b := main_arg5) (by decide)))).trans (V_arg5 m c),
      ((h.1 c).2 main_arg6 (Pipeline.mem_restRefs_of main_arg6 (by decide) (not_staged (b := main_arg6) (by decide)))).trans (V_arg6 m c)⟩, h.2⟩)
    (run_quiescent m ρ hg)

include hg in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2, h.2⟩) (run_ends m ρ hg)

end Cert.Ffn

end
-- ==== Proof.Ffn.Claims.lean ====
/- The frames of the expert call's programs, at the statement's precondition. -/
module

public import proofs.«01_k».proof.Defs
public import proofs.«01_k».proof.Proof.Ffn.Frame
public import proofs.«01_k».proof.Proof.Gen.Kernel2
public import proofs.«01_k».proof.Proof.Gen.Reference2Ideal.Run
public import Idealize.ShloMosaic.Lib.Quiescent

@[expose] public section

set_option maxRecDepth 16384

noncomputable section

namespace Cert.Ffn

open Idealize.ShloMosaic Idealize.SL.Sem Idealize.ShloMosaic.TcCoe Idealize.ShloMosaic.Tactic
open Cert.Kernel2Ideal Cert.Kernel2Ideal.Gen

/-- The kernel's frame, said of the idealized text read at the words. -/
def FrameBits : Prop :=
  ∀ (m : (ℓ : Loc nD τ sig) → Buf (Elt Bits) ℓ) (g : Dev nD → PrngReg),
    (∀ c : Dev nD, Cert.Pre_routed.fn (F := Bits) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_bits : FrameBits := fun m ρ h =>
  frame (F := Bits) m ρ (good_of m (routed_facts _ _ _ _ _ _ _ (h 0)).1 (routed_facts _ _ _ _ _ _ _ (h 0)).2)

/-- The kernel and the idealized kernel are one text. -/
theorem same_text : Cert.quiescent_Kernel2 = FrameBits := by sl_kernel_rfl

/-- The kernel's frame. -/
theorem frame_kernel2 : Cert.quiescent_Kernel2 := same_text.mpr frame_bits

/-- The idealized kernel's frame. -/
theorem frame_kernel2Ideal : Cert.quiescent_Kernel2Ideal := fun m ρ h =>
  frame m ρ (good_of m (routed_facts _ _ _ _ _ _ _ (h 0)).1 (routed_facts _ _ _ _ _ _ _ (h 0)).2)

/-- The reference's frame. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

end Cert.Ffn

end
-- ==== Proof.Ffn.Spec.lean ====
module

public import Idealize.ShloMosaic.PureOps.Ideal
public import Idealize.ShloMosaic.Lib.Pointwise

@[expose] public section

noncomputable section

/-! # A row of the experts' layer as mathematics

  A row `r` of `X` goes through one expert `e`: the gate's silu times the up projection, then the down projection, and
  the result is scaled by the row's gate for that expert, which arrives as two summands 128 columns apart. -/

namespace Cert.Ffn

open Idealize.ShloMosaic

/-- `g` times the logistic function of `g`. -/
def silu (g : EReal) : EReal := g * (1 + Ideal.exp (-g))⁻¹

theorem denom_ne (g : EReal) : 1 + Ideal.exp (-g) ≠ 0 := by
  have h : ∀ x : EReal, 1 + Ideal.exp x ≠ 0 := by
    intro x
    induction x using EReal.rec with
    | bot => rw [Ideal.exp_bot, add_zero]; exact one_ne_zero
    | top => rw [Ideal.exp_top]; exact (by decide : (1 : EReal) + ⊤ ≠ 0)
    | coe r =>
      rw [Ideal.exp_coe]
      have h : (1 : ℝ) + Real.exp r ≠ 0 := by positivity
      exact_mod_cast h
  exact h _

/-- The quotient form of silu. -/
theorem silu_div (g : EReal) : Ideal.div g (1 + Ideal.exp (0 - g)) = silu g := by
  rw [zero_sub, Ideal.div, if_neg (denom_ne g), silu]

/-- The form with the reciprocal. -/
theorem silu_recip (g : EReal) : g * Ideal.div 1 (1 + Ideal.exp (-g)) = silu g := by
  rw [Ideal.div, if_neg (denom_ne g), one_mul, silu]

variable (X : (⟨2, ![135168, 1024]⟩ : Shape).Idx → EReal) (G : (⟨2, ![135168, 256]⟩ : Shape).Idx → EReal)
  (A B : (⟨3, ![8, 1024, 3584]⟩ : Shape).Idx → EReal) (D : (⟨3, ![8, 3584, 1024]⟩ : Shape).Idx → EReal)

/-- The hidden value of row `r` at the column `f` of expert `e`. -/
def hid (e : Fin 8) (r : Fin 135168) (f : Fin 3584) : EReal :=
  silu (∑ d : Fin 1024, X (ix2 r d) * A (ix3 e d f)) * ∑ d : Fin 1024, X (ix2 r d) * B (ix3 e d f)

/-- The row's gate for expert `e`. -/
def gate (e : Fin 8) (r : Fin 135168) : EReal := G (ix2 r ⟨e, by omega⟩) + G (ix2 r ⟨128 + e, by omega⟩)

/-- The expert's result at row `r` and column `j`, before the gate. -/
def expertOut (e : Fin 8) (r : Fin 135168) (j : Fin 1024) : EReal := ∑ f : Fin 3584, hid X A B e r f * D (ix3 e f j)

end Cert.Ffn

end
-- ==== Proof.Ffn.Pay.lean ====
module

public import proofs.«01_k».proof.Proof.Ffn.Spec
public import proofs.«01_k».proof.Proof.Gen.Kernel2Ideal.Skeleton
public import Idealize.ShloMosaic.Lib.Pointwise
public import Idealize.ShloMosaic.Lib.ValueIdx

@[expose] public section

set_option maxRecDepth 16384

noncomputable section

/-! # What the experts' body stores, entry by entry -/

namespace Cert.Ffn

open Idealize.ShloMosaic Cert.Kernel2Ideal Cert.Kernel2Ideal.Gen

theorem one_word : Ideal.ofBits .f32 1065353216#32 = (1 : EReal) := by
  simp [Ideal.ofBits, Ideal.ieee]
  norm_cast
  norm_num

theorem pay1_at (p : Fin 512) (j : Fin 1024) : (k0_pay1 (F := Ideal) : S512x1024.Idx → EReal) (ix2 p j) = 0 := by
  unfold_payloads
  pointwise

/-- One half of the hidden columns added to the accumulator. -/
theorem pay2_at (x : S512x1024.Idx → EReal) (g u : S1x1024x1792.Idx → EReal) (acc : S512x1024.Idx → EReal) (w : S1x1792x1024.Idx → EReal)
    (p : Fin 512) (j : Fin 1024) :
    (k0_pay2 (F := Ideal) x g u acc w : S512x1024.Idx → EReal) (ix2 p j)
      = acc (ix2 p j) + ∑ f : Fin 1792, silu (∑ d : Fin 1024, x (ix2 p d) * g (ix3 0 d f)) * (∑ d : Fin 1024, x (ix2 p d) * u (ix3 0 d f)) * w (ix3 0 f j) := by
  unfold_payloads
  pointwise
  simp only [one_word, silu_div]

theorem lane_sum (e : BitVec 32) (he : e.toNat < 128) (f : Fin 128 → EReal) :
    ∑ l : Fin 128, Scalar.select (IntOp.cmpi .eq (BitVec.ofNat 32 (l : ℕ)) e) (f l) 0 = f ⟨e.toNat, he⟩ := by
  rw [Finset.sum_eq_single (⟨e.toNat, he⟩ : Fin 128)]
  · simp [IntOp.cmpi, Scalar.select]
  · intro l _ hl
    have h : BitVec.ofNat 32 (l : ℕ) ≠ e := by
      intro h
      apply hl
      apply Fin.ext
      show (l : ℕ) = e.toNat
      rw [← h, BitVec.toNat_ofNat]
      omega
    have hb : (BitVec.ofNat 32 (l : ℕ) == e) = false := by simpa using h
    simp [IntOp.cmpi, Scalar.select, hb]
  · intro h
    exact absurd (Finset.mem_univ _) h

/-- The accumulator times the row's gate. -/
theorem pay3_at (a b : S512x128.Idx → EReal) (e : BitVec 32) (he : e.toNat < 128) (acc : S512x1024.Idx → EReal) (p : Fin 512) (j : Fin 1024) :
    (k0_pay3 (F := Ideal) a b e acc : S512x1024.Idx → EReal) (ix2 p j)
      = acc (ix2 p j) * (a (ix2 p ⟨e.toNat, he⟩) + b (ix2 p ⟨e.toNat, he⟩)) := by
  unfold_payloads
  pointwise
  rw [← lane_sum e he fun l => a (ix2 p l) + b (ix2 p l)]

end Cert.Ffn

end
-- ==== Proof.Ffn.Block.lean ====
module

public import proofs.«01_k».proof.Proof.Ffn.Pay
public import proofs.«01_k».proof.Proof.Ffn.Data
public import Idealize.ShloMosaic.Lib.Pipeline.ValueKit.Tiles

@[expose] public section

set_option maxRecDepth 16384

noncomputable section

/-! # The blocks a grid point reads, and the tile it leaves, entry by entry -/

namespace Cert.Ffn

open Idealize.ShloMosaic Idealize.ShloMosaic.TcCoe
open Cert.Kernel2Ideal Cert.Kernel2Ideal.Gen

variable (a : (pcfg0 (F := Ideal)).Adm) (W : (c : Dev nD) → (b : Ref sig .tc) → Buf (Elt Ideal) ((c.tc : Thread nD τ).loc b))

theorem tile_lt (t : Fin (cfg0 a).N) : t.val / 2 < 264 := by
  have := point_lt t
  omega

/-- The expert of the tile that point `t` is at. -/
def expertOf (t : Fin (cfg0 a).N) : ℕ := expertAt a.1 ⟨t.val / 2, tile_lt a t⟩

variable {a} (hg : Good a.1)
include hg

theorem index_0 (t : Fin (cfg0 a).N) : ((cfg0 a).win 0).index t = ![min (t.val / 2) (used a.1 - 1), 0] := by
  show cc0_transform_0 inb_S1_S1_0 numel1_S1 a.1 (grid0.coords t) = _
  rw [row_index hg]
  simp only [coords0]

theorem index_1 (t : Fin (cfg0 a).N) : ((cfg0 a).win 1).index t = ![min (t.val / 2) (used a.1 - 1), 0] := by
  show cc0_transform_1 inb_S1_S1_0 numel1_S1 a.1 (grid0.coords t) = _
  rw [row_index1, row_index hg]
  simp only [coords0]

theorem index_2 (t : Fin (cfg0 a).N) : ((cfg0 a).win 2).index t = ![expertOf a t, 0, chunk (used a.1) (t.val / 2) (t.val % 2)] := by
  show cc0_transform_2 k0_off1_inb numel1_S1 inb_S1_S1_0 a.1 (grid0.coords t) = _
  rw [weight_index hg]
  simp only [coords0, coords1]
  rfl

theorem index_3 (t : Fin (cfg0 a).N) : ((cfg0 a).win 3).index t = ![expertOf a t, 0, chunk (used a.1) (t.val / 2) (t.val % 2)] := by
  show cc0_transform_3 k0_off1_inb numel1_S1 inb_S1_S1_0 a.1 (grid0.coords t) = _
  rw [weight_index3, weight_index hg]
  simp only [coords0, coords1]
  rfl

theorem index_4 (t : Fin (cfg0 a).N) : ((cfg0 a).win 4).index t = ![expertOf a t, chunk (used a.1) (t.val / 2) (t.val % 2), 0] := by
  show cc0_transform_4 k0_off1_inb numel1_S1 inb_S1_S1_0 a.1 (grid0.coords t) = _
  rw [weight_index4 hg]
  simp only [coords0, coords1]
  rfl

theorem expertOf_lt (t : Fin (cfg0 a).N) : expertOf a t < 8 := expertAt_lt hg _

variable (c : Dev nD)

/-- At a used tile, the block of rows; -/
theorem blk_0 (t : Fin (cfg0 a).N) (ht : t.val / 2 < used a.1) (p : Fin 512) (d : Fin 1024) :
    (blk a W c 0 t : S512x1024.Idx → EReal) (ix2 p d)
      = (W c main_arg2 : S135168x1024.Idx → EReal) (ix2 ⟨512 * (t.val / 2) + p, by have := tile_lt a t; omega⟩ d) := by
  have e := index_0 hg t
  have e0 : ((cfg0 a).win 0).index t (0 : Fin 2) = min (t.val / 2) (used a.1 - 1) := congrFun e (0 : Fin 2)
  have e1 : ((cfg0 a).win 0).index t (1 : Fin 2) = 0 := congrFun e (1 : Fin 2)
  unfold blk
  generalize W c = V
  refine (View.read_apply _ _).trans ?_
  show (V main_arg2 : S135168x1024.Idx → EReal) _ = _
  refine congrArg (V main_arg2 : S135168x1024.Idx → EReal) ?_
  funext b
  apply Fin.ext
  fin_cases b
  · show ((cfg0 a).win 0).index t (0 : Fin 2) * 512 + 1 * (p : ℕ) = 512 * (t.val / 2) + p
    omega
  · show ((cfg0 a).win 0).index t (1 : Fin 2) * 1024 + 1 * (d : ℕ) = d
    omega

/-- the block of gates; -/
theorem blk_1 (t : Fin (cfg0 a).N) (ht : t.val / 2 < used a.1) (p : Fin 512) (d : Fin 256) :
    (blk a W c 1 t : S512x256.Idx → EReal) (ix2 p d)
      = (W c main_arg3 : S135168x256.Idx → EReal) (ix2 ⟨512 * (t.val / 2) + p, by have := tile_lt a t; omega⟩ d) := by
  have e := index_1 hg t
  have e0 : ((cfg0 a).win 1).index t (0 : Fin 2) = min (t.val / 2) (used a.1 - 1) := congrFun e (0 : Fin 2)
  have e1 : ((cfg0 a).win 1).index t (1 : Fin 2) = 0 := congrFun e (1 : Fin 2)
  unfold blk
  generalize W c = V
  refine (View.read_apply _ _).trans ?_
  show (V main_arg3 : S135168x256.Idx → EReal) _ = _
  refine congrArg (V main_arg3 : S135168x256.Idx → EReal) ?_
  funext b
  apply Fin.ext
  fin_cases b
  · show ((cfg0 a).win 1).index t (0 : Fin 2) * 512 + 1 * (p : ℕ) = 512 * (t.val / 2) + p
    omega
  · show ((cfg0 a).win 1).index t (1 : Fin 2) * 256 + 1 * (d : ℕ) = d
    omega

/-- the half of the expert's gate weights that the point is at; -/
theorem blk_2 (t : Fin (cfg0 a).N) (ht : t.val / 2 < used a.1) (d : Fin 1024) (f : Fin 1792) :
    (blk a W c 2 t : S1x1024x1792.Idx → EReal) (ix3 0 d f)
      = (W c main_v0 : S8x1024x3584.Idx → EReal) (ix3 ⟨expertOf a t, expertOf_lt hg t⟩ d ⟨1792 * (t.val % 2) + f, by omega⟩) := by
  have e := index_2 hg t
  have e0 : ((cfg0 a).win 2).index t (0 : Fin 3) = expertOf a t := congrFun e (0 : Fin 3)
  have e1 : ((cfg0 a).win 2).index t (1 : Fin 3) = 0 := congrFun e (1 : Fin 3)
  have e2 : ((cfg0 a).win 2).index t (2 : Fin 3) = chunk (used a.1) (t.val / 2) (t.val % 2) := congrFun e (2 : Fin 3)
  rw [chunk, if_pos ht] at e2
  unfold blk
  generalize W c = V
  refine (View.read_apply _ _).trans ?_
  show (V main_v0 : S8x1024x3584.Idx → EReal) _ = _
  refine congrArg (V main_v0 : S8x1024x3584.Idx → EReal) ?_
  funext b
  apply Fin.ext
  fin_cases b
  · show ((cfg0 a).win 2).index t (0 : Fin 3) * 1 + 1 * 0 = expertOf a t
    omega
  · show ((cfg0 a).win 2).index t (1 : Fin 3) * 1024 + 1 * (d : ℕ) = d
    omega
  · show ((cfg0 a).win 2).index t (2 : Fin 3) * 1792 + 1 * (f : ℕ) = 1792 * (t.val % 2) + f
    omega

/-- of its up weights; -/
theorem blk_3 (t : Fin (cfg0 a).N) (ht : t.val / 2 < used a.1) (d : Fin 1024) (f : Fin 1792) :
    (blk a W c 3 t : S1x1024x1792.Idx → EReal) (ix3 0 d f)
      = (W c main_v1 : S8x1024x3584.Idx → EReal) (ix3 ⟨expertOf a t, expertOf_lt hg t⟩ d ⟨1792 * (t.val % 2) + f, by omega⟩) := by
  have e := index_3 hg t
  have e0 : ((cfg0 a).win 3).index t (0 : Fin 3) = expertOf a t := congrFun e (0 : Fin 3)
  have e1 : ((cfg0 a).win 3).index t (1 : Fin 3) = 0 := congrFun e (1 : Fin 3)
  have e2 : ((cfg0 a).win 3).index t (2 : Fin 3) = chunk (used a.1) (t.val / 2) (t.val % 2) := congrFun e (2 : Fin 3)
  rw [chunk, if_pos ht] at e2
  unfold blk
  generalize W c = V
  refine (View.read_apply _ _).trans ?_
  show (V main_v1 : S8x1024x3584.Idx → EReal) _ = _
  refine congrArg (V main_v1 : S8x1024x3584.Idx → EReal) ?_
  funext b
  apply Fin.ext
  fin_cases b
  · show ((cfg0 a).win 3).index t (0 : Fin 3) * 1 + 1 * 0 = expertOf a t
    omega
  · show ((cfg0 a).win 3).index t (1 : Fin 3) * 1024 + 1 * (d : ℕ) = d
    omega
  · show ((cfg0 a).win 3).index t (2 : Fin 3) * 1792 + 1 * (f : ℕ) = 1792 * (t.val % 2) + f
    omega

/-- and of its down weights. -/
theorem blk_4 (t : Fin (cfg0 a).N) (ht : t.val / 2 < used a.1) (f : Fin 1792) (j : Fin 1024) :
    (blk a W c 4 t : S1x1792x1024.Idx → EReal) (ix3 0 f j)
      = (W c main_v2 : S8x3584x1024.Idx → EReal) (ix3 ⟨expertOf a t, expertOf_lt hg t⟩ ⟨1792 * (t.val % 2) + f, by omega⟩ j) := by
  have e := index_4 hg t
  have e0 : ((cfg0 a).win 4).index t (0 : Fin 3) = expertOf a t := congrFun e (0 : Fin 3)
  have e1 : ((cfg0 a).win 4).index t (1 : Fin 3) = chunk (used a.1) (t.val / 2) (t.val % 2) := congrFun e (1 : Fin 3)
  have e2 : ((cfg0 a).win 4).index t (2 : Fin 3) = 0 := congrFun e (2 : Fin 3)
  rw [chunk, if_pos ht] at e1
  unfold blk
  generalize W c = V
  refine (View.read_apply _ _).trans ?_
  show (V main_v2 : S8x3584x1024.Idx → EReal) _ = _
  refine congrArg (V main_v2 : S8x3584x1024.Idx → EReal) ?_
  funext b
  apply Fin.ext
  fin_cases b
  · show ((cfg0 a).win 4).index t (0 : Fin 3) * 1 + 1 * 0 = expertOf a t
    omega
  · show ((cfg0 a).win 4).index t (1 : Fin 3) * 1792 + 1 * (f : ℕ) = 1792 * (t.val % 2) + f
    omega
  · show ((cfg0 a).win 4).index t (2 : Fin 3) * 1024 + 1 * (j : ℕ) = j
    omega

end Cert.Ffn

end
-- ==== Proof.Ffn.Tile.lean ====
module

public import proofs.«01_k».proof.Proof.Ffn.Block

@[expose] public section

set_option maxRecDepth 16384

noncomputable section

/-! # A used tile's result, entry by entry

  The two halves of the hidden columns together are all 3584 of them, and the lane of the tile's expert is the only one
  left of the row of gates. -/

namespace Cert.Ffn

open Idealize.ShloMosaic Idealize.ShloMosaic.TcCoe
open Cert.Kernel2Ideal Cert.Kernel2Ideal.Gen

variable {a : (pcfg0 (F := Ideal)).Adm} (W : (c : Dev nD) → (b : Ref sig .tc) → Buf (Elt Ideal) ((c.tc : Thread nD τ).loc b))
  (hg : Good a.1) (c : Dev nD)

/-- The arrays the windows read. -/
def rows : S135168x1024.Idx → EReal := W c main_arg2
def gates : S135168x256.Idx → EReal := W c main_arg3
def gateW : S8x1024x3584.Idx → EReal := W c main_v0
def upW : S8x1024x3584.Idx → EReal := W c main_v1
def downW : S8x3584x1024.Idx → EReal := W c main_v2

include hg

/-- One half of a tile's hidden columns. -/
theorem half_sum (t : Fin (cfg0 a).N) (k : Fin 264) (h : Fin 2) (ht : t.val = 2 * k + h) (hk : k.val < used a.1) (acc : S512x1024.Idx → EReal)
    (p : Fin 512) (j : Fin 1024) :
    (k0_pay2 (F := Ideal) (blk a W c 0 t) (blk a W c 2 t) (blk a W c 3 t) acc (blk a W c 4 t) : S512x1024.Idx → EReal) (ix2 p j)
      = acc (ix2 p j) + ∑ f : Fin 1792, hid (rows W c) (gateW W c) (upW W c) ⟨expertAt a.1 k, expertAt_lt hg k⟩ ⟨512 * k + p, by omega⟩ ⟨1792 * h + f, by omega⟩
          * downW W c (ix3 ⟨expertAt a.1 k, expertAt_lt hg k⟩ ⟨1792 * h + f, by omega⟩ j) := by
  have hd : t.val / 2 = k := by omega
  have hm : t.val % 2 = h := by omega
  have hu : t.val / 2 < used a.1 := by omega
  have he : expertOf a t = expertAt a.1 k := by
    unfold expertOf
    congr 1
    exact Fin.ext hd
  refine (pay2_at _ _ _ _ _ p j).trans ?_
  simp only [blk_0 W hg c t hu, blk_2 W hg c t hu, blk_3 W hg c t hu, blk_4 W hg c t hu, he, hd, hm]
  rfl

/-- Both halves, one after the other. -/
theorem both (t t' : Fin (cfg0 a).N) (k : Fin 264) (ht : t.val = 2 * k) (ht' : t'.val = 2 * k + 1) (hk : k.val < used a.1)
    (p : Fin 512) (j : Fin 1024) :
    (k0_pay2 (F := Ideal) (blk a W c 0 t') (blk a W c 2 t') (blk a W c 3 t') (acc1 a W c t) (blk a W c 4 t') : S512x1024.Idx → EReal) (ix2 p j)
      = expertOut (rows W c) (gateW W c) (upW W c) (downW W c) ⟨expertAt a.1 k, expertAt_lt hg k⟩ ⟨512 * k + p, by omega⟩ j := by
  have h0 := half_sum W hg c t k 0 ht hk (k0_pay1 (F := Ideal)) p j
  have h1 := half_sum W hg c t' k 1 ht' hk (acc1 a W c t) p j
  refine h1.trans ?_
  unfold acc1
  rw [h0, pay1_at, zero_add]
  generalize (⟨expertAt a.1 k, expertAt_lt hg k⟩ : Fin 8) = e
  unfold expertOut
  generalize (⟨512 * k + p, by omega⟩ : Fin 135168) = r
  generalize hq : (fun f : Fin 3584 => hid (rows W c) (gateW W c) (upW W c) e r f * downW W c (ix3 e f j)) = q
  have hf : ∀ f, hid (rows W c) (gateW W c) (upW W c) e r f * downW W c (ix3 e f j) = q f := fun f => congrFun hq f
  simp only [hf]
  refine Eq.trans ?_ (Fin.sum_univ_add (a := 1792) (b := 1792) q).symm
  refine congrArg₂ (· + ·) (Finset.sum_congr rfl fun f _ => congrArg q (Fin.ext ?_)) (Finset.sum_congr rfl fun f _ => congrArg q (Fin.ext ?_))
  · show 1792 * 0 + (f : ℕ) = f
    omega
  · show 1792 * 1 + (f : ℕ) = 1792 + f
    omega

omit hg in
theorem ld_gate (g : FVec Ideal S512x256 .f32) (o : ℕ) (inb) (p : Fin 512) (l : Fin 128) (h : o + 128 ≤ 256) :
    (View.ld (Val := Elt Ideal) (e' := .f32) g (Rect.unit (s := S512x256) ![0, o] S512x128.size inb) : S512x128.Idx → EReal) (ix2 p l) = (g : S512x256.Idx → EReal) (ix2 p ⟨o + l, by omega⟩) := by
  unfold View.ld
  congr 1
  funext b
  apply Fin.ext
  fin_cases b
  · show 0 + 1 * (p : ℕ) = p
    omega
  · show o + 1 * (l : ℕ) = o + l
    omega

omit hg in
theorem pt_val (n : ℕ) (hn : n < 528) : (pt a n).val = n := Nat.mod_eq_of_lt hn

omit hg in
theorem off_val (t : Fin (cfg0 a).N) (k : Fin 264) (hd : t.val / 2 = k) : k0_off2 (grid0.coords t) 0 = k.val := by
  show (BitVec.ofNat 32 (grid0.coords t 0).val).toNat = k.val
  rw [coords0, hd, BitVec.toNat_ofNat]
  omega

omit hg in
theorem gated_at (g : FVec Ideal S512x256 .f32) (w : BitVec 32) (e : Fin 8) (he : w.toNat = e) (acc : FVec Ideal S512x1024 .f32) (p : Fin 512) (j : Fin 1024) :
    (k0_pay3 (F := Ideal) (View.ld g (Rect.unit (s := S512x256) ![0, 0] S512x128.size inb_S512x256_S512x128_0_0))
      (View.ld g (Rect.unit (s := S512x256) ![0, 128] S512x128.size inb_S512x256_S512x128_0_128)) w acc : S512x1024.Idx → EReal) (ix2 p j)
      = (acc : S512x1024.Idx → EReal) (ix2 p j) * ((g : S512x256.Idx → EReal) (ix2 p ⟨e, by omega⟩) + (g : S512x256.Idx → EReal) (ix2 p ⟨128 + e, by omega⟩)) := by
  refine (pay3_at _ _ w (by omega) acc p j).trans ?_
  rw [ld_gate g 0 _ p _ (by omega), ld_gate g 128 _ p _ (by omega)]
  simp only [he, zero_add]

theorem word_at (t : Fin (cfg0 a).N) (h3 : k0_cond3 (grid0.coords t) = 1#1) (k : Fin 264) (hd : t.val / 2 = k) :
    (show BitVec 32 from View.ld (a.1 0) (Rect.unit (s := S264) (k0_off2 (grid0.coords t)) S1.size (k0_off2_inb _ h3)) (Shape.Idx.first (s := S1) (by decide))).toNat
      = expertAt a.1 k :=
  congrArg BitVec.toNat (congrArg (expertWord a.1) (unit_emb _ _ k (off_val t k hd) _))

/-- The gated accumulator at a used tile's second chunk. -/
theorem tileOut_at (t : Fin (cfg0 a).N) (h3 : k0_cond3 (grid0.coords t) = 1#1) (k : Fin 264) (hd : t.val / 2 = k) (hk : k.val < used a.1)
    (acc : FVec Ideal S512x1024 .f32) (p : Fin 512) (j : Fin 1024) :
    (tileOut (grid0.coords t) h3 (blk a W c 1 t) (a.1 0) acc : S512x1024.Idx → EReal) (ix2 p j)
      = (acc : S512x1024.Idx → EReal) (ix2 p j) * gate (gates W c) ⟨expertAt a.1 k, expertAt_lt hg k⟩ ⟨512 * k + p, by omega⟩ := by
  have hb : ∀ l : Fin 256, (blk a W c 1 t : S512x256.Idx → EReal) (ix2 p l) = gates W c (ix2 ⟨512 * k + p, by omega⟩ l) := by
    intro l
    refine (blk_1 W hg c t (by omega) p l).trans ?_
    simp only [hd]
    rfl
  refine (gated_at _ _ ⟨expertAt a.1 k, expertAt_lt hg k⟩ (word_at hg t h3 k hd) acc p j).trans ?_
  rw [hb, hb]
  rfl

/-- A used tile's result. -/
theorem tile_val (k : Fin 264) (hk : k.val < used a.1) (p : Fin 512) (j : Fin 1024) :
    (tile a W c k : S512x1024.Idx → EReal) (ix2 p j)
      = expertOut (rows W c) (gateW W c) (upW W c) (downW W c) ⟨expertAt a.1 k, expertAt_lt hg k⟩ ⟨512 * k + p, by omega⟩ j
        * gate (gates W c) ⟨expertAt a.1 k, expertAt_lt hg k⟩ ⟨512 * k + p, by omega⟩ := by
  have hv : (pt a (2 * k + 1)).val = 2 * k + 1 := pt_val _ (by omega)
  have hv' : (pt a ((pt a (2 * k + 1)).val - 1)).val = 2 * k := by rw [hv, pt_val _ (by omega)]; rfl
  unfold tile
  refine (tileOut_at W hg c (pt a (2 * k + 1)) (last_chunk a k) k (by rw [hv]; omega) hk (acc2 a W c (pt a (2 * k + 1))) p j).trans ?_
  refine congrArg (· * _) ?_
  unfold acc2
  exact both W hg c _ _ k hv' hv hk p j

end Cert.Ffn

end
-- ==== Proof.Ffn.Final.lean ====
module

public import proofs.«01_k».proof.Proof.Ffn.Tile
public import proofs.«01_k».proof.Proof.Ffn.Frame

@[expose] public section

set_option maxRecDepth 16384

noncomputable section

/-! # The result array after the last grid point, at the rows in use -/

namespace Cert.Ffn

open Idealize.ShloMosaic Idealize.ShloMosaic.TcCoe Idealize.ShloMosaic.Tactic
open Idealize.ShloMosaic.Pipeline (Dat Cfg Window)
open Cert.Kernel2Ideal Cert.Kernel2Ideal.Gen

section
variable {a : (pcfg0 (F := Ideal)).Adm} (W : (c : Dev nD) → (b : Ref sig .tc) → Buf (Elt Ideal) ((c.tc : Thread nD τ).loc b))
  (hg : Good a.1) (c : Dev nD)

theorem row_tile (r : Fin 135168) : (r : ℕ) / 512 < 264 := by omega

/-- The result's entry at a row and a column. -/
def entry (r : Fin 135168) (j : Fin 1024) : EReal :=
  expertOut (rows W c) (gateW W c) (upW W c) (downW W c) ⟨expertAt a.1 ⟨r / 512, row_tile r⟩, expertAt_lt hg _⟩ r j
    * gate (gates W c) ⟨expertAt a.1 ⟨r / 512, row_tile r⟩, expertAt_lt hg _⟩ r

/-- A used tile's result, at the row of the array it goes to. -/
theorem tile_entry (k : Fin 264) (hk : k.val < used a.1) (p : Fin 512) (j : Fin 1024) (r : Fin 135168) (hr : (r : ℕ) = 512 * k + p) :
    (tile a W c k : S512x1024.Idx → EReal) (ix2 p j) = entry W hg c r j := by
  have hq : (⟨r / 512, row_tile r⟩ : Fin 264) = k := Fin.ext (show (r : ℕ) / 512 = k by omega)
  have hp : (⟨512 * k + p, by omega⟩ : Fin 135168) = r := Fin.ext hr.symm
  rw [tile_val W hg c k hk p j]
  unfold entry
  simp only [hq, hp]

omit W c in
include hg in
/-- The array's index that an index of a point's block of the result goes to. -/
theorem emb_out (t : Fin (cfg0 a).N) (p : Fin 512) (j : Fin 1024) (r : Fin 135168) (hr : (r : ℕ) = 512 * min (t.val / 2) (used a.1 - 1) + p) :
    (((cfg0 a).win 5).blk t).view.emb (ix2 p j : S512x1024.Idx) = (ix2 r j : S135168x1024.Idx) := by
  have e := index_out a hg t
  have e0 : ((cfg0 a).win 5).index t (0 : Fin 2) = min (t.val / 2) (used a.1 - 1) := congrFun e (0 : Fin 2)
  have e1 : ((cfg0 a).win 5).index t (1 : Fin 2) = 0 := congrFun e (1 : Fin 2)
  funext (b : Fin 2)
  apply Fin.ext
  fin_cases b
  · show ((cfg0 a).win 5).index t (0 : Fin 2) * 512 + 1 * (p : ℕ) = r
    omega
  · show ((cfg0 a).win 5).index t (1 : Fin 2) * 1024 + 1 * (j : ℕ) = j
    omega

theorem flushed_val (t : Fin (cfg0 a).N) (p : Fin 512) (j : Fin 1024) :
    (((dat a W c).flushed 5 t (ix2 p j : S512x1024.Idx)) : EReal) = (tile a W c (min (t.val / 2) (used a.1 - 1)) : S512x1024.Idx → EReal) (ix2 p j) :=
  congrFun (after_5 a W c t) (ix2 p j : S512x1024.Idx)

omit W c in
theorem split_idx (y : S512x1024.Idx) : ∃ (p : Fin 512) (j : Fin 1024), y = ix2 p j :=
  ⟨y 0, y 1, by
    funext b
    fin_cases b <;> rfl⟩

/-- What a point writes back is, at each index of its block, the entry of the array's index it goes to. -/
theorem flushed_entry (t : Fin (cfg0 a).N) (p : Fin 512) (j : Fin 1024) (k : Fin 264) (hk : k.val = min (t.val / 2) (used a.1 - 1)) (r : Fin 135168)
    (hr : (r : ℕ) = 512 * min (t.val / 2) (used a.1 - 1) + p) :
    (((dat a W c).flushed 5 t (ix2 p j : S512x1024.Idx)) : EReal) = entry W hg c r j := by
  rw [flushed_val, ← hk]
  refine tile_entry W hg c k ?_ p j r (by rw [hk]; exact hr)
  have := hg.pos
  omega

theorem row_exists (t : Fin (cfg0 a).N) (p : Fin 512) : ∃ (k : Fin 264) (r : Fin 135168), k.val = min (t.val / 2) (used a.1 - 1)
    ∧ (r : ℕ) = 512 * min (t.val / 2) (used a.1 - 1) + p := by
  have h := tile_lt a t
  exact ⟨⟨min (t.val / 2) (used a.1 - 1), by omega⟩, ⟨512 * min (t.val / 2) (used a.1 - 1) + p, by omega⟩, rfl, rfl⟩

omit W c in
include hg in
theorem mem_block (t : Fin (cfg0 a).N) (r : Fin 135168) (j : Fin 1024) (hmin : min (t.val / 2) (used a.1 - 1) = (r : ℕ) / 512) :
    (ix2 r j : S135168x1024.Idx) ∈ (((cfg0 a).win 5).blk t).view.set :=
  Finset.mem_map.mpr ⟨(ix2 (⟨(r : ℕ) % 512, by omega⟩ : Fin 512) j : S512x1024.Idx), Finset.mem_univ _,
    emb_out hg t ⟨(r : ℕ) % 512, by omega⟩ j r (by show (r : ℕ) = 512 * _ + (r : ℕ) % 512; omega)⟩

omit W c in
theorem holds_of {i i' : S135168x1024.Idx} {v : EReal} (f : Fin 135168 → Fin 1024 → EReal) (hi : i = i') (hv : v = f (i' 0) (i' 1)) : v = f (i 0) (i 1) := by
  rw [hi]
  exact hv

/-- At a row of a used tile the result array holds the row's entry. -/
theorem final_at (r : Fin 135168) (j : Fin 1024) (hr : (r : ℕ) / 512 < used a.1) :
    ((dat a W c).arrAt 5 (cfg0 a).N : S135168x1024.Idx → EReal) (ix2 r j) = entry W hg c r j := by
  have hpos := hg.pos
  have hle := hg.le
  have hN : (cfg0 a).N = 528 := N_0
  obtain ⟨t, ht⟩ : ∃ t : Fin (cfg0 a).N, t.val = if (r : ℕ) / 512 + 1 < used a.1 then 2 * ((r : ℕ) / 512) + 1 else 527 :=
    ⟨⟨if (r : ℕ) / 512 + 1 < used a.1 then 2 * ((r : ℕ) / 512) + 1 else 527, by rw [hN]; split <;> omega⟩, rfl⟩
  have hmin : min (t.val / 2) (used a.1 - 1) = (r : ℕ) / 512 := by
    rw [ht]
    split <;> omega
  refine Dat.arrAt_forall_of_flushed (dat a W c) 5 (fun (i : S135168x1024.Idx) (v : EReal) => v = entry W hg c (i 0) (i 1)) ?_
    (cfg0 a).N t (ix2 r j) t.isLt ?_ ?_
  · intro t ht y
    obtain ⟨p, j, rfl⟩ := split_idx y
    obtain ⟨k, r, hk, hr⟩ := row_exists t p
    exact holds_of _ (emb_out hg t p j r hr) (eq_of_heq ((cast_heq _ _).trans (heq_of_eq (flushed_entry W hg c t p j k hk r hr))))
  · rw [flush_out a hg, ht]
    split
    · right
      constructor <;> omega
    · left
      rfl
  · exact mem_block hg t r j hmin
end

end Cert.Ffn

end
-- ==== Proof.Ffn.RefTerm.lean ====
module

public import proofs.«01_k».proof.Proof.Ffn.Spec
public import proofs.«01_k».proof.Proof.Gen.Reference2Ideal.Run
public import Idealize.ShloMosaic.Lib.Pointwise
public import Idealize.ShloMosaic.Lib.ValueIdx

@[expose] public section

set_option maxRecDepth 16384

noncomputable section

/-! # The reference's terms, entry by entry -/

namespace Cert.Ffn.Ref

open Idealize.ShloMosaic Cert.Reference2Ideal Cert.Reference2Ideal.Gen Idealize.ShloMosaic.TcCoe

theorem one_word : Ideal.ofBits .f32 1065353216#32 = (1 : EReal) := by
  simp [Ideal.ofBits, Ideal.ieee]
  norm_cast
  norm_num

/-- One expert's product with a weight of the form of the gate's. -/
def proj (X : FVec Ideal S135168x1024 .f32) (A : FVec Ideal S8x1024x3584 .f32) (e : ℕ) (h : S8x1024x3584.Slices ![e, 0, 0] S1x1024x3584) :
    FVec Ideal S135168x3584 .f32 :=
  Host.dotGeneral dot_S135168x1024_S1024x3584_S135168x3584_1_0_0_1_n_n none X (shapeCast _ (extractStridedSlice S1x1024x3584 ![e, 0, 0] A h) shapeCasts_S1x1024x3584_S1024x3584)

theorem proj_at (X : S135168x1024.Idx → EReal) (A : S8x1024x3584.Idx → EReal) (e : Fin 8) (h : S8x1024x3584.Slices ![(e : ℕ), 0, 0] S1x1024x3584)
    (r : Fin 135168) (f : Fin 3584) :
    (proj X A e h : S135168x3584.Idx → EReal) (ix2 r f) = ∑ d : Fin 1024, X (ix2 r d) * A (ix3 e d f) := by
  unfold proj
  pointwise

/-- One expert's result, before its gate. -/
def down (P Q : FVec Ideal S135168x3584 .f32) (D : FVec Ideal S8x3584x1024 .f32) (e : ℕ) (h : S8x3584x1024.Slices ![e, 0, 0] S1x3584x1024) :
    FVec Ideal S135168x1024 .f32 :=
  Host.dotGeneral dot_S135168x3584_S3584x1024_S135168x1024_1_0_0_1_n_n none
    (mulf (mulf P (Host.divf (broadcastInDim S135168x3584 ![] bcast_S_S135168x3584 (constant S_ .f32 0x3F800000#32))
      (addf (broadcastInDim S135168x3584 ![] bcast_S_S135168x3584 (constant S_ .f32 0x3F800000#32)) (Host.exp (Host.negf P))))) Q)
    (shapeCast _ (extractStridedSlice S1x3584x1024 ![e, 0, 0] D h) shapeCasts_S1x3584x1024_S3584x1024)

theorem down_at (P Q : S135168x3584.Idx → EReal) (D : S8x3584x1024.Idx → EReal) (e : Fin 8) (h : S8x3584x1024.Slices ![(e : ℕ), 0, 0] S1x3584x1024)
    (r : Fin 135168) (j : Fin 1024) :
    (down P Q D e h : S135168x1024.Idx → EReal) (ix2 r j) = ∑ f : Fin 3584, silu (P (ix2 r f)) * Q (ix2 r f) * D (ix3 e f j) := by
  unfold down
  pointwise
  simp only [one_word, silu_recip]

/-- One expert's result times its column of the gates. -/
def scaled (C : FVec Ideal S135168x8 .f32) (Y : FVec Ideal S135168x1024 .f32) (e : ℕ) (h : S135168x8.Slices ![0, e] S135168x1) : FVec Ideal S135168x1024 .f32 :=
  mulf (broadcastInDim S135168x1024 ![0, 1] bcast_S135168x1_S135168x1024_0_1 (extractStridedSlice S135168x1 ![0, e] C h)) Y

theorem scaled_at (C : S135168x8.Idx → EReal) (Y : S135168x1024.Idx → EReal) (e : Fin 8) (h : S135168x8.Slices ![0, (e : ℕ)] S135168x1)
    (r : Fin 135168) (j : Fin 1024) : (scaled C Y e h : S135168x1024.Idx → EReal) (ix2 r j) = C (ix2 r e) * Y (ix2 r j) := by
  unfold scaled
  pointwise

end Cert.Ffn.Ref

end
-- ==== Proof.Ffn.RefValue.lean ====
module

public import proofs.«01_k».proof.Proof.Ffn.RefTerm
public import proofs.«01_k».proof.Proof.Ffn.Spec
public import proofs.«01_k».proof.Proof.Gen.Reference2Ideal.Run
public import Idealize.ShloMosaic.Lib.Pointwise
public import Idealize.ShloMosaic.Lib.ValueIdx

@[expose] public section

set_option maxRecDepth 16384

noncomputable section

/-! # The reference's result, entry by entry

  The reference runs every expert over every row, and scales the expert's result by the row's gate where the row's tile
  belongs to the expert and by zero elsewhere. So only the tile's own expert is left of the sum. -/

namespace Cert.Ffn.Ref

open Idealize.ShloMosaic Cert.Reference2Ideal Cert.Reference2Ideal.Gen Cert.Reference2Ideal.Value Idealize.ShloMosaic.TcCoe

/-- The gates, zero for every expert but the tile's. -/
def comb (T : IVec S264 32) (G : FVec Ideal S135168x256 .f32) : FVec Ideal S135168x8 .f32 :=
  select (cmpi .eq (broadcastInDim S135168x8 ![0, 1] bcast_S135168x1_S135168x8_0_1 (broadcastInDim S135168x1 ![0] bcast_S135168_S135168x1_0
      (shapeCast S135168 (broadcastInDim S264x512 ![0] bcast_S264_S264x512_0 T) shapeCasts_S264x512_S135168)))
      (broadcastInDim S135168x8 ![0, 1] bcast_S1x8_S135168x8_0_1 (broadcastInDim S1x8 ![1] bcast_S8_S1x8_1 (iotaInDim S8 32 0))))
    (addf (extractStridedSlice S135168x8 ![0, 0] G slices_S135168x256_S135168x8_0_0) (extractStridedSlice S135168x8 ![0, 128] G slices_S135168x256_S135168x8_0_128))
    (broadcastInDim S135168x8 ![] bcast_S_S135168x8 (id (constant S_ .f32 0x00000000#32)))

theorem comb_at (T : S264.Idx → BitVec 32) (G : S135168x256.Idx → EReal) (r : Fin 135168) (e : Fin 8) :
    (comb T G : S135168x8.Idx → EReal) (ix2 r e)
      = if T (ix1 ⟨r / 512, by omega⟩) = BitVec.ofNat 32 e then gate G e r else 0 := by
  unfold comb
  pointwise
  rw [IntOp.cmpi]
  by_cases h : T (ix1 ⟨r / 512, by omega⟩) = BitVec.ofNat 32 e
  · rw [if_pos h, h]
    simp [Scalar.select, gate]
  · have hb : (T (ix1 ⟨r / 512, by omega⟩) == BitVec.ofNat 32 e) = false := by simpa using h
    rw [if_neg h]
    simp [Scalar.select, hb]
    change Ideal.ofBits .f32 0#32 = 0
    simp [Ideal.ofBits, Ideal.ieee]

variable (X : FVec Ideal S135168x1024 .f32) (C : FVec Ideal S135168x8 .f32) (A B : FVec Ideal S8x1024x3584 .f32) (D : FVec Ideal S8x3584x1024 .f32)

/-- One expert's share of the sum. -/
def part (e : ℕ) (hA : S8x1024x3584.Slices ![e, 0, 0] S1x1024x3584) (hD : S8x3584x1024.Slices ![e, 0, 0] S1x3584x1024)
    (hC : S135168x8.Slices ![0, e] S135168x1) : FVec Ideal S135168x1024 .f32 :=
  scaled C (down (proj X A e hA) (proj X B e hA) D e hD) e hC

theorem part_at (e : Fin 8) (hA : S8x1024x3584.Slices ![(e : ℕ), 0, 0] S1x1024x3584) (hD : S8x3584x1024.Slices ![(e : ℕ), 0, 0] S1x3584x1024)
    (hC : S135168x8.Slices ![0, (e : ℕ)] S135168x1) (r : Fin 135168) (j : Fin 1024) :
    (part X C A B D e hA hD hC : S135168x1024.Idx → EReal) (ix2 r j) = (C : S135168x8.Idx → EReal) (ix2 r e) * expertOut X A B D e r j := by
  unfold part
  rw [scaled_at, down_at]
  simp only [proj_at]
  rfl

/-- The sum over the experts. -/
def total : FVec Ideal S135168x1024 .bf16 :=
  truncf .bf16 (addf (addf (addf (addf (addf (addf (addf (addf (broadcastInDim S135168x1024 ![] bcast_S_S135168x1024 (constant S_ .f32 0x00000000#32))
    (part X C A B D 0 slices_S8x1024x3584_S1x1024x3584_0_0_0 slices_S8x3584x1024_S1x3584x1024_0_0_0 slices_S135168x8_S135168x1_0_0))
    (part X C A B D 1 slices_S8x1024x3584_S1x1024x3584_1_0_0 slices_S8x3584x1024_S1x3584x1024_1_0_0 slices_S135168x8_S135168x1_0_1))
    (part X C A B D 2 slices_S8x1024x3584_S1x1024x3584_2_0_0 slices_S8x3584x1024_S1x3584x1024_2_0_0 slices_S135168x8_S135168x1_0_2))
    (part X C A B D 3 slices_S8x1024x3584_S1x1024x3584_3_0_0 slices_S8x3584x1024_S1x3584x1024_3_0_0 slices_S135168x8_S135168x1_0_3))
    (part X C A B D 4 slices_S8x1024x3584_S1x1024x3584_4_0_0 slices_S8x3584x1024_S1x3584x1024_4_0_0 slices_S135168x8_S135168x1_0_4))
    (part X C A B D 5 slices_S8x1024x3584_S1x1024x3584_5_0_0 slices_S8x3584x1024_S1x3584x1024_5_0_0 slices_S135168x8_S135168x1_0_5))
    (part X C A B D 6 slices_S8x1024x3584_S1x1024x3584_6_0_0 slices_S8x3584x1024_S1x3584x1024_6_0_0 slices_S135168x8_S135168x1_0_6))
    (part X C A B D 7 slices_S8x1024x3584_S1x1024x3584_7_0_0 slices_S8x3584x1024_S1x3584x1024_7_0_0 slices_S135168x8_S135168x1_0_7)) bitsLt_bf16_f32

theorem total_at (r : Fin 135168) (j : Fin 1024) :
    (total X C A B D : S135168x1024.Idx → EReal) (ix2 r j) = ∑ e : Fin 8, (C : S135168x8.Idx → EReal) (ix2 r e) * expertOut X A B D e r j := by
  have h0 := part_at X C A B D 0 slices_S8x1024x3584_S1x1024x3584_0_0_0 slices_S8x3584x1024_S1x3584x1024_0_0_0 slices_S135168x8_S135168x1_0_0 r j
  have h1 := part_at X C A B D 1 slices_S8x1024x3584_S1x1024x3584_1_0_0 slices_S8x3584x1024_S1x3584x1024_1_0_0 slices_S135168x8_S135168x1_0_1 r j
  have h2 := part_at X C A B D 2 slices_S8x1024x3584_S1x1024x3584_2_0_0 slices_S8x3584x1024_S1x3584x1024_2_0_0 slices_S135168x8_S135168x1_0_2 r j
  have h3 := part_at X C A B D 3 slices_S8x1024x3584_S1x1024x3584_3_0_0 slices_S8x3584x1024_S1x3584x1024_3_0_0 slices_S135168x8_S135168x1_0_3 r j
  have h4 := part_at X C A B D 4 slices_S8x1024x3584_S1x1024x3584_4_0_0 slices_S8x3584x1024_S1x3584x1024_4_0_0 slices_S135168x8_S135168x1_0_4 r j
  have h5 := part_at X C A B D 5 slices_S8x1024x3584_S1x1024x3584_5_0_0 slices_S8x3584x1024_S1x3584x1024_5_0_0 slices_S135168x8_S135168x1_0_5 r j
  have h6 := part_at X C A B D 6 slices_S8x1024x3584_S1x1024x3584_6_0_0 slices_S8x3584x1024_S1x3584x1024_6_0_0 slices_S135168x8_S135168x1_0_6 r j
  have h7 := part_at X C A B D 7 slices_S8x1024x3584_S1x1024x3584_7_0_0 slices_S8x3584x1024_S1x3584x1024_7_0_0 slices_S135168x8_S135168x1_0_7 r j
  rw [Fin.sum_univ_eight, ← h0, ← h1, ← h2, ← h3, ← h4, ← h5, ← h6, ← h7]
  unfold total
  pointwise

/-- Of the sum only the tile's expert is left. -/
theorem total_tile (T : S264.Idx → BitVec 32) (G : S135168x256.Idx → EReal) (r : Fin 135168) (j : Fin 1024)
    (e : Fin 8) (he : (T (ix1 ⟨r / 512, by omega⟩)).toNat = e) :
    (total X (comb T G) A B D : S135168x1024.Idx → EReal) (ix2 r j) = expertOut X A B D e r j * gate G e r := by
  rw [total_at, Finset.sum_eq_single e]
  · rw [comb_at, if_pos, mul_comm]
    apply BitVec.eq_of_toNat_eq
    rw [he, BitVec.toNat_ofNat]
    omega
  · intro l _ hl
    rw [comb_at, if_neg, zero_mul]
    intro h
    apply hl
    apply Fin.ext
    rw [← he, h, BitVec.toNat_ofNat]
    omega
  · intro h
    exact absurd (Finset.mem_univ _) h

theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134)
        = total (extf .f32 (m ((c.tc : Thread nD τ).loc main_arg2)) bitsLt_bf16_f32) (comb (m ((c.tc : Thread nD τ).loc main_arg0)) (m ((c.tc : Thread nD τ).loc main_arg3)))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run m ρ)
  unfold res_main_v88 res_main_v12 res_main_v16 res_main_v31 res_main_v46 res_main_v61 res_main_v76 res_main_v91 res_main_v106 res_main_v121 res_main_v0
    total comb part scaled down proj
  rfl

end Cert.Ffn.Ref

end
-- ==== Proof.Ffn.Value.lean ====
module

public import proofs.«01_k».proof.Proof.Ffn.Final
public import proofs.«01_k».proof.Proof.Ffn.RefValue
public import proofs.«01_k».proof.Proof.Ffn.Claims
public import proofs.«01_k».proof.Proof.Gen.On_in_use
public import Idealize.ShloMosaic.Lib.StableHlo.ReadAt

@[expose] public section

set_option maxRecDepth 16384

noncomputable section

/-! # The experts' kernel and its reference leave the same rows

  At a row in use both results are the row's tile's expert applied to the row, times the row's gate. -/

namespace Cert.Ffn

open Idealize.ShloMosaic Idealize.ShloMosaic.TcCoe Idealize.ShloMosaic.Tactic
open Idealize.SL.Sem
open Cert.Kernel2Ideal Cert.Kernel2Ideal.Gen

variable (m : (ℓ : Loc nD τ sig) → Buf (Elt Ideal) ℓ) (c : Dev nD)

def argX : S135168x1024.Idx → EReal := m ((c.tc : Thread nD τ).loc main_arg2)
def argG : S135168x256.Idx → EReal := m ((c.tc : Thread nD τ).loc main_arg3)
def argA : S8x1024x3584.Idx → EReal := m ((c.tc : Thread nD τ).loc main_arg4)
def argB : S8x1024x3584.Idx → EReal := m ((c.tc : Thread nD τ).loc main_arg5)
def argD : S8x3584x1024.Idx → EReal := m ((c.tc : Thread nD τ).loc main_arg6)

theorem rows_eq : rows (V m) c = argX m c := V_arg2 m c
theorem gates_eq : gates (V m) c = argG m c := V_arg3 m c
theorem gateW_eq : gateW (V m) c = argA m c := by
  unfold gateW V
  after_reads_simp
  rfl
theorem upW_eq : upW (V m) c = argB m c := by
  unfold upW V
  after_reads_simp
  rfl
theorem downW_eq : downW (V m) c = argD m c := by
  unfold downW V
  after_reads_simp
  rfl

/-- The rows in use, as the mask says them. -/
theorem in_use_lt (T : S264.Idx → BitVec 32) (U : S1.Idx → BitVec 32) (X : FVec Ideal S135168x1024 .bf16) (G : FVec Ideal S135168x256 .f32)
    (A B : FVec Ideal S8x1024x3584 .f32) (D : FVec Ideal S8x3584x1024 .f32) (hU : ∀ x, 1 ≤ (U x).toNat ∧ (U x).toNat ≤ 264)
    (r : Fin 135168) (j : Fin 1024)
    (h : (Cert.On_in_use.fn (F := Ideal) T U X G A B D : S135168x1024.Idx → BitVec 1) (ix2 r j) = 1#1) : (r : ℕ) / 512 < (U (ix1 0)).toNat := by
  have e : (Cert.On_in_use.fn (F := Ideal) T U X G A B D : S135168x1024.Idx → BitVec 1) (ix2 r j)
      = IntOp.cmpi .slt (BitVec.ofNat 32 r) (IntOp.muli (U (ix1 0)) 512#32) := by
    unfold Cert.On_in_use.fn
    pointwise
  rw [e] at h
  have hu := hU (ix1 0)
  have hw : (IntOp.muli (U (ix1 0)) 512#32).toNat = (U (ix1 0)).toNat * 512 := by
    show (U (ix1 0) * 512#32).toNat = _
    rw [BitVec.toNat_mul]
    show (U (ix1 0)).toNat * 512 % 2 ^ 32 = _
    omega
  have hi : (IntOp.muli (U (ix1 0)) 512#32).toInt = (((U (ix1 0)).toNat * 512 : ℕ) : ℤ) := by
    rw [BitVec.toInt_eq_toNat_cond, hw, if_pos (by omega)]
  have hr := toInt_of_slt hi h
  rw [WordCmp.toInt_ofNat_of_lt (by omega)] at hr
  omega

variable (hT : ∀ x, (argT m 0 x).toNat < 8) (hU : ∀ x, 1 ≤ (argU m 0 x).toNat ∧ (argU m 0 x).toNat ≤ 264)

/-- The kernel's result at a row in use. -/
theorem kernel_at (r : Fin 135168) (j : Fin 1024) (hr : (r : ℕ) / 512 < (argU m 0 (ix1 0)).toNat) :
    ((dats m (good_of m hT hU) 0 c).arrAt 5 (cfg0 (adm m (good_of m hT hU))).N : S135168x1024.Idx → EReal) (ix2 r j)
      = expertOut (argX m c) (argA m c) (argB m c) (argD m c) ⟨(argT m 0 (ix1 ⟨r / 512, row_tile r⟩)).toNat, hT _⟩ r j
        * gate (argG m c) ⟨(argT m 0 (ix1 ⟨r / 512, row_tile r⟩)).toNat, hT _⟩ r := by
  have hu : (r : ℕ) / 512 < used (tbl m) := by rw [used_tbl]; exact hr
  refine (final_at (a := adm m (good_of m hT hU)) (V m) (good_of m hT hU) c r j hu).trans ?_
  unfold entry
  rw [rows_eq, gates_eq, gateW_eq, upW_eq, downW_eq]
  have he : expertAt (adm m (good_of m hT hU)).1 ⟨r / 512, row_tile r⟩ = (argT m 0 (ix1 ⟨r / 512, row_tile r⟩)).toNat :=
    expertAt_tbl m hU ⟨r / 512, row_tile r⟩ hu
  simp only [he]
  rfl

/-- Kernel and reference leave the same rows. -/
theorem algebraic_ffn : Cert.algebraic_Kernel2Ideal_Reference2Ideal_on_in_use := by
  intro m g m' g' hpre hagree
  have hT : ∀ x, (argT m 0 x).toNat < 8 := (routed_facts _ _ _ _ _ _ _ (hpre 0)).1
  have hU : ∀ x, 1 ≤ (argU m 0 x).toNat ∧ (argU m 0 x).toNat ≤ 264 := (routed_facts _ _ _ _ _ _ _ (hpre 0)).2
  refine ⟨fun c => (dats m (good_of m hT hU) 0 c).arrAt 5 (cfg0 (adm m (good_of m hT hU))).N,
    (θ_run defs _ _).mono (fun r h c => ?_) (run_ends m g (good_of m hT hU)),
    (θ_run Cert.Reference2Ideal.defs _ _).mono (fun r h c => ?_) (Cert.Ffn.Ref.run_total m' g')⟩
  · exact ⟨fun i _ => congrFun (h.1 c).1 i, (h.1 c).2⟩
  · refine ⟨fun (i : S135168x1024.Idx) hi => ?_, (h c).2⟩
    obtain ⟨p, j, rfl⟩ : ∃ (p : Fin 135168) (j : Fin 1024), i = ix2 p j := ⟨i 0, i 1, by
      funext b
      fin_cases b <;> rfl⟩
    obtain rfl : c = 0 := Subsingleton.elim _ _
    obtain ⟨a0, a1, a2, a3, a4, a5, a6⟩ := hagree 0
    have hr := in_use_lt _ _ _ _ _ _ _ hU p j hi
    refine (congrFun (h 0).1 (ix2 p j)).trans ?_
    rw [a0, a2, a3, a4, a5, a6]
    exact (Cert.Ffn.Ref.total_tile _ _ _ _ (argT m 0) _ p j ⟨(argT m 0 (ix1 ⟨p / 512, row_tile p⟩)).toNat, hT _⟩ rfl).trans
      (kernel_at m 0 hT hU p j hr).symm

end Cert.Ffn

end
-- ==== Proof.Norm.Spec.lean ====
module

public import Idealize.ShloMosaic.Lib.Pointwise
public import Idealize.ShloMosaic.Lib.ValueIdx

@[expose] public section

set_option maxRecDepth 16384

noncomputable section

/-! # The layer norm of a row

  A row of 1024 entries less its mean, over the root of its variance and a small constant, times a gain and plus a bias. -/

namespace Cert.Norm

open Idealize.ShloMosaic

/-- The f32 constant 1024. -/
def width : EReal := Ideal.ofBits .f32 1149239296#32

/-- The f32 constant nearest to 1e-5. -/
def eps : EReal := Ideal.ofBits .f32 925353388#32

/-- The weight of the residual: the f32 constant nearest to the fourth root of 4. -/
def alpha : EReal := Ideal.ofBits .f32 1068827891#32

def mean (y : Fin 1024 → EReal) : EReal := Ideal.div (∑ k, y k) width

def variance (y : Fin 1024 → EReal) : EReal := mean fun k => (y k - mean y) * (y k - mean y)

def layerNorm (y : Fin 1024 → EReal) (g b : EReal) (j : Fin 1024) : EReal :=
  (y j - mean y) * Ideal.rsqrt (variance y + eps) * g + b

end Cert.Norm

end
-- ==== Proof.Swiglu.Pay.lean ====
module

public import proofs.«01_k».proof.Proof.Norm.Spec
public import proofs.«01_k».proof.Proof.Ffn.Spec
public import proofs.«01_k».proof.Proof.Gen.Kernel3Ideal.Skeleton

@[expose] public section

set_option maxRecDepth 16384

noncomputable section

/-! # What the dense layer's body stores, entry by entry -/

namespace Cert.Swiglu

open Idealize.ShloMosaic Cert.Kernel3Ideal Cert.Kernel3Ideal.Gen Cert.Norm

theorem one_word : Ideal.ofBits .f32 1065353216#32 = (1 : EReal) := by
  simp [Ideal.ofBits, Ideal.ieee]
  norm_cast
  norm_num

theorem pay1_eq (x : Vec Ideal S512x1024 .f32) : (k0_pay1 (F := Ideal) x : S512x1024.Idx → EReal) = x := by
  funext (i : S512x1024.Idx)
  obtain ⟨r, j, rfl⟩ : ∃ (r : Fin 512) (j : Fin 1024), i = ix2 r j := ⟨i 0, i 1, by
    funext b
    fin_cases b <;> rfl⟩
  unfold_payloads
  pointwise

theorem pay2_at (r : Fin 512) (j : Fin 1024) : (k0_pay2 (F := Ideal) : S512x1024.Idx → EReal) (ix2 r j) = 0 := by
  unfold_payloads
  pointwise

/-- The layer's product, added to what the accumulator holds. -/
theorem pay3_at (x : S512x1024.Idx → EReal) (g u : S1024x2816.Idx → EReal) (acc : S512x1024.Idx → EReal) (w : S2816x1024.Idx → EReal)
    (r : Fin 512) (j : Fin 1024) :
    (k0_pay3 (F := Ideal) x g u acc w : S512x1024.Idx → EReal) (ix2 r j)
      = acc (ix2 r j) + ∑ f : Fin 2816, Cert.Ffn.silu (∑ d : Fin 1024, x (ix2 r d) * g (ix2 d f)) * (∑ d : Fin 1024, x (ix2 r d) * u (ix2 d f)) * w (ix2 f j) := by
  unfold_payloads
  pointwise
  simp only [one_word, Cert.Ffn.silu_div]

theorem pay4_at (x a : S512x1024.Idx → EReal) (g b : S1x1024.Idx → EReal) (r : Fin 512) (j : Fin 1024) :
    (k0_pay4 (F := Ideal) x a g b : S512x1024.Idx → EReal) (ix2 r j)
      = layerNorm (fun k => alpha * x (ix2 r k) + a (ix2 r k)) (g (ix2 0 j)) (b (ix2 0 j)) j := by
  unfold_payloads
  pointwise
  rfl

end Cert.Swiglu

end
-- ==== Proof.Swiglu.Kern.lean ====
module

public import proofs.«01_k».proof.Proof.Swiglu.Pay
public import proofs.«01_k».proof.Proof.Gen.Kernel3Ideal.Value
public import Idealize.ShloMosaic.Lib.Pipeline.ValueKit.Tiles
public import Idealize.ShloMosaic.Lib.Pipeline.ValueKit.Acc
public import Idealize.ShloMosaic.Lib.Pipeline.Value
public import Idealize.ShloMosaic.Lib.StableHlo.ReadAt

@[expose] public section

set_option maxRecDepth 16384

noncomputable section

/-! # What the dense layer's result array holds

  The grid point `t` reads and writes the rows `512 t` to `512 t + 511`, all their columns. -/

namespace Cert.Swiglu

open Idealize.ShloMosaic Cert.Kernel3Ideal Cert.Kernel3Ideal.Gen Cert.Norm Idealize.ShloMosaic.TcCoe

section Block

variable (x0 : Vec Ideal S512x1024 .f32) (x1 x2 : Vec Ideal S1024x2816 .bf16) (x3 : Vec Ideal S2816x1024 .bf16) (x4 x5 : Vec Ideal S1x1024 .f32)

/-- The block after the body: the stores of the scratch buffers read back. -/
theorem out_eq (c : Dev nD) (i : grid0.Coords) (arg2 : Memref sig .tc .vmem S512x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : cond0_1 i) :
    out0_A_6 (F := Ideal) c i arg2 harg2 arg3 harg3 arg4 harg4 arg5 harg5 arg6 harg6 arg7 harg7 arg8 harg8 arg9 harg9 arg10 harg10 hc0 hc1 x0 x1 x2 x3 x4 x5
      = k0_pay4 (F := Ideal) x0 (k0_pay3 (F := Ideal) (k0_pay1 (F := Ideal) x0) x1 x2 (k0_pay2 (F := Ideal)) x3) x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [View.readAt_eq_ld, harg2.read_unread, harg3.read_unread, harg4.read_unread, harg5.read_unread, harg6.read_unread, harg7.read_unread,
    View.ld_unit_lit, View.readCov_cons_unit_lit', View.canon_cons_unit_lit]

end Block

variable (m : (ℓ : Loc nD τ sig) → Buf (Elt Ideal) ℓ) (c : Dev nD)

/-- The arguments: the rows, the three weights, the gain and the bias. -/
abbrev argX : S65536x1024.Idx → EReal := (m (c, main_arg0) : S65536x1024.Idx → EReal)
abbrev argP : S1024x2816.Idx → EReal := (m (c, main_arg1) : S1024x2816.Idx → EReal)
abbrev argU : S1024x2816.Idx → EReal := (m (c, main_arg2) : S1024x2816.Idx → EReal)
abbrev argD : S2816x1024.Idx → EReal := (m (c, main_arg3) : S2816x1024.Idx → EReal)
abbrev argG : S1024.Idx → EReal := (m (c, main_arg4) : S1024.Idx → EReal)
abbrev argB : S1024.Idx → EReal := (m (c, main_arg5) : S1024.Idx → EReal)

/-- The layer's product of a row, at a column. -/
def dense (x : Fin 1024 → EReal) (P U : S1024x2816.Idx → EReal) (D : S2816x1024.Idx → EReal) (j : Fin 1024) : EReal :=
  ∑ f : Fin 2816, Cert.Ffn.silu (∑ d : Fin 1024, x d * P (ix2 d f)) * (∑ d : Fin 1024, x d * U (ix2 d f)) * D (ix2 f j)

/-- The result at a row and a column. -/
def out (X : S65536x1024.Idx → EReal) (P U : S1024x2816.Idx → EReal) (D : S2816x1024.Idx → EReal) (g b : S1024.Idx → EReal) : S65536x1024.Idx → EReal := fun i =>
  layerNorm (fun k => alpha * X (ix2 (i 0) k) + dense (fun d => X (ix2 (i 0) d)) P U D k) (g (ix1 (i 1))) (b (ix1 (i 1))) (i 1)

theorem weightP_eq : (V m c main_v0 : S1024x2816.Idx → EReal) = argP m c := by
  unfold V
  after_reads_simp
  rfl

theorem weightU_eq : (V m c main_v1 : S1024x2816.Idx → EReal) = argU m c := by
  unfold V
  after_reads_simp
  rfl

theorem weightD_eq : (V m c main_v2 : S2816x1024.Idx → EReal) = argD m c := by
  unfold V
  after_reads_simp
  rfl

theorem gain_eq (j : Fin 1024) : (V m c main_v3 : S1x1024.Idx → EReal) (ix2 0 j) = argG m c (ix1 j) := by
  have h : (V m c main_v3 : S1x1024.Idx → EReal) = shapeCast S1x1024 (argG m c) shapeCasts_S1024_S1x1024 := by
    unfold V
    after_reads_simp
    rfl
  rw [h]
  pointwise

theorem bias_eq (j : Fin 1024) : (V m c main_v4 : S1x1024.Idx → EReal) (ix2 0 j) = argB m c (ix1 j) := by
  have h : (V m c main_v4 : S1x1024.Idx → EReal) = shapeCast S1x1024 (argB m c) shapeCasts_S1024_S1x1024 := by
    unfold V
    after_reads_simp
    rfl
  rw [h]
  pointwise

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel

theorem lt_N (t : Fin cfg0.N) : t.val < 128 := t.isLt

/-- The block of rows that a point reads. -/
theorem blk_x (t : Fin cfg0.N) (r : Fin 512) (l : Fin 1024) :
    (iblk m c 0 t : S512x1024.Idx → EReal) (ix2 r l) = argX m c (ix2 ⟨512 * t.val + r, by have := lt_N t; omega⟩ l) := by
  obtain ⟨e0, e1⟩ := index0 t
  have hV := V_main_arg0 m c
  unfold iblk
  generalize V m c = W at hV ⊢
  rw [View.read_apply, cast_eq]
  show (W main_arg0 : S65536x1024.Idx → EReal) _ = _
  rw [hV]
  refine congrArg (argX m c) ?_
  funext a
  apply Fin.ext
  fin_cases a
  · show win0_0.index t 0 * 512 + 1 * (r : ℕ) = 512 * t.val + r
    omega
  · show win0_0.index t 1 * 1024 + 1 * (l : ℕ) = l
    omega

theorem blk_p (t : Fin cfg0.N) (d : Fin 1024) (f : Fin 2816) :
    (iblk m c 1 t : S1024x2816.Idx → EReal) (ix2 d f) = argP m c (ix2 d f) := by
  obtain ⟨e0, e1⟩ := index1 t
  rw [← weightP_eq]
  unfold iblk
  generalize V m c = W
  rw [View.read_apply, cast_eq]
  show (W main_v0 : S1024x2816.Idx → EReal) _ = _
  refine congrArg (W main_v0 : S1024x2816.Idx → EReal) ?_
  funext a
  apply Fin.ext
  fin_cases a
  · show win0_1.index t 0 * 1024 + 1 * (d : ℕ) = d
    omega
  · show win0_1.index t 1 * 2816 + 1 * (f : ℕ) = f
    omega

theorem blk_u (t : Fin cfg0.N) (d : Fin 1024) (f : Fin 2816) :
    (iblk m c 2 t : S1024x2816.Idx → EReal) (ix2 d f) = argU m c (ix2 d f) := by
  obtain ⟨e0, e1⟩ := index2 t
  rw [← weightU_eq]
  unfold iblk
  generalize V m c = W
  rw [View.read_apply, cast_eq]
  show (W main_v1 : S1024x2816.Idx → EReal) _ = _
  refine congrArg (W main_v1 : S1024x2816.Idx → EReal) ?_
  funext a
  apply Fin.ext
  fin_cases a
  · show win0_2.index t 0 * 1024 + 1 * (d : ℕ) = d
    omega
  · show win0_2.index t 1 * 2816 + 1 * (f : ℕ) = f
    omega

theorem blk_d (t : Fin cfg0.N) (f : Fin 2816) (l : Fin 1024) :
    (iblk m c 3 t : S2816x1024.Idx → EReal) (ix2 f l) = argD m c (ix2 f l) := by
  obtain ⟨e0, e1⟩ := index3 t
  rw [← weightD_eq]
  unfold iblk
  generalize V m c = W
  rw [View.read_apply, cast_eq]
  show (W main_v2 : S2816x1024.Idx → EReal) _ = _
  refine congrArg (W main_v2 : S2816x1024.Idx → EReal) ?_
  funext a
  apply Fin.ext
  fin_cases a
  · show win0_3.index t 0 * 2816 + 1 * (f : ℕ) = f
    omega
  · show win0_3.index t 1 * 1024 + 1 * (l : ℕ) = l
    omega

theorem blk_g (t : Fin cfg0.N) (l : Fin 1024) :
    (iblk m c 4 t : S1x1024.Idx → EReal) (ix2 0 l) = argG m c (ix1 l) := by
  obtain ⟨e0, e1⟩ := index4 t
  rw [← gain_eq]
  unfold iblk
  generalize V m c = W
  rw [View.read_apply, cast_eq]
  show (W main_v3 : S1x1024.Idx → EReal) _ = _
  refine congrArg (W main_v3 : S1x1024.Idx → EReal) ?_
  funext a
  apply Fin.ext
  fin_cases a
  · show win0_4.index t 0 * 1 + 1 * 0 = 0
    omega
  · show win0_4.index t 1 * 1024 + 1 * (l : ℕ) = l
    omega

theorem blk_b (t : Fin cfg0.N) (l : Fin 1024) :
    (iblk m c 5 t : S1x1024.Idx → EReal) (ix2 0 l) = argB m c (ix1 l) := by
  obtain ⟨e0, e1⟩ := index5 t
  rw [← bias_eq]
  unfold iblk
  generalize V m c = W
  rw [View.read_apply, cast_eq]
  show (W main_v4 : S1x1024.Idx → EReal) _ = _
  refine congrArg (W main_v4 : S1x1024.Idx → EReal) ?_
  funext a
  apply Fin.ext
  fin_cases a
  · show win0_5.index t 0 * 1 + 1 * 0 = 0
    omega
  · show win0_5.index t 1 * 1024 + 1 * (l : ℕ) = l
    omega

abbrev outM : S65536x1024.Idx → EReal := out (argX m c) (argP m c) (argU m c) (argD m c) (argG m c) (argB m c)

/-- What the body computes of its blocks, at an entry. -/
theorem body_at (x0 : Vec Ideal S512x1024 .f32) (x1 x2 : Vec Ideal S1024x2816 .bf16) (x3 : Vec Ideal S2816x1024 .bf16) (x4 x5 : Vec Ideal S1x1024 .f32)
    (r : Fin 512) (j : Fin 1024) :
    (k0_pay4 (F := Ideal) x0 (k0_pay3 (F := Ideal) (k0_pay1 (F := Ideal) x0) x1 x2 (k0_pay2 (F := Ideal)) x3) x4 x5 : S512x1024.Idx → EReal) (ix2 r j)
      = layerNorm (fun k => alpha * (x0 : S512x1024.Idx → EReal) (ix2 r k) + dense (fun d => (x0 : S512x1024.Idx → EReal) (ix2 r d)) x1 x2 x3 k)
          ((x4 : S1x1024.Idx → EReal) (ix2 0 j)) ((x5 : S1x1024.Idx → EReal) (ix2 0 j)) j := by
  refine (pay4_at _ _ _ _ r j).trans ?_
  refine congrArg (fun y => layerNorm y _ _ j) (funext fun k => congrArg (fun z => alpha * (x0 : S512x1024.Idx → EReal) (ix2 r k) + z) ?_)
  refine (pay3_at _ _ _ _ _ r k).trans ?_
  rw [pay2_at, zero_add, pay1_eq]
  rfl

theorem point (t : Fin cfg0.N) (r : Fin 512) (j : Fin 1024) :
    (outsAt0 m c t : S512x1024.Idx → EReal) (ix2 r j) = outM m c (ix2 ⟨512 * t.val + r, by have := lt_N t; omega⟩ j) := by
  unfold outsAt0
  rw [out_eq]
  refine (body_at _ _ _ _ _ _ r j).trans ?_
  unfold dense
  simp only [blk_x, blk_p, blk_u, blk_d, blk_g, blk_b]
  rfl

theorem flushed6 (t : Fin cfg0.N) :
    (Cert.Kernel3Ideal.Gen.dats m 0 c).flushed 6 t = (win0_6.blk t).view.read (Elt Ideal) (outM m c) := by
  rw [Cert.Kernel3Ideal.Value.flushed6]
  obtain ⟨e0, e1⟩ := index6 t
  funext j
  have hN := lt_N t
  idx_vars j
  rw [View.read_apply]
  refine (point m c t j0 j1).trans ?_
  show _ = outM m c _
  refine congrArg (outM m c) ?_
  funext a
  apply Fin.ext
  fin_cases a
  · show 512 * t.val + j0.val = win0_6.index t 0 * 512 + 1 * j0.val
    omega
  · show j1.val = win0_6.index t 1 * 1024 + 1 * j1.val
    omega

theorem cover6 (i : S65536x1024.Idx) : ∃ t : Fin cfg0.N, (cfg0.win 6).flush t = true ∧ i ∈ ((cfg0.win 6).blk t).view.set := by
  have h0 : (i 0 : ℕ) < 65536 := (i 0).isLt
  have h1 : (i 1 : ℕ) < 1024 := (i 1).isLt
  have hlt : (i 0 : ℕ) / 512 < 128 := by omega
  refine ⟨⟨(i 0 : ℕ) / 512, hlt⟩, flush0_6 _, ?_⟩
  generalize ht : (⟨(i 0 : ℕ) / 512, hlt⟩ : Fin cfg0.N) = t
  have hv : t.val = (i 0 : ℕ) / 512 := by rw [← ht]
  obtain ⟨e0, e1⟩ := index6 t
  show i ∈ ((View.whole main_v5).slice (win0_6.rect t)).set
  rw [View.set_slice_whole, Rect.mem_set_unit]
  intro a
  fin_cases a
  · show win0_6.index t 0 * 512 ≤ (i 0 : ℕ) ∧ (i 0 : ℕ) < win0_6.index t 0 * 512 + 512
    omega
  · show win0_6.index t 1 * 1024 ≤ (i 1 : ℕ) ∧ (i 1 : ℕ) < win0_6.index t 1 * 1024 + 1024
    omega

/-- The kernel's result array ends holding the specification's values. -/
theorem final6 : (Cert.Kernel3Ideal.Gen.dats m 0 c).arrAt 6 cfg0.N = outM m c :=
  (Cert.Kernel3Ideal.Gen.dats m 0 c).arrAt_eq_of_cover 6 (outM m c) (fun t _ => flushed6 m c t) cover6

end Cert.Swiglu

end
-- ==== Proof.Swiglu.Value.lean ====
module

public import proofs.«01_k».proof.Defs
public import proofs.«01_k».proof.Proof.Swiglu.Kern
public import proofs.«01_k».proof.Proof.Gen.Reference3Ideal.Run
public import Idealize.ShloMosaic.Lib.Quiescent

@[expose] public section

set_option maxRecDepth 16384

noncomputable section

/-! # The dense layer: kernel and reference leave the same result -/

namespace Cert.Swiglu.Ref

open Idealize.ShloMosaic Idealize.SL.Sem Cert.Reference3Ideal Cert.Reference3Ideal.Gen Cert.Norm Idealize.ShloMosaic.TcCoe

/-- The mean of each row. -/
def means (Y : FVec Ideal S65536x1024 .f32) : FVec Ideal S65536x1 .f32 :=
  Host.divf (broadcastInDim S65536x1 ![0] bcast_S65536_S65536x1_0 (Host.reduceAdd Y (constant S_ .f32 0x00000000#32) reducesTo_S65536x1024_S65536_d1 h_S_))
    (broadcastInDim S65536x1 ![] bcast_S_S65536x1 (constant S_ .f32 0x44800000#32))

theorem means_at (Y : S65536x1024.Idx → EReal) (r : Fin 65536) : (means Y : S65536x1.Idx → EReal) (ix2 r 0) = mean fun k => Y (ix2 r k) := by
  unfold means
  pointwise
  rfl

/-- Each row less its mean. -/
def centred (Y : FVec Ideal S65536x1024 .f32) : FVec Ideal S65536x1024 .f32 :=
  subf Y (broadcastInDim S65536x1024 ![0, 1] bcast_S65536x1_S65536x1024_0_1 (means Y))

theorem centred_at (Y : S65536x1024.Idx → EReal) (r : Fin 65536) (j : Fin 1024) :
    (centred Y : S65536x1024.Idx → EReal) (ix2 r j) = Y (ix2 r j) - mean fun k => Y (ix2 r k) := by
  unfold centred
  pointwise
  rw [means_at]

def normed (Y : FVec Ideal S65536x1024 .f32) (g b : FVec Ideal S1024 .f32) : FVec Ideal S65536x1024 .f32 :=
  addf (mulf (mulf (centred Y) (broadcastInDim S65536x1024 ![0, 1] bcast_S65536x1_S65536x1024_0_1
      (Host.rsqrt (addf (means (mulf (centred Y) (centred Y))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem normed_at (Y : S65536x1024.Idx → EReal) (g b : S1024.Idx → EReal) (r : Fin 65536) (j : Fin 1024) :
    (normed Y g b : S65536x1024.Idx → EReal) (ix2 r j) = layerNorm (fun k => Y (ix2 r k)) (g (ix1 j)) (b (ix1 j)) j := by
  have hm := means_at (mulf (F := Ideal) (centred Y) (centred Y) : S65536x1024.Idx → EReal) r
  have hc : (fun k => (mulf (F := Ideal) (centred Y) (centred Y) : S65536x1024.Idx → EReal) (ix2 r k))
      = fun k => (Y (ix2 r k) - mean fun k => Y (ix2 r k)) * (Y (ix2 r k) - mean fun k => Y (ix2 r k)) := by
    funext k
    have h := centred_at Y r k
    pointwise
    rw [h]
  rw [hc] at hm
  have h := centred_at Y r j
  unfold normed
  generalize means (mulf (F := Ideal) (centred Y) (centred Y)) = M at hm ⊢
  pointwise
  rw [h, hm]
  rfl

/-- A product with one of the two weights that widen a row. -/
def wide (X : FVec Ideal S65536x1024 .f32) (A : FVec Ideal S1024x2816 .f32) : FVec Ideal S65536x2816 .f32 :=
  Host.dotGeneral dot_S65536x1024_S1024x2816_S65536x2816_1_0_0_1_n_n none X A

theorem wide_at (X : S65536x1024.Idx → EReal) (A : S1024x2816.Idx → EReal) (r : Fin 65536) (f : Fin 2816) :
    (wide X A : S65536x2816.Idx → EReal) (ix2 r f) = ∑ d : Fin 1024, X (ix2 r d) * A (ix2 d f) := by
  unfold wide
  pointwise

/-- The product with the weight that narrows a row, of the gated hidden columns. -/
def narrow (G H : FVec Ideal S65536x2816 .f32) (D : FVec Ideal S2816x1024 .f32) : FVec Ideal S65536x1024 .f32 :=
  Host.dotGeneral dot_S65536x2816_S2816x1024_S65536x1024_1_0_0_1_n_n none
    (mulf (mulf G (Host.divf (broadcastInDim S65536x2816 ![] bcast_S_S65536x2816 (constant S_ .f32 0x3F800000#32))
      (addf (broadcastInDim S65536x2816 ![] bcast_S_S65536x2816 (constant S_ .f32 0x3F800000#32)) (Host.exp (Host.negf G))))) H) D

theorem narrow_at (G H : S65536x2816.Idx → EReal) (D : S2816x1024.Idx → EReal) (r : Fin 65536) (j : Fin 1024) :
    (narrow G H D : S65536x1024.Idx → EReal) (ix2 r j) = ∑ f : Fin 2816, Cert.Ffn.silu (G (ix2 r f)) * H (ix2 r f) * D (ix2 f j) := by
  unfold narrow
  pointwise
  simp only [one_word, Cert.Ffn.silu_recip]

/-- The residual and the layer's product, added. -/
def summed (X Y : FVec Ideal S65536x1024 .f32) : FVec Ideal S65536x1024 .f32 :=
  addf (mulf (broadcastInDim S65536x1024 ![] bcast_S_S65536x1024 (constant S_ .f32 0x3FB504F3#32)) X) Y

theorem summed_at (X Y : S65536x1024.Idx → EReal) (r : Fin 65536) (j : Fin 1024) :
    (summed X Y : S65536x1024.Idx → EReal) (ix2 r j) = alpha * X (ix2 r j) + Y (ix2 r j) := by
  unfold summed
  pointwise
  rfl

theorem result_eq (X : S65536x1024.Idx → EReal) (P U : S1024x2816.Idx → EReal) (D : S2816x1024.Idx → EReal) (g b : S1024.Idx → EReal) :
    (normed (summed X (narrow (wide X P) (wide X U) D)) g b : S65536x1024.Idx → EReal) = out X P U D g b := by
  funext (i : S65536x1024.Idx)
  obtain ⟨r, j, rfl⟩ : ∃ (r : Fin 65536) (j : Fin 1024), i = ix2 r j := ⟨i 0, i 1, by
    funext b
    fin_cases b <;> rfl⟩
  rw [normed_at]
  simp only [summed_at, narrow_at, wide_at]
  rfl

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = normed (summed (m ((c.tc : Thread nD τ).loc main_arg0))
            (narrow (wide (m ((c.tc : Thread nD τ).loc main_arg0)) (m ((c.tc : Thread nD τ).loc main_arg1)))
              (wide (m ((c.tc : Thread nD τ).loc main_arg0)) (m ((c.tc : Thread nD τ).loc main_arg2))) (m ((c.tc : Thread nD τ).loc main_arg3))))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Cert.Reference3Ideal.Value.run m ρ)
  unfold Cert.Reference3Ideal.Value.res_main_v31 normed summed narrow wide centred means
  rfl

end Cert.Swiglu.Ref

namespace Cert.Swiglu

open Idealize.ShloMosaic Idealize.SL.Sem Cert.Kernel3Ideal Cert.Kernel3Ideal.Gen Idealize.ShloMosaic.TcCoe

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- Kernel and reference leave the same result. -/
theorem algebraic_swiglu : Cert.algebraic_Kernel3Ideal_Reference3Ideal := by
  intro m g m' g' _ hagree
  refine ⟨fun c => outM m c, (θ_run Cert.Kernel3Ideal.defs _ _).mono (fun r h c => ?_) (Cert.Kernel3Ideal.Value.run_blocks m g),
    (θ_run Cert.Reference3Ideal.defs _ _).mono (fun r h c => ?_) (Cert.Swiglu.Ref.run_result m' g')⟩
  · exact ⟨(h c).1.trans (final6 m c), (h c).2⟩
  · obtain ⟨a0, a1, a2, a3, a4, a5⟩ := hagree c
    refine ⟨(h c).1.trans ?_, (h c).2⟩
    rw [a0, a1, a2, a3, a4, a5]
    exact Cert.Swiglu.Ref.result_eq _ _ _ _ _ _

end Cert.Swiglu

end
-- ==== Proof.OutLn.Pay.lean ====
module

public import proofs.«01_k».proof.Proof.Norm.Spec
public import proofs.«01_k».proof.Proof.Gen.Kernel4Ideal.Skeleton

@[expose] public section

set_option maxRecDepth 16384

noncomputable section

/-! # What the output projection's body stores, entry by entry -/

namespace Cert.OutLn

open Idealize.ShloMosaic Cert.Kernel4Ideal Cert.Kernel4Ideal.Gen Cert.Norm

theorem pay1_at (o w x : S1024x1024.Idx → EReal) (g b : S1x1024.Idx → EReal) (r j : Fin 1024) :
    (k0_pay1 (F := Ideal) o w x g b : S1024x1024.Idx → EReal) (ix2 r j)
      = layerNorm (fun k => alpha * x (ix2 r k) + ∑ d, o (ix2 r d) * w (ix2 d k)) (g (ix2 0 j)) (b (ix2 0 j)) j := by
  unfold_payloads
  pointwise
  rfl

/-- The second result is the first, narrowed. -/
theorem pay2_at (o w x : S1024x1024.Idx → EReal) (g b : S1x1024.Idx → EReal) (r j : Fin 1024) :
    (k0_pay2 (F := Ideal) o w x g b : S1024x1024.Idx → EReal) (ix2 r j)
      = layerNorm (fun k => alpha * x (ix2 r k) + ∑ d, o (ix2 r d) * w (ix2 d k)) (g (ix2 0 j)) (b (ix2 0 j)) j :=
  pay1_at o w x g b r j

end Cert.OutLn

end
-- ==== Proof.OutLn.Kern.lean ====
module

public import proofs.«01_k».proof.Proof.OutLn.Pay
public import proofs.«01_k».proof.Proof.Gen.Kernel4Ideal.Value
public import Idealize.ShloMosaic.Lib.Pipeline.ValueKit.Tiles
public import Idealize.ShloMosaic.Lib.Pipeline.Value
public import Idealize.ShloMosaic.Lib.StableHlo.ReadAt

@[expose] public section

set_option maxRecDepth 16384

noncomputable section

/-! # What the output projection's result arrays hold

  The grid point `t` reads and writes the rows `1024 t` to `1024 t + 1023`, all their columns. -/

namespace Cert.OutLn

open Idealize.ShloMosaic Cert.Kernel4Ideal Cert.Kernel4Ideal.Gen Cert.Norm Idealize.ShloMosaic.TcCoe

variable (m : (ℓ : Loc nD τ sig) → Buf (Elt Ideal) ℓ) (c : Dev nD)

/-- The arguments: the attention's result, the weight, the residual, the gain and the bias. -/
abbrev argO : S65536x1024.Idx → EReal := (m (c, main_arg0) : S65536x1024.Idx → EReal)
abbrev argW : S1024x1024.Idx → EReal := (m (c, main_arg1) : S1024x1024.Idx → EReal)
abbrev argX : S65536x1024.Idx → EReal := (m (c, main_arg2) : S65536x1024.Idx → EReal)
abbrev argG : S1024.Idx → EReal := (m (c, main_arg3) : S1024.Idx → EReal)
abbrev argB : S1024.Idx → EReal := (m (c, main_arg4) : S1024.Idx → EReal)

/-- The result at a row and a column. -/
def out (O X : S65536x1024.Idx → EReal) (W : S1024x1024.Idx → EReal) (g b : S1024.Idx → EReal) : S65536x1024.Idx → EReal := fun i =>
  layerNorm (fun k => alpha * X (ix2 (i 0) k) + ∑ d : Fin 1024, O (ix2 (i 0) d) * W (ix2 d k)) (g (ix1 (i 1))) (b (ix1 (i 1))) (i 1)

theorem weight_eq : (V m c main_v0 : S1024x1024.Idx → EReal) = argW m c := by
  unfold V
  after_reads_simp
  rfl

theorem gain_eq (j : Fin 1024) : (V m c main_v1 : S1x1024.Idx → EReal) (ix2 0 j) = argG m c (ix1 j) := by
  have h : (V m c main_v1 : S1x1024.Idx → EReal) = shapeCast S1x1024 (argG m c) shapeCasts_S1024_S1x1024 := by
    unfold V
    after_reads_simp
    rfl
  rw [h]
  pointwise

theorem bias_eq (j : Fin 1024) : (V m c main_v2 : S1x1024.Idx → EReal) (ix2 0 j) = argB m c (ix1 j) := by
  have h : (V m c main_v2 : S1x1024.Idx → EReal) = shapeCast S1x1024 (argB m c) shapeCasts_S1024_S1x1024 := by
    unfold V
    after_reads_simp
    rfl
  rw [h]
  pointwise

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem lt_N (t : Fin cfg0.N) : t.val < 64 := t.isLt

/-- The block of the attention's result that a point reads. -/
theorem blk_o (t : Fin cfg0.N) (r l : Fin 1024) :
    (iblk m c 0 t : S1024x1024.Idx → EReal) (ix2 r l) = argO m c (ix2 ⟨1024 * t.val + r, by have := lt_N t; omega⟩ l) := by
  obtain ⟨e0, e1⟩ := index0 t
  have hV := V_main_arg0 m c
  unfold iblk
  generalize V m c = W at hV ⊢
  rw [View.read_apply, cast_eq]
  show (W main_arg0 : S65536x1024.Idx → EReal) _ = _
  rw [hV]
  refine congrArg (argO m c) ?_
  funext a
  apply Fin.ext
  fin_cases a
  · show win0_0.index t 0 * 1024 + 1 * (r : ℕ) = 1024 * t.val + r
    omega
  · show win0_0.index t 1 * 1024 + 1 * (l : ℕ) = l
    omega

/-- The block of the residual that a point reads. -/
theorem blk_x (t : Fin cfg0.N) (r l : Fin 1024) :
    (iblk m c 2 t : S1024x1024.Idx → EReal) (ix2 r l) = argX m c (ix2 ⟨1024 * t.val + r, by have := lt_N t; omega⟩ l) := by
  obtain ⟨e0, e1⟩ := index2 t
  have hV := V_main_arg2 m c
  unfold iblk
  generalize V m c = W at hV ⊢
  rw [View.read_apply, cast_eq]
  show (W main_arg2 : S65536x1024.Idx → EReal) _ = _
  rw [hV]
  refine congrArg (argX m c) ?_
  funext a
  apply Fin.ext
  fin_cases a
  · show win0_2.index t 0 * 1024 + 1 * (r : ℕ) = 1024 * t.val + r
    omega
  · show win0_2.index t 1 * 1024 + 1 * (l : ℕ) = l
    omega

theorem blk_w (t : Fin cfg0.N) (d l : Fin 1024) : (iblk m c 1 t : S1024x1024.Idx → EReal) (ix2 d l) = argW m c (ix2 d l) := by
  obtain ⟨e0, e1⟩ := index1 t
  rw [← weight_eq]
  unfold iblk
  generalize V m c = W
  rw [View.read_apply, cast_eq]
  show (W main_v0 : S1024x1024.Idx → EReal) _ = _
  refine congrArg (W main_v0 : S1024x1024.Idx → EReal) ?_
  funext a
  apply Fin.ext
  fin_cases a
  · show win0_1.index t 0 * 1024 + 1 * (d : ℕ) = d
    omega
  · show win0_1.index t 1 * 1024 + 1 * (l : ℕ) = l
    omega

theorem blk_g (t : Fin cfg0.N) (l : Fin 1024) : (iblk m c 3 t : S1x1024.Idx → EReal) (ix2 0 l) = argG m c (ix1 l) := by
  obtain ⟨e0, e1⟩ := index3 t
  rw [← gain_eq]
  unfold iblk
  generalize V m c = W
  rw [View.read_apply, cast_eq]
  show (W main_v1 : S1x1024.Idx → EReal) _ = _
  refine congrArg (W main_v1 : S1x1024.Idx → EReal) ?_
  funext a
  apply Fin.ext
  fin_cases a
  · show win0_3.index t 0 * 1 + 1 * 0 = 0
    omega
  · show win0_3.index t 1 * 1024 + 1 * (l : ℕ) = l
    omega

theorem blk_b (t : Fin cfg0.N) (l : Fin 1024) : (iblk m c 4 t : S1x1024.Idx → EReal) (ix2 0 l) = argB m c (ix1 l) := by
  obtain ⟨e0, e1⟩ := index4 t
  rw [← bias_eq]
  unfold iblk
  generalize V m c = W
  rw [View.read_apply, cast_eq]
  show (W main_v2 : S1x1024.Idx → EReal) _ = _
  refine congrArg (W main_v2 : S1x1024.Idx → EReal) ?_
  funext a
  apply Fin.ext
  fin_cases a
  · show win0_4.index t 0 * 1 + 1 * 0 = 0
    omega
  · show win0_4.index t 1 * 1024 + 1 * (l : ℕ) = l
    omega

section Block

variable (x0 x1 : Vec Ideal S1024x1024 .bf16) (x2 : Vec Ideal S1024x1024 .f32) (x3 x4 : Vec Ideal S1x1024 .f32)

theorem out5_eq : out0_5 (F := Ideal) x0 x1 x2 x3 x4 = k0_pay1 x0 x1 x2 x3 x4 := by
  unfold out0_5
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide)]

theorem out6_eq : out0_6 (F := Ideal) x0 x1 x2 x3 x4 = k0_pay2 x0 x1 x2 x3 x4 := by
  unfold out0_6
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide)]

end Block

abbrev outM : S65536x1024.Idx → EReal := out (argO m c) (argX m c) (argW m c) (argG m c) (argB m c)

theorem point5 (t : Fin cfg0.N) (r j : Fin 1024) :
    (out0_5 (F := Ideal) (iblk m c 0 t) (iblk m c 1 t) (iblk m c 2 t) (iblk m c 3 t) (iblk m c 4 t) : S1024x1024.Idx → EReal) (ix2 r j)
      = outM m c (ix2 ⟨1024 * t.val + r, by have := lt_N t; omega⟩ j) := by
  rw [out5_eq]
  refine (pay1_at _ _ _ _ _ r j).trans ?_
  simp only [blk_o, blk_w, blk_x, blk_g, blk_b]
  rfl

theorem point6 (t : Fin cfg0.N) (r j : Fin 1024) :
    (out0_6 (F := Ideal) (iblk m c 0 t) (iblk m c 1 t) (iblk m c 2 t) (iblk m c 3 t) (iblk m c 4 t) : S1024x1024.Idx → EReal) (ix2 r j)
      = outM m c (ix2 ⟨1024 * t.val + r, by have := lt_N t; omega⟩ j) := by
  rw [out6_eq]
  refine (pay2_at _ _ _ _ _ r j).trans ?_
  simp only [blk_o, blk_w, blk_x, blk_g, blk_b]
  rfl

theorem flushed5 (t : Fin cfg0.N) :
    (Cert.Kernel4Ideal.Gen.dats m 0 c).flushed 5 t = (win0_5.blk t).view.read (Elt Ideal) (outM m c) := by
  rw [Cert.Kernel4Ideal.Value.flushed5]
  obtain ⟨e0, e1⟩ := index5 t
  funext j
  have hN := lt_N t
  idx_vars j
  rw [View.read_apply]
  refine (point5 m c t j0 j1).trans ?_
  show _ = outM m c _
  refine congrArg (outM m c) ?_
  funext a
  apply Fin.ext
  fin_cases a
  · show 1024 * t.val + j0.val = win0_5.index t 0 * 1024 + 1 * j0.val
    omega
  · show j1.val = win0_5.index t 1 * 1024 + 1 * j1.val
    omega

theorem flushed6 (t : Fin cfg0.N) :
    (Cert.Kernel4Ideal.Gen.dats m 0 c).flushed 6 t = (win0_6.blk t).view.read (Elt Ideal) (outM m c) := by
  rw [Cert.Kernel4Ideal.Value.flushed6]
  obtain ⟨e0, e1⟩ := index6 t
  funext j
  have hN := lt_N t
  idx_vars j
  rw [View.read_apply]
  refine (point6 m c t j0 j1).trans ?_
  show _ = outM m c _
  refine congrArg (outM m c) ?_
  funext a
  apply Fin.ext
  fin_cases a
  · show 1024 * t.val + j0.val = win0_6.index t 0 * 1024 + 1 * j0.val
    omega
  · show j1.val = win0_6.index t 1 * 1024 + 1 * j1.val
    omega

theorem cover5 (i : S65536x1024.Idx) : ∃ t : Fin cfg0.N, (cfg0.win 5).flush t = true ∧ i ∈ ((cfg0.win 5).blk t).view.set := by
  have h0 : (i 0 : ℕ) < 65536 := (i 0).isLt
  have h1 : (i 1 : ℕ) < 1024 := (i 1).isLt
  have hlt : (i 0 : ℕ) / 1024 < 64 := by omega
  refine ⟨⟨(i 0 : ℕ) / 1024, hlt⟩, flush0_5 _, ?_⟩
  generalize ht : (⟨(i 0 : ℕ) / 1024, hlt⟩ : Fin cfg0.N) = t
  have hv : t.val = (i 0 : ℕ) / 1024 := by rw [← ht]
  obtain ⟨e0, e1⟩ := index5 t
  show i ∈ ((View.whole main_v3_0).slice (win0_5.rect t)).set
  rw [View.set_slice_whole, Rect.mem_set_unit]
  intro a
  fin_cases a
  · show win0_5.index t 0 * 1024 ≤ (i 0 : ℕ) ∧ (i 0 : ℕ) < win0_5.index t 0 * 1024 + 1024
    omega
  · show win0_5.index t 1 * 1024 ≤ (i 1 : ℕ) ∧ (i 1 : ℕ) < win0_5.index t 1 * 1024 + 1024
    omega

theorem cover6 (i : S65536x1024.Idx) : ∃ t : Fin cfg0.N, (cfg0.win 6).flush t = true ∧ i ∈ ((cfg0.win 6).blk t).view.set := by
  have h0 : (i 0 : ℕ) < 65536 := (i 0).isLt
  have h1 : (i 1 : ℕ) < 1024 := (i 1).isLt
  have hlt : (i 0 : ℕ) / 1024 < 64 := by omega
  refine ⟨⟨(i 0 : ℕ) / 1024, hlt⟩, flush0_6 _, ?_⟩
  generalize ht : (⟨(i 0 : ℕ) / 1024, hlt⟩ : Fin cfg0.N) = t
  have hv : t.val = (i 0 : ℕ) / 1024 := by rw [← ht]
  obtain ⟨e0, e1⟩ := index6 t
  show i ∈ ((View.whole main_v3_1).slice (win0_6.rect t)).set
  rw [View.set_slice_whole, Rect.mem_set_unit]
  intro a
  fin_cases a
  · show win0_6.index t 0 * 1024 ≤ (i 0 : ℕ) ∧ (i 0 : ℕ) < win0_6.index t 0 * 1024 + 1024
    omega
  · show win0_6.index t 1 * 1024 ≤ (i 1 : ℕ) ∧ (i 1 : ℕ) < win0_6.index t 1 * 1024 + 1024
    omega

/-- The kernel's two result arrays end holding the same values. -/
theorem final5 : (Cert.Kernel4Ideal.Gen.dats m 0 c).arrAt 5 cfg0.N = outM m c :=
  (Cert.Kernel4Ideal.Gen.dats m 0 c).arrAt_eq_of_cover 5 (outM m c) (fun t _ => flushed5 m c t) cover5

theorem final6 : (Cert.Kernel4Ideal.Gen.dats m 0 c).arrAt 6 cfg0.N = outM m c :=
  (Cert.Kernel4Ideal.Gen.dats m 0 c).arrAt_eq_of_cover 6 (outM m c) (fun t _ => flushed6 m c t) cover6

end Cert.OutLn

end
-- ==== Proof.OutLn.Value.lean ====
module

public import proofs.«01_k».proof.Defs
public import proofs.«01_k».proof.Proof.OutLn.Kern
public import proofs.«01_k».proof.Proof.Gen.Reference4Ideal.Run
public import Idealize.ShloMosaic.Lib.Quiescent

@[expose] public section

set_option maxRecDepth 16384

noncomputable section

/-! # The output projection: kernel and reference leave the same results -/

namespace Cert.OutLn.Ref

open Idealize.ShloMosaic Idealize.SL.Sem Cert.Reference4Ideal Cert.Reference4Ideal.Gen Cert.Norm Idealize.ShloMosaic.TcCoe

/-- The mean of each row. -/
def means (Y : FVec Ideal S65536x1024 .f32) : FVec Ideal S65536x1 .f32 :=
  Host.divf (broadcastInDim S65536x1 ![0] bcast_S65536_S65536x1_0 (Host.reduceAdd Y (constant S_ .f32 0x00000000#32) reducesTo_S65536x1024_S65536_d1 h_S_))
    (broadcastInDim S65536x1 ![] bcast_S_S65536x1 (constant S_ .f32 0x44800000#32))

theorem means_at (Y : S65536x1024.Idx → EReal) (r : Fin 65536) : (means Y : S65536x1.Idx → EReal) (ix2 r 0) = mean fun k => Y (ix2 r k) := by
  unfold means
  pointwise
  rfl

/-- Each row less its mean. -/
def centred (Y : FVec Ideal S65536x1024 .f32) : FVec Ideal S65536x1024 .f32 :=
  subf Y (broadcastInDim S65536x1024 ![0, 1] bcast_S65536x1_S65536x1024_0_1 (means Y))

theorem centred_at (Y : S65536x1024.Idx → EReal) (r : Fin 65536) (j : Fin 1024) :
    (centred Y : S65536x1024.Idx → EReal) (ix2 r j) = Y (ix2 r j) - mean fun k => Y (ix2 r k) := by
  unfold centred
  pointwise
  rw [means_at]

def normed (Y : FVec Ideal S65536x1024 .f32) (g b : FVec Ideal S1024 .f32) : FVec Ideal S65536x1024 .f32 :=
  addf (mulf (mulf (centred Y) (broadcastInDim S65536x1024 ![0, 1] bcast_S65536x1_S65536x1024_0_1
      (Host.rsqrt (addf (means (mulf (centred Y) (centred Y))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem normed_at (Y : S65536x1024.Idx → EReal) (g b : S1024.Idx → EReal) (r : Fin 65536) (j : Fin 1024) :
    (normed Y g b : S65536x1024.Idx → EReal) (ix2 r j) = layerNorm (fun k => Y (ix2 r k)) (g (ix1 j)) (b (ix1 j)) j := by
  have hm := means_at (mulf (F := Ideal) (centred Y) (centred Y) : S65536x1024.Idx → EReal) r
  have hc : (fun k => (mulf (F := Ideal) (centred Y) (centred Y) : S65536x1024.Idx → EReal) (ix2 r k))
      = fun k => (Y (ix2 r k) - mean fun k => Y (ix2 r k)) * (Y (ix2 r k) - mean fun k => Y (ix2 r k)) := by
    funext k
    have h := centred_at Y r k
    pointwise
    rw [h]
  rw [hc] at hm
  have h := centred_at Y r j
  unfold normed
  generalize means (mulf (F := Ideal) (centred Y) (centred Y)) = M at hm ⊢
  pointwise
  rw [h, hm]
  rfl

/-- The residual and the projection, added. -/
def summed (O : FVec Ideal S65536x1024 .bf16) (W : FVec Ideal S1024x1024 .f32) (X : FVec Ideal S65536x1024 .f32) : FVec Ideal S65536x1024 .f32 :=
  addf (mulf (broadcastInDim S65536x1024 ![] bcast_S_S65536x1024 (constant S_ .f32 0x3FB504F3#32)) X)
    (Host.dotGeneral dot_S65536x1024_S1024x1024_S65536x1024_1_0_0_1_n_n none (extf .f32 O bitsLt_bf16_f32) W)

theorem summed_at (O : S65536x1024.Idx → EReal) (W : S1024x1024.Idx → EReal) (X : S65536x1024.Idx → EReal) (r : Fin 65536) (j : Fin 1024) :
    (summed O W X : S65536x1024.Idx → EReal) (ix2 r j) = alpha * X (ix2 r j) + ∑ d : Fin 1024, O (ix2 r d) * W (ix2 d j) := by
  unfold summed
  pointwise
  rfl

theorem result_eq (O : S65536x1024.Idx → EReal) (W : S1024x1024.Idx → EReal) (X : S65536x1024.Idx → EReal) (g b : S1024.Idx → EReal) :
    (normed (summed O W X) g b : S65536x1024.Idx → EReal) = out O X W g b := by
  funext (i : S65536x1024.Idx)
  obtain ⟨r, j, rfl⟩ : ∃ (r : Fin 65536) (j : Fin 1024), i = ix2 r j := ⟨i 0, i 1, by
    funext b
    fin_cases b <;> rfl⟩
  rw [normed_at]
  simp only [summed_at]
  rfl

theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = normed (summed (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_v29)
        = truncf .bf16 (normed (summed (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Cert.Reference4Ideal.Value.run m ρ)
  · unfold normed summed centred means
    rfl
  · unfold normed summed centred means
    rfl

end Cert.OutLn.Ref

namespace Cert.OutLn

open Idealize.ShloMosaic Idealize.SL.Sem Cert.Kernel4Ideal Cert.Kernel4Ideal.Gen Idealize.ShloMosaic.TcCoe

theorem frame_reference4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run m ρ)

/-- Kernel and reference leave the same two results. -/
theorem algebraic_out_ln : Cert.algebraic_Kernel4Ideal_Reference4Ideal := by
  intro m g m' g' _ hagree
  refine ⟨fun c => outM m c, fun c => outM m c, (θ_run Cert.Kernel4Ideal.defs _ _).mono (fun r h c => ?_) (Cert.Kernel4Ideal.Value.run_blocks m g),
    (θ_run Cert.Reference4Ideal.defs _ _).mono (fun r h c => ?_) (Cert.OutLn.Ref.run_results m' g')⟩
  · exact ⟨(h c).1.trans (final5 m c), (h c).2.1.trans (final6 m c), (h c).2.2⟩
  · obtain ⟨a0, a1, a2, a3, a4⟩ := hagree c
    refine ⟨(h c).1.trans ?_, (h c).2.1.trans ?_, (h c).2.2⟩
    · rw [a0, a1, a2, a3, a4]
      exact Cert.OutLn.Ref.result_eq _ _ _ _ _
    · rw [a0, a1, a2, a3, a4]
      exact Cert.OutLn.Ref.result_eq _ _ _ _ _

end Cert.OutLn

end
-- ==== Proof.Proj.Pay.lean ====
module

public import proofs.«01_k».proof.Proof.Gen.Kernel5Ideal.Skeleton
public import Idealize.ShloMosaic.Lib.Pointwise
public import Idealize.ShloMosaic.Lib.ValueIdx

@[expose] public section

set_option maxRecDepth 16384

noncomputable section

/-! # What the projection's body stores, entry by entry -/

namespace Cert.Proj

open Idealize.ShloMosaic Cert.Kernel5Ideal Cert.Kernel5Ideal.Gen

theorem pay1_at (x : S1024x1024.Idx → EReal) (r j : Fin 1024) :
    (k0_pay1 (F := Ideal) x : S1024x1024.Idx → EReal) (ix2 r j) = x (ix2 r j) := by
  unfold_payloads
  pointwise

theorem pay2_at (x : S1024x1024.Idx → EReal) (w : S1024x1536.Idx → EReal) (r : Fin 1024) (j : Fin 1536) :
    (k0_pay2 (F := Ideal) x w : S1024x1536.Idx → EReal) (ix2 r j) = ∑ d : Fin 1024, x (ix2 r d) * w (ix2 d j) := by
  unfold_payloads
  pointwise

end Cert.Proj

end
-- ==== Proof.Proj.Kern.lean ====
module

public import proofs.«01_k».proof.Proof.Proj.Pay
public import proofs.«01_k».proof.Proof.Gen.Kernel5Ideal.Value
public import Idealize.ShloMosaic.Lib.Pipeline.ValueKit.Tiles
public import Idealize.ShloMosaic.Lib.Pipeline.ValueKit.Acc
public import Idealize.ShloMosaic.Lib.Pipeline.Value
public import Idealize.ShloMosaic.Lib.StableHlo.ReadAt

@[expose] public section

set_option maxRecDepth 16384

noncomputable section

/-! # What the projection's result array holds

  The grid point of row block `p` and column block `q` writes the rows `1024 p` to `1024 p + 1023` and the columns
  `1536 q` to `1536 q + 1535`. The first column block narrows the rows into a scratch buffer, which the second reads. -/

namespace Cert.Proj

open Idealize.ShloMosaic Cert.Kernel5Ideal Cert.Kernel5Ideal.Gen Idealize.ShloMosaic.TcCoe

section Block

variable (x0 : Vec Ideal S1024x1024 .f32) (x1 : Vec Ideal S1024x1536 .bf16) (s : Vec Ideal S1024x1024 .bf16)

/-- The block that a point of the first column block leaves. -/
theorem outA_eq (c : Dev nD) (i : grid0.Coords) (arg2 : Memref sig .tc .vmem S1024x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1024x1024 .bf16) (harg5 : arg5.IsWhole) (hc0 : cond0_0 i) :
    out0_A_2 (F := Ideal) c i arg2 harg2 arg3 harg3 arg4 harg4 arg5 harg5 hc0 x0 x1 = k0_pay2 (F := Ideal) (k0_pay1 (F := Ideal) x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  simp (disch := decide) only [View.readAt_eq_ld, harg2.read_unread, harg3.read_unread,
    View.ld_unit_lit, View.readCov_cons_unit_lit', View.canon_cons_unit_lit]

/-- The scratch that it leaves: its rows. -/
theorem scratchA_eq (c : Dev nD) (i : grid0.Coords) (arg2 : Memref sig .tc .vmem S1024x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1024x1024 .bf16) (harg5 : arg5.IsWhole) (hc0 : cond0_0 i) :
    sout0_A_0 (F := Ideal) c i arg2 harg2 arg3 harg3 arg4 harg4 arg5 harg5 hc0 x0 x1 = k0_pay1 (F := Ideal) x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp (disch := decide) only [View.readAt_eq_ld, harg2.read_unread, harg3.read_unread,
    View.ld_unit_lit, View.readCov_cons_unit_lit', View.canon_cons_unit_lit]

/-- The block that a point of the second column block leaves, over the scratch that it finds. -/
theorem outB_eq (c : Dev nD) (i : grid0.Coords) (arg2 : Memref sig .tc .vmem S1024x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1024x1024 .bf16) (harg5 : arg5.IsWhole) (hc0 : ¬cond0_0 i) :
    out0_B_2 (F := Ideal) c i arg2 harg2 arg3 harg3 arg4 harg4 arg5 harg5 hc0 x0 x1 s = k0_pay2 (F := Ideal) s x1 := by
  unfold out0_B_2
  rw [View.read_writes_eq_canon _ _ _ (cover0_B_2 c i arg2 harg2 arg3 harg3 arg4 harg4 arg5 harg5 hc0 x0 x1 s)]
  unfold kernelRun0_B
  dsimp only
  sl_unfold_words
  simp (disch := decide) only [View.readAt_eq_ld, harg2.read_unread, harg3.read_unread, harg5.read_unread,
    View.ld_unit_lit, View.readCov_cons_unit_lit', View.canon_cons_unit_lit]

end Block

variable (m : (ℓ : Loc nD τ sig) → Buf (Elt Ideal) ℓ) (c : Dev nD)

/-- The arguments: the rows and the weight. -/
abbrev argX : S65536x1024.Idx → EReal := (m (c, main_arg0) : S65536x1024.Idx → EReal)
abbrev argW : S1024x3072.Idx → EReal := (m (c, main_arg1) : S1024x3072.Idx → EReal)

/-- The product of rows and weight. -/
def out (X : S65536x1024.Idx → EReal) (W : S1024x3072.Idx → EReal) : S65536x3072.Idx → EReal := fun i =>
  ∑ d : Fin 1024, X (ix2 (i 0) d) * W (ix2 d (i 1))

theorem weight_eq : (V m c main_v0 : S1024x3072.Idx → EReal) = argW m c := by
  unfold V
  after_reads_simp
  rfl

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel

theorem lt_N (t : Fin cfg0.N) : t.val < 128 := t.isLt

/-- The block of rows that a point reads. -/
theorem blk_x (t : Fin cfg0.N) (r l : Fin 1024) :
    (iblk m c 0 t : S1024x1024.Idx → EReal) (ix2 r l) = argX m c (ix2 ⟨1024 * (t.val / 2) + r, by have := lt_N t; omega⟩ l) := by
  obtain ⟨e0, e1⟩ := index0 t
  have hV := V_main_arg0 m c
  unfold iblk
  generalize V m c = W at hV ⊢
  rw [View.read_apply, cast_eq]
  show (W main_arg0 : S65536x1024.Idx → EReal) _ = _
  rw [hV]
  refine congrArg (argX m c) ?_
  funext a
  apply Fin.ext
  fin_cases a
  · show win0_0.index t 0 * 1024 + 1 * (r : ℕ) = 1024 * (t.val / 2) + r
    omega
  · show win0_0.index t 1 * 1024 + 1 * (l : ℕ) = l
    omega

/-- The block of the weight's columns that a point reads. -/
theorem blk_w (t : Fin cfg0.N) (d : Fin 1024) (l : Fin 1536) :
    (iblk m c 1 t : S1024x1536.Idx → EReal) (ix2 d l) = argW m c (ix2 d ⟨1536 * (t.val % 2) + l, by omega⟩) := by
  obtain ⟨e0, e1⟩ := index1 t
  rw [← weight_eq]
  unfold iblk
  generalize V m c = W
  rw [View.read_apply, cast_eq]
  show (W main_v0 : S1024x3072.Idx → EReal) _ = _
  refine congrArg (W main_v0 : S1024x3072.Idx → EReal) ?_
  funext a
  apply Fin.ext
  fin_cases a
  · show win0_1.index t 0 * 1024 + 1 * (d : ℕ) = d
    omega
  · show win0_1.index t 1 * 1536 + 1 * (l : ℕ) = 1536 * (t.val % 2) + l
    omega

abbrev outM : S65536x3072.Idx → EReal := out (argX m c) (argW m c)

/-- A block whose rows are those of the point's row block. -/
theorem block_at (t : Fin cfg0.N) (s : S1024x1024.Idx → EReal)
    (hs : ∀ r d : Fin 1024, s (ix2 r d) = argX m c (ix2 ⟨1024 * (t.val / 2) + r, by have := lt_N t; omega⟩ d)) (r : Fin 1024) (j : Fin 1536) :
    (k0_pay2 (F := Ideal) s (iblk m c 1 t) : S1024x1536.Idx → EReal) (ix2 r j)
      = outM m c (ix2 ⟨1024 * (t.val / 2) + r, by have := lt_N t; omega⟩ ⟨1536 * (t.val % 2) + j, by omega⟩) := by
  refine (pay2_at _ _ r j).trans ?_
  simp only [hs, blk_w]
  rfl

/-- The scratch that a point of the first column block leaves. -/
theorem scratch_at (t : Fin cfg0.N) (h0 : t.val % 2 = 0) (r d : Fin 1024) :
    ((outsAt0 m c t.val t.isLt).2 : S1024x1024.Idx → EReal) (ix2 r d) = argX m c (ix2 ⟨1024 * (t.val / 2) + r, by have := lt_N t; omega⟩ d) := by
  rw [outsAt0_A m c t h0]
  dsimp only
  rw [scratchA_eq]
  exact (pay1_at _ r d).trans (blk_x m c t r d)

theorem point (t : Fin cfg0.N) (r : Fin 1024) (j : Fin 1536) :
    ((outsAt0 m c t.val t.isLt).1 : S1024x1536.Idx → EReal) (ix2 r j)
      = outM m c (ix2 ⟨1024 * (t.val / 2) + r, by have := lt_N t; omega⟩ ⟨1536 * (t.val % 2) + j, by omega⟩) := by
  by_cases h0 : t.val % 2 = 0
  · rw [outsAt0_A m c t h0]
    dsimp only
    rw [outA_eq]
    exact block_at m c t _ (fun r d => (pay1_at _ r d).trans (blk_x m c t r d)) r j
  · rw [outsAt0_B m c t h0]
    dsimp only
    rw [outB_eq]
    refine block_at m c t _ (fun r d => ?_) r j
    have hlt : t.val - 1 < cfg0.N := Nat.lt_of_le_of_lt (Nat.sub_le _ _) t.isLt
    refine (scratch_at m c ⟨t.val - 1, hlt⟩ (by show (t.val - 1) % 2 = 0; omega) r d).trans ?_
    refine congrArg (argX m c) (congrArg (ix2 · d) (Fin.ext ?_))
    show 1024 * ((t.val - 1) / 2) + r.val = 1024 * (t.val / 2) + r.val
    omega

theorem flushed2 (t : Fin cfg0.N) :
    (Cert.Kernel5Ideal.Gen.dats m 0 c).flushed 2 t = (win0_2.blk t).view.read (Elt Ideal) (outM m c) := by
  rw [Cert.Kernel5Ideal.Value.flushed2]
  obtain ⟨e0, e1⟩ := index2 t
  funext j
  have hN := lt_N t
  idx_vars j
  rw [View.read_apply]
  refine (point m c t j0 j1).trans ?_
  show _ = outM m c _
  refine congrArg (outM m c) ?_
  funext a
  apply Fin.ext
  fin_cases a
  · show 1024 * (t.val / 2) + j0.val = win0_2.index t 0 * 1024 + 1 * j0.val
    omega
  · show 1536 * (t.val % 2) + j1.val = win0_2.index t 1 * 1536 + 1 * j1.val
    omega

theorem cover2 (i : S65536x3072.Idx) : ∃ t : Fin cfg0.N, (cfg0.win 2).flush t = true ∧ i ∈ ((cfg0.win 2).blk t).view.set := by
  have h0 : (i 0 : ℕ) < 65536 := (i 0).isLt
  have h1 : (i 1 : ℕ) < 3072 := (i 1).isLt
  have hlt : 2 * ((i 0 : ℕ) / 1024) + (i 1 : ℕ) / 1536 < 128 := by omega
  refine ⟨⟨2 * ((i 0 : ℕ) / 1024) + (i 1 : ℕ) / 1536, hlt⟩, flush0_2 _, ?_⟩
  generalize ht : (⟨2 * ((i 0 : ℕ) / 1024) + (i 1 : ℕ) / 1536, hlt⟩ : Fin cfg0.N) = t
  have hv : t.val = 2 * ((i 0 : ℕ) / 1024) + (i 1 : ℕ) / 1536 := by rw [← ht]
  obtain ⟨e0, e1⟩ := index2 t
  show i ∈ ((View.whole main_v1).slice (win0_2.rect t)).set
  rw [View.set_slice_whole, Rect.mem_set_unit]
  intro a
  fin_cases a
  · show win0_2.index t 0 * 1024 ≤ (i 0 : ℕ) ∧ (i 0 : ℕ) < win0_2.index t 0 * 1024 + 1024
    omega
  · show win0_2.index t 1 * 1536 ≤ (i 1 : ℕ) ∧ (i 1 : ℕ) < win0_2.index t 1 * 1536 + 1536
    omega

/-- The kernel's result array ends holding the product. -/
theorem final2 : (Cert.Kernel5Ideal.Gen.dats m 0 c).arrAt 2 cfg0.N = outM m c :=
  (Cert.Kernel5Ideal.Gen.dats m 0 c).arrAt_eq_of_cover 2 (outM m c) (fun t _ => flushed2 m c t) cover2

end Cert.Proj

end
-- ==== Proof.Proj.Value.lean ====
module

public import proofs.«01_k».proof.Defs
public import proofs.«01_k».proof.Proof.Proj.Kern
public import proofs.«01_k».proof.Proof.Gen.Reference5Ideal.Run
public import Idealize.ShloMosaic.Lib.Quiescent

@[expose] public section

set_option maxRecDepth 16384

noncomputable section

/-! # The projection: kernel and reference leave the same result -/

namespace Cert.Proj.Ref

open Idealize.ShloMosaic Cert.Reference5Ideal Cert.Reference5Ideal.Gen

def product (X : FVec Ideal S65536x1024 .f32) (W : FVec Ideal S1024x3072 .f32) : FVec Ideal S65536x3072 .bf16 :=
  truncf .bf16 (Host.dotGeneral dot_S65536x1024_S1024x3072_S65536x3072_1_0_0_1_n_n none X W) bitsLt_bf16_f32

theorem product_at (X : S65536x1024.Idx → EReal) (W : S1024x3072.Idx → EReal) (r : Fin 65536) (j : Fin 3072) :
    (product X W : S65536x3072.Idx → EReal) (ix2 r j) = ∑ d : Fin 1024, X (ix2 r d) * W (ix2 d j) := by
  unfold product
  pointwise

theorem result_eq (X : S65536x1024.Idx → EReal) (W : S1024x3072.Idx → EReal) : (product X W : S65536x3072.Idx → EReal) = out X W := by
  funext (i : S65536x3072.Idx)
  obtain ⟨r, j, rfl⟩ : ∃ (r : Fin 65536) (j : Fin 3072), i = ix2 r j := ⟨i 0, i 1, by
    funext b
    fin_cases b <;> rfl⟩
  exact product_at X W r j

end Cert.Proj.Ref

namespace Cert.Proj

open Idealize.ShloMosaic Idealize.SL.Sem Cert.Kernel5Ideal Cert.Kernel5Ideal.Gen Idealize.ShloMosaic.TcCoe

theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- Kernel and reference leave the same result. -/
theorem algebraic_proj : Cert.algebraic_Kernel5Ideal_Reference5Ideal := by
  intro m g m' g' _ hagree
  refine ⟨fun c => outM m c, (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · exact ⟨(h c).1.trans (final2 m c), (h c).2⟩
  · obtain ⟨a0, a1⟩ := hagree c
    refine ⟨(h c).1.trans ?_, (h c).2⟩
    rw [a0, a1]
    exact Cert.Proj.Ref.result_eq _ _

end Cert.Proj

end
-- ==== Proof.ProjIn.Pay.lean ====
module

public import proofs.«01_k».proof.Proof.Gen.Kernel6Ideal.Skeleton
public import Idealize.ShloMosaic.Lib.Pointwise
public import Idealize.ShloMosaic.Lib.ValueIdx

@[expose] public section

set_option maxRecDepth 16384

noncomputable section

/-! # What the body of the even layer's input projection stores, entry by entry -/

namespace Cert.ProjIn

open Idealize.ShloMosaic Cert.Kernel6Ideal Cert.Kernel6Ideal.Gen

theorem pay1_at (x : S1024x1024.Idx → EReal) (r j : Fin 1024) :
    (k0_pay1 (F := Ideal) x : S1024x1024.Idx → EReal) (ix2 r j) = x (ix2 r j) := by
  unfold_payloads
  pointwise

theorem pay2_at (x : S1024x1024.Idx → EReal) (w : S1024x1792.Idx → EReal) (r : Fin 1024) (j : Fin 1792) :
    (k0_pay2 (F := Ideal) x w : S1024x1792.Idx → EReal) (ix2 r j) = ∑ d : Fin 1024, x (ix2 r d) * w (ix2 d j) := by
  unfold_payloads
  pointwise

end Cert.ProjIn

end
-- ==== Proof.ProjIn.Kern.lean ====
module

public import proofs.«01_k».proof.Proof.ProjIn.Pay
public import proofs.«01_k».proof.Proof.Gen.Kernel6Ideal.Value
public import Idealize.ShloMosaic.Lib.Pipeline.ValueKit.Tiles
public import Idealize.ShloMosaic.Lib.Pipeline.ValueKit.Acc
public import Idealize.ShloMosaic.Lib.Pipeline.Value
public import Idealize.ShloMosaic.Lib.StableHlo.ReadAt

@[expose] public section

set_option maxRecDepth 16384

noncomputable section

/-! # What the result array of the even layer's input projection holds

  The grid point of row block `p` and column block `q` writes the rows `1024 p` to `1024 p + 1023` and the columns
  `1792 q` to `1792 q + 1535`. The first column block narrows the rows into a scratch buffer, which the second reads. -/

namespace Cert.ProjIn

open Idealize.ShloMosaic Cert.Kernel6Ideal Cert.Kernel6Ideal.Gen Idealize.ShloMosaic.TcCoe

section Block

variable (x0 : Vec Ideal S1024x1024 .f32) (x1 : Vec Ideal S1024x1792 .bf16) (s : Vec Ideal S1024x1024 .bf16)

/-- The block that a point of the first column block leaves. -/
theorem outA_eq (c : Dev nD) (i : grid0.Coords) (arg2 : Memref sig .tc .vmem S1024x1024 .f32) (harg2 : arg2.IsWhole) (arg3 : Memref sig .tc .vmem S1024x1792 .bf16) (harg3 : arg3.IsWhole) (arg4 : Memref sig .tc .vmem S1024x1792 .bf16) (harg4 : arg4.IsWhole) (arg5 : Memref sig .tc .vmem S1024x1024 .bf16) (harg5 : arg5.IsWhole) (hc0 : cond0_0 i) :
    out0_A_2 (F := Ideal) c i arg2 harg2 arg3 harg3 arg4 harg4 arg5 harg5 hc0 x0 x1 = k0_pay2 (F := Ideal) (k0_pay1 (F := Ideal) x0) x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  simp (disch := decide) only [View.readAt_eq_ld, harg2.read_unread, harg3.read_unread,
    View.ld_unit_lit, View.readCov_cons_unit_lit', View.canon_cons_unit_lit]

/-- The scratch that it leaves: its rows. -/
theorem scratchA_eq (c : Dev nD) (i : grid0.Coords) (arg2 : Memref sig .tc .vmem S1024x1024 .f32) (harg2 : arg2.IsWhole) (arg3 : Memref sig .tc .vmem S1024x1792 .bf16) (harg3 : arg3.IsWhole) (arg4 : Memref sig .tc .vmem S1024x1792 .bf16) (harg4 : arg4.IsWhole) (arg5 : Memref sig .tc .vmem S1024x1024 .bf16) (harg5 : arg5.IsWhole) (hc0 : cond0_0 i) :
    sout0_A_0 (F := Ideal) c i arg2 harg2 arg3 harg3 arg4 harg4 arg5 harg5 hc0 x0 x1 = k0_pay1 (F := Ideal) x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp (disch := decide) only [View.readAt_eq_ld, harg2.read_unread, harg3.read_unread,
    View.ld_unit_lit, View.readCov_cons_unit_lit', View.canon_cons_unit_lit]

/-- The block that a point of the second column block leaves, over the scratch that it finds. -/
theorem outB_eq (c : Dev nD) (i : grid0.Coords) (arg2 : Memref sig .tc .vmem S1024x1024 .f32) (harg2 : arg2.IsWhole) (arg3 : Memref sig .tc .vmem S1024x1792 .bf16) (harg3 : arg3.IsWhole) (arg4 : Memref sig .tc .vmem S1024x1792 .bf16) (harg4 : arg4.IsWhole) (arg5 : Memref sig .tc .vmem S1024x1024 .bf16) (harg5 : arg5.IsWhole) (hc0 : ¬cond0_0 i) :
    out0_B_2 (F := Ideal) c i arg2 harg2 arg3 harg3 arg4 harg4 arg5 harg5 hc0 x0 x1 s = k0_pay2 (F := Ideal) s x1 := by
  unfold out0_B_2
  rw [View.read_writes_eq_canon _ _ _ (cover0_B_2 c i arg2 harg2 arg3 harg3 arg4 harg4 arg5 harg5 hc0 x0 x1 s)]
  unfold kernelRun0_B
  dsimp only
  sl_unfold_words
  simp (disch := decide) only [View.readAt_eq_ld, harg2.read_unread, harg3.read_unread, harg5.read_unread,
    View.ld_unit_lit, View.readCov_cons_unit_lit', View.canon_cons_unit_lit]

end Block

variable (m : (ℓ : Loc nD τ sig) → Buf (Elt Ideal) ℓ) (c : Dev nD)

/-- The arguments: the rows and the weight. -/
abbrev argX : S65536x1024.Idx → EReal := (m (c, main_arg0) : S65536x1024.Idx → EReal)
abbrev argW : S1024x3584.Idx → EReal := (m (c, main_arg1) : S1024x3584.Idx → EReal)

/-- The product of rows and weight. -/
def out (X : S65536x1024.Idx → EReal) (W : S1024x3584.Idx → EReal) : S65536x3584.Idx → EReal := fun i =>
  ∑ d : Fin 1024, X (ix2 (i 0) d) * W (ix2 d (i 1))

theorem weight_eq : (V m c main_v0 : S1024x3584.Idx → EReal) = argW m c := by
  unfold V
  after_reads_simp
  rfl

theorem index0 : ∀ t : Fin grid0.N, win0_0.index t 0 = t.val / 2 ∧ win0_0.index t 1 = 0 := by decide +kernel
theorem index1 : ∀ t : Fin grid0.N, win0_1.index t 0 = 0 ∧ win0_1.index t 1 = t.val % 2 := by decide +kernel
theorem index2 : ∀ t : Fin grid0.N, win0_2.index t 0 = t.val / 2 ∧ win0_2.index t 1 = t.val % 2 := by decide +kernel

theorem lt_N (t : Fin cfg0.N) : t.val < 128 := t.isLt

/-- The block of rows that a point reads. -/
theorem blk_x (t : Fin cfg0.N) (r l : Fin 1024) :
    (iblk m c 0 t : S1024x1024.Idx → EReal) (ix2 r l) = argX m c (ix2 ⟨1024 * (t.val / 2) + r, by have := lt_N t; omega⟩ l) := by
  obtain ⟨e0, e1⟩ := index0 t
  have hV := V_main_arg0 m c
  unfold iblk
  generalize V m c = W at hV ⊢
  rw [View.read_apply, cast_eq]
  show (W main_arg0 : S65536x1024.Idx → EReal) _ = _
  rw [hV]
  refine congrArg (argX m c) ?_
  funext a
  apply Fin.ext
  fin_cases a
  · show win0_0.index t 0 * 1024 + 1 * (r : ℕ) = 1024 * (t.val / 2) + r
    omega
  · show win0_0.index t 1 * 1024 + 1 * (l : ℕ) = l
    omega

/-- The block of the weight's columns that a point reads. -/
theorem blk_w (t : Fin cfg0.N) (d : Fin 1024) (l : Fin 1792) :
    (iblk m c 1 t : S1024x1792.Idx → EReal) (ix2 d l) = argW m c (ix2 d ⟨1792 * (t.val % 2) + l, by omega⟩) := by
  obtain ⟨e0, e1⟩ := index1 t
  rw [← weight_eq]
  unfold iblk
  generalize V m c = W
  rw [View.read_apply, cast_eq]
  show (W main_v0 : S1024x3584.Idx → EReal) _ = _
  refine congrArg (W main_v0 : S1024x3584.Idx → EReal) ?_
  funext a
  apply Fin.ext
  fin_cases a
  · show win0_1.index t 0 * 1024 + 1 * (d : ℕ) = d
    omega
  · show win0_1.index t 1 * 1792 + 1 * (l : ℕ) = 1792 * (t.val % 2) + l
    omega

abbrev outM : S65536x3584.Idx → EReal := out (argX m c) (argW m c)

/-- A block whose rows are those of the point's row block. -/
theorem block_at (t : Fin cfg0.N) (s : S1024x1024.Idx → EReal)
    (hs : ∀ r d : Fin 1024, s (ix2 r d) = argX m c (ix2 ⟨1024 * (t.val / 2) + r, by have := lt_N t; omega⟩ d)) (r : Fin 1024) (j : Fin 1792) :
    (k0_pay2 (F := Ideal) s (iblk m c 1 t) : S1024x1792.Idx → EReal) (ix2 r j)
      = outM m c (ix2 ⟨1024 * (t.val / 2) + r, by have := lt_N t; omega⟩ ⟨1792 * (t.val % 2) + j, by omega⟩) := by
  refine (pay2_at _ _ r j).trans ?_
  simp only [hs, blk_w]
  rfl

/-- The scratch that a point of the first column block leaves. -/
theorem scratch_at (t : Fin cfg0.N) (h0 : t.val % 2 = 0) (r d : Fin 1024) :
    ((outsAt0 m c t.val t.isLt).2 : S1024x1024.Idx → EReal) (ix2 r d) = argX m c (ix2 ⟨1024 * (t.val / 2) + r, by have := lt_N t; omega⟩ d) := by
  rw [outsAt0_A m c t h0]
  dsimp only
  rw [scratchA_eq]
  exact (pay1_at _ r d).trans (blk_x m c t r d)

theorem point (t : Fin cfg0.N) (r : Fin 1024) (j : Fin 1792) :
    ((outsAt0 m c t.val t.isLt).1 : S1024x1792.Idx → EReal) (ix2 r j)
      = outM m c (ix2 ⟨1024 * (t.val / 2) + r, by have := lt_N t; omega⟩ ⟨1792 * (t.val % 2) + j, by omega⟩) := by
  by_cases h0 : t.val % 2 = 0
  · rw [outsAt0_A m c t h0]
    dsimp only
    rw [outA_eq]
    exact block_at m c t _ (fun r d => (pay1_at _ r d).trans (blk_x m c t r d)) r j
  · rw [outsAt0_B m c t h0]
    dsimp only
    rw [outB_eq]
    refine block_at m c t _ (fun r d => ?_) r j
    have hlt : t.val - 1 < cfg0.N := Nat.lt_of_le_of_lt (Nat.sub_le _ _) t.isLt
    refine (scratch_at m c ⟨t.val - 1, hlt⟩ (by show (t.val - 1) % 2 = 0; omega) r d).trans ?_
    refine congrArg (argX m c) (congrArg (ix2 · d) (Fin.ext ?_))
    show 1024 * ((t.val - 1) / 2) + r.val = 1024 * (t.val / 2) + r.val
    omega

theorem flushed2 (t : Fin cfg0.N) :
    (Cert.Kernel6Ideal.Gen.dats m 0 c).flushed 2 t = (win0_2.blk t).view.read (Elt Ideal) (outM m c) := by
  rw [Cert.Kernel6Ideal.Value.flushed2]
  obtain ⟨e0, e1⟩ := index2 t
  funext j
  have hN := lt_N t
  idx_vars j
  rw [View.read_apply]
  refine (point m c t j0 j1).trans ?_
  show _ = outM m c _
  refine congrArg (outM m c) ?_
  funext a
  apply Fin.ext
  fin_cases a
  · show 1024 * (t.val / 2) + j0.val = win0_2.index t 0 * 1024 + 1 * j0.val
    omega
  · show 1792 * (t.val % 2) + j1.val = win0_2.index t 1 * 1792 + 1 * j1.val
    omega

theorem cover2 (i : S65536x3584.Idx) : ∃ t : Fin cfg0.N, (cfg0.win 2).flush t = true ∧ i ∈ ((cfg0.win 2).blk t).view.set := by
  have h0 : (i 0 : ℕ) < 65536 := (i 0).isLt
  have h1 : (i 1 : ℕ) < 3584 := (i 1).isLt
  have hlt : 2 * ((i 0 : ℕ) / 1024) + (i 1 : ℕ) / 1792 < 128 := by omega
  refine ⟨⟨2 * ((i 0 : ℕ) / 1024) + (i 1 : ℕ) / 1792, hlt⟩, flush0_2 _, ?_⟩
  generalize ht : (⟨2 * ((i 0 : ℕ) / 1024) + (i 1 : ℕ) / 1792, hlt⟩ : Fin cfg0.N) = t
  have hv : t.val = 2 * ((i 0 : ℕ) / 1024) + (i 1 : ℕ) / 1792 := by rw [← ht]
  obtain ⟨e0, e1⟩ := index2 t
  show i ∈ ((View.whole main_v1).slice (win0_2.rect t)).set
  rw [View.set_slice_whole, Rect.mem_set_unit]
  intro a
  fin_cases a
  · show win0_2.index t 0 * 1024 ≤ (i 0 : ℕ) ∧ (i 0 : ℕ) < win0_2.index t 0 * 1024 + 1024
    omega
  · show win0_2.index t 1 * 1792 ≤ (i 1 : ℕ) ∧ (i 1 : ℕ) < win0_2.index t 1 * 1792 + 1792
    omega

/-- The kernel's result array ends holding the product. -/
theorem final2 : (Cert.Kernel6Ideal.Gen.dats m 0 c).arrAt 2 cfg0.N = outM m c :=
  (Cert.Kernel6Ideal.Gen.dats m 0 c).arrAt_eq_of_cover 2 (outM m c) (fun t _ => flushed2 m c t) cover2

end Cert.ProjIn

end
-- ==== Proof.ProjIn.Value.lean ====
module

public import proofs.«01_k».proof.Defs
public import proofs.«01_k».proof.Proof.ProjIn.Kern
public import proofs.«01_k».proof.Proof.Gen.Reference6Ideal.Run
public import Idealize.ShloMosaic.Lib.Quiescent

@[expose] public section

set_option maxRecDepth 16384

noncomputable section

/-! # The even layer's input projection: kernel and reference leave the same result -/

namespace Cert.ProjIn.Ref

open Idealize.ShloMosaic Cert.Reference6Ideal Cert.Reference6Ideal.Gen

def product (X : FVec Ideal S65536x1024 .f32) (W : FVec Ideal S1024x3584 .f32) : FVec Ideal S65536x3584 .bf16 :=
  truncf .bf16 (Host.dotGeneral dot_S65536x1024_S1024x3584_S65536x3584_1_0_0_1_n_n none X W) bitsLt_bf16_f32

theorem product_at (X : S65536x1024.Idx → EReal) (W : S1024x3584.Idx → EReal) (r : Fin 65536) (j : Fin 3584) :
    (product X W : S65536x3584.Idx → EReal) (ix2 r j) = ∑ d : Fin 1024, X (ix2 r d) * W (ix2 d j) := by
  unfold product
  pointwise

theorem result_eq (X : S65536x1024.Idx → EReal) (W : S1024x3584.Idx → EReal) : (product X W : S65536x3584.Idx → EReal) = out X W := by
  funext (i : S65536x3584.Idx)
  obtain ⟨r, j, rfl⟩ : ∃ (r : Fin 65536) (j : Fin 3584), i = ix2 r j := ⟨i 0, i 1, by
    funext b
    fin_cases b <;> rfl⟩
  exact product_at X W r j

end Cert.ProjIn.Ref

namespace Cert.ProjIn

open Idealize.ShloMosaic Idealize.SL.Sem Cert.Kernel6Ideal Cert.Kernel6Ideal.Gen Idealize.ShloMosaic.TcCoe

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- Kernel and reference leave the same result. -/
theorem algebraic_proj_in : Cert.algebraic_Kernel6Ideal_Reference6Ideal := by
  intro m g m' g' _ hagree
  refine ⟨fun c => outM m c, (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · exact ⟨(h c).1.trans (final2 m c), (h c).2⟩
  · obtain ⟨a0, a1⟩ := hagree c
    refine ⟨(h c).1.trans ?_, (h c).2⟩
    rw [a0, a1]
    exact Cert.ProjIn.Ref.result_eq _ _

end Cert.ProjIn

end
-- ==== Proof.OutLnEven.Pay.lean ====
module

public import proofs.«01_k».proof.Proof.Norm.Spec
public import proofs.«01_k».proof.Proof.Gen.Kernel7Ideal.Skeleton

@[expose] public section

set_option maxRecDepth 16384

noncomputable section

/-! # What the body of the even layer's output projection stores, entry by entry -/

namespace Cert.OutLnEven

open Idealize.ShloMosaic Cert.Kernel7Ideal Cert.Kernel7Ideal.Gen Cert.Norm

theorem pay1_at (o : S1024x512.Idx → EReal) (w : S512x1024.Idx → EReal) (o' : S1024x512.Idx → EReal) (w' : S512x1024.Idx → EReal)
    (x : S1024x1024.Idx → EReal) (g b : S1x1024.Idx → EReal) (r j : Fin 1024) :
    (k0_pay1 (F := Ideal) o w o' w' x g b : S1024x1024.Idx → EReal) (ix2 r j)
      = layerNorm (fun k => alpha * x (ix2 r k) + (∑ d, o (ix2 r d) * w (ix2 d k) + ∑ d, o' (ix2 r d) * w' (ix2 d k))) (g (ix2 0 j)) (b (ix2 0 j)) j := by
  unfold_payloads
  pointwise
  rfl

end Cert.OutLnEven

end
-- ==== Proof.OutLnEven.Kern.lean ====
module

public import proofs.«01_k».proof.Proof.OutLnEven.Pay
public import proofs.«01_k».proof.Proof.Gen.Kernel7Ideal.Value
public import Idealize.ShloMosaic.Lib.Pipeline.ValueKit.Tiles
public import Idealize.ShloMosaic.Lib.Pipeline.Value
public import Idealize.ShloMosaic.Lib.StableHlo.ReadAt

@[expose] public section

set_option maxRecDepth 16384

noncomputable section

/-! # What the result array of the even layer's output projection holds

  The grid point `t` reads and writes the rows `1024 t` to `1024 t + 1023`, all their columns. -/

namespace Cert.OutLnEven

open Idealize.ShloMosaic Cert.Kernel7Ideal Cert.Kernel7Ideal.Gen Cert.Norm Idealize.ShloMosaic.TcCoe

variable (m : (ℓ : Loc nD τ sig) → Buf (Elt Ideal) ℓ) (c : Dev nD)

/-- The arguments: the results of the stick-breaking attention and of the retention, the weight, the residual, the gain and the bias. -/
abbrev argO : S65536x512.Idx → EReal := (m (c, main_arg0) : S65536x512.Idx → EReal)
abbrev argR : S65536x512.Idx → EReal := (m (c, main_arg1) : S65536x512.Idx → EReal)
abbrev argW : S1024x1024.Idx → EReal := (m (c, main_arg2) : S1024x1024.Idx → EReal)
abbrev argX : S65536x1024.Idx → EReal := (m (c, main_arg3) : S65536x1024.Idx → EReal)
abbrev argG : S1024.Idx → EReal := (m (c, main_arg4) : S1024.Idx → EReal)
abbrev argB : S1024.Idx → EReal := (m (c, main_arg5) : S1024.Idx → EReal)

/-- The projection of a row at a column: the weight's first 512 rows meet the attention, the others the retention. -/
def proj (o p : Fin 512 → EReal) (W : S1024x1024.Idx → EReal) (k : Fin 1024) : EReal :=
  ∑ d : Fin 512, o d * W (ix2 ⟨d, by omega⟩ k) + ∑ d : Fin 512, p d * W (ix2 ⟨512 + d, by omega⟩ k)

/-- The result at a row and a column. -/
def out (O R : S65536x512.Idx → EReal) (X : S65536x1024.Idx → EReal) (W : S1024x1024.Idx → EReal) (g b : S1024.Idx → EReal) : S65536x1024.Idx → EReal := fun i =>
  layerNorm (fun k => alpha * X (ix2 (i 0) k) + proj (fun d => O (ix2 (i 0) d)) (fun d => R (ix2 (i 0) d)) W k) (g (ix1 (i 1))) (b (ix1 (i 1))) (i 1)

theorem weight_eq : (V m c main_v0 : S1024x1024.Idx → EReal) = argW m c := by
  unfold V
  after_reads_simp
  rfl

theorem gain_eq (j : Fin 1024) : (V m c main_v1 : S1x1024.Idx → EReal) (ix2 0 j) = argG m c (ix1 j) := by
  have h : (V m c main_v1 : S1x1024.Idx → EReal) = shapeCast S1x1024 (argG m c) shapeCasts_S1024_S1x1024 := by
    unfold V
    after_reads_simp
    rfl
  rw [h]
  pointwise

theorem bias_eq (j : Fin 1024) : (V m c main_v2 : S1x1024.Idx → EReal) (ix2 0 j) = argB m c (ix1 j) := by
  have h : (V m c main_v2 : S1x1024.Idx → EReal) = shapeCast S1x1024 (argB m c) shapeCasts_S1024_S1x1024 := by
    unfold V
    after_reads_simp
    rfl
  rw [h]
  pointwise

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel

theorem lt_N (t : Fin cfg0.N) : t.val < 64 := t.isLt

/-- The block of the stick-breaking attention's result that a point reads. -/
theorem blk_o (t : Fin cfg0.N) (r : Fin 1024) (l : Fin 512) :
    (iblk m c 0 t : S1024x512.Idx → EReal) (ix2 r l) = argO m c (ix2 ⟨1024 * t.val + r, by have := lt_N t; omega⟩ l) := by
  obtain ⟨e0, e1⟩ := index0 t
  have hV := V_main_arg0 m c
  unfold iblk
  generalize V m c = W at hV ⊢
  rw [View.read_apply, cast_eq]
  show (W main_arg0 : S65536x512.Idx → EReal) _ = _
  rw [hV]
  refine congrArg (argO m c) ?_
  funext a
  apply Fin.ext
  fin_cases a
  · show win0_0.index t 0 * 1024 + 1 * (r : ℕ) = 1024 * t.val + r
    omega
  · show win0_0.index t 1 * 512 + 1 * (l : ℕ) = l
    omega

/-- The block of the retention's result that a point reads. -/
theorem blk_r (t : Fin cfg0.N) (r : Fin 1024) (l : Fin 512) :
    (iblk m c 1 t : S1024x512.Idx → EReal) (ix2 r l) = argR m c (ix2 ⟨1024 * t.val + r, by have := lt_N t; omega⟩ l) := by
  obtain ⟨e0, e1⟩ := index1 t
  have hV := V_main_arg1 m c
  unfold iblk
  generalize V m c = W at hV ⊢
  rw [View.read_apply, cast_eq]
  show (W main_arg1 : S65536x512.Idx → EReal) _ = _
  rw [hV]
  refine congrArg (argR m c) ?_
  funext a
  apply Fin.ext
  fin_cases a
  · show win0_1.index t 0 * 1024 + 1 * (r : ℕ) = 1024 * t.val + r
    omega
  · show win0_1.index t 1 * 512 + 1 * (l : ℕ) = l
    omega

/-- The block of the residual that a point reads. -/
theorem blk_x (t : Fin cfg0.N) (r l : Fin 1024) :
    (iblk m c 3 t : S1024x1024.Idx → EReal) (ix2 r l) = argX m c (ix2 ⟨1024 * t.val + r, by have := lt_N t; omega⟩ l) := by
  obtain ⟨e0, e1⟩ := index3 t
  have hV := V_main_arg3 m c
  unfold iblk
  generalize V m c = W at hV ⊢
  rw [View.read_apply, cast_eq]
  show (W main_arg3 : S65536x1024.Idx → EReal) _ = _
  rw [hV]
  refine congrArg (argX m c) ?_
  funext a
  apply Fin.ext
  fin_cases a
  · show win0_3.index t 0 * 1024 + 1 * (r : ℕ) = 1024 * t.val + r
    omega
  · show win0_3.index t 1 * 1024 + 1 * (l : ℕ) = l
    omega

theorem blk_w (t : Fin cfg0.N) (d l : Fin 1024) : (iblk m c 2 t : S1024x1024.Idx → EReal) (ix2 d l) = argW m c (ix2 d l) := by
  obtain ⟨e0, e1⟩ := index2 t
  rw [← weight_eq]
  unfold iblk
  generalize V m c = W
  rw [View.read_apply, cast_eq]
  show (W main_v0 : S1024x1024.Idx → EReal) _ = _
  refine congrArg (W main_v0 : S1024x1024.Idx → EReal) ?_
  funext a
  apply Fin.ext
  fin_cases a
  · show win0_2.index t 0 * 1024 + 1 * (d : ℕ) = d
    omega
  · show win0_2.index t 1 * 1024 + 1 * (l : ℕ) = l
    omega

theorem blk_g (t : Fin cfg0.N) (l : Fin 1024) : (iblk m c 4 t : S1x1024.Idx → EReal) (ix2 0 l) = argG m c (ix1 l) := by
  obtain ⟨e0, e1⟩ := index4 t
  rw [← gain_eq]
  unfold iblk
  generalize V m c = W
  rw [View.read_apply, cast_eq]
  show (W main_v1 : S1x1024.Idx → EReal) _ = _
  refine congrArg (W main_v1 : S1x1024.Idx → EReal) ?_
  funext a
  apply Fin.ext
  fin_cases a
  · show win0_4.index t 0 * 1 + 1 * 0 = 0
    omega
  · show win0_4.index t 1 * 1024 + 1 * (l : ℕ) = l
    omega

theorem blk_b (t : Fin cfg0.N) (l : Fin 1024) : (iblk m c 5 t : S1x1024.Idx → EReal) (ix2 0 l) = argB m c (ix1 l) := by
  obtain ⟨e0, e1⟩ := index5 t
  rw [← bias_eq]
  unfold iblk
  generalize V m c = W
  rw [View.read_apply, cast_eq]
  show (W main_v2 : S1x1024.Idx → EReal) _ = _
  refine congrArg (W main_v2 : S1x1024.Idx → EReal) ?_
  funext a
  apply Fin.ext
  fin_cases a
  · show win0_5.index t 0 * 1 + 1 * 0 = 0
    omega
  · show win0_5.index t 1 * 1024 + 1 * (l : ℕ) = l
    omega

section Block

variable (x0 x1 : Vec Ideal S1024x512 .bf16) (x2 : Vec Ideal S1024x1024 .bf16) (x3 : Vec Ideal S1024x1024 .f32) (x4 x5 : Vec Ideal S1x1024 .f32)

/-- The block that a point leaves: the weight is read in two halves. -/
theorem out6_eq : out0_6 (F := Ideal) x0 x1 x2 x3 x4 x5 = k0_pay1 (F := Ideal) x0 (View.ld x2 r0_1) x1 (View.ld x2 r0_2) x3 x4 x5 := by
  unfold out0_6
  rw [View.canon_cons_unit_lit _ _ _ (by decide)]
  rw [View.ld_unit_lit _ x0 (by decide), View.ld_unit_lit _ x1 (by decide), View.ld_unit_lit _ x3 (by decide), View.ld_unit_lit _ x4 (by decide), View.ld_unit_lit _ x5 (by decide)]

theorem upper_at (w : Vec Ideal S1024x1024 .bf16) (d : Fin 512) (k : Fin 1024) :
    (View.ld w r0_1 : S512x1024.Idx → EReal) (ix2 d k) = (w : S1024x1024.Idx → EReal) (ix2 ⟨d, by omega⟩ k) := by
  refine View.ld_unit_apply_of w _ _ _ _ _ fun a => ?_
  fin_cases a
  · show (d : ℕ) = 0 + d
    omega
  · show (k : ℕ) = 0 + k
    omega

theorem lower_at (w : Vec Ideal S1024x1024 .bf16) (d : Fin 512) (k : Fin 1024) :
    (View.ld w r0_2 : S512x1024.Idx → EReal) (ix2 d k) = (w : S1024x1024.Idx → EReal) (ix2 ⟨512 + d, by omega⟩ k) := by
  refine View.ld_unit_apply_of w _ _ _ _ _ fun a => ?_
  fin_cases a
  · rfl
  · show (k : ℕ) = 0 + k
    omega

end Block

abbrev outM : S65536x1024.Idx → EReal := out (argO m c) (argR m c) (argX m c) (argW m c) (argG m c) (argB m c)

theorem point6 (t : Fin cfg0.N) (r j : Fin 1024) :
    (out0_6 (F := Ideal) (iblk m c 0 t) (iblk m c 1 t) (iblk m c 2 t) (iblk m c 3 t) (iblk m c 4 t) (iblk m c 5 t) : S1024x1024.Idx → EReal) (ix2 r j)
      = outM m c (ix2 ⟨1024 * t.val + r, by have := lt_N t; omega⟩ j) := by
  rw [out6_eq]
  have hU := fun (d : Fin 512) (k : Fin 1024) => (upper_at (iblk m c 2 t) d k).trans (blk_w m c t ⟨d, by omega⟩ k)
  have hL := fun (d : Fin 512) (k : Fin 1024) => (lower_at (iblk m c 2 t) d k).trans (blk_w m c t ⟨512 + d, by omega⟩ k)
  generalize View.ld (iblk m c 2 t) r0_1 = U at hU ⊢
  generalize View.ld (iblk m c 2 t) r0_2 = L at hL ⊢
  refine (pay1_at _ U _ L _ _ _ r j).trans ?_
  simp only [hU, hL, blk_o, blk_r, blk_x, blk_g, blk_b]
  rfl

theorem flushed6 (t : Fin cfg0.N) :
    (Cert.Kernel7Ideal.Gen.dats m 0 c).flushed 6 t = (win0_6.blk t).view.read (Elt Ideal) (outM m c) := by
  rw [Cert.Kernel7Ideal.Value.flushed6]
  obtain ⟨e0, e1⟩ := index6 t
  funext j
  have hN := lt_N t
  idx_vars j
  rw [View.read_apply]
  refine (point6 m c t j0 j1).trans ?_
  show _ = outM m c _
  refine congrArg (outM m c) ?_
  funext a
  apply Fin.ext
  fin_cases a
  · show 1024 * t.val + j0.val = win0_6.index t 0 * 1024 + 1 * j0.val
    omega
  · show j1.val = win0_6.index t 1 * 1024 + 1 * j1.val
    omega

theorem cover6 (i : S65536x1024.Idx) : ∃ t : Fin cfg0.N, (cfg0.win 6).flush t = true ∧ i ∈ ((cfg0.win 6).blk t).view.set := by
  have h0 : (i 0 : ℕ) < 65536 := (i 0).isLt
  have h1 : (i 1 : ℕ) < 1024 := (i 1).isLt
  have hlt : (i 0 : ℕ) / 1024 < 64 := by omega
  refine ⟨⟨(i 0 : ℕ) / 1024, hlt⟩, flush0_6 _, ?_⟩
  generalize ht : (⟨(i 0 : ℕ) / 1024, hlt⟩ : Fin cfg0.N) = t
  have hv : t.val = (i 0 : ℕ) / 1024 := by rw [← ht]
  obtain ⟨e0, e1⟩ := index6 t
  show i ∈ ((View.whole main_v3).slice (win0_6.rect t)).set
  rw [View.set_slice_whole, Rect.mem_set_unit]
  intro a
  fin_cases a
  · show win0_6.index t 0 * 1024 ≤ (i 0 : ℕ) ∧ (i 0 : ℕ) < win0_6.index t 0 * 1024 + 1024
    omega
  · show win0_6.index t 1 * 1024 ≤ (i 1 : ℕ) ∧ (i 1 : ℕ) < win0_6.index t 1 * 1024 + 1024
    omega

/-- The kernel's result array ends holding the layer norm. -/
theorem final6 : (Cert.Kernel7Ideal.Gen.dats m 0 c).arrAt 6 cfg0.N = outM m c :=
  (Cert.Kernel7Ideal.Gen.dats m 0 c).arrAt_eq_of_cover 6 (outM m c) (fun t _ => flushed6 m c t) cover6

end Cert.OutLnEven

end
-- ==== Proof.OutLnEven.Value.lean ====
module

public import proofs.«01_k».proof.Defs
public import proofs.«01_k».proof.Proof.OutLnEven.Kern
public import proofs.«01_k».proof.Proof.Gen.Reference7Ideal.Run
public import Idealize.ShloMosaic.Lib.Quiescent

@[expose] public section

set_option maxRecDepth 16384

noncomputable section

/-! # The even layer's output projection: kernel and reference leave the same result -/

namespace Cert.OutLnEven.Ref

open Idealize.ShloMosaic Idealize.SL.Sem Cert.Reference7Ideal Cert.Reference7Ideal.Gen Cert.Norm Idealize.ShloMosaic.TcCoe

/-- The mean of each row. -/
def means (Y : FVec Ideal S65536x1024 .f32) : FVec Ideal S65536x1 .f32 :=
  Host.divf (broadcastInDim S65536x1 ![0] bcast_S65536_S65536x1_0 (Host.reduceAdd Y (constant S_ .f32 0x00000000#32) reducesTo_S65536x1024_S65536_d1 h_S_))
    (broadcastInDim S65536x1 ![] bcast_S_S65536x1 (constant S_ .f32 0x44800000#32))

theorem means_at (Y : S65536x1024.Idx → EReal) (r : Fin 65536) : (means Y : S65536x1.Idx → EReal) (ix2 r 0) = mean fun k => Y (ix2 r k) := by
  unfold means
  pointwise
  rfl

/-- Each row less its mean. -/
def centred (Y : FVec Ideal S65536x1024 .f32) : FVec Ideal S65536x1024 .f32 :=
  subf Y (broadcastInDim S65536x1024 ![0, 1] bcast_S65536x1_S65536x1024_0_1 (means Y))

theorem centred_at (Y : S65536x1024.Idx → EReal) (r : Fin 65536) (j : Fin 1024) :
    (centred Y : S65536x1024.Idx → EReal) (ix2 r j) = Y (ix2 r j) - mean fun k => Y (ix2 r k) := by
  unfold centred
  pointwise
  rw [means_at]

def normed (Y : FVec Ideal S65536x1024 .f32) (g b : FVec Ideal S1024 .f32) : FVec Ideal S65536x1024 .f32 :=
  addf (mulf (mulf (centred Y) (broadcastInDim S65536x1024 ![0, 1] bcast_S65536x1_S65536x1024_0_1
      (Host.rsqrt (addf (means (mulf (centred Y) (centred Y))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem normed_at (Y : S65536x1024.Idx → EReal) (g b : S1024.Idx → EReal) (r : Fin 65536) (j : Fin 1024) :
    (normed Y g b : S65536x1024.Idx → EReal) (ix2 r j) = layerNorm (fun k => Y (ix2 r k)) (g (ix1 j)) (b (ix1 j)) j := by
  have hm := means_at (mulf (F := Ideal) (centred Y) (centred Y) : S65536x1024.Idx → EReal) r
  have hc : (fun k => (mulf (F := Ideal) (centred Y) (centred Y) : S65536x1024.Idx → EReal) (ix2 r k))
      = fun k => (Y (ix2 r k) - mean fun k => Y (ix2 r k)) * (Y (ix2 r k) - mean fun k => Y (ix2 r k)) := by
    funext k
    have h := centred_at Y r k
    pointwise
    rw [h]
  rw [hc] at hm
  have h := centred_at Y r j
  unfold normed
  generalize means (mulf (F := Ideal) (centred Y) (centred Y)) = M at hm ⊢
  pointwise
  rw [h, hm]
  rfl

/-- The two results side by side. -/
def joined (O R : FVec Ideal S65536x512 .bf16) : FVec Ideal S65536x1024 .bf16 :=
  concatenate S65536x1024 1 [⟨S65536x512, O⟩, ⟨S65536x512, R⟩] concatenates_S65536x512_S65536x512_S65536x1024_d1

theorem joined_left (O R : S65536x512.Idx → EReal) (r : Fin 65536) (d : Fin 512) :
    (joined O R : S65536x1024.Idx → EReal) (ix2 r ⟨d, by omega⟩) = O (ix2 r d) := by
  unfold joined
  pointwise

theorem joined_right (O R : S65536x512.Idx → EReal) (r : Fin 65536) (d : Fin 512) :
    (joined O R : S65536x1024.Idx → EReal) (ix2 r ⟨512 + d, by omega⟩) = R (ix2 r d) := by
  unfold joined
  pointwise

/-- The residual and the projection, added. -/
def summed (O R : FVec Ideal S65536x512 .bf16) (W : FVec Ideal S1024x1024 .f32) (X : FVec Ideal S65536x1024 .f32) : FVec Ideal S65536x1024 .f32 :=
  addf (mulf (broadcastInDim S65536x1024 ![] bcast_S_S65536x1024 (constant S_ .f32 0x3FB504F3#32)) X)
    (Host.dotGeneral dot_S65536x1024_S1024x1024_S65536x1024_1_0_0_1_n_n none (extf .f32 (joined O R) bitsLt_bf16_f32) W)

theorem summed_at (O R : S65536x512.Idx → EReal) (W : S1024x1024.Idx → EReal) (X : S65536x1024.Idx → EReal) (r : Fin 65536) (j : Fin 1024) :
    (summed O R W X : S65536x1024.Idx → EReal) (ix2 r j) = alpha * X (ix2 r j) + proj (fun d => O (ix2 r d)) (fun d => R (ix2 r d)) W j := by
  have h : (∑ d : Fin 1024, (joined O R : S65536x1024.Idx → EReal) (ix2 r d) * W (ix2 d j)) = proj (fun d => O (ix2 r d)) (fun d => R (ix2 r d)) W j := by
    refine (Fin.sum_univ_add (a := 512) (b := 512) fun d : Fin (512 + 512) => (joined O R : S65536x1024.Idx → EReal) (ix2 r d) * W (ix2 d j)).trans ?_
    unfold proj
    refine congrArg₂ (fun y z => y + z) (Finset.sum_congr rfl fun d _ => ?_) (Finset.sum_congr rfl fun d _ => ?_)
    · exact congrArg (fun z => z * W (ix2 ⟨d, by omega⟩ j)) (joined_left O R r d)
    · exact congrArg (fun z => z * W (ix2 ⟨512 + d, by omega⟩ j)) (joined_right O R r d)
  rw [← h]
  unfold summed
  generalize joined O R = J
  pointwise
  rfl

theorem result_eq (O R : S65536x512.Idx → EReal) (W : S1024x1024.Idx → EReal) (X : S65536x1024.Idx → EReal) (g b : S1024.Idx → EReal) :
    (normed (summed O R W X) g b : S65536x1024.Idx → EReal) = out O R X W g b := by
  funext (i : S65536x1024.Idx)
  obtain ⟨r, j, rfl⟩ : ∃ (r : Fin 65536) (j : Fin 1024), i = ix2 r j := ⟨i 0, i 1, by
    funext b
    fin_cases b <;> rfl⟩
  rw [normed_at]
  simp only [summed_at]
  rfl

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = normed (summed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Cert.Reference7Ideal.Value.run m ρ)
  unfold normed summed centred means joined
  rfl

end Cert.OutLnEven.Ref

namespace Cert.OutLnEven

open Idealize.ShloMosaic Idealize.SL.Sem Cert.Kernel7Ideal Cert.Kernel7Ideal.Gen Idealize.ShloMosaic.TcCoe

theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- Kernel and reference leave the same result. -/
theorem algebraic_out_ln_even : Cert.algebraic_Kernel7Ideal_Reference7Ideal := by
  intro m g m' g' _ hagree
  refine ⟨fun c => outM m c, (θ_run Cert.Kernel7Ideal.defs _ _).mono (fun r h c => ?_) (Cert.Kernel7Ideal.Value.run_blocks m g),
    (θ_run Cert.Reference7Ideal.defs _ _).mono (fun r h c => ?_) (Cert.OutLnEven.Ref.run_result m' g')⟩
  · exact ⟨(h c).1.trans (final6 m c), (h c).2⟩
  · obtain ⟨a0, a1, a2, a3, a4, a5⟩ := hagree c
    refine ⟨(h c).1.trans ?_, (h c).2⟩
    rw [a0, a1, a2, a3, a4, a5]
    exact Cert.OutLnEven.Ref.result_eq _ _ _ _ _ _

end Cert.OutLnEven

end
-- ==== Proof.Combine.Body.lean ====
/- The body of the combining call in its parts: the accumulator cleared, the four pairs of a table's step one after
   another, the normalised row block stored. Each part run once, at whatever the step's flag says. -/
module

public import proofs.«01_k».proof.Proof.Gen.Kernel8Ideal.Launch
public import proofs.«01_k».proof.Proof.Gen.Kernel8Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ (UR sig nD τ) ℕ

/-- Whether a flag has a bit, as the body asks it. -/
def bit (v b : BitVec 32) : BitVec 1 :=
  Scalar.cmpi .ne (Scalar.extui (Scalar.cmpi .ne (Scalar.andi v b) 0#32) : BitVec 32) 0#32

/-- The side condition of a narrow pair's load: its window is a multiple of 16 and inside the tile. -/
def Fits (v1 L N w : BitVec 32) : Prop :=
  (∀ (h2 : bit v1 L = 1#1), ∀ (h3 : bit v1 N = 1#1), 16 ∣ w.toNat) ∧
  (∀ (h2 : bit v1 L = 1#1), ∀ (h3 : bit v1 N = 1#1), ∀ a, (k0_off4 w) a + S256x1024.size a ≤ S512x1024.size a)

/-- One pair's part of the body, `k` after it. -/
def pairProg (i : grid0.Coords) (tl wd : Memref sig .tc .smem S419 .i32) (col : Memref sig .tc .vmem S512x128 .f32)
    (os : Memref sig .tc .vmem S512x1024 .bf16) (acc : Memref sig .tc .vmem S512x1024 .f32) (v1 L N : BitVec 32)
    (dec : ∀ w, Decidable (Fits v1 L N w)) (k : Prog (TpuEff nD τ sig (Elt F) Λ₀ .tc) PUnit) : Prog (TpuEff nD τ sig (Elt F) Λ₀ .tc) PUnit :=
  if h2 : bit v1 L = 1#1 then do
    let v28 : Vec F S512x1 .f32 ← Prog.lift (.load col (Rect.unit (s := S512x128) ![0, 2] S512x1.size inb_S512x128_S512x1_0_2).toLoadRect (View.loadsAt_vmem h_S512x1))
    let v30 : Vec F S512x1 .f32 ← Prog.lift (.load col (Rect.unit (s := S512x128) ![0, 3] S512x1.size inb_S512x128_S512x1_0_3).toLoadRect (View.loadsAt_vmem h_S512x1))
    if h3 : bit v1 N = 1#1 then do
      let v38 : Elt F .i32 ← smemLoad wd (Rect.unit (s := S419) (k0_off1 i) S1.size (k0_off1_inb i)) numel1_S1 rfl
      have hw : Fits v1 L N v38 := (← Prog.lift (TpuEff.assume (Fits v1 L N v38) (dec v38))).down
      let v41 : Elt F .i32 ← smemLoad tl (Rect.unit (s := S419) (k0_off1 i) S1.size (k0_off1_inb i)) numel1_S1 rfl
      let v56 : Vec F S512x1024 .f32 ← Prog.lift (.load acc (Rect.unit (s := S512x1024) ![0, 0] S512x1024.size inb_S512x1024_S512x1024_0_0).toLoadRect (View.loadsAt_vmem h_S512x1024))
      let v58 : Vec F S256x1024 .bf16 ← Prog.lift (.load os (Rect.unit (s := S512x1024) (k0_off4 v38) S256x1024.size (hw.2 h2 h3)).toLoadRect (View.loadsAt_vmem h_S256x1024))
      let v61 : Vec F S512x1024 .f32 ← Prog.lift (.load acc (Rect.unit (s := S512x1024) ![0, 0] S512x1024.size inb_S512x1024_S512x1024_0_0).toLoadRect (View.loadsAt_vmem h_S512x1024))
      Prog.lift (.store acc (Rect.unit (s := S512x1024) ![0, 0] S512x1024.size inb_S512x1024_S512x1024_0_0) (k0_pay4 v28 v30 v38 v41 v56 v58) Finset.univ (View.stores_vmem_bits_univ h_S512x1024 rfl) (.inl rfl))
      if Scalar.cmpi .ne (Scalar.extui (Scalar.xori (Scalar.cmpi .ne (Scalar.andi v1 N) 0#32) 1#1) : BitVec 32) 0#32 = 1#1 then do
        let v38 : Elt F .i32 ← smemLoad tl (Rect.unit (s := S419) (k0_off1 i) S1.size (k0_off1_inb i)) numel1_S1 rfl
        let v53 : Vec F S512x1024 .f32 ← Prog.lift (.load acc (Rect.unit (s := S512x1024) ![0, 0] S512x1024.size inb_S512x1024_S512x1024_0_0).toLoadRect (View.loadsAt_vmem h_S512x1024))
        let v54 : Vec F S512x1024 .bf16 ← Prog.lift (.load os (Rect.unit (s := S512x1024) ![0, 0] S512x1024.size inb_S512x1024_S512x1024_0_0).toLoadRect (View.loadsAt_vmem h_S512x1024))
        let v57 : Vec F S512x1024 .f32 ← Prog.lift (.load acc (Rect.unit (s := S512x1024) ![0, 0] S512x1024.size inb_S512x1024_S512x1024_0_0).toLoadRect (View.loadsAt_vmem h_S512x1024))
        Prog.lift (.store acc (Rect.unit (s := S512x1024) ![0, 0] S512x1024.size inb_S512x1024_S512x1024_0_0) (k0_pay5 v28 v30 v38 v53 v54) Finset.univ (View.stores_vmem_bits_univ h_S512x1024 rfl) (.inl rfl))
        k
      else k
    else if Scalar.cmpi .ne (Scalar.extui (Scalar.xori (Scalar.cmpi .ne (Scalar.andi v1 N) 0#32) 1#1) : BitVec 32) 0#32 = 1#1 then do
      let v38 : Elt F .i32 ← smemLoad tl (Rect.unit (s := S419) (k0_off1 i) S1.size (k0_off1_inb i)) numel1_S1 rfl
      let v53 : Vec F S512x1024 .f32 ← Prog.lift (.load acc (Rect.unit (s := S512x1024) ![0, 0] S512x1024.size inb_S512x1024_S512x1024_0_0).toLoadRect (View.loadsAt_vmem h_S512x1024))
      let v54 : Vec F S512x1024 .bf16 ← Prog.lift (.load os (Rect.unit (s := S512x1024) ![0, 0] S512x1024.size inb_S512x1024_S512x1024_0_0).toLoadRect (View.loadsAt_vmem h_S512x1024))
      let v57 : Vec F S512x1024 .f32 ← Prog.lift (.load acc (Rect.unit (s := S512x1024) ![0, 0] S512x1024.size inb_S512x1024_S512x1024_0_0).toLoadRect (View.loadsAt_vmem h_S512x1024))
      Prog.lift (.store acc (Rect.unit (s := S512x1024) ![0, 0] S512x1024.size inb_S512x1024_S512x1024_0_0) (k0_pay5 v28 v30 v38 v53 v54) Finset.univ (View.stores_vmem_bits_univ h_S512x1024 rfl) (.inl rfl))
      k
    else k
  else k

/-- The last part: the block's rows normalised and stored, where the flag says so. -/
def lastProg (x : Memref sig .tc .vmem S512x1024 .f32) (g b : Memref sig .tc .vmem S1x1024 .f32) (o acc : Memref sig .tc .vmem S512x1024 .f32)
    (v1 : BitVec 32) : Prog (TpuEff nD τ sig (Elt F) Λ₀ .tc) PUnit :=
  if bit v1 2#32 = 1#1 then do
    let v26 : Vec F S512x1024 .f32 ← Prog.lift (.load x (Rect.unit (s := S512x1024) ![0, 0] S512x1024.size inb_S512x1024_S512x1024_0_0).toLoadRect (View.loadsAt_vmem h_S512x1024))
    let v29 : Vec F S512x1024 .f32 ← Prog.lift (.load acc (Rect.unit (s := S512x1024) ![0, 0] S512x1024.size inb_S512x1024_S512x1024_0_0).toLoadRect (View.loadsAt_vmem h_S512x1024))
    let v31 : Vec F S1x1024 .f32 ← Prog.lift (.load g (Rect.unit (s := S1x1024) ![0, 0] S1x1024.size inb_S1x1024_S1x1024_0_0).toLoadRect (View.loadsAt_vmem h_S1x1024))
    let v33 : Vec F S1x1024 .f32 ← Prog.lift (.load b (Rect.unit (s := S1x1024) ![0, 0] S1x1024.size inb_S1x1024_S1x1024_0_0).toLoadRect (View.loadsAt_vmem h_S1x1024))
    let v55 : Vec F S512x1024 .f32 ← Prog.lift (.load o (Rect.unit (s := S512x1024) ![0, 0] S512x1024.size inb_S512x1024_S512x1024_0_0).toLoadRect (View.loadsAt_vmem h_S512x1024))
    Prog.lift (.store o (Rect.unit (s := S512x1024) ![0, 0] S512x1024.size inb_S512x1024_S512x1024_0_0) (k0_pay18 v26 v29 v31 v33) Finset.univ (View.stores_vmem_bits_univ h_S512x1024 rfl) (.inl rfl))
    pure ⟨⟩
  else pure ⟨⟩

/-- The first part: the accumulator cleared where the flag says so, `k` after it. -/
def firstProg (acc : Memref sig .tc .vmem S512x1024 .f32) (v1 : BitVec 32) (k : Prog (TpuEff nD τ sig (Elt F) Λ₀ .tc) PUnit) :
    Prog (TpuEff nD τ sig (Elt F) Λ₀ .tc) PUnit :=
  if bit v1 1#32 = 1#1 then do
    let v27 : Vec F S512x1024 .f32 ← Prog.lift (.load acc (Rect.unit (s := S512x1024) ![0, 0] S512x1024.size inb_S512x1024_S512x1024_0_0).toLoadRect (View.loadsAt_vmem h_S512x1024))
    Prog.lift (.store acc (Rect.unit (s := S512x1024) ![0, 0] S512x1024.size inb_S512x1024_S512x1024_0_0) (k0_pay1 (F := F)) Finset.univ (View.stores_vmem_bits_univ h_S512x1024 rfl) (.inl rfl))
    k
  else k

set_option maxHeartbeats 1000000 in
/-- The body is its parts. -/
theorem body_parts (i : grid0.Coords) (a1 : Memref sig .tc .smem S419 .i32) (h1 : a1.IsWhole) (a2 : Memref sig .tc .smem S419 .i32) (h2 : a2.IsWhole)
    (a3 : Memref sig .tc .smem S419 .i32) (h3 : a3.IsWhole) (a4 : Memref sig .tc .smem S419 .i32) (h4 : a4.IsWhole)
    (a5 : Memref sig .tc .smem S419 .i32) (h5 : a5.IsWhole) (a6 : Memref sig .tc .smem S419 .i32) (h6 : a6.IsWhole)
    (a7 : Memref sig .tc .smem S419 .i32) (h7 : a7.IsWhole) (a8 : Memref sig .tc .smem S419 .i32) (h8 : a8.IsWhole)
    (a9 : Memref sig .tc .smem S419 .i32) (h9 : a9.IsWhole) (a10 : Memref sig .tc .smem S419 .i32) (h10 : a10.IsWhole)
    (a11 : Memref sig .tc .vmem S512x128 .f32) (h11 : a11.IsWhole) (a12 : Memref sig .tc .vmem S512x1024 .bf16) (h12 : a12.IsWhole)
    (a13 : Memref sig .tc .vmem S512x1024 .bf16) (h13 : a13.IsWhole) (a14 : Memref sig .tc .vmem S512x1024 .bf16) (h14 : a14.IsWhole)
    (a15 : Memref sig .tc .vmem S512x1024 .bf16) (h15 : a15.IsWhole) (a16 : Memref sig .tc .vmem S512x1024 .f32) (h16 : a16.IsWhole)
    (a17 : Memref sig .tc .vmem S1x1024 .f32) (h17 : a17.IsWhole) (a18 : Memref sig .tc .vmem S1x1024 .f32) (h18 : a18.IsWhole)
    (a19 : Memref sig .tc .vmem S512x1024 .f32) (h19 : a19.IsWhole) (a20 : Memref sig .tc .vmem S512x1024 .f32) (h20 : a20.IsWhole) :
    cc0_moe_combine_ln (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20
      = (do
        let v1 : Elt F .i32 ← smemLoad a2 (Rect.unit (s := S419) (k0_off1 i) S1.size (k0_off1_inb i)) numel1_S1 rfl
        firstProg a20 v1 (pairProg i a3 a7 a11 a12 a20 v1 4#32 8#32 (fun w => k0_chk1.dec v1 w)
          (pairProg i a4 a8 a11 a13 a20 v1 16#32 32#32 (fun w => k0_chk2.dec v1 w)
            (pairProg i a5 a9 a11 a14 a20 v1 64#32 128#32 (fun w => k0_chk3.dec v1 w)
              (pairProg i a6 a10 a11 a15 a20 v1 256#32 512#32 (fun w => k0_chk4.dec v1 w)
                (lastProg a16 a17 a18 a19 a20 v1)))))) := by
  rw [cc0_moe_combine_ln_eq_skeleton]
  rfl

end Cert.Combine

end
-- ==== Proof.Combine.Parts.lean ====
/- What each part of the combining call's body does to the buffers. -/
module

public import proofs.«01_k».proof.Proof.Combine.Body
public import Idealize.ShloMosaic.Lib.Pipeline.ValueKit.Tiles

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel8Ideal Cert.Kernel8Ideal.Gen

variable {F : FTy → Type} [FloatOps F]

local notation "𝕄" => MT nD τ sig Unit (Elt F) ℕ (UR sig nD τ) ℕ

theorem zero2 : (![0, 0] : Fin 2 → Nat) = fun _ => 0 := by decide

/-- A whole store made last is what the buffer reads. -/
theorem read_whole_store {e : EltTy} {sp : Space} (v : View sig .tc sp S512x1024 e) (f : v.ty.Contents (Elt F))
    (w : S512x1024.Idx → Elt F e) (L : List (View.Piece (Elt F) S512x1024 e)) :
    v.read (Elt F) (v.writes (Elt F) f ((⟨Rect.unit ![0, 0] S512x1024.size inb_S512x1024_S512x1024_0_0, w⟩ : View.Piece (Elt F) S512x1024 e) :: L)) = w := by
  rw [View.read_writes_eq_canon _ _ _ (fun y => ⟨_, List.mem_cons_self, View.mem_set_unit_zero zero2 inb_S512x1024_S512x1024_0_0 y⟩)]
  exact View.canon_cons_unit_zero zero2 _ w L

theorem coord_lt (i : grid0.Coords) : (i 0).val < 419 := (i 0).isLt

/-- A table's word at a step. -/
def word (T : Vec F S419 .i32) (i : grid0.Coords) : BitVec 32 := T (ix1 (⟨(i 0).val, coord_lt i⟩ : Fin 419) : S419.Idx)

theorem off_step (i : grid0.Coords) : k0_off1 i = ![(i 0).val] := by
  unfold k0_off1
  dsimp only
  have hi := coord_lt i
  show ![(BitVec.ofNat 32 (i 0).val).toNat] = _
  rw [BitVec.toNat_ofNat, Nat.mod_eq_of_lt (by omega)]

theorem ld_word (T : Vec F S419 .i32) (i : grid0.Coords) (x) :
    View.ld T (Rect.unit (s := S419) (k0_off1 i) S1.size (k0_off1_inb i)) x = word T i := by
  refine View.ld_unit_apply_of T _ _ _ x _ fun a => ?_
  fin_cases a
  have hx : (x 0).val < 1 := (x 0).isLt
  have e : k0_off1 i 0 = (i 0).val := congrFun (off_step i) 0
  show (i 0).val = k0_off1 i 0 + (x 0).val
  omega

/-- The two columns of positions. -/
def col1 (C : Vec F S512x128 .f32) : Vec F S512x1 .f32 := View.ld C (Rect.unit (s := S512x128) ![0, 2] S512x1.size inb_S512x128_S512x1_0_2)
def col2 (C : Vec F S512x128 .f32) : Vec F S512x1 .f32 := View.ld C (Rect.unit (s := S512x128) ![0, 3] S512x1.size inb_S512x128_S512x1_0_3)

/-- A window of 256 rows of a tile, from row `w`. -/
def rowsAt (O : Vec F S512x1024 .bf16) (w : BitVec 32) : Vec F S256x1024 .bf16 :=
  fun y => O (ix2 (⟨(w.toNat + (y 0).val) % 512, Nat.mod_lt _ (by decide)⟩ : Fin 512) (y 1) : S512x1024.Idx)

theorem ld_rows (O : Vec F S512x1024 .bf16) {w w' : BitVec 32} (e : w = w') (h : ∀ a, (k0_off4 w) a + S256x1024.size a ≤ S512x1024.size a) :
    View.ld O (Rect.unit (s := S512x1024) (k0_off4 w) S256x1024.size h) = rowsAt O w' := by
  subst e
  funext y
  refine View.ld_unit_apply_of O _ _ _ y _ fun a => ?_
  have h0 : w.toNat + 256 ≤ 512 := h 0
  have h1 : (y 0).val < 256 := (y 0).isLt
  fin_cases a
  · show (w.toNat + (y 0).val) % 512 = w.toNat + (y 0).val
    omega
  · show (y 1).val = 0 + (y 1).val
    omega

/-- What one pair leaves of the accumulator. -/
def pairStep (C : Vec F S512x128 .f32) (v tl wd L N : BitVec 32) (O : Vec F S512x1024 .bf16) (X : Vec F S512x1024 .f32) : Vec F S512x1024 .f32 :=
  if bit v L = 1#1 then if bit v N = 1#1 then k0_pay4 (col1 C) (col2 C) wd tl X (rowsAt O wd) else k0_pay5 (col1 C) (col2 C) tl X O else X

/-- The second branch of a pair is taken where the first is not. -/
theorem wide_iff (v N : BitVec 32) :
    Scalar.cmpi .ne (Scalar.extui (Scalar.xori (Scalar.cmpi .ne (Scalar.andi v N) 0#32) 1#1) : BitVec 32) 0#32 = 1#1 ↔ ¬ bit v N = 1#1 := by
  unfold bit
  generalize Scalar.cmpi .ne (Scalar.andi v N) 0#32 = c
  revert c
  decide

set_option maxHeartbeats 1000000 in
theorem wp_pair (c : Dev nD) (i : grid0.Coords) (tl wd : Memref sig .tc .smem S419 .i32) (htl : tl.IsWhole) (hwd : wd.IsWhole)
    (col : Memref sig .tc .vmem S512x128 .f32) (hcol : col.IsWhole) (os : Memref sig .tc .vmem S512x1024 .bf16) (hos : os.IsWhole)
    (acc : Memref sig .tc .vmem S512x1024 .f32) (hacc : acc.IsWhole) (v1 L N : BitVec 32)
    (dec : ∀ w, Decidable (Fits v1 L N w)) (k : Prog (TpuEff nD τ sig (Elt F) Λ₀ .tc) PUnit)
    (q : PosShare TreeShare) (T W : Vec F S419 .i32) (C : Vec F S512x128 .f32) (O : Vec F S512x1024 .bf16) (X : Vec F S512x1024 .f32)
    (hf : Fits v1 L N (word W i)) (E : Set ℕ) (K : PUnit → sProp 𝕄) :
    iprop(owns (c : Thread nD τ) tl q T ∗ owns (c : Thread nD τ) wd q W ∗ owns (c : Thread nD τ) col fullShare C ∗ owns (c : Thread nD τ) os fullShare O
        ∗ owns (c : Thread nD τ) acc fullShare X
        ∗ (iprop(owns (c : Thread nD τ) tl q T ∗ owns (c : Thread nD τ) wd q W ∗ owns (c : Thread nD τ) col fullShare C ∗ owns (c : Thread nD τ) os fullShare O
            ∗ owns (c : Thread nD τ) acc fullShare (pairStep C v1 (word T i) (word W i) L N O X))
          -∗ wp frame (wpE (defs₀ (F := F)) Variants.none c none) E k K))
      ⊢ wp frame (wpE (defs₀ (F := F)) Variants.none c none) E (pairProg i tl wd col os acc v1 L N dec k) K := by
  unfold pairProg
  by_cases h2 : bit v1 L = 1#1
  swap
  · rw [dif_neg h2]
    unfold pairStep
    rw [if_neg h2]
    iintro ⟨H1, H2, H3, H4, H5, Hk⟩
    iapply Hk
    isplitl [H1]; · iexact H1
    isplitl [H2]; · iexact H2
    isplitl [H3]; · iexact H3
    isplitl [H4]; · iexact H4
    iexact H5
  rw [dif_pos h2]
  unfold pairStep
  rw [if_pos h2]
  by_cases h3 : bit v1 N = 1#1
  · have hx : ¬ (Scalar.cmpi .ne (Scalar.extui (Scalar.xori (Scalar.cmpi .ne (Scalar.andi v1 N) 0#32) 1#1) : BitVec 32) 0#32 = 1#1) := by
      rw [wide_iff]; exact not_not.mpr h3
    simp only [dif_pos h3, if_pos h3, if_neg hx]
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := htl.eq_unread hf1
    obtain rfl := hwd.eq_unread hf2
    obtain rfl := hcol.eq_unread hf3
    obtain rfl := hos.eq_unread hf4
    obtain rfl := hacc.eq_unread hf5
    sl_exec
    have hr : wp_pair.sl.r (F := F) c i wd hwd W = word W i := by
      unfold wp_pair.sl.r
      rw [View.readAt_eq_ld, hwd.read_unread]
      exact ld_word W i _
    have hfr : Fits v1 L N (wp_pair.sl.r (F := F) c i wd hwd W) := by rw [hr]; exact hf
    sl_exec
    have ht : wp_pair.sl.r_1 (F := F) c i tl htl T = word T i := by
      unfold wp_pair.sl.r_1
      rw [View.readAt_eq_ld, htl.read_unread]
      exact ld_word T i _
    have hv : wp_pair.sl.v58 (F := F) c i wd hwd os hos v1 L N W O h2 h3 hfr = rowsAt O (word W i) := by
      unfold wp_pair.sl.v58
      rw [View.readAt_eq_ld, hos.read_unread]
      exact ld_rows O hr _
    rw [ht, hv]
    simp only [hr, View.readAt_eq_ld]
    rw [hcol.read_unread, hacc.read_unread]
    iapply Hk
    isplitl [H1]
    · iexists _; isplitr
      swap; · iexact H1
      ipureintro; exact htl.read_unread _
    isplitl [H2]
    · iexists _; isplitr
      swap; · iexact H2
      ipureintro; exact hwd.read_unread _
    isplitl [H3]
    · iexists _; isplitr
      swap; · iexact H3
      ipureintro; exact hcol.read_unread _
    isplitl [H4]
    · iexists _; isplitr
      swap; · iexact H4
      ipureintro; exact hos.read_unread _
    iexists _; isplitr
    swap; · iexact H5
    ipureintro
    rw [read_whole_store, View.ld_unit_zero (S := S512x1024) zero2]
    unfold col1 col2
    with_reducible rfl
  · have hx := (wide_iff v1 N).mpr h3
    simp only [dif_neg h3, if_neg h3, if_pos hx]
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := htl.eq_unread hf1
    obtain rfl := hwd.eq_unread hf2
    obtain rfl := hcol.eq_unread hf3
    obtain rfl := hos.eq_unread hf4
    obtain rfl := hacc.eq_unread hf5
    sl_exec
    have hr : wp_pair.sl.r_2 (F := F) c i tl htl T = word T i := by
      unfold wp_pair.sl.r_2
      rw [View.readAt_eq_ld, htl.read_unread]
      exact ld_word T i _
    simp only [hr, View.readAt_eq_ld]
    rw [hcol.read_unread, hacc.read_unread, hos.read_unread]
    iapply Hk
    isplitl [H1]
    · iexists _; isplitr
      swap; · iexact H1
      ipureintro; exact htl.read_unread _
    isplitl [H2]
    · iexists _; isplitr
      swap; · iexact H2
      ipureintro; exact hwd.read_unread _
    isplitl [H3]
    · iexists _; isplitr
      swap; · iexact H3
      ipureintro; exact hcol.read_unread _
    isplitl [H4]
    · iexists _; isplitr
      swap; · iexact H4
      ipureintro; exact hos.read_unread _
    iexists _; isplitr
    swap; · iexact H5
    ipureintro
    rw [read_whole_store, View.ld_unit_zero (S := S512x1024) zero2, View.ld_unit_zero (S := S512x1024) zero2]
    unfold col1 col2
    with_reducible rfl

/-- The first part clears the accumulator where the flag says so. -/
theorem wp_first (c : Dev nD) (acc : Memref sig .tc .vmem S512x1024 .f32) (hacc : acc.IsWhole) (v1 : BitVec 32)
    (k : Prog (TpuEff nD τ sig (Elt F) Λ₀ .tc) PUnit) (X : Vec F S512x1024 .f32) (E : Set ℕ) (K : PUnit → sProp 𝕄) :
    iprop(owns (c : Thread nD τ) acc fullShare X
        ∗ (owns (c : Thread nD τ) acc fullShare (if bit v1 1#32 = 1#1 then k0_pay1 else X)
          -∗ wp frame (wpE (defs₀ (F := F)) Variants.none c none) E k K))
      ⊢ wp frame (wpE (defs₀ (F := F)) Variants.none c none) E (firstProg acc v1 k) K := by
  unfold firstProg
  by_cases h : bit v1 1#32 = 1#1
  swap
  · rw [if_neg h, if_neg h]
    iintro ⟨H, Hk⟩
    iapply Hk
    iexact H
  rw [if_pos h, if_pos h]
  unfold owns
  iintro ⟨⟨%f5, %hf5, H5⟩, Hk⟩
  obtain rfl := hacc.eq_unread hf5
  sl_exec
  iapply Hk
  iexists _; isplitr
  swap; · iexact H5
  ipureintro
  exact read_whole_store _ _ _ _

/-- The last part stores the normalised rows where the flag says so. -/
theorem wp_last (c : Dev nD) (x : Memref sig .tc .vmem S512x1024 .f32) (hx : x.IsWhole) (g : Memref sig .tc .vmem S1x1024 .f32) (hg : g.IsWhole)
    (b : Memref sig .tc .vmem S1x1024 .f32) (hb : b.IsWhole) (o : Memref sig .tc .vmem S512x1024 .f32) (ho : o.IsWhole)
    (acc : Memref sig .tc .vmem S512x1024 .f32) (hacc : acc.IsWhole) (v1 : BitVec 32)
    (A X D : Vec F S512x1024 .f32) (G B : Vec F S1x1024 .f32) (E : Set ℕ) (K : PUnit → sProp 𝕄) :
    iprop(owns (c : Thread nD τ) x fullShare A ∗ owns (c : Thread nD τ) g fullShare G ∗ owns (c : Thread nD τ) b fullShare B
        ∗ owns (c : Thread nD τ) acc fullShare X ∗ owns (c : Thread nD τ) o fullShare D
        ∗ (iprop(owns (c : Thread nD τ) x fullShare A ∗ owns (c : Thread nD τ) g fullShare G ∗ owns (c : Thread nD τ) b fullShare B
          ∗ owns (c : Thread nD τ) acc fullShare X ∗ owns (c : Thread nD τ) o fullShare (if bit v1 2#32 = 1#1 then k0_pay18 A X G B else D)) -∗ K ⟨⟩))
      ⊢ wp frame (wpE (defs₀ (F := F)) Variants.none c none) E (lastProg x g b o acc v1) K := by
  unfold lastProg
  by_cases h : bit v1 2#32 = 1#1
  swap
  · rw [if_neg h, if_neg h]
    iintro ⟨H1, H2, H3, H4, H5, Hk⟩
    sl_step
    iapply Hk
    isplitl [H1]; · iexact H1
    isplitl [H2]; · iexact H2
    isplitl [H3]; · iexact H3
    isplitl [H4]; · iexact H4
    iexact H5
  rw [if_pos h, if_pos h]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := hx.eq_unread hf1
  obtain rfl := hg.eq_unread hf2
  obtain rfl := hb.eq_unread hf3
  obtain rfl := hacc.eq_unread hf4
  obtain rfl := ho.eq_unread hf5
  sl_exec
  simp only [View.readAt_eq_ld]
  rw [hx.read_unread, hg.read_unread, hb.read_unread, hacc.read_unread]
  sl_step
  iapply Hk
  isplitl [H1]
  · iexists _; isplitr
    swap; · iexact H1
    ipureintro; exact hx.read_unread _
  isplitl [H2]
  · iexists _; isplitr
    swap; · iexact H2
    ipureintro; exact hg.read_unread _
  isplitl [H3]
  · iexists _; isplitr
    swap; · iexact H3
    ipureintro; exact hb.read_unread _
  isplitl [H4]
  · iexists _; isplitr
    swap; · iexact H4
    ipureintro; exact hacc.read_unread _
  iexists _; isplitr
  swap; · iexact H5
  ipureintro
  rw [read_whole_store, View.ld_unit_zero (S := S512x1024) zero2, View.ld_unit_zero (S := S512x1024) zero2,
    View.ld_unit_zero (S := S1x1024) zero2, View.ld_unit_zero (S := S1x1024) zero2]

/-- The step's flag read off its table. -/
theorem wp_flag (c : Dev nD) (i : grid0.Coords) (fl : Memref sig .tc .smem S419 .i32) (hfl : fl.IsWhole)
    (k : Elt F .i32 → Prog (TpuEff nD τ sig (Elt F) Λ₀ .tc) PUnit) (q : PosShare TreeShare) (T : Vec F S419 .i32) (E : Set ℕ) (K : PUnit → sProp 𝕄) :
    iprop(owns (c : Thread nD τ) fl q T
        ∗ (owns (c : Thread nD τ) fl q T -∗ wp frame (wpE (defs₀ (F := F)) Variants.none c none) E (k (word T i)) K))
      ⊢ wp frame (wpE (defs₀ (F := F)) Variants.none c none) E
        (do let v1 : Elt F .i32 ← smemLoad fl (Rect.unit (s := S419) (k0_off1 i) S1.size (k0_off1_inb i)) numel1_S1 rfl; k v1) K := by
  unfold owns
  iintro ⟨⟨%f1, %hf1, H1⟩, Hk⟩
  obtain rfl := hfl.eq_unread hf1
  sl_exec
  have hr : wp_flag.sl.r (F := F) c i fl hfl T = word T i := by
    unfold wp_flag.sl.r
    rw [View.readAt_eq_ld, hfl.read_unread]
    exact ld_word T i _
  rw [hr]
  iapply Hk
  iexists _; isplitr
  swap; · iexact H1
  ipureintro; exact hfl.read_unread _

end Cert.Combine

end
-- ==== Proof.Combine.Table.lean ====
/- The ten prefetched tables: what a plan of the steps gives of them, what the index maps and the flag's conditions are
   at such tables, and the region's side condition of them. -/
module

public import proofs.«01_k».proof.Proof.Combine.Parts
public import Idealize.ShloMosaic.Lib.Pipeline.TableIdle

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen

variable {F : FTy → Type} [FloatOps F]

local notation "𝕄" => MT nD τ sig Unit (Elt F) ℕ (UR sig nD τ) ℕ

/-- A table's word at step `n`. -/
def at' (T : Vec F S419 .i32) (n : ℕ) : BitVec 32 := T (ix1 (⟨n % 419, Nat.mod_lt _ (by decide)⟩ : Fin 419) : S419.Idx)

theorem word_at (T : Vec F S419 .i32) (i : grid0.Coords) : word T i = at' T (i 0).val := by
  unfold word at'
  refine congrArg T (congrArg (fun k : Fin 419 => (ix1 k : S419.Idx)) (Fin.ext ?_))
  exact (Nat.mod_eq_of_lt (coord_lt i)).symm

/-- Step `n`'s block of tokens and its flag. -/
def blockAt (pf : pre0.Contents (Elt F)) (n : ℕ) : ℕ := (at' (F := F) (pf 0) n).toNat
def flagAt (pf : pre0.Contents (Elt F)) (n : ℕ) : BitVec 32 := at' (F := F) (pf 1) n

/-- The block's result is stored at the step, or was before it. -/
def Ended (pf : pre0.Contents (Elt F)) (n : ℕ) : Prop := bit (flagAt pf n) 2#32 = 1#1 ∨ flagAt pf n = 0#32

/-- Tables a plan of the steps can give. -/
structure Good (pf : pre0.Contents (Elt F)) : Prop where
  block : ∀ n, blockAt pf n < 128
  tile0 : ∀ n, (at' (F := F) (pf 2) n).toNat < 264
  tile1 : ∀ n, (at' (F := F) (pf 3) n).toNat < 264
  tile2 : ∀ n, (at' (F := F) (pf 4) n).toNat < 264
  tile3 : ∀ n, (at' (F := F) (pf 5) n).toNat < 264
  window0 : ∀ n, 16 ∣ (at' (F := F) (pf 6) n).toNat ∧ (at' (F := F) (pf 6) n).toNat ≤ 256
  window1 : ∀ n, 16 ∣ (at' (F := F) (pf 7) n).toNat ∧ (at' (F := F) (pf 7) n).toNat ≤ 256
  window2 : ∀ n, 16 ∣ (at' (F := F) (pf 8) n).toNat ∧ (at' (F := F) (pf 8) n).toNat ≤ 256
  window3 : ∀ n, 16 ∣ (at' (F := F) (pf 9) n).toNat ∧ (at' (F := F) (pf 9) n).toNat ≤ 256
  zero : blockAt pf 0 = 0
  last : blockAt pf 418 = 127
  next : ∀ n < 418, blockAt pf (n + 1) = blockAt pf n ∨ blockAt pf (n + 1) = blockAt pf n + 1
  first : bit (flagAt pf 0) 1#32 = 1#1
  begins : ∀ n < 418, bit (flagAt pf (n + 1)) 1#32 = 1#1 ↔ blockAt pf (n + 1) ≠ blockAt pf n
  done : Ended pf 418
  ends : ∀ n < 418, blockAt pf (n + 1) ≠ blockAt pf n → Ended pf n
  stays : ∀ n < 418, blockAt pf (n + 1) = blockAt pf n → (Ended pf n ↔ flagAt pf (n + 1) = 0#32)

variable {pf : pre0.Contents (Elt F)}

theorem fits_of {v L N w : BitVec 32} (h : 16 ∣ w.toNat ∧ w.toNat ≤ 256) : Fits v L N w := by
  refine ⟨fun _ _ => h.1, fun _ _ a => ?_⟩
  have := h.2
  fin_cases a
  · show w.toNat + 256 ≤ 512
    omega
  · show 0 + 1024 ≤ 1024
    omega

/-- The one index of a table's unit rectangle. -/
theorem unit_emb (off : Fin 1 → ℕ) (hinb : ∀ a, off a + S1.size a ≤ S419.size a) (k : Fin 419) (hk : off 0 = k.val)
    (x : S1.Idx) : (Rect.unit (s := S419) off S1.size hinb).emb x = (ix1 k : S419.Idx) := by
  funext a
  apply Fin.ext
  fin_cases a
  have hx : (x 0).val < 1 := (x 0).isLt
  show off 0 + 1 * (x 0).val = k.val
  omega

theorem step_val (i : grid0.Coords) : (BitVec.ofNat 32 (i 0).val).toNat = (i 0).val % 419 := by
  have hi := coord_lt i
  rw [BitVec.toNat_ofNat]
  omega

theorem block_index (i : grid0.Coords) : cc0_transform_0 k0_off1_inb numel1_S1 pf i = ![blockAt pf (i 0).val, 0] := by
  unfold cc0_transform_0
  dsimp only
  refine congrArg (fun n : ℕ => (![n, 0] : Fin 2 → ℕ)) (congrArg BitVec.toNat ?_)
  exact congrArg (pf 0) (unit_emb _ _ _ (step_val i) _)
theorem tile_index1 (i : grid0.Coords) : cc0_transform_1 k0_off1_inb numel1_S1 pf i = ![(at' (F := F) (pf 2) (i 0).val).toNat, 0] := by
  unfold cc0_transform_1
  dsimp only
  refine congrArg (fun n : ℕ => (![n, 0] : Fin 2 → ℕ)) (congrArg BitVec.toNat ?_)
  exact congrArg (pf 2) (unit_emb _ _ _ (step_val i) _)
theorem tile_index2 (i : grid0.Coords) : cc0_transform_2 k0_off1_inb numel1_S1 pf i = ![(at' (F := F) (pf 3) (i 0).val).toNat, 0] := by
  unfold cc0_transform_2
  dsimp only
  refine congrArg (fun n : ℕ => (![n, 0] : Fin 2 → ℕ)) (congrArg BitVec.toNat ?_)
  exact congrArg (pf 3) (unit_emb _ _ _ (step_val i) _)
theorem tile_index3 (i : grid0.Coords) : cc0_transform_3 k0_off1_inb numel1_S1 pf i = ![(at' (F := F) (pf 4) (i 0).val).toNat, 0] := by
  unfold cc0_transform_3
  dsimp only
  refine congrArg (fun n : ℕ => (![n, 0] : Fin 2 → ℕ)) (congrArg BitVec.toNat ?_)
  exact congrArg (pf 4) (unit_emb _ _ _ (step_val i) _)
theorem tile_index4 (i : grid0.Coords) : cc0_transform_4 k0_off1_inb numel1_S1 pf i = ![(at' (F := F) (pf 5) (i 0).val).toNat, 0] := by
  unfold cc0_transform_4
  dsimp only
  refine congrArg (fun n : ℕ => (![n, 0] : Fin 2 → ℕ)) (congrArg BitVec.toNat ?_)
  exact congrArg (pf 5) (unit_emb _ _ _ (step_val i) _)
theorem block_index5 (pf : pre0.Contents (Elt F)) (i : grid0.Coords) :
    cc0_transform_5 k0_off1_inb numel1_S1 pf i = cc0_transform_0 k0_off1_inb numel1_S1 pf i := rfl
theorem block_index8 (pf : pre0.Contents (Elt F)) (i : grid0.Coords) :
    cc0_transform_8 k0_off1_inb numel1_S1 pf i = cc0_transform_0 k0_off1_inb numel1_S1 pf i := rfl

/-- The region's side condition holds of good tables: every block the index maps name lies inside its array. -/
theorem ok_of_good (h : Good pf) : ok0 pf := by
  have hb : ∀ i : grid0.Coords, ∀ a, (cc0_transform_0 k0_off1_inb numel1_S1 pf i a + 1) * S512x1024.size a ≤ S65536x1024.size a := fun i a => by
    rw [block_index]
    have := h.block (i 0).val
    fin_cases a
    · show (blockAt pf (i 0).val + 1) * 512 ≤ 65536; omega
    · show (0 + 1) * 1024 ≤ 1024; omega
  have ht : ∀ n : ℕ, n < 264 → ∀ a, ((![n, 0] : Fin 2 → ℕ) a + 1) * S512x1024.size a ≤ S135168x1024.size a := fun n hn a => by
    fin_cases a
    · show (n + 1) * 512 ≤ 135168; omega
    · show (0 + 1) * 1024 ≤ 1024; omega
  refine ⟨fun i => ⟨fun a => ?_, .inl rfl⟩,
    fun i => ⟨by rw [tile_index1]; exact ht _ (h.tile0 _), .inr (Affine.block_words_dvd (of_decide_eq_true rfl) (by decide))⟩,
    fun i => ⟨by rw [tile_index2]; exact ht _ (h.tile1 _), .inr (Affine.block_words_dvd (of_decide_eq_true rfl) (by decide))⟩,
    fun i => ⟨by rw [tile_index3]; exact ht _ (h.tile2 _), .inr (Affine.block_words_dvd (of_decide_eq_true rfl) (by decide))⟩,
    fun i => ⟨by rw [tile_index4]; exact ht _ (h.tile3 _), .inr (Affine.block_words_dvd (of_decide_eq_true rfl) (by decide))⟩,
    fun i => ⟨hb i, .inl rfl⟩, fun i => ⟨hb i, .inl rfl⟩⟩
  rw [block_index]
  have := h.block (i 0).val
  fin_cases a
  · show (blockAt pf (i 0).val + 1) * 512 ≤ 65536; omega
  · show (0 + 1) * 128 ≤ 128; omega

/-- The output is stored where the flag's second bit is set, and nowhere else. -/
theorem idle_iff (i : grid0.Coords) : idle0 pf 8 i = !(bit (flagAt pf (i 0).val) 2#32 == 1#1) := by
  show (!(k0_cond14 (pf.atD 1 (k0_off1 i)) == 1#1)) = _
  have e : pf.atD 1 (k0_off1 i) = flagAt pf (i 0).val := by
    unfold Pipeline.Prefetch.Contents.atD
    have hh : ∀ x : Fin (pre0.ref 1).ty.shape.rank, k0_off1 i x + 1 ≤ (pre0.ref 1).ty.shape.size x := fun x => by
      fin_cases x
      exact k0_off1_inb i 0
    rw [dif_pos hh]
    refine congrArg (pf 1) (funext fun x => Fin.ext ?_)
    fin_cases x
    exact step_val i
  rw [e]
  rfl

/-! The grid's points are the steps. -/

theorem point_lt (t : Fin grid0.N) : t.val < 419 := lt_of_lt_of_eq t.isLt N_0
theorem coords0 (t : Fin grid0.N) : (grid0.coords t 0).val = t.val := by
  rw [Pipeline.Grid.coords_val t 0 (S := 1) (B := 419) (by decide) rfl, Nat.div_one]
  exact Nat.mod_eq_of_lt (point_lt t)

end Cert.Combine

end
-- ==== Proof.Combine.Data.lean ====
/- What the combining call's buffers hold from step to step: the accumulator after each step, the rows the last stored
   step left in the output's buffer; and the schedule of the output's write-backs. -/
module

public import proofs.«01_k».proof.Proof.Combine.Table

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c.tc : Thread nD τ).loc b))

/-- Window `w`'s block at step `t`, read off its array. -/
def blk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Pipeline.arrRef spec0 w))

/-- The step numbered `k`. -/
def pt (k : ℕ) : Fin (cfg0 a).N := ⟨k % 419, lt_of_lt_of_eq (Nat.mod_lt _ (by decide)) N_0.symm⟩

theorem pt_self (t : Fin (cfg0 a).N) : pt a t.val = t := Fin.ext (Nat.mod_eq_of_lt (point_lt t))

/-- The accumulator through step `n`, from what it was before: cleared at a block's first step, then a pair at a time. -/
def cleared (n : ℕ) (X : Vec F S512x1024 .f32) : Vec F S512x1024 .f32 := if bit (flagAt a.1 n) 1#32 = 1#1 then k0_pay1 else X
def acc0 (c : Dev nD) (n : ℕ) (X : Vec F S512x1024 .f32) : Vec F S512x1024 .f32 :=
  pairStep (blk a W c 0 (pt a n)) (flagAt a.1 n) (at' (F := F) (a.1 2) n) (at' (F := F) (a.1 6) n) 4#32 8#32 (blk a W c 1 (pt a n)) X
def acc1 (c : Dev nD) (n : ℕ) (X : Vec F S512x1024 .f32) : Vec F S512x1024 .f32 :=
  pairStep (blk a W c 0 (pt a n)) (flagAt a.1 n) (at' (F := F) (a.1 3) n) (at' (F := F) (a.1 7) n) 16#32 32#32 (blk a W c 2 (pt a n)) X
def acc2 (c : Dev nD) (n : ℕ) (X : Vec F S512x1024 .f32) : Vec F S512x1024 .f32 :=
  pairStep (blk a W c 0 (pt a n)) (flagAt a.1 n) (at' (F := F) (a.1 4) n) (at' (F := F) (a.1 8) n) 64#32 128#32 (blk a W c 3 (pt a n)) X
def acc3 (c : Dev nD) (n : ℕ) (X : Vec F S512x1024 .f32) : Vec F S512x1024 .f32 :=
  pairStep (blk a W c 0 (pt a n)) (flagAt a.1 n) (at' (F := F) (a.1 5) n) (at' (F := F) (a.1 9) n) 256#32 512#32 (blk a W c 4 (pt a n)) X
def stepped (c : Dev nD) (n : ℕ) (X : Vec F S512x1024 .f32) : Vec F S512x1024 .f32 :=
  acc3 a W c n (acc2 a W c n (acc1 a W c n (acc0 a W c n (cleared a n X))))

/-- The accumulator after step `n`. -/
def acc (c : Dev nD) : ℕ → Vec F S512x1024 .f32
  | 0 => stepped a W c 0 k0_pay1
  | n + 1 => stepped a W c (n + 1) (acc c n)

/-- The output's buffer after step `n`, once something is stored in it. -/
def stored (c : Dev nD) (n : ℕ) (D : Vec F S512x1024 .f32) : Vec F S512x1024 .f32 :=
  if bit (flagAt a.1 n) 2#32 = 1#1 then k0_pay18 (blk a W c 5 (pt a n)) (acc a W c n) (blk a W c 6 (pt a n)) (blk a W c 7 (pt a n)) else D
def out (c : Dev nD) : ℕ → Vec F S512x1024 .f32
  | 0 => stored a W c 0 k0_pay1
  | n + 1 => stored a W c (n + 1) (out c n)

/-- Before step `n` the accumulator holds what the step before it left. -/
def inv (c : Dev nD) (n : ℕ) : sProp 𝕄 :=
  iprop((∃ X : Vec F S512x1024 .f32, ⌜0 < n → X = acc a W c (n - 1)⌝
      ∗ owns (c.tc : Thread nD τ) (Memref.whole cc0_scratch0) fullShare X)
    ∗ (∃ r, prngReg c r) ∗ Pipeline.ΦT pre0 a.1 c)

/-- The proof data: inputs stay at their blocks, the output's buffer at what the last storing step left. -/
def dat (c : Dev nD) : Dat τ (Elt F) Unit ℕ (UR sig nD τ) ℕ (cfg0 a) c where
  A w := W c (Pipeline.arrRef spec0 w)
  after w t := match w with
    | ⟨0, _⟩ => blk a W c 0 t
    | ⟨1, _⟩ => blk a W c 1 t
    | ⟨2, _⟩ => blk a W c 2 t
    | ⟨3, _⟩ => blk a W c 3 t
    | ⟨4, _⟩ => blk a W c 4 t
    | ⟨5, _⟩ => blk a W c 5 t
    | ⟨6, _⟩ => blk a W c 6 t
    | ⟨7, _⟩ => blk a W c 7 t
    | ⟨8, _⟩ => out a W c t.val
  Φ n := inv a W c n.val
  q w := Pipeline.shareOf spec0 w
  owed _ := 0

theorem A_eq (c : Dev nD) (w : Fin (cfg0 a).W) : (dat a W c).A w = W c (Pipeline.arrRef spec0 w) := by dsimp only [dat]

theorem after_0 (c : Dev nD) (t : Fin (cfg0 a).N) : (dat a W c).after 0 t = blk a W c 0 t := by unfold dat; rfl
theorem after_1 (c : Dev nD) (t : Fin (cfg0 a).N) : (dat a W c).after 1 t = blk a W c 1 t := by unfold dat; rfl
theorem after_2 (c : Dev nD) (t : Fin (cfg0 a).N) : (dat a W c).after 2 t = blk a W c 2 t := by unfold dat; rfl
theorem after_3 (c : Dev nD) (t : Fin (cfg0 a).N) : (dat a W c).after 3 t = blk a W c 3 t := by unfold dat; rfl
theorem after_4 (c : Dev nD) (t : Fin (cfg0 a).N) : (dat a W c).after 4 t = blk a W c 4 t := by unfold dat; rfl
theorem after_5 (c : Dev nD) (t : Fin (cfg0 a).N) : (dat a W c).after 5 t = blk a W c 5 t := by unfold dat; rfl
theorem after_6 (c : Dev nD) (t : Fin (cfg0 a).N) : (dat a W c).after 6 t = blk a W c 6 t := by unfold dat; rfl
theorem after_7 (c : Dev nD) (t : Fin (cfg0 a).N) : (dat a W c).after 7 t = blk a W c 7 t := by unfold dat; rfl
theorem after_8 (c : Dev nD) (t : Fin (cfg0 a).N) : (dat a W c).after 8 t = out a W c t.val := by unfold dat; rfl

/-- Each input's buffer holds its block at every step. -/
theorem before_0 (c : Dev nD) (t : Fin (cfg0 a).N) (d) : (dat a W c).before 0 t d = blk a W c 0 t :=
  ((dat a W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 a).N) (d) : (dat a W c).before 1 t d = blk a W c 1 t :=
  ((dat a W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 a).N) (d) : (dat a W c).before 2 t d = blk a W c 2 t :=
  ((dat a W c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 a).N) (d) : (dat a W c).before 3 t d = blk a W c 3 t :=
  ((dat a W c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin (cfg0 a).N) (d) : (dat a W c).before 4 t d = blk a W c 4 t :=
  ((dat a W c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin (cfg0 a).N) (d) : (dat a W c).before 5 t d = blk a W c 5 t :=
  ((dat a W c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin (cfg0 a).N) (d) : (dat a W c).before 6 t d = blk a W c 6 t :=
  ((dat a W c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)
theorem before_7 (c : Dev nD) (t : Fin (cfg0 a).N) (d) : (dat a W c).before 7 t d = blk a W c 7 t :=
  ((dat a W c).before_in_eq_fetched 7 rfl (fun _ => rfl) (fun _ _ _ => rfl) (fun t => by rw [after_7]; unfold Dat.blockOf blk; rw [A_eq]; try rfl) t d).trans
    (by unfold Dat.fetched Dat.blockOf blk; rw [A_eq]; try rfl)

/-! The output's schedule. -/

variable (hg : Good a.1)

theorem idle_out (t : Fin (cfg0 a).N) : (cfg0 a).idle 8 ((cfg0 a).grid.coords t) = !(bit (flagAt a.1 t.val) 2#32 == 1#1) := by
  show idle0 a.1 8 (grid0.coords t) = _
  rw [idle_iff, coords0]

theorem index_out (t : Fin (cfg0 a).N) : ((cfg0 a).win 8).index t = ![blockAt a.1 t.val, 0] := by
  show cc0_transform_8 k0_off1_inb numel1_S1 a.1 (grid0.coords t) = _
  rw [block_index8, block_index, coords0]

/-- A block's rows are written back at its last step. -/
theorem flush_out (t : Fin (cfg0 a).N) : ((cfg0 a).win 8).flush t = true ↔ t.val = 418 ∨ (t.val < 418 ∧ blockAt a.1 (t.val + 1) ≠ blockAt a.1 t.val) := by
  have ht := point_lt t
  have hN : grid0.N = 419 := N_0
  rw [Window.flush_eq_flushF]
  unfold Window.flushF
  rw [show ((cfg0 a).win 8).isOut = true from rfl, Bool.true_and, Bool.or_eq_true, decide_eq_true_iff, decide_eq_true_iff]
  constructor
  · rintro (h | ⟨h, x, hx⟩)
    · left
      have h' : t.val + 1 = grid0.N := h
      omega
    · rw [index_out a, index_out a] at hx
      have h' : t.val + 1 < grid0.N := h
      right
      refine ⟨by omega, fun e => hx ?_⟩
      show (![blockAt a.1 (t.val + 1), 0] : Fin 2 → ℕ) x = _
      rw [e]
  · rintro (h | ⟨h1, h2⟩)
    · left
      show t.val + 1 = grid0.N
      omega
    · right
      have hlt : t.val + 1 < grid0.N := by omega
      refine ⟨hlt, (0 : Fin 2), ?_⟩
      rw [index_out a, index_out a]
      exact h2

include hg in
/-- Once a block has ended, something is stored in the output's buffer. -/
theorem kept : ∀ n : ℕ, n < 419 → Ended a.1 n → ((cfg0 a).fresh 8 n && !(bit (flagAt a.1 n) 2#32 == 1#1)) = false
  | n, hn, .inl h => by rw [h]; exact Bool.and_false _
  | 0, hn, .inr h => absurd hg.first (by rw [h]; decide)
  | n + 1, hn, .inr h => by
    have hb : blockAt a.1 (n + 1) = blockAt a.1 n := by
      by_contra hne
      exact absurd ((hg.begins n (by omega)).mpr hne) (by rw [h]; decide)
    have he := (hg.stays n (by omega) hb).mpr h
    have ih := kept n (by omega) he
    have hN : n < (cfg0 a).N := lt_of_lt_of_eq (by omega : n < 419) N_0.symm
    have hf : ((cfg0 a).win 8).flush ⟨n, hN⟩ = false := by
      rw [Bool.eq_false_iff, ne_eq, flush_out a]
      rintro (h1 | ⟨_, h2⟩)
      · have : n = 418 := h1
        omega
      · exact h2 hb
    rw [Cfg.fresh_succ _ _ _ hN, idle_out a, hf, Bool.false_or]
    rw [Bool.and_comm] at ih
    show ((!(bit (flagAt a.1 n) 2#32 == 1#1) && (cfg0 a).fresh 8 n) && _) = false
    rw [ih, Bool.false_and]

/-- What the body finds in the output's buffer. -/
theorem before_8 (c : Dev nD) (t : Fin (cfg0 a).N) (d) :
    (dat a W c).before 8 t d = if (cfg0 a).fresh 8 t.val then d else (dat a W c).after 8 ⟨t.val - 1, by omega⟩ := by
  refine (dat a W c).before_out_traj 8 rfl (fun _ _ => rfl) ?_ t.val t rfl d
  intro t ht hi hf
  rw [after_8, after_8]
  rw [idle_out a] at hi
  obtain ⟨n, hn⟩ : ∃ n, t.val = n + 1 := ⟨t.val - 1, by omega⟩
  show out a W c t.val = out a W c (t.val - 1)
  rw [hn] at hi ⊢
  show stored a W c (n + 1) (out a W c n) = _
  unfold stored
  rw [if_neg (by intro e; rw [e] at hi; exact absurd hi (by decide))]
  rfl

end Cert.Combine

end
-- ==== Proof.Combine.Run.lean ====
/- The combining call's body at every step of its grid. -/
module

public import proofs.«01_k».proof.Proof.Combine.Data

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen

variable {F : FTy → Type} [FloatOps F]

local notation "𝕄" => MT nD τ sig Unit (Elt F) ℕ (UR sig nD τ) ℕ

variable (a : (pcfg0 (F := F)).Adm) (W : (c : Dev nD) → (b : Ref sig .tc) → Buf (Elt F) ((c.tc : Thread nD τ).loc b))

/-- The ten tables, as the body reads them. -/
theorem tables (c : Dev nD) : (Pipeline.ΦT pre0 a.1 c : sProp 𝕄)
    = iprop(owns (c.tc : Thread nD τ) (Memref.whole main_arg0) fullShare.right (a.1 0 : Vec F S419 .i32)
      ∗ owns (c.tc : Thread nD τ) (Memref.whole main_arg1) fullShare.right (a.1 1 : Vec F S419 .i32)
      ∗ owns (c.tc : Thread nD τ) (Memref.whole main_v1) fullShare.right (a.1 2 : Vec F S419 .i32)
      ∗ owns (c.tc : Thread nD τ) (Memref.whole main_v3) fullShare.right (a.1 3 : Vec F S419 .i32)
      ∗ owns (c.tc : Thread nD τ) (Memref.whole main_v5) fullShare.right (a.1 4 : Vec F S419 .i32)
      ∗ owns (c.tc : Thread nD τ) (Memref.whole main_v7) fullShare.right (a.1 5 : Vec F S419 .i32)
      ∗ owns (c.tc : Thread nD τ) (Memref.whole main_v9) fullShare.right (a.1 6 : Vec F S419 .i32)
      ∗ owns (c.tc : Thread nD τ) (Memref.whole main_v11) fullShare.right (a.1 7 : Vec F S419 .i32)
      ∗ owns (c.tc : Thread nD τ) (Memref.whole main_v13) fullShare.right (a.1 8 : Vec F S419 .i32)
      ∗ owns (c.tc : Thread nD τ) (Memref.whole main_v15) fullShare.right (a.1 9 : Vec F S419 .i32)) := by
  rw [owns_whole (c.tc : Thread nD τ) main_arg0 fullShare.right (a.1 0),
    owns_whole (c.tc : Thread nD τ) main_arg1 fullShare.right (a.1 1),
    owns_whole (c.tc : Thread nD τ) main_v1 fullShare.right (a.1 2),
    owns_whole (c.tc : Thread nD τ) main_v3 fullShare.right (a.1 3),
    owns_whole (c.tc : Thread nD τ) main_v5 fullShare.right (a.1 4),
    owns_whole (c.tc : Thread nD τ) main_v7 fullShare.right (a.1 5),
    owns_whole (c.tc : Thread nD τ) main_v9 fullShare.right (a.1 6),
    owns_whole (c.tc : Thread nD τ) main_v11 fullShare.right (a.1 7),
    owns_whole (c.tc : Thread nD τ) main_v13 fullShare.right (a.1 8),
    owns_whole (c.tc : Thread nD τ) main_v15 fullShare.right (a.1 9)]
  exact bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) _

/-- The body at step `t`, on the windows' current buffers. -/
abbrev bodyAt (t : Fin (cfg0 a).N) : Prog (TpuEff nD τ sig (Elt F) Λ₀ .tc) PUnit :=
  cc0_moe_combine_ln (grid0.coords t) (Memref.whole main_arg0) (Memref.isWhole_whole _) (Memref.whole main_arg1) (Memref.isWhole_whole _) (Memref.whole main_v1) (Memref.isWhole_whole _) (Memref.whole main_v3) (Memref.isWhole_whole _) (Memref.whole main_v5) (Memref.isWhole_whole _) (Memref.whole main_v7) (Memref.isWhole_whole _) (Memref.whole main_v9) (Memref.isWhole_whole _) (Memref.whole main_v11) (Memref.isWhole_whole _) (Memref.whole main_v13) (Memref.isWhole_whole _) (Memref.whole main_v15) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))
    (spec0_8.stage ((cfg0 a).slots t 8)) (hstage0_8 (((cfg0 a).slots t 8).cast nbuf0_8))
    (Memref.whole cc0_scratch0) (Memref.isWhole_whole _)

abbrev mem0 (t : Fin (cfg0 a).N) : Memref sig .tc .vmem S512x128 .f32 := spec0_0.stage ((cfg0 a).slots t 0)
abbrev mem1 (t : Fin (cfg0 a).N) : Memref sig .tc .vmem S512x1024 .bf16 := spec0_1.stage ((cfg0 a).slots t 1)
abbrev mem2 (t : Fin (cfg0 a).N) : Memref sig .tc .vmem S512x1024 .bf16 := spec0_2.stage ((cfg0 a).slots t 2)
abbrev mem3 (t : Fin (cfg0 a).N) : Memref sig .tc .vmem S512x1024 .bf16 := spec0_3.stage ((cfg0 a).slots t 3)
abbrev mem4 (t : Fin (cfg0 a).N) : Memref sig .tc .vmem S512x1024 .bf16 := spec0_4.stage ((cfg0 a).slots t 4)
abbrev mem5 (t : Fin (cfg0 a).N) : Memref sig .tc .vmem S512x1024 .f32 := spec0_5.stage ((cfg0 a).slots t 5)
abbrev mem6 (t : Fin (cfg0 a).N) : Memref sig .tc .vmem S1x1024 .f32 := spec0_6.stage ((cfg0 a).slots t 6)
abbrev mem7 (t : Fin (cfg0 a).N) : Memref sig .tc .vmem S1x1024 .f32 := spec0_7.stage ((cfg0 a).slots t 7)
abbrev mem8 (t : Fin (cfg0 a).N) : Memref sig .tc .vmem S512x1024 .f32 := spec0_8.stage ((cfg0 a).slots t 8)

/-- What the body leaves of the output's buffer. -/
def left8 (c : Dev nD) (t : Fin (cfg0 a).N) : sProp 𝕄 :=
  match (cfg0 a).idle 8 ((cfg0 a).grid.coords t) with
  | true =>
    match ((cfg0 a).win 8).flush t with
    | false => iprop(∃ d, owns (c.tc : Thread nD τ) (mem8 a t) fullShare ((dat a W c).before 8 t d))
    | true => owns (c.tc : Thread nD τ) (mem8 a t) fullShare ((dat a W c).after 8 t)
  | false => owns (c.tc : Thread nD τ) (mem8 a t) fullShare ((dat a W c).after 8 t)

def bodyPre (c : Dev nD) (t : Fin (cfg0 a).N) : sProp 𝕄 :=
  iprop((dat a W c).Φ t.castSucc ∗ (dat a W c).owesAt () t.castSucc
    ∗ (∃ d, owns (c.tc : Thread nD τ) (mem0 a t) fullShare ((dat a W c).before 0 t d))
    ∗ (∃ d, owns (c.tc : Thread nD τ) (mem1 a t) fullShare ((dat a W c).before 1 t d))
    ∗ (∃ d, owns (c.tc : Thread nD τ) (mem2 a t) fullShare ((dat a W c).before 2 t d))
    ∗ (∃ d, owns (c.tc : Thread nD τ) (mem3 a t) fullShare ((dat a W c).before 3 t d))
    ∗ (∃ d, owns (c.tc : Thread nD τ) (mem4 a t) fullShare ((dat a W c).before 4 t d))
    ∗ (∃ d, owns (c.tc : Thread nD τ) (mem5 a t) fullShare ((dat a W c).before 5 t d))
    ∗ (∃ d, owns (c.tc : Thread nD τ) (mem6 a t) fullShare ((dat a W c).before 6 t d))
    ∗ (∃ d, owns (c.tc : Thread nD τ) (mem7 a t) fullShare ((dat a W c).before 7 t d))
    ∗ (∃ d, owns (c.tc : Thread nD τ) (mem8 a t) fullShare ((dat a W c).before 8 t d)))

def bodyPost (c : Dev nD) (t : Fin (cfg0 a).N) : sProp 𝕄 :=
  iprop((dat a W c).Φ t.succ ∗ (dat a W c).owesAt () t.succ
    ∗ owns (c.tc : Thread nD τ) (mem0 a t) fullShare ((dat a W c).after 0 t)
    ∗ owns (c.tc : Thread nD τ) (mem1 a t) fullShare ((dat a W c).after 1 t)
    ∗ owns (c.tc : Thread nD τ) (mem2 a t) fullShare ((dat a W c).after 2 t)
    ∗ owns (c.tc : Thread nD τ) (mem3 a t) fullShare ((dat a W c).after 3 t)
    ∗ owns (c.tc : Thread nD τ) (mem4 a t) fullShare ((dat a W c).after 4 t)
    ∗ owns (c.tc : Thread nD τ) (mem5 a t) fullShare ((dat a W c).after 5 t)
    ∗ owns (c.tc : Thread nD τ) (mem6 a t) fullShare ((dat a W c).after 6 t)
    ∗ owns (c.tc : Thread nD τ) (mem7 a t) fullShare ((dat a W c).after 7 t)
    ∗ left8 a W c t)

/-- The invariant before a step and after it. -/
theorem Φ_before (c : Dev nD) (t : Fin (cfg0 a).N) : (dat a W c).Φ t.castSucc = inv a W c t.val := by unfold dat; rfl
theorem Φ_after (c : Dev nD) (t : Fin (cfg0 a).N) : (dat a W c).Φ t.succ = inv a W c (t.val + 1) := by unfold dat; rfl
theorem owes_same (c : Dev nD) (t : Fin (cfg0 a).N) : (dat a W c).owesAt () t.succ = (dat a W c).owesAt () t.castSucc := by unfold dat; rfl

variable (hg : Good a.1)

/-- A step's stored rows, or what its buffer held. -/
def rowsAfter (c : Dev nD) (t : Fin (cfg0 a).N) (D : Vec F S512x1024 .f32) : Vec F S512x1024 .f32 :=
  if bit (flagAt a.1 t.val) 2#32 = 1#1 then k0_pay18 (blk a W c 5 t) (acc a W c t.val) (blk a W c 6 t) (blk a W c 7 t) else D

theorem rowsAfter_last (c : Dev nD) (t : Fin (cfg0 a).N) (hb : bit (flagAt a.1 t.val) 2#32 = 1#1) (D : Vec F S512x1024 .f32) :
    rowsAfter a W c t D = out a W c t.val := by
  unfold rowsAfter
  rw [if_pos hb]
  have e : out a W c t.val = k0_pay18 (blk a W c 5 (pt a t.val)) (acc a W c t.val) (blk a W c 6 (pt a t.val)) (blk a W c 7 (pt a t.val)) := by
    cases h : t.val <;> (unfold out stored; rw [h] at hb; rw [if_pos hb])
  rw [e, pt_self]

theorem rowsAfter_idle (c : Dev nD) (t : Fin (cfg0 a).N) (hb : ¬ bit (flagAt a.1 t.val) 2#32 = 1#1) (D : Vec F S512x1024 .f32) :
    rowsAfter a W c t D = D := if_neg hb

include hg in
/-- What the body leaves in the output's buffer is what the data say of it. -/
theorem left_out (c : Dev nD) (t : Fin (cfg0 a).N) (d) :
    owns (c.tc : Thread nD τ) (mem8 a t) fullShare (rowsAfter a W c t ((dat a W c).before 8 t d)) ⊢ left8 a W c t := by
  have hi := idle_out a t
  have hlt := point_lt t
  unfold left8
  by_cases hb : bit (flagAt a.1 t.val) 2#32 = 1#1
  · have hi' : (cfg0 a).idle 8 ((cfg0 a).grid.coords t) = false := by rw [hi, hb]; rfl
    rw [hi', after_8, show rowsAfter a W c t ((dat a W c).before 8 t d) = out a W c t.val from rowsAfter_last a W c t hb _]
  · have hi' : (cfg0 a).idle 8 ((cfg0 a).grid.coords t) = true := by
      rw [hi, beq_eq_false_iff_ne.mpr hb]; rfl
    rw [hi', show rowsAfter a W c t ((dat a W c).before 8 t d) = (dat a W c).before 8 t d from rowsAfter_idle a W c t hb _]
    by_cases hf : ((cfg0 a).win 8).flush t = true
    swap
    · rw [Bool.eq_false_iff.mpr hf]
      iintro H
      iexists d
      iexact H
    · rw [hf]
      have he : Ended a.1 t.val := by
        rcases (flush_out a t).mp hf with h | ⟨h1, h2⟩
        · rw [h]; exact hg.done
        · exact hg.ends _ h1 h2
      have hk := kept a hg t.val hlt he
      rw [beq_eq_false_iff_ne.mpr hb] at hk
      have hfr : (cfg0 a).fresh 8 t.val = false := by simpa using hk
      have h0 : t.val ≠ 0 := by
        intro h0
        rw [h0, Cfg.fresh_zero] at hfr
        exact absurd hfr (by decide)
      have e : (dat a W c).before 8 t d = (dat a W c).after 8 t := by
        rw [before_8, hfr, if_neg Bool.false_ne_true, after_8, after_8]
        obtain ⟨n, hn⟩ : ∃ n, t.val = n + 1 := ⟨t.val - 1, by omega⟩
        show out a W c (t.val - 1) = out a W c t.val
        rw [hn] at hb ⊢
        show _ = stored a W c (n + 1) (out a W c n)
        unfold stored
        rw [if_neg hb]
        rfl
      rw [e]

include hg in
/-- The accumulator after a step. -/
theorem acc_step (c : Dev nD) (t : Fin (cfg0 a).N) (X : Vec F S512x1024 .f32) (hX : 0 < t.val → X = acc a W c (t.val - 1)) :
    acc3 a W c t.val (acc2 a W c t.val (acc1 a W c t.val (acc0 a W c t.val (cleared a t.val X)))) = acc a W c t.val := by
  cases h : t.val with
  | zero =>
    show stepped a W c 0 X = stepped a W c 0 k0_pay1
    unfold stepped cleared
    rw [if_pos hg.first, if_pos hg.first]
  | succ n =>
    rw [hX (by omega), h]
    rfl

include hg in
set_option maxHeartbeats 1000000 in
theorem sound (c : Dev nD) (t : Fin (cfg0 a).N) :
    bodyPre a W c t ⊢ wp frame (wpE (defs₀ (F := F)) Variants.none c none) Set.univ (bodyAt a t) (fun _ => bodyPost a W c t) := by
  have hlt := point_lt t
  have wf : word (F := F) (a.1 1) (grid0.coords t) = flagAt a.1 t.val := (word_at _ _).trans (congrArg (at' (F := F) (a.1 1)) (coords0 t))
  have w2 : word (F := F) (a.1 2) (grid0.coords t) = at' (F := F) (a.1 2) t.val := (word_at _ _).trans (congrArg (at' (F := F) (a.1 2)) (coords0 t))
  have w3 : word (F := F) (a.1 3) (grid0.coords t) = at' (F := F) (a.1 3) t.val := (word_at _ _).trans (congrArg (at' (F := F) (a.1 3)) (coords0 t))
  have w4 : word (F := F) (a.1 4) (grid0.coords t) = at' (F := F) (a.1 4) t.val := (word_at _ _).trans (congrArg (at' (F := F) (a.1 4)) (coords0 t))
  have w5 : word (F := F) (a.1 5) (grid0.coords t) = at' (F := F) (a.1 5) t.val := (word_at _ _).trans (congrArg (at' (F := F) (a.1 5)) (coords0 t))
  have w6 : word (F := F) (a.1 6) (grid0.coords t) = at' (F := F) (a.1 6) t.val := (word_at _ _).trans (congrArg (at' (F := F) (a.1 6)) (coords0 t))
  have w7 : word (F := F) (a.1 7) (grid0.coords t) = at' (F := F) (a.1 7) t.val := (word_at _ _).trans (congrArg (at' (F := F) (a.1 7)) (coords0 t))
  have w8 : word (F := F) (a.1 8) (grid0.coords t) = at' (F := F) (a.1 8) t.val := (word_at _ _).trans (congrArg (at' (F := F) (a.1 8)) (coords0 t))
  have w9 : word (F := F) (a.1 9) (grid0.coords t) = at' (F := F) (a.1 9) t.val := (word_at _ _).trans (congrArg (at' (F := F) (a.1 9)) (coords0 t))
  unfold bodyPre bodyPost
  rw [show bodyAt a t = _ from body_parts (F := F) (grid0.coords t) _ _ _ _ _ _ _ _ _ _ _ _ _ _ _ _ _ _ _ _ _ _ _ _ _ _ _ _ _ _ _ _ _ _ _ _ _ _ _ _ ]
  simp only [before_0, before_1, before_2, before_3, before_4, before_5, before_6, before_7, after_0, after_1, after_2, after_3, after_4, after_5, after_6, after_7]
  rw [Φ_before, Φ_after, owes_same]
  unfold inv
  rw [tables]
  iintro ⟨⟨⟨%X, %hX, Hs⟩, Hr, T0, T1, T2, T3, T4, T5, T6, T7, T8, T9⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hacc := acc_step a W hg c t X hX
  iapply (wp_flag c (grid0.coords t) (Memref.whole main_arg1) (Memref.isWhole_whole _) _ fullShare.right (a.1 1) Set.univ _)
  isplitl [T1]; · iexact T1
  iintro T1
  rw [wf]
  iapply (wp_first c _ (Memref.isWhole_whole _) _ _ X Set.univ _)
  isplitl [Hs]; · iexact Hs
  iintro Hs
  iapply (wp_pair c (grid0.coords t) _ _ (Memref.isWhole_whole _) (Memref.isWhole_whole _) _ (hstage0_0 (((cfg0 a).slots t 0).cast nbuf0_0)) _
    (hstage0_1 (((cfg0 a).slots t 1).cast nbuf0_1)) _ (Memref.isWhole_whole _) _ _ _ _ _ fullShare.right (a.1 2) (a.1 6) (blk a W c 0 t) (blk a W c 1 t) _
    (fits_of (by rw [w6]; exact hg.window0 _)) Set.univ _)
  isplitl [T2]; · iexact T2
  isplitl [T6]; · iexact T6
  isplitl [H0]; · iexact H0
  isplitl [H1]; · iexact H1
  isplitl [Hs]; · iexact Hs
  iintro ⟨T2, T6, H0, H1, Hs⟩
  iapply (wp_pair c (grid0.coords t) _ _ (Memref.isWhole_whole _) (Memref.isWhole_whole _) _ (hstage0_0 (((cfg0 a).slots t 0).cast nbuf0_0)) _
    (hstage0_2 (((cfg0 a).slots t 2).cast nbuf0_2)) _ (Memref.isWhole_whole _) _ _ _ _ _ fullShare.right (a.1 3) (a.1 7) (blk a W c 0 t) (blk a W c 2 t) _
    (fits_of (by rw [w7]; exact hg.window1 _)) Set.univ _)
  isplitl [T3]; · iexact T3
  isplitl [T7]; · iexact T7
  isplitl [H0]; · iexact H0
  isplitl [H2]; · iexact H2
  isplitl [Hs]; · iexact Hs
  iintro ⟨T3, T7, H0, H2, Hs⟩
  iapply (wp_pair c (grid0.coords t) _ _ (Memref.isWhole_whole _) (Memref.isWhole_whole _) _ (hstage0_0 (((cfg0 a).slots t 0).cast nbuf0_0)) _
    (hstage0_3 (((cfg0 a).slots t 3).cast nbuf0_3)) _ (Memref.isWhole_whole _) _ _ _ _ _ fullShare.right (a.1 4) (a.1 8) (blk a W c 0 t) (blk a W c 3 t) _
    (fits_of (by rw [w8]; exact hg.window2 _)) Set.univ _)
  isplitl [T4]; · iexact T4
  isplitl [T8]; · iexact T8
  isplitl [H0]; · iexact H0
  isplitl [H3]; · iexact H3
  isplitl [Hs]; · iexact Hs
  iintro ⟨T4, T8, H0, H3, Hs⟩
  iapply (wp_pair c (grid0.coords t) _ _ (Memref.isWhole_whole _) (Memref.isWhole_whole _) _ (hstage0_0 (((cfg0 a).slots t 0).cast nbuf0_0)) _
    (hstage0_4 (((cfg0 a).slots t 4).cast nbuf0_4)) _ (Memref.isWhole_whole _) _ _ _ _ _ fullShare.right (a.1 5) (a.1 9) (blk a W c 0 t) (blk a W c 4 t) _
    (fits_of (by rw [w9]; exact hg.window3 _)) Set.univ _)
  isplitl [T5]; · iexact T5
  isplitl [T9]; · iexact T9
  isplitl [H0]; · iexact H0
  isplitl [H4]; · iexact H4
  isplitl [Hs]; · iexact Hs
  iintro ⟨T5, T9, H0, H4, Hs⟩
  have e : pairStep (blk a W c 0 t) (flagAt a.1 t.val) (word (F := F) (a.1 5) (grid0.coords t)) (word (F := F) (a.1 9) (grid0.coords t)) 256#32 512#32 (blk a W c 4 t)
      (pairStep (blk a W c 0 t) (flagAt a.1 t.val) (word (F := F) (a.1 4) (grid0.coords t)) (word (F := F) (a.1 8) (grid0.coords t)) 64#32 128#32 (blk a W c 3 t)
      (pairStep (blk a W c 0 t) (flagAt a.1 t.val) (word (F := F) (a.1 3) (grid0.coords t)) (word (F := F) (a.1 7) (grid0.coords t)) 16#32 32#32 (blk a W c 2 t)
      (pairStep (blk a W c 0 t) (flagAt a.1 t.val) (word (F := F) (a.1 2) (grid0.coords t)) (word (F := F) (a.1 6) (grid0.coords t)) 4#32 8#32 (blk a W c 1 t)
        (if bit (flagAt a.1 t.val) 1#32 = 1#1 then k0_pay1 else X)))) = acc a W c t.val := by
    rw [w2, w3, w4, w5, w6, w7, w8, w9, ← hacc]
    unfold acc3 acc2 acc1 acc0 cleared
    rw [pt_self]
  rw [e]
  iapply (wp_last c _ (hstage0_5 (((cfg0 a).slots t 5).cast nbuf0_5)) _ (hstage0_6 (((cfg0 a).slots t 6).cast nbuf0_6)) _ (hstage0_7 (((cfg0 a).slots t 7).cast nbuf0_7)) _
    (hstage0_8 (((cfg0 a).slots t 8).cast nbuf0_8)) _ (Memref.isWhole_whole _) _ (blk a W c 5 t) (acc a W c t.val) ((dat a W c).before 8 t d8) (blk a W c 6 t) (blk a W c 7 t) Set.univ _)
  isplitl [H5]; · iexact H5
  isplitl [H6]; · iexact H6
  isplitl [H7]; · iexact H7
  isplitl [Hs]; · iexact Hs
  isplitl [H8]; · iexact H8
  iintro ⟨H5, H6, H7, Hs, H8⟩
  isplitl [Hs Hr T0 T1 T2 T3 T4 T5 T6 T7 T8 T9]
  · isplitl [Hs]
    · iexists _
      isplitr
      swap; · iexact Hs
      ipureintro
      intro _
      rw [Nat.add_sub_cancel]
    isplitl [Hr]; · iexact Hr
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    iexact T9
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (left_out a W hg c t d8)
  iexact H8

theorem defs₀_row (t : Fin (cfg0 a).N) :
    defs₀ (F := F) .tc (cfg0 a).body ((cfg0 a).bodyArgs t ((cfg0 a).slots t)) = bodyAt a t := by
  unfold defs₀; rw [Defs.onTc_tc]

include hg in
theorem body_obligation (c : Dev nD) : BodyObligation (dat a W c) (defs₀ (F := F)) Variants.none () Set.univ := fun t => by
  rw [bigSep_W0, bigSep_W0, defs₀_row]
  exact triple_restated (sound a W hg c t) rfl .rfl fun _ => .rfl

end Cert.Combine

end
-- ==== Proof.Combine.Launch.lean ====
/- The run of the combining call from any memory whose tables are good, and its frame. -/
module

public import proofs.«01_k».proof.Proof.Combine.Run

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: after the host operations before it. -/
def V (c : Dev nD) (b : Ref sig .tc) : Buf (Elt F) ((c.tc : Thread nD τ).loc b) := StableHlo.after hostOps0 (fun b => m (c, b)) b

/-- The ten tables. -/
def tbl : pre0.Contents (Elt F) := fun k => V m 0 (pre0.ref k)

variable (hg : Good (tbl m))

/-- The tables with the call's side conditions. -/
def adm : (pcfg0 (F := F)).Adm := ⟨tbl m, ok_of_good hg⟩

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

/-- The arguments are as launched when the call starts. -/
theorem V_of_not_written (c : Dev nD) (b : Ref sig .tc) (h : hostOps0.Forall fun op : HloOp τ sig (Elt F) => Proc.devRef .tc b ∉ op.writes) :
    V m c b = m ((c.tc : Thread nD τ).loc b) :=
  StableHlo.after_of_forall_not_mem (b := Proc.devRef .tc b) _ _ (List.forall_iff_forall_mem.mp h)

theorem V_arg0 (c : Dev nD) : V m c main_arg0 = m ((c.tc : Thread nD τ).loc main_arg0) :=
  V_of_not_written m c main_arg0 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg1 (c : Dev nD) : V m c main_arg1 = m ((c.tc : Thread nD τ).loc main_arg1) :=
  V_of_not_written m c main_arg1 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg2 (c : Dev nD) : V m c main_arg2 = m ((c.tc : Thread nD τ).loc main_arg2) :=
  V_of_not_written m c main_arg2 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg3 (c : Dev nD) : V m c main_arg3 = m ((c.tc : Thread nD τ).loc main_arg3) :=
  V_of_not_written m c main_arg3 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg4 (c : Dev nD) : V m c main_arg4 = m ((c.tc : Thread nD τ).loc main_arg4) :=
  V_of_not_written m c main_arg4 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg5 (c : Dev nD) : V m c main_arg5 = m ((c.tc : Thread nD τ).loc main_arg5) :=
  V_of_not_written m c main_arg5 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg6 (c : Dev nD) : V m c main_arg6 = m ((c.tc : Thread nD τ).loc main_arg6) :=
  V_of_not_written m c main_arg6 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg7 (c : Dev nD) : V m c main_arg7 = m ((c.tc : Thread nD τ).loc main_arg7) :=
  V_of_not_written m c main_arg7 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem V_arg8 (c : Dev nD) : V m c main_arg8 = m ((c.tc : Thread nD τ).loc main_arg8) :=
  V_of_not_written m c main_arg8 (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide))

theorem inv_start (a : (pcfg0 (F := F)).Adm) (W : (c : Dev nD) → (b : Ref sig .tc) → Buf (Elt F) ((c.tc : Thread nD τ).loc b)) (c : Dev nD) :
    iprop(Pipeline.ΦA spec0 c ∗ Pipeline.ΦT pre0 a.1 c) ⊢ inv a W c 0 := by
  unfold Pipeline.ΦA inv
  rw [scopedRest0_eq]
  iintro ⟨⟨⟨%f, Hs⟩, Hr⟩, Ht⟩
  isplitl [Hs]
  · iexists (f : Vec F S512x1024 .f32)
    isplitr
    · ipureintro
      intro h
      exact absurd h (lt_irrefl _)
    · rw [owns_whole (c.tc : Thread nD τ) cc0_scratch0 fullShare f]
      iexact Hs
  isplitl [Hr]; · iexact Hr
  iexact Ht

theorem inv_end (a : (pcfg0 (F := F)).Adm) (W : (c : Dev nD) → (b : Ref sig .tc) → Buf (Elt F) ((c.tc : Thread nD τ).loc b)) (c : Dev nD) (n : ℕ) :
    inv a W c n ⊢ Pipeline.ΦA spec0 c := by
  unfold Pipeline.ΦA inv
  rw [scopedRest0_eq]
  iintro ⟨⟨%X, %hX, Hs⟩, Hr, Ht⟩
  iclear Ht
  isplitl [Hs]
  · iexists X
    rw [owns_whole (c.tc : Thread nD τ) cc0_scratch0 fullShare X]
    exact .rfl
  iexact Hr

/-- The run's data. -/
def dats (_ : Fin 1) (c : Dev nD) : Dat τ (Elt F) Unit ℕ (UR sig nD τ) ℕ (cfg0 (adm m hg)) c := dat (adm m hg) (V m) c

set_option backward.isDefEq.respectTransparency.types false in
/-- Every execution ends, with each array at what the data say and every semaphore counter at zero. -/
theorem run_quiescent : θ_run defs (onTc (τ := τ) (main (F := F))) (s₀ m ρ)
    (fun r => (Pipeline.FramePost (Pipeline.pin (pcfgs (F := F)) (fun _ => adm m hg)) (dats m hg) 0 (V m)) r ∧ r.2.sem = fun _ => 0) :=
  Pipeline.θ_run_frameP_track_shared (Q' := _) pcfgs (fun _ => adm m hg) (dats m hg) (0 : Fin 1) launch₀0 defs₀ Variants.none m ρ main
    (hbody := fun c => (body_obligation (adm m hg) (V m) hg c).loose) (hq := fun _ w _ => rfl)
    (howed := fun _ _ => rfl) (V := V m) (hmain := hmain m) (hA := fun c w => A_eq (adm m hg) (V m) c w)
    (hpf := fun c k => by obtain rfl : c = 0 := Subsingleton.elim _ _; rfl)
    (hin := fun c => inv_start (adm m hg) (V m) c) (hout := fun c => inv_end (adm m hg) (V m) c _)

end Cert.Combine

end
-- ==== Proof.Combine.Frame.lean ====
/- The combining call's frame: from good tables every execution ends with the arguments as launched and every semaphore
   counter at zero. -/
module

public import proofs.«01_k».proof.Proof.Combine.Launch

@[expose] public section

set_option maxRecDepth 16384

noncomputable section

namespace Cert.Combine

open Idealize.ShloMosaic Idealize.ShloMosaic.TcCoe Idealize.ShloMosaic.Tactic
open Idealize.SL Idealize.SL.Sem
open Cert.Kernel8Ideal Cert.Kernel8Ideal.Gen

variable {F : FTy → Type} [FloatOps F]
variable (m : (ℓ : Loc nD τ sig) → Buf (Elt F) ℓ) (ρ : Dev nD → PrngReg) (hg : Good (tbl m))

/-- What a run from `m` ends in: the result array as the data say, the arguments as launched, the counters at zero. -/
def Ends (r : PUnit × MemSt nD τ sig (Elt F)) : Prop :=
  (∀ c : Dev nD, r.2.mem ((c.tc : Thread nD τ).loc main_v18) = (dats m hg 0 c).arrAt 8 (cfg0 (adm m hg)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
  ∧ r.2.sem = fun _ => 0

/-- A buffer that is no window's array. -/
theorem not_staged {b : Ref sig .tc} (h : ∀ w : Fin 9, (spec0 w).arr.view.ref ≠ b) : ∀ w : Fin 9, (spec0 w).arr.view.ref ≠ b := h

theorem run_ends : θ_run defs (onTc (τ := τ) (main (F := F))) ⟨m, fun _ => 0, ρ⟩ (Ends m hg) :=
  (θ_run defs _ _).mono (fun r h => ⟨fun c => ⟨(h.1 c).1 8,
      ((h.1 c).2 main_arg0 (Pipeline.mem_restRefs_of main_arg0 (by decide) (not_staged (b := main_arg0) (by decide)))).trans (V_arg0 m c),
      ((h.1 c).2 main_arg1 (Pipeline.mem_restRefs_of main_arg1 (by decide) (not_staged (b := main_arg1) (by decide)))).trans (V_arg1 m c),
      ((h.1 c).2 main_arg2 (Pipeline.mem_restRefs_of main_arg2 (by decide) (not_staged (b := main_arg2) (by decide)))).trans (V_arg2 m c),
      ((h.1 c).2 main_arg3 (Pipeline.mem_restRefs_of main_arg3 (by decide) (not_staged (b := main_arg3) (by decide)))).trans (V_arg3 m c),
      ((h.1 c).1 0).trans (((dats m hg 0 c).arrAt_in 0 rfl _).trans ((A_eq (adm m hg) (V m) c 0).trans (V_arg4 m c))),
      ((h.1 c).1 1).trans (((dats m hg 0 c).arrAt_in 1 rfl _).trans ((A_eq (adm m hg) (V m) c 1).trans (V_arg5 m c))),
      ((h.1 c).1 5).trans (((dats m hg 0 c).arrAt_in 5 rfl _).trans ((A_eq (adm m hg) (V m) c 5).trans (V_arg6 m c))),
      ((h.1 c).2 main_arg7 (Pipeline.mem_restRefs_of main_arg7 (by decide) (not_staged (b := main_arg7) (by decide)))).trans (V_arg7 m c),
      ((h.1 c).2 main_arg8 (Pipeline.mem_restRefs_of main_arg8 (by decide) (not_staged (b := main_arg8) (by decide)))).trans (V_arg8 m c)⟩, h.2⟩)
    (run_quiescent m ρ hg)

include hg in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h.1 c).2, h.2⟩) (run_ends m ρ hg)

end Cert.Combine

end
-- ==== Proof.Combine.Plan.lean ====
/- What the precondition says of the tables: a plan of the combining call's steps. -/
module

public import proofs.«01_k».proof.Proof.Gen.Pre_planned
public import proofs.«01_k».proof.Proof.Combine.Launch
public import Idealize.ShloMosaic.Lib.ReduceAll
public import Idealize.ShloMosaic.Lib.WordCmp
public import Idealize.ShloMosaic.Lib.ValueIdx

@[expose] public section

set_option maxRecDepth 16384

noncomputable section

namespace Cert.Combine

open Idealize.ShloMosaic Idealize.ShloMosaic.TcCoe Idealize.ShloMosaic.Tactic
open Cert.Pre_planned Cert.Pre_planned.Gen

variable {F : FTy → Type} [FloatOps F]

/-! Words and reductions by `or`. -/

theorem bit_iff (v b : BitVec 32) : bit v b = 1#1 ↔ v &&& b ≠ 0#32 := by
  unfold bit
  show Scalar.cmpi .ne (Scalar.extui (IntOp.cmpi .ne (v &&& b) 0#32) : BitVec 32) 0#32 = 1#1 ↔ _
  rw [WordCmp.cmpi_ne_eq]
  by_cases h : v &&& b ≠ 0#32
  · rw [decide_eq_true h]; exact ⟨fun _ => h, fun _ => by decide⟩
  · rw [decide_eq_false h]; exact ⟨fun e => absurd e (by decide), fun e => absurd e h⟩

theorem ofBool_iff (p : Prop) [Decidable p] : BitVec.ofBool (decide p) = 1#1 ↔ p := by
  by_cases h : p
  · rw [decide_eq_true h]; exact ⟨fun _ => h, fun _ => by decide⟩
  · rw [decide_eq_false h]; exact ⟨fun e => absurd e (by decide), fun e => absurd e h⟩
theorem eq_iff (a b : BitVec 32) : IntOp.cmpi .eq a b = 1#1 ↔ a = b := by rw [WordCmp.cmpi_eq_eq]; exact ofBool_iff _
theorem ne_iff (a b : BitVec 32) : IntOp.cmpi .ne a b = 1#1 ↔ a ≠ b := by rw [WordCmp.cmpi_ne_eq]; exact ofBool_iff _
theorem sge_iff (a b : BitVec 32) : IntOp.cmpi .sge a b = 1#1 ↔ b.toInt ≤ a.toInt := by rw [WordCmp.cmpi_sge_eq]; exact ofBool_iff _
theorem sle_iff (a b : BitVec 32) : IntOp.cmpi .sle a b = 1#1 ↔ a.toInt ≤ b.toInt := by rw [WordCmp.cmpi_sle_eq]; exact ofBool_iff _
theorem slt_iff (a b : BitVec 32) : IntOp.cmpi .slt a b = 1#1 ↔ a.toInt < b.toInt := by rw [WordCmp.cmpi_slt_eq]; exact ofBool_iff _
theorem or_iff (a b : BitVec 1) : IntOp.ori a b = 1#1 ↔ a = 1#1 ∨ b = 1#1 := by revert a b; decide
theorem same_iff (a b : BitVec 1) : IntOp.cmpi .eq a b = 1#1 ↔ (a = 1#1 ↔ b = 1#1) := by revert a b; decide
theorem select_iff (c a b : BitVec 1) : Scalar.select c a b = 1#1 ↔ if c = 1#1 then a = 1#1 else b = 1#1 := by revert c a b; decide
theorem not_iff' (a : BitVec 1) : IntOp.xori a 1#1 = 1#1 ↔ a = 0#1 := by revert a; decide
theorem not_one (a : BitVec 1) : a = 0#1 ↔ ¬ a = 1#1 := by revert a; decide

theorem foldl_ori {ι : Type} (f : ι → BitVec 1) : ∀ (l : List ι) (init : BitVec 1),
    l.foldl (fun r n => IntOp.ori r (f n)) init = 1#1 ↔ init = 1#1 ∨ ∃ n ∈ l, f n = 1#1
  | [], init => by simp
  | b :: l, init => by
    rw [List.foldl_cons, foldl_ori f l, or_iff]
    simp only [List.mem_cons, exists_eq_or_imp]
    exact or_assoc

theorem reduce_ori {s t u : Shape} {axes : List (Fin s.rank)} (x : s.Idx → BitVec 1) (init : u.Idx → BitVec 1) (h : s.ReducesTo axes t) (hu : 0 < u.numel)
    (j : t.Idx) (hi : init (Shape.Idx.first hu) = 0#1) : Host.reduce IntOp.ori x init h hu j = 1#1 ↔ ∃ i, h.drop i = j ∧ x i = 1#1 := by
  rw [Host.reduce_eq_foldl, foldl_ori, hi]
  constructor
  · rintro (e | ⟨i, hm, e⟩)
    · exact absurd e (by decide)
    · rw [List.mem_filter] at hm
      exact ⟨i, by simpa using hm.2, e⟩
  · rintro ⟨i, hd, e⟩
    refine .inr ⟨i, ?_, e⟩
    rw [List.mem_filter]
    exact ⟨List.mem_map.2 ⟨s.rowMajor i, List.mem_finRange _, Equiv.symm_apply_apply _ _⟩, by simp [hd]⟩

/-- The flag's bits of the four pairs: used, and used by a window of its tile only. -/
def liveBit : Fin 4 → BitVec 32 := ![4#32, 16#32, 64#32, 256#32]
def narrowBit : Fin 4 → BitVec 32 := ![8#32, 32#32, 128#32, 512#32]

/-- A position inside a pair's rows. -/
def Inside (v N pos tile window : BitVec 32) : Prop :=
  if v &&& N ≠ 0#32 then window.toInt ≤ (pos - tile * 512#32).toInt ∧ (pos - tile * 512#32).toInt < (window + 256#32).toInt
  else (0#32).toInt ≤ (pos - tile * 512#32).toInt ∧ (pos - tile * 512#32).toInt < (512#32).toInt

/-- A token's row in the experts' result, as column `j` of the positions says it. -/
def posOf (C : FVec F S65536x128 .f32) (j : Fin 128) (r : Fin 65536) : BitVec 32 := FloatOps.fptosi (F := F) 32 (C (ix2 r j))

/-- A plan of the steps. -/
structure Planned (B V : S419.Idx → BitVec 32) (T W : S4x419.Idx → BitVec 32) (C : FVec F S65536x128 .f32) : Prop where
  tile : ∀ k n, 0 ≤ (T (ix2 k n)).toInt ∧ (T (ix2 k n)).toInt < 264
  window : ∀ k n, 0 ≤ (W (ix2 k n)).toInt ∧ (W (ix2 k n)).toInt ≤ 256
  aligned : ∀ k n, W (ix2 k n) &&& 15#32 = 0#32
  zero : B (ix1 0) = 0#32
  last : B (ix1 418) = 127#32
  next : ∀ n : Fin 418, B (ix1 ⟨n.val + 1, by omega⟩) = B (ix1 ⟨n.val, by omega⟩) ∨ B (ix1 ⟨n.val + 1, by omega⟩) = B (ix1 ⟨n.val, by omega⟩) + 1#32
  first : V (ix1 0) &&& 1#32 ≠ 0#32
  begins : ∀ n : Fin 418, V (ix1 ⟨n.val + 1, by omega⟩) &&& 1#32 ≠ 0#32 ↔ B (ix1 ⟨n.val + 1, by omega⟩) ≠ B (ix1 ⟨n.val, by omega⟩)
  done : V (ix1 418) &&& 2#32 ≠ 0#32 ∨ V (ix1 418) = 0#32
  ends : ∀ n : Fin 418, if B (ix1 ⟨n.val + 1, by omega⟩) ≠ B (ix1 ⟨n.val, by omega⟩) then V (ix1 ⟨n.val, by omega⟩) &&& 2#32 ≠ 0#32 ∨ V (ix1 ⟨n.val, by omega⟩) = 0#32
    else ((V (ix1 ⟨n.val, by omega⟩) &&& 2#32 ≠ 0#32 ∨ V (ix1 ⟨n.val, by omega⟩) = 0#32) ↔ V (ix1 ⟨n.val + 1, by omega⟩) = 0#32)
  apart : ∀ r, posOf C 2 r ≠ posOf C 3 r
  once : ∀ k n k' n', V (ix1 n) &&& liveBit k ≠ 0#32 → V (ix1 n') &&& liveBit k' ≠ 0#32 → B (ix1 n) = B (ix1 n') → T (ix2 k n) = T (ix2 k' n') → k = k' ∧ n = n'
  held1 : ∀ r : Fin 65536, ∃ k n, V (ix1 n) &&& liveBit k ≠ 0#32 ∧ B (ix1 n) = BitVec.ofNat 32 (r.val / 512) ∧ Inside (V (ix1 n)) (narrowBit k) (posOf C 2 r) (T (ix2 k n)) (W (ix2 k n))
  held2 : ∀ r : Fin 65536, ∃ k n, V (ix1 n) &&& liveBit k ≠ 0#32 ∧ B (ix1 n) = BitVec.ofNat 32 (r.val / 512) ∧ Inside (V (ix1 n)) (narrowBit k) (posOf C 3 r) (T (ix2 k n)) (W (ix2 k n))

theorem none_one {s t u : Shape} {axes : List (Fin s.rank)} [Subsingleton t.Idx] (x : s.Idx → BitVec 1) (init : u.Idx → BitVec 1) (h : s.ReducesTo axes t)
    (hu : 0 < u.numel) (j : t.Idx) (hi : init (Shape.Idx.first hu) = 0#1) (e : noti (Host.reduce IntOp.ori x init h hu) j = 1#1) (i : s.Idx) : ¬ x i = 1#1 := by
  intro hx
  have e1 : Host.reduce IntOp.ori x init h hu j = 1#1 := (reduce_ori x init h hu j hi).2 ⟨i, Subsingleton.elim _ _, hx⟩
  have e2 : ∀ c : BitVec 1, c = 1#1 → ~~~ c = 1#1 → False := by decide
  exact e2 _ e1 e

theorem live_lit (k : Fin 4) : lit0 (S4x1.rowMajor (ix2 k 0)) = liveBit k := by
  fin_cases k <;> rfl
theorem narrow_lit (k : Fin 4) : lit1 (S4x1.rowMajor (ix2 k 0)) = narrowBit k := by
  fin_cases k <;> rfl

/-- A pair's number says which it is. -/
theorem pair_word {k k' : Fin 4} {n n' : Fin 419}
    (e : IntOp.addi (IntOp.muli (BitVec.ofNat 32 k.val) 419#32) (BitVec.ofNat 32 n.val) = IntOp.addi (IntOp.muli (BitVec.ofNat 32 k'.val) 419#32) (BitVec.ofNat 32 n'.val)) :
    k = k' ∧ n = n' := by
  have e' := congrArg BitVec.toNat e
  have hk := k.isLt
  have hk' := k'.isLt
  have hn := n.isLt
  have hn' := n'.isLt
  unfold IntOp.addi IntOp.muli at e'
  rw [BitVec.toNat_add, BitVec.toNat_add, BitVec.toNat_mul, BitVec.toNat_mul, BitVec.toNat_ofNat, BitVec.toNat_ofNat, BitVec.toNat_ofNat, BitVec.toNat_ofNat, BitVec.toNat_ofNat,
    Nat.mod_eq_of_lt (a := k.val) (by omega), Nat.mod_eq_of_lt (a := k'.val) (by omega), Nat.mod_eq_of_lt (a := n.val) (by omega), Nat.mod_eq_of_lt (a := n'.val) (by omega),
    Nat.mod_eq_of_lt (a := 419) (by decide), Nat.mod_eq_of_lt (a := k.val * 419) (by omega), Nat.mod_eq_of_lt (a := k'.val * 419) (by omega),
    Nat.mod_eq_of_lt (a := k.val * 419 + n.val) (by omega), Nat.mod_eq_of_lt (a := k'.val * 419 + n'.val) (by omega)] at e'
  exact ⟨Fin.ext (by omega), Fin.ext (by omega)⟩

/-- A token's block. -/
theorem token_word (u : ArithUnit) (r : Fin 65536) : IntOp.divsi u (BitVec.ofNat 32 r.val) 512#32 = BitVec.ofNat 32 (r.val / 512) := by
  have hr := r.isLt
  have hc : ¬ IntOp.SDivCorner (BitVec.ofNat 32 r.val) 512#32 := by
    rintro (h | ⟨_, h⟩)
    · exact absurd h (by decide)
    · exact absurd h (by decide)
  have hm : (BitVec.ofNat 32 r.val).msb = false := by
    rw [BitVec.msb_eq_false_iff_two_mul_lt, BitVec.toNat_ofNat]
    omega
  have hm' : (512#32).msb = false := by decide
  unfold IntOp.divsi
  rw [if_neg hc, BitVec.sdiv_eq, hm, hm']
  apply BitVec.eq_of_toNat_eq
  show ((BitVec.ofNat 32 r.val).udiv 512#32).toNat = _
  rw [BitVec.udiv_eq, BitVec.toNat_udiv, BitVec.toNat_ofNat, BitVec.toNat_ofNat, BitVec.toNat_ofNat, Nat.mod_eq_of_lt (a := r.val) (by omega),
    Nat.mod_eq_of_lt (a := 512) (by decide), Nat.mod_eq_of_lt (a := r.val / 512) (by omega)]

theorem one_unit : Subsingleton S_.Idx := ⟨fun a b => funext fun i => i.elim0⟩

set_option maxHeartbeats 2000000 in
theorem planned_of (B V : S419.Idx → BitVec 32) (T W : S4x419.Idx → BitVec 32) (C : FVec F S65536x128 .f32) (O : FVec F S135168x1024 .bf16)
    (X : FVec F S65536x1024 .f32) (g b : FVec F S1024 .f32) (h : Cert.Pre_planned.fn (F := F) B V T W C O X g b = fun _ => 1#1) : Planned B V T W C := by
  have h0 := congrFun h ix0
  have := one_unit
  dsimp only [fn, fn_part1, fn_part2, fn_part3, fn_part4, fn_part5, fn_part6, fn_part7, fn_part8, fn_part9, fn_part10, fn_where, fn_where_0] at h0
  obtain ⟨h0, hapart⟩ := IntOp.andi_eq_one.1 h0
  obtain ⟨h0, hheld2⟩ := IntOp.andi_eq_one.1 h0
  obtain ⟨h0, hheld1⟩ := IntOp.andi_eq_one.1 h0
  obtain ⟨h0, hclash⟩ := IntOp.andi_eq_one.1 h0
  obtain ⟨hr, ho⟩ := IntOp.andi_eq_one.1 h0
  obtain ⟨hr, halign⟩ := IntOp.andi_eq_one.1 hr
  obtain ⟨hr, hw2⟩ := IntOp.andi_eq_one.1 hr
  obtain ⟨hr, hw1⟩ := IntOp.andi_eq_one.1 hr
  obtain ⟨ht1, ht2⟩ := IntOp.andi_eq_one.1 hr
  obtain ⟨ho, hends⟩ := IntOp.andi_eq_one.1 ho
  obtain ⟨ho, hdone⟩ := IntOp.andi_eq_one.1 ho
  obtain ⟨ho, hbegins⟩ := IntOp.andi_eq_one.1 ho
  obtain ⟨ho, hfirst⟩ := IntOp.andi_eq_one.1 ho
  obtain ⟨ho, hnext⟩ := IntOp.andi_eq_one.1 ho
  obtain ⟨hzero, hlast⟩ := IntOp.andi_eq_one.1 ho
  clear * - hapart hheld1 hheld2 hclash halign hw1 hw2 ht1 ht2 hends hdone hbegins hfirst hnext hzero hlast this
  refine ⟨fun k n => ⟨?_, ?_⟩, fun k n => ⟨?_, ?_⟩, fun k n => ?_, ?_, ?_, fun n => ?_, ?_, fun n => ?_, ?_, fun n => ?_, fun r => ?_,
    fun k n k' n' h1 h2 h3 h4 => ?_, fun r => ?_, fun r => ?_⟩
  · exact (sge_iff _ _).1 (Host.reduce_andi_all _ _ _ _ _ ht1 (ix2 k n))
  · exact (slt_iff _ _).1 (Host.reduce_andi_all _ _ _ _ _ ht2 (ix2 k n))
  · exact (sge_iff _ _).1 (Host.reduce_andi_all _ _ _ _ _ hw1 (ix2 k n))
  · exact (sle_iff _ _).1 (Host.reduce_andi_all _ _ _ _ _ hw2 (ix2 k n))
  · exact (eq_iff _ _).1 (Host.reduce_andi_all _ _ _ _ _ halign (ix2 k n))
  · refine (eq_iff _ _).1 (Eq.trans ?_ hzero)
    pointwise
  · refine (eq_iff _ _).1 (Eq.trans ?_ hlast)
    pointwise
  · have e := Host.reduce_andi_all _ _ _ _ _ hnext (ix1 n)
    rw [← eq_iff, ← eq_iff, ← or_iff]
    refine Eq.trans ?_ e
    pointwise
    first | rfl | (simp only [Nat.add_comm 1 n.val]; try rfl)
  · refine (ne_iff _ _).1 (Eq.trans ?_ hfirst)
    pointwise
    rfl
  · have e := Host.reduce_andi_all _ _ _ _ _ hbegins (ix1 n)
    rw [← ne_iff, ← ne_iff, ← same_iff]
    refine Eq.trans ?_ e
    pointwise
    first | rfl | (simp only [Nat.add_comm 1 n.val]; try rfl)
  · rw [← eq_iff, ← ne_iff, ← or_iff]
    refine Eq.trans ?_ hdone
    pointwise
    rfl
  · have e := Host.reduce_andi_all _ _ _ _ _ hends (ix1 n)
    simp only [← eq_iff, ← ne_iff, ← or_iff, ← same_iff, ← select_iff]
    refine Eq.trans ?_ e
    pointwise
    first | rfl | (simp only [Nat.add_comm 1 n.val]; try rfl)
  · refine (ne_iff _ _).1 (Eq.trans ?_ (Host.reduce_andi_all _ _ _ _ _ hapart (ix1 r)))
    pointwise
    rfl
  · by_contra hne
    refine none_one _ _ _ _ _ rfl hclash (ix4 k n k' n') ?_
    pointwise
    simp only [IntOp.andi_eq_one, eq_iff, ne_iff, live_lit]
    refine ⟨⟨⟨⟨h1, h2⟩, h3⟩, h4⟩, fun e => hne (pair_word e)⟩
  · obtain ⟨i, hd, e⟩ := (reduce_ori _ _ _ _ _ rfl).1 (Host.reduce_andi_all _ _ _ _ _ hheld1 (ix1 r))
    obtain ⟨r', k, n, rfl⟩ : ∃ (r' : Fin 65536) (k : Fin 4) (n : Fin 419), i = ix3 r' k n := ⟨i 0, i 1, i 2, by funext x; fin_cases x <;> rfl⟩
    obtain rfl : r' = r := Fin.ext (congrArg (fun q : S65536.Idx => (q 0).val) hd)
    revert e
    pointwise
    simp only [IntOp.andi_eq_one, select_iff, eq_iff, ne_iff, sge_iff, slt_iff, live_lit, narrow_lit, token_word]
    exact fun e => ⟨k, n, e.1.1, e.1.2, e.2⟩
  · obtain ⟨i, hd, e⟩ := (reduce_ori _ _ _ _ _ rfl).1 (Host.reduce_andi_all _ _ _ _ _ hheld2 (ix1 r))
    obtain ⟨r', k, n, rfl⟩ : ∃ (r' : Fin 65536) (k : Fin 4) (n : Fin 419), i = ix3 r' k n := ⟨i 0, i 1, i 2, by funext x; fin_cases x <;> rfl⟩
    obtain rfl : r' = r := Fin.ext (congrArg (fun q : S65536.Idx => (q 0).val) hd)
    revert e
    pointwise
    simp only [IntOp.andi_eq_one, select_iff, eq_iff, ne_iff, sge_iff, slt_iff, live_lit, narrow_lit, token_word]
    exact fun e => ⟨k, n, e.1.1, e.1.2, e.2⟩

end Cert.Combine

end
-- ==== Proof.Combine.Entry.lean ====
/- The prefetched tables at the call's start, and that they are good where the arguments are a plan. -/
module

public import proofs.«01_k».proof.Proof.Combine.Plan
public import Idealize.ShloMosaic.Lib.StableHlo.ReadAt

@[expose] public section

set_option maxRecDepth 16384

noncomputable section

namespace Cert.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ)

/-- The arguments as launched. -/
def argB : S419.Idx → BitVec 32 := m (((0 : Dev nD).tc : Thread nD τ).loc main_arg0)
def argV : S419.Idx → BitVec 32 := m (((0 : Dev nD).tc : Thread nD τ).loc main_arg1)
def argT : S4x419.Idx → BitVec 32 := m (((0 : Dev nD).tc : Thread nD τ).loc main_arg2)
def argW : S4x419.Idx → BitVec 32 := m (((0 : Dev nD).tc : Thread nD τ).loc main_arg3)
def argC : Vec F S65536x128 .f32 := m (((0 : Dev nD).tc : Thread nD τ).loc main_arg4)

theorem block_tbl (n : Fin 419) : at' (F := F) (tbl m 0) n.val = argB m (ix1 n) := by
  unfold at' tbl argB
  have e : (⟨n.val % 419, Nat.mod_lt _ (by decide)⟩ : Fin 419) = n := Fin.ext (Nat.mod_eq_of_lt n.isLt)
  rw [e]
  exact congrFun (V_arg0 m 0) (ix1 n)
theorem flag_tbl (n : Fin 419) : flagAt (tbl m) n.val = argV m (ix1 n) := by
  unfold flagAt at' tbl argV
  have e : (⟨n.val % 419, Nat.mod_lt _ (by decide)⟩ : Fin 419) = n := Fin.ext (Nat.mod_eq_of_lt n.isLt)
  rw [e]
  exact congrFun (V_arg1 m 0) (ix1 n)
theorem row_tbl2 (n : Fin 419) : at' (F := F) (tbl m 2) n.val = argT m (ix2 0 n) := by
  unfold at'
  have e : (⟨n.val % 419, Nat.mod_lt _ (by decide)⟩ : Fin 419) = n := Fin.ext (Nat.mod_eq_of_lt n.isLt)
  rw [e]
  show (V m 0 main_v1 : S419.Idx → BitVec 32) (ix1 n) = _
  unfold V
  after_reads_simp
  pointwise
  rfl
theorem row_tbl3 (n : Fin 419) : at' (F := F) (tbl m 3) n.val = argT m (ix2 1 n) := by
  unfold at'
  have e : (⟨n.val % 419, Nat.mod_lt _ (by decide)⟩ : Fin 419) = n := Fin.ext (Nat.mod_eq_of_lt n.isLt)
  rw [e]
  show (V m 0 main_v3 : S419.Idx → BitVec 32) (ix1 n) = _
  unfold V
  after_reads_simp
  pointwise
  rfl
theorem row_tbl4 (n : Fin 419) : at' (F := F) (tbl m 4) n.val = argT m (ix2 2 n) := by
  unfold at'
  have e : (⟨n.val % 419, Nat.mod_lt _ (by decide)⟩ : Fin 419) = n := Fin.ext (Nat.mod_eq_of_lt n.isLt)
  rw [e]
  show (V m 0 main_v5 : S419.Idx → BitVec 32) (ix1 n) = _
  unfold V
  after_reads_simp
  pointwise
  rfl
theorem row_tbl5 (n : Fin 419) : at' (F := F) (tbl m 5) n.val = argT m (ix2 3 n) := by
  unfold at'
  have e : (⟨n.val % 419, Nat.mod_lt _ (by decide)⟩ : Fin 419) = n := Fin.ext (Nat.mod_eq_of_lt n.isLt)
  rw [e]
  show (V m 0 main_v7 : S419.Idx → BitVec 32) (ix1 n) = _
  unfold V
  after_reads_simp
  pointwise
  rfl
theorem row_tbl6 (n : Fin 419) : at' (F := F) (tbl m 6) n.val = argW m (ix2 0 n) := by
  unfold at'
  have e : (⟨n.val % 419, Nat.mod_lt _ (by decide)⟩ : Fin 419) = n := Fin.ext (Nat.mod_eq_of_lt n.isLt)
  rw [e]
  show (V m 0 main_v9 : S419.Idx → BitVec 32) (ix1 n) = _
  unfold V
  after_reads_simp
  pointwise
  rfl
theorem row_tbl7 (n : Fin 419) : at' (F := F) (tbl m 7) n.val = argW m (ix2 1 n) := by
  unfold at'
  have e : (⟨n.val % 419, Nat.mod_lt _ (by decide)⟩ : Fin 419) = n := Fin.ext (Nat.mod_eq_of_lt n.isLt)
  rw [e]
  show (V m 0 main_v11 : S419.Idx → BitVec 32) (ix1 n) = _
  unfold V
  after_reads_simp
  pointwise
  rfl
theorem row_tbl8 (n : Fin 419) : at' (F := F) (tbl m 8) n.val = argW m (ix2 2 n) := by
  unfold at'
  have e : (⟨n.val % 419, Nat.mod_lt _ (by decide)⟩ : Fin 419) = n := Fin.ext (Nat.mod_eq_of_lt n.isLt)
  rw [e]
  show (V m 0 main_v13 : S419.Idx → BitVec 32) (ix1 n) = _
  unfold V
  after_reads_simp
  pointwise
  rfl
theorem row_tbl9 (n : Fin 419) : at' (F := F) (tbl m 9) n.val = argW m (ix2 3 n) := by
  unfold at'
  have e : (⟨n.val % 419, Nat.mod_lt _ (by decide)⟩ : Fin 419) = n := Fin.ext (Nat.mod_eq_of_lt n.isLt)
  rw [e]
  show (V m 0 main_v15 : S419.Idx → BitVec 32) (ix1 n) = _
  unfold V
  after_reads_simp
  pointwise
  rfl

theorem at_mod (T : Vec F S419 .i32) (n : ℕ) : at' T n = at' T (⟨n % 419, Nat.mod_lt _ (by decide)⟩ : Fin 419).val := by
  unfold at'
  exact congrArg (fun k : Fin 419 => T (ix1 k : S419.Idx)) (Fin.ext (Nat.mod_mod n 419).symm)

theorem toNat_of_toInt {w : BitVec 32} (h : 0 ≤ w.toInt) : (w.toNat : ℤ) = w.toInt := by
  have := BitVec.toInt_eq_toNat_cond w
  have hl := w.isLt
  split at this <;> omega

theorem aligned_of {w : BitVec 32} (h : w &&& 15#32 = 0#32) : 16 ∣ w.toNat := by
  have e := congrArg BitVec.toNat h
  rw [BitVec.toNat_and] at e
  have e' : w.toNat &&& 15 = 0 := e
  rw [show (15 : ℕ) = 2 ^ 4 - 1 from rfl, Nat.and_two_pow_sub_one_eq_mod] at e'
  omega

variable {m}

theorem block_nat (n : ℕ) (hn : n < 419) : blockAt (tbl m) n = (argB m (ix1 ⟨n, hn⟩)).toNat := congrArg BitVec.toNat (block_tbl m ⟨n, hn⟩)

theorem block_le (h : Planned (argB m) (argV m) (argT m) (argW m) (argC m)) : ∀ n (hn : n < 419), blockAt (tbl m) n ≤ n
  | 0, hn => by rw [block_nat 0 hn, show (⟨0, hn⟩ : Fin 419) = 0 from rfl, h.zero]; decide
  | n + 1, hn => by
    have ih := block_le h n (by omega)
    rw [block_nat n (by omega)] at ih
    rw [block_nat (n + 1) hn]
    rcases h.next ⟨n, by omega⟩ with e | e
    · rw [show argB m (ix1 ⟨n + 1, hn⟩) = argB m (ix1 ⟨n, by omega⟩) from e]; omega
    · rw [show argB m (ix1 ⟨n + 1, hn⟩) = argB m (ix1 ⟨n, by omega⟩) + 1#32 from e, BitVec.toNat_add]
      have : (1#32).toNat = 1 := rfl
      omega

theorem next_block (h : Planned (argB m) (argV m) (argT m) (argW m) (argC m)) (n : ℕ) (hn : n < 418) :
    blockAt (tbl m) (n + 1) = blockAt (tbl m) n ∨ blockAt (tbl m) (n + 1) = blockAt (tbl m) n + 1 := by
  have hb := block_le h n (by omega)
  rw [block_nat (n + 1) (by omega)]
  rw [block_nat n (by omega)] at hb ⊢
  rcases h.next ⟨n, hn⟩ with e | e
  · left; rw [show argB m (ix1 ⟨n + 1, by omega⟩) = argB m (ix1 ⟨n, by omega⟩) from e]
  · right
    rw [show argB m (ix1 ⟨n + 1, by omega⟩) = argB m (ix1 ⟨n, by omega⟩) + 1#32 from e, BitVec.toNat_add]
    have : (1#32).toNat = 1 := rfl
    omega

theorem last_block (h : Planned (argB m) (argV m) (argT m) (argW m) (argC m)) : blockAt (tbl m) 418 = 127 := by
  rw [block_nat 418 (by decide), show (⟨418, by decide⟩ : Fin 419) = 418 from rfl, h.last]; decide

theorem block_mono (h : Planned (argB m) (argV m) (argT m) (argW m) (argC m)) (d : ℕ) : ∀ n, n + d < 419 → blockAt (tbl m) n ≤ blockAt (tbl m) (n + d) := by
  induction d with
  | zero => intro n _; exact le_rfl
  | succ d ih =>
    intro n hn
    have h1 := ih n (by omega)
    have h2 := next_block h (n + d) (by omega)
    rw [← Nat.add_assoc]
    omega

theorem change_iff (n : ℕ) (hn : n < 418) :
    argB m (ix1 ⟨n + 1, by omega⟩) ≠ argB m (ix1 ⟨n, by omega⟩) ↔ blockAt (tbl m) (n + 1) ≠ blockAt (tbl m) n := by
  rw [block_nat (n + 1) (by omega), block_nat n (by omega), ne_eq, ne_eq, BitVec.toNat_inj]

theorem ended_iff (n : ℕ) (hn : n < 419) : (argV m (ix1 ⟨n, hn⟩) &&& 2#32 ≠ 0#32 ∨ argV m (ix1 ⟨n, hn⟩) = 0#32) ↔ Ended (tbl m) n := by
  unfold Ended
  rw [bit_iff, show flagAt (tbl m) n = argV m (ix1 ⟨n, hn⟩) from flag_tbl m ⟨n, hn⟩]

theorem tile_of (h : Planned (argB m) (argV m) (argT m) (argW m) (argC m)) (D : Vec F S419 .i32) (k : Fin 4)
    (hD : ∀ n : Fin 419, at' D n.val = argT m (ix2 k n)) (n : ℕ) : (at' D n).toNat < 264 := by
  rw [at_mod, hD]
  have h1 := h.tile k ⟨n % 419, Nat.mod_lt _ (by decide)⟩
  have h2 := toNat_of_toInt h1.1
  omega

theorem window_of (h : Planned (argB m) (argV m) (argT m) (argW m) (argC m)) (D : Vec F S419 .i32) (k : Fin 4)
    (hD : ∀ n : Fin 419, at' D n.val = argW m (ix2 k n)) (n : ℕ) : 16 ∣ (at' D n).toNat ∧ (at' D n).toNat ≤ 256 := by
  rw [at_mod, hD]
  have h1 := h.window k ⟨n % 419, Nat.mod_lt _ (by decide)⟩
  have h2 := toNat_of_toInt h1.1
  exact ⟨aligned_of (h.aligned k _), by omega⟩

/-- A plan's tables are good. -/
theorem good_of (h : Planned (argB m) (argV m) (argT m) (argW m) (argC m)) : Good (tbl m) where
  block n := by
    have e : blockAt (tbl m) n = blockAt (tbl m) (n % 419) := congrArg BitVec.toNat (at_mod _ n)
    have hl : n % 419 < 419 := Nat.mod_lt _ (by decide)
    have h1 := block_mono h (418 - n % 419) (n % 419) (by omega)
    rw [show n % 419 + (418 - n % 419) = 418 by omega, last_block h] at h1
    omega
  tile0 := tile_of h (tbl m 2) 0 (row_tbl2 m)
  tile1 := tile_of h (tbl m 3) 1 (row_tbl3 m)
  tile2 := tile_of h (tbl m 4) 2 (row_tbl4 m)
  tile3 := tile_of h (tbl m 5) 3 (row_tbl5 m)
  window0 := window_of h (tbl m 6) 0 (row_tbl6 m)
  window1 := window_of h (tbl m 7) 1 (row_tbl7 m)
  window2 := window_of h (tbl m 8) 2 (row_tbl8 m)
  window3 := window_of h (tbl m 9) 3 (row_tbl9 m)
  zero := by
    rw [block_nat 0 (by decide), show (⟨0, by decide⟩ : Fin 419) = 0 from rfl, h.zero]; decide
  last := last_block h
  next n hn := next_block h n hn
  first := by
    rw [bit_iff, show flagAt (tbl m) 0 = argV m (ix1 0) from flag_tbl m 0]
    exact h.first
  begins n hn := by
    rw [bit_iff, ← change_iff n hn, show flagAt (tbl m) (n + 1) = argV m (ix1 ⟨n + 1, by omega⟩) from flag_tbl m ⟨n + 1, by omega⟩]
    exact h.begins ⟨n, hn⟩
  done := (ended_iff 418 (by decide)).1 h.done
  ends n hn hc := by
    have e := h.ends ⟨n, hn⟩
    rw [if_pos ((change_iff n hn).2 hc)] at e
    exact (ended_iff n (by omega)).1 e
  stays n hn hc := by
    have e := h.ends ⟨n, hn⟩
    rw [if_neg (fun hh => (change_iff n hn).1 hh hc), ended_iff n (by omega)] at e
    rw [show flagAt (tbl m) (n + 1) = argV m (ix1 ⟨n + 1, by omega⟩) from flag_tbl m ⟨n + 1, by omega⟩]
    exact e

end Cert.Combine

end
-- ==== Proof.Combine.Claims.lean ====
/- The frames of the combining call's programs, at the statement's precondition. -/
module

public import proofs.«01_k».proof.Defs
public import proofs.«01_k».proof.Proof.Combine.Frame
public import proofs.«01_k».proof.Proof.Combine.Entry
public import proofs.«01_k».proof.Proof.Gen.Kernel8
public import proofs.«01_k».proof.Proof.Gen.Reference8Ideal.Run
public import Idealize.ShloMosaic.Lib.Quiescent

@[expose] public section

set_option maxRecDepth 16384

noncomputable section

namespace Cert.Combine

open Idealize.ShloMosaic Idealize.SL.Sem Idealize.ShloMosaic.TcCoe Idealize.ShloMosaic.Tactic
open Cert.Kernel8Ideal Cert.Kernel8Ideal.Gen

/-- The kernel's frame, said of the idealized text read at the words. -/
def FrameBits : Prop :=
  ∀ (m : (ℓ : Loc nD τ sig) → Buf (Elt Bits) ℓ) (g : Dev nD → PrngReg),
    (∀ c : Dev nD, Cert.Pre_planned.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

theorem frame_bits : FrameBits := fun m ρ h =>
  frame (F := Bits) m ρ (good_of (planned_of _ _ _ _ _ _ _ _ _ (h 0)))

/-- The kernel and the idealized kernel are one text. -/
theorem same_text : Cert.quiescent_Kernel8 = FrameBits := by sl_kernel_rfl

/-- The kernel's frame. -/
theorem frame_kernel8 : Cert.quiescent_Kernel8 := same_text.mpr frame_bits

/-- The idealized kernel's frame. -/
theorem frame_kernel8Ideal : Cert.quiescent_Kernel8Ideal := fun m ρ h =>
  frame m ρ (good_of (planned_of _ _ _ _ _ _ _ _ _ (h 0)))

/-- The reference's frame. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

end Cert.Combine

end
-- ==== Proof.Combine.Pay.lean ====
module

public import proofs.«01_k».proof.Proof.Norm.Spec
public import proofs.«01_k».proof.Proof.Combine.Plan

@[expose] public section

set_option maxRecDepth 16384

noncomputable section

/-! # What a pair of a step adds, entry by entry -/

namespace Cert.Combine

open Idealize.ShloMosaic Cert.Kernel8Ideal Cert.Kernel8Ideal.Gen Cert.Norm

theorem pay1_at (r : Fin 512) (j : Fin 1024) : (k0_pay1 (F := Ideal) : S512x1024.Idx → EReal) (ix2 r j) = 0 := by
  unfold_payloads
  pointwise

theorem pay18_at (x c : S512x1024.Idx → EReal) (g b : S1x1024.Idx → EReal) (r : Fin 512) (j : Fin 1024) :
    (k0_pay18 (F := Ideal) x c g b : S512x1024.Idx → EReal) (ix2 r j)
      = layerNorm (fun k => alpha * x (ix2 r k) + c (ix2 r k)) (g (ix2 0 j)) (b (ix2 0 j)) j := by
  unfold_payloads
  pointwise
  rfl

/-- What a stretch of rows gives a token whose row is `p`. -/
def within (lo w p : ℕ) (f : ℕ → EReal) : EReal := if lo ≤ p ∧ p < lo + w then f p else 0

theorem sum_within (lo w p : ℕ) (f : ℕ → EReal) : ∑ x : Fin w, (if p = lo + x.val then f p else 0) = within lo w p f := by
  unfold within
  by_cases h : lo ≤ p ∧ p < lo + w
  · rw [if_pos h, Finset.sum_eq_single ⟨p - lo, by omega⟩]
    · exact if_pos (show p = lo + (p - lo) by omega)
    · intro x _ hx
      exact if_neg fun e => hx (Fin.ext (show x.val = p - lo by omega))
    · intro hx
      exact absurd (Finset.mem_univ _) hx
  · rw [if_neg h]
    refine Finset.sum_eq_zero fun x _ => if_neg fun e => h ?_
    have := x.isLt
    omega

theorem lane_iff (base p : BitVec 32) {w : ℕ} (hb : base.toNat + w ≤ 2 ^ 31) (x : Fin w) :
    IntOp.cmpi .eq (IntOp.addi base (BitVec.ofNat 32 x.val)) p = 1#1 ↔ p.toNat = base.toNat + x.val := by
  have hx := x.isLt
  rw [eq_iff, ← BitVec.toNat_inj]
  unfold IntOp.addi
  rw [BitVec.toNat_add, BitVec.toNat_ofNat, Nat.mod_eq_of_lt (a := x.val) (by omega), Nat.mod_eq_of_lt (a := base.toNat + x.val) (by omega)]
  exact eq_comm

/-- The sum over a stretch's lanes keeps the token's two rows. -/
theorem lanes_sum {w : ℕ} (base p q : BitVec 32) (hb : base.toNat + w ≤ 2 ^ 31) (hpq : p ≠ q) (O : Fin w → EReal) (f : ℕ → EReal)
    (hO : ∀ x : Fin w, O x = f (base.toNat + x.val)) :
    ∑ x : Fin w, Scalar.select (IntOp.ori (IntOp.cmpi .eq (IntOp.addi base (BitVec.ofNat 32 x.val)) p) (IntOp.cmpi .eq (IntOp.addi base (BitVec.ofNat 32 x.val)) q)) (O x) 0
      = within base.toNat w p.toNat f + within base.toNat w q.toNat f := by
  rw [← sum_within, ← sum_within, ← Finset.sum_add_distrib]
  refine Finset.sum_congr rfl fun x _ => ?_
  have hne : p.toNat ≠ q.toNat := fun e => hpq (BitVec.eq_of_toNat_eq e)
  have hor : IntOp.ori (IntOp.cmpi .eq (IntOp.addi base (BitVec.ofNat 32 x.val)) p) (IntOp.cmpi .eq (IntOp.addi base (BitVec.ofNat 32 x.val)) q) = 1#1
      ↔ p.toNat = base.toNat + x.val ∨ q.toNat = base.toNat + x.val := by
    rw [or_iff, lane_iff base p hb, lane_iff base q hb]
  unfold Scalar.select
  by_cases h1 : p.toNat = base.toNat + x.val
  · have h2 : ¬ q.toNat = base.toNat + x.val := fun h2 => hne (h1.trans h2.symm)
    rw [if_pos (show _ = (1 : BitVec 1) from hor.2 (Or.inl h1)), if_pos h1, if_neg h2, add_zero, hO, h1]
  · by_cases h2 : q.toNat = base.toNat + x.val
    · rw [if_pos (show _ = (1 : BitVec 1) from hor.2 (Or.inr h2)), if_neg h1, if_pos h2, zero_add, hO, h2]
    · rw [if_neg (show ¬ _ = (1 : BitVec 1) from fun h => (hor.1 h).elim h1 h2), if_neg h1, if_neg h2, add_zero]

theorem base_nat (t w : BitVec 32) (ht : t.toNat < 264) (hw : w.toNat ≤ 256) : (Scalar.addi (Scalar.muli t 512#32) w).toNat = 512 * t.toNat + w.toNat := by
  show ((t * 512#32 + w : BitVec 32)).toNat = _
  rw [BitVec.toNat_add, BitVec.toNat_mul, show (512#32).toNat = 512 from rfl, Nat.mod_eq_of_lt (a := t.toNat * 512) (by omega),
    Nat.mod_eq_of_lt (a := t.toNat * 512 + w.toNat) (by omega)]
  omega

theorem pay4_at (c1 c2 : S512x1.Idx → EReal) (w t : BitVec 32) (ht : t.toNat < 264) (hw : w.toNat ≤ 256) (X : S512x1024.Idx → EReal) (O : S256x1024.Idx → EReal)
    (r : Fin 512) (j : Fin 1024) (p q : BitVec 32) (hp : FloatOps.fptosi (F := Ideal) (φ := .f32) 32 (c1 (ix2 r 0)) = p)
    (hq : FloatOps.fptosi (F := Ideal) (φ := .f32) 32 (c2 (ix2 r 0)) = q)
    (hpq : p ≠ q) (f : ℕ → EReal) (hO : ∀ x : Fin 256, O (ix2 x j) = f (512 * t.toNat + w.toNat + x.val)) :
    (k0_pay4 (F := Ideal) c1 c2 w t X O : S512x1024.Idx → EReal) (ix2 r j)
      = X (ix2 r j) + (within (512 * t.toNat + w.toNat) 256 p.toNat f + within (512 * t.toNat + w.toNat) 256 q.toNat f) := by
  subst hp hq
  have hb := base_nat t w ht hw
  have h := lanes_sum (Scalar.addi (Scalar.muli t 512#32) w) _ _ (by omega) hpq (fun x => O (ix2 x j)) f (by rw [hb]; exact hO)
  rw [hb] at h
  refine Eq.trans ?_ (congrArg (X (ix2 r j) + ·) h)
  unfold_payloads
  pointwise

theorem pay5_at (c1 c2 : S512x1.Idx → EReal) (t : BitVec 32) (ht : t.toNat < 264) (X O : S512x1024.Idx → EReal)
    (r : Fin 512) (j : Fin 1024) (p q : BitVec 32) (hp : FloatOps.fptosi (F := Ideal) (φ := .f32) 32 (c1 (ix2 r 0)) = p)
    (hq : FloatOps.fptosi (F := Ideal) (φ := .f32) 32 (c2 (ix2 r 0)) = q)
    (hpq : p ≠ q) (f : ℕ → EReal) (hO : ∀ x : Fin 512, O (ix2 x j) = f (512 * t.toNat + x.val)) :
    (k0_pay5 (F := Ideal) c1 c2 t X O : S512x1024.Idx → EReal) (ix2 r j)
      = X (ix2 r j) + (within (512 * t.toNat) 512 p.toNat f + within (512 * t.toNat) 512 q.toNat f) := by
  subst hp hq
  have hb : (Scalar.addi (Scalar.muli t 512#32) 0#32).toNat = 512 * t.toNat := base_nat t 0#32 ht (by decide)
  have h := lanes_sum (Scalar.addi (Scalar.muli t 512#32) 0#32) _ _ (by omega) hpq (fun x => O (ix2 x j)) f (by rw [hb]; exact hO)
  rw [hb] at h
  refine Eq.trans ?_ (congrArg (X (ix2 r j) + ·) h)
  unfold_payloads
  pointwise

/-- A pair's rows hold a token's row: the pair is live, and the row lies in the window or in the tile. -/
def Hit (v tl wd L N : BitVec 32) (p : ℕ) : Prop :=
  bit v L = 1#1 ∧ if bit v N = 1#1 then 512 * tl.toNat + wd.toNat ≤ p ∧ p < 512 * tl.toNat + wd.toNat + 256 else 512 * tl.toNat ≤ p ∧ p < 512 * tl.toNat + 512

open Classical in
/-- What a pair gives a token whose row is `p`. -/
def given (v tl wd L N : BitVec 32) (p : ℕ) (f : ℕ → EReal) : EReal := if Hit v tl wd L N p then f p else 0

theorem col1_at {F : FTy → Type} [FloatOps F] (C : Vec F S512x128 .f32) (r : Fin 512) : (col1 C : Vec F S512x1 .f32) (ix2 r 0) = C (ix2 r 2) := by
  unfold col1
  refine View.ld_unit_apply_of C _ _ _ _ _ fun a => ?_
  fin_cases a
  · show (r : ℕ) = 0 + (r : ℕ)
    omega
  · rfl
theorem col2_at {F : FTy → Type} [FloatOps F] (C : Vec F S512x128 .f32) (r : Fin 512) : (col2 C : Vec F S512x1 .f32) (ix2 r 0) = C (ix2 r 3) := by
  unfold col2
  refine View.ld_unit_apply_of C _ _ _ _ _ fun a => ?_
  fin_cases a
  · show (r : ℕ) = 0 + (r : ℕ)
    omega
  · rfl

theorem pairStep_at (C : S512x128.Idx → EReal) (v tl wd L N : BitVec 32) (ht : tl.toNat < 264) (hw : wd.toNat ≤ 256) (O X : S512x1024.Idx → EReal)
    (r : Fin 512) (j : Fin 1024) (p q : BitVec 32) (hp : FloatOps.fptosi (F := Ideal) (φ := .f32) 32 (C (ix2 r 2)) = p)
    (hq : FloatOps.fptosi (F := Ideal) (φ := .f32) 32 (C (ix2 r 3)) = q)
    (hpq : p ≠ q) (f : ℕ → EReal) (hO : ∀ x : Fin 512, O (ix2 x j) = f (512 * tl.toNat + x.val)) :
    (pairStep (F := Ideal) C v tl wd L N O X : S512x1024.Idx → EReal) (ix2 r j)
      = X (ix2 r j) + (given v tl wd L N p.toNat f + given v tl wd L N q.toNat f) := by
  have c1 := col1_at (F := Ideal) C r
  have c2 := col2_at (F := Ideal) C r
  unfold pairStep given Hit
  by_cases hL : bit v L = 1#1
  · by_cases hN : bit v N = 1#1
    · simp only [if_pos hL, if_pos hN, hL, true_and]
      refine (pay4_at _ _ wd tl ht hw X _ r j p q (c1 ▸ hp) (c2 ▸ hq) hpq f fun x => ?_).trans rfl
      have hx := x.isLt
      have e : (rowsAt (F := Ideal) O wd : S256x1024.Idx → EReal) (ix2 x j) = O (ix2 (⟨wd.toNat + x.val, by omega⟩ : Fin 512) j) := by
        unfold rowsAt
        exact congrArg O (congrArg (fun y : Fin 512 => (ix2 y j : S512x1024.Idx)) (Fin.ext (Nat.mod_eq_of_lt (show wd.toNat + x.val < 512 by omega))))
      rw [e, hO]
      exact congrArg f (by show 512 * tl.toNat + (wd.toNat + x.val) = _; omega)
    · simp only [if_pos hL, if_neg hN, hL, true_and]
      exact (pay5_at _ _ tl ht X O r j p q (c1 ▸ hp) (c2 ▸ hq) hpq f hO).trans rfl
  · simp only [if_neg hL, hL, false_and, if_false, add_zero]

end Cert.Combine

end
-- ==== Proof.Combine.Sum.lean ====
module

public import proofs.«01_k».proof.Proof.Combine.Pay
public import proofs.«01_k».proof.Proof.Combine.Data

@[expose] public section

set_option maxRecDepth 16384

noncomputable section

/-! # What the accumulator holds at a token and a column -/

namespace Cert.Combine

open Idealize.ShloMosaic Idealize.ShloMosaic.TcCoe
open Cert.Kernel8Ideal Cert.Kernel8Ideal.Gen

/-! The pairs of a step. -/

section
variable {pf : pre0.Contents (Elt Ideal)}

/-- The tile and the window of a step's pair. -/
def tileAt (pf : pre0.Contents (Elt Ideal)) (n : ℕ) : Fin 4 → BitVec 32 :=
  ![at' (F := Ideal) (pf 2) n, at' (F := Ideal) (pf 3) n, at' (F := Ideal) (pf 4) n, at' (F := Ideal) (pf 5) n]
def windowAt (pf : pre0.Contents (Elt Ideal)) (n : ℕ) : Fin 4 → BitVec 32 :=
  ![at' (F := Ideal) (pf 6) n, at' (F := Ideal) (pf 7) n, at' (F := Ideal) (pf 8) n, at' (F := Ideal) (pf 9) n]

theorem tileAt_lt (hg : Good pf) (n : ℕ) (k : Fin 4) : (tileAt pf n k).toNat < 264 := by
  fin_cases k
  · exact hg.tile0 n
  · exact hg.tile1 n
  · exact hg.tile2 n
  · exact hg.tile3 n

theorem windowAt_le (hg : Good pf) (n : ℕ) (k : Fin 4) : (windowAt pf n k).toNat ≤ 256 := by
  fin_cases k
  · exact (hg.window0 n).2
  · exact (hg.window1 n).2
  · exact (hg.window2 n).2
  · exact (hg.window3 n).2

/-- A step's pair holds the row `p`. -/
def HitAt (pf : pre0.Contents (Elt Ideal)) (n : ℕ) (k : Fin 4) (p : ℕ) : Prop :=
  Hit (flagAt pf n) (tileAt pf n k) (windowAt pf n k) (liveBit k) (narrowBit k) p

/-- No block has two live pairs on one tile. -/
def Once (pf : pre0.Contents (Elt Ideal)) : Prop :=
  ∀ (k k' : Fin 4) (n n' : ℕ), n < 419 → n' < 419 → bit (flagAt pf n) (liveBit k) = 1#1 → bit (flagAt pf n') (liveBit k') = 1#1 →
    blockAt pf n = blockAt pf n' → tileAt pf n k = tileAt pf n' k' → k = k' ∧ n = n'

theorem hit_tile (hg : Good pf) {n : ℕ} {k : Fin 4} {p : ℕ} (h : HitAt pf n k p) : (tileAt pf n k).toNat = p / 512 := by
  have hw := windowAt_le hg n k
  have h2 := h.2
  split at h2 <;> omega

theorem hit_lt (hg : Good pf) {n : ℕ} {k : Fin 4} {p : ℕ} (h : HitAt pf n k p) : p < 135168 := by
  have h1 := hit_tile hg h
  have h2 := tileAt_lt hg n k
  omega

theorem hit_once (hg : Good pf) (ho : Once pf) {n n' : ℕ} {k k' : Fin 4} {p : ℕ} (hn : n < 419) (hn' : n' < 419) (h : HitAt pf n k p) (h' : HitAt pf n' k' p)
    (hb : blockAt pf n = blockAt pf n') : k = k' ∧ n = n' :=
  ho k k' n n' hn hn' h.1 h'.1 hb (BitVec.eq_of_toNat_eq ((hit_tile hg h).trans (hit_tile hg h').symm))

/-- A pair before pair `i` of step `n`, in the step's block, holds the row `p`. -/
def Seen (pf : pre0.Contents (Elt Ideal)) (p n i : ℕ) : Prop :=
  ∃ (m : ℕ) (k : Fin 4), blockAt pf m = blockAt pf n ∧ (m < n ∨ (m = n ∧ k.val < i)) ∧ HitAt pf m k p

open Classical in
/-- What those pairs have given the row `p`. -/
def sofar (pf : pre0.Contents (Elt Ideal)) (p : ℕ) (f : ℕ → EReal) (n i : ℕ) : EReal := if Seen pf p n i then f p else 0

theorem sofar_step (hg : Good pf) (ho : Once pf) (p : ℕ) (f : ℕ → EReal) {n : ℕ} (hn : n < 419) (k : Fin 4) :
    sofar pf p f n k.val + given (flagAt pf n) (tileAt pf n k) (windowAt pf n k) (liveBit k) (narrowBit k) p f = sofar pf p f n (k.val + 1) := by
  unfold sofar given
  by_cases h : HitAt pf n k p
  · have h1 : ¬ Seen pf p n k.val := by
      rintro ⟨m, k', hb, hm, h'⟩
      have e := hit_once hg ho (by omega) hn h' h hb
      obtain ⟨rfl, rfl⟩ := e
      omega
    rw [if_neg h1, if_pos (show Hit _ _ _ _ _ _ from h), if_pos ⟨n, k, rfl, Or.inr ⟨rfl, by omega⟩, h⟩, zero_add]
  · rw [if_neg (show ¬ Hit _ _ _ _ _ _ from h), add_zero]
    have e : Seen pf p n k.val ↔ Seen pf p n (k.val + 1) := by
      constructor
      · rintro ⟨m, k', hb, hm, h'⟩
        exact ⟨m, k', hb, by omega, h'⟩
      · rintro ⟨m, k', hb, hm, h'⟩
        refine ⟨m, k', hb, ?_, h'⟩
        rcases hm with hm | ⟨rfl, hm⟩
        · exact Or.inl hm
        · right
          refine ⟨rfl, ?_⟩
          rcases Nat.lt_succ_iff_lt_or_eq.1 hm with hm | hm
          · exact hm
          · exact absurd (Fin.ext hm ▸ h') h
    rw [propext e]

theorem mono (hg : Good pf) (d : ℕ) : ∀ n, n + d < 419 → blockAt pf n ≤ blockAt pf (n + d) := by
  induction d with
  | zero => intro n _; exact le_rfl
  | succ d ih =>
    intro n hn
    have h1 := ih n (by omega)
    have h2 := hg.next (n + d) (by omega)
    rw [← Nat.add_assoc]
    omega

theorem mono' (hg : Good pf) {n n' : ℕ} (h : n ≤ n') (hn' : n' < 419) : blockAt pf n ≤ blockAt pf n' := by
  obtain ⟨d, rfl⟩ := Nat.exists_eq_add_of_le h
  exact mono hg d n hn'

theorem sofar_first (hg : Good pf) (p : ℕ) (f : ℕ → EReal) {n : ℕ} (hn : n < 419) (h : bit (flagAt pf n) 1#32 = 1#1) : sofar pf p f n 0 = 0 := by
  unfold sofar
  refine if_neg ?_
  rintro ⟨m, k, hb, hm, _⟩
  obtain ⟨n, rfl⟩ : ∃ n', n = n' + 1 := ⟨n - 1, by omega⟩
  have h1 := (hg.begins n (by omega)).1 h
  have h2 := mono' hg (show m ≤ n by omega) (by omega)
  have h3 := hg.next n (by omega)
  omega

theorem sofar_next (p : ℕ) (f : ℕ → EReal) {n : ℕ} (h : blockAt pf (n + 1) = blockAt pf n) : sofar pf p f (n + 1) 0 = sofar pf p f n 4 := by
  have e : Seen pf p (n + 1) 0 ↔ Seen pf p n 4 := by
    constructor
    · rintro ⟨m, k, hb, hm, h'⟩
      exact ⟨m, k, hb.trans h, by omega, h'⟩
    · rintro ⟨m, k, hb, hm, h'⟩
      exact ⟨m, k, hb.trans h.symm, by omega, h'⟩
  unfold sofar
  rw [propext e]

/-- Once a block has ended, its later steps have nothing. -/
theorem ended_after (hg : Good pf) {n : ℕ} (h : Ended pf n) (d : ℕ) : n + (d + 1) < 419 → blockAt pf (n + (d + 1)) = blockAt pf n →
    flagAt pf (n + (d + 1)) = 0#32 := by
  induction d with
  | zero => exact fun hn hb => (hg.stays n (by omega) hb).1 h
  | succ d ih =>
    intro hn hb
    have h1 := mono' hg (show n ≤ n + (d + 1) by omega) (by omega)
    have h2 := mono' hg (show n + (d + 1) ≤ n + (d + 1 + 1) by omega) hn
    have hb' : blockAt pf (n + (d + 1)) = blockAt pf n := by omega
    have e := ih (by omega) hb'
    exact (hg.stays (n + (d + 1)) (by omega) (hb.trans hb'.symm)).1 (Or.inr e)

theorem live_ne {v : BitVec 32} {k : Fin 4} (h : bit v (liveBit k) = 1#1) : v ≠ 0#32 := by
  rintro rfl
  revert h
  fin_cases k <;> decide

/-- At a block's end a row that some step of the block holds has been given. -/
theorem sofar_end (hg : Good pf) (p : ℕ) (f : ℕ → EReal) {n : ℕ} (h : Ended pf n) {m : ℕ} (hm : m < 419) {k : Fin 4}
    (hb : blockAt pf m = blockAt pf n) (hit : HitAt pf m k p) : sofar pf p f n 4 = f p := by
  unfold sofar
  refine if_pos ⟨m, k, hb, ?_, hit⟩
  have hk := k.isLt
  by_contra hc
  obtain ⟨d, rfl⟩ : ∃ d, m = n + (d + 1) := ⟨m - n - 1, by omega⟩
  exact live_ne hit.1 (ended_after hg h d hm hb)

end

variable {a : (pcfg0 (F := Ideal)).Adm} (W : (c : Dev nD) → (b : Ref sig .tc) → Buf (Elt Ideal) ((c.tc : Thread nD τ).loc b))
  (hg : Good a.1) (c : Dev nD)

/-! The blocks, read off their arrays. -/

theorem index_in0 (t : Fin (cfg0 a).N) : ((cfg0 a).win 0).index t = ![blockAt a.1 t.val, 0] := by
  show cc0_transform_0 k0_off1_inb numel1_S1 a.1 (grid0.coords t) = _
  rw [block_index, coords0]
theorem index_in1 (t : Fin (cfg0 a).N) : ((cfg0 a).win 1).index t = ![(at' (F := Ideal) (a.1 2) t.val).toNat, 0] := by
  show cc0_transform_1 k0_off1_inb numel1_S1 a.1 (grid0.coords t) = _
  rw [tile_index1, coords0]
theorem index_in2 (t : Fin (cfg0 a).N) : ((cfg0 a).win 2).index t = ![(at' (F := Ideal) (a.1 3) t.val).toNat, 0] := by
  show cc0_transform_2 k0_off1_inb numel1_S1 a.1 (grid0.coords t) = _
  rw [tile_index2, coords0]
theorem index_in3 (t : Fin (cfg0 a).N) : ((cfg0 a).win 3).index t = ![(at' (F := Ideal) (a.1 4) t.val).toNat, 0] := by
  show cc0_transform_3 k0_off1_inb numel1_S1 a.1 (grid0.coords t) = _
  rw [tile_index3, coords0]
theorem index_in4 (t : Fin (cfg0 a).N) : ((cfg0 a).win 4).index t = ![(at' (F := Ideal) (a.1 5) t.val).toNat, 0] := by
  show cc0_transform_4 k0_off1_inb numel1_S1 a.1 (grid0.coords t) = _
  rw [tile_index4, coords0]
theorem index_in5 (t : Fin (cfg0 a).N) : ((cfg0 a).win 5).index t = ![blockAt a.1 t.val, 0] := by
  show cc0_transform_5 k0_off1_inb numel1_S1 a.1 (grid0.coords t) = _
  rw [block_index5, block_index, coords0]

theorem blk_cols (t : Fin (cfg0 a).N) (r : Fin 512) (i : Fin 128) (R : Fin 65536) (hR : (R : ℕ) = 512 * blockAt a.1 t.val + r) :
    (blk a W c 0 t : S512x128.Idx → EReal) (ix2 r i) = (W c main_arg4 : S65536x128.Idx → EReal) (ix2 R i) := by
  have e := index_in0 t
  have e0 : ((cfg0 a).win 0).index t (0 : Fin 2) = blockAt a.1 t.val := congrFun e (0 : Fin 2)
  have e1 : ((cfg0 a).win 0).index t (1 : Fin 2) = 0 := congrFun e (1 : Fin 2)
  unfold blk
  generalize W c = V
  refine (View.read_apply _ _).trans ?_
  show (V main_arg4 : S65536x128.Idx → EReal) _ = _
  refine congrArg (V main_arg4 : S65536x128.Idx → EReal) ?_
  funext b
  apply Fin.ext
  fin_cases b
  · show ((cfg0 a).win 0).index t (0 : Fin 2) * 512 + 1 * (r : ℕ) = R
    omega
  · show ((cfg0 a).win 0).index t (1 : Fin 2) * 128 + 1 * (i : ℕ) = i
    omega

theorem blk_rows1 (t : Fin (cfg0 a).N) (y : Fin 512) (j : Fin 1024) (R : Fin 135168) (hR : (R : ℕ) = 512 * (at' (F := Ideal) (a.1 2) t.val).toNat + y) :
    (blk a W c 1 t : S512x1024.Idx → EReal) (ix2 y j) = (W c main_arg5 : S135168x1024.Idx → EReal) (ix2 R j) := by
  have e := index_in1 t
  have e0 : ((cfg0 a).win 1).index t (0 : Fin 2) = (at' (F := Ideal) (a.1 2) t.val).toNat := congrFun e (0 : Fin 2)
  have e1 : ((cfg0 a).win 1).index t (1 : Fin 2) = 0 := congrFun e (1 : Fin 2)
  unfold blk
  generalize W c = V
  refine (View.read_apply _ _).trans ?_
  show (V main_arg5 : S135168x1024.Idx → EReal) _ = _
  refine congrArg (V main_arg5 : S135168x1024.Idx → EReal) ?_
  funext b
  apply Fin.ext
  fin_cases b
  · show ((cfg0 a).win 1).index t (0 : Fin 2) * 512 + 1 * (y : ℕ) = R
    omega
  · show ((cfg0 a).win 1).index t (1 : Fin 2) * 1024 + 1 * (j : ℕ) = j
    omega
theorem blk_rows2 (t : Fin (cfg0 a).N) (y : Fin 512) (j : Fin 1024) (R : Fin 135168) (hR : (R : ℕ) = 512 * (at' (F := Ideal) (a.1 3) t.val).toNat + y) :
    (blk a W c 2 t : S512x1024.Idx → EReal) (ix2 y j) = (W c main_arg5 : S135168x1024.Idx → EReal) (ix2 R j) := by
  have e := index_in2 t
  have e0 : ((cfg0 a).win 2).index t (0 : Fin 2) = (at' (F := Ideal) (a.1 3) t.val).toNat := congrFun e (0 : Fin 2)
  have e1 : ((cfg0 a).win 2).index t (1 : Fin 2) = 0 := congrFun e (1 : Fin 2)
  unfold blk
  generalize W c = V
  refine (View.read_apply _ _).trans ?_
  show (V main_arg5 : S135168x1024.Idx → EReal) _ = _
  refine congrArg (V main_arg5 : S135168x1024.Idx → EReal) ?_
  funext b
  apply Fin.ext
  fin_cases b
  · show ((cfg0 a).win 2).index t (0 : Fin 2) * 512 + 1 * (y : ℕ) = R
    omega
  · show ((cfg0 a).win 2).index t (1 : Fin 2) * 1024 + 1 * (j : ℕ) = j
    omega
theorem blk_rows3 (t : Fin (cfg0 a).N) (y : Fin 512) (j : Fin 1024) (R : Fin 135168) (hR : (R : ℕ) = 512 * (at' (F := Ideal) (a.1 4) t.val).toNat + y) :
    (blk a W c 3 t : S512x1024.Idx → EReal) (ix2 y j) = (W c main_arg5 : S135168x1024.Idx → EReal) (ix2 R j) := by
  have e := index_in3 t
  have e0 : ((cfg0 a).win 3).index t (0 : Fin 2) = (at' (F := Ideal) (a.1 4) t.val).toNat := congrFun e (0 : Fin 2)
  have e1 : ((cfg0 a).win 3).index t (1 : Fin 2) = 0 := congrFun e (1 : Fin 2)
  unfold blk
  generalize W c = V
  refine (View.read_apply _ _).trans ?_
  show (V main_arg5 : S135168x1024.Idx → EReal) _ = _
  refine congrArg (V main_arg5 : S135168x1024.Idx → EReal) ?_
  funext b
  apply Fin.ext
  fin_cases b
  · show ((cfg0 a).win 3).index t (0 : Fin 2) * 512 + 1 * (y : ℕ) = R
    omega
  · show ((cfg0 a).win 3).index t (1 : Fin 2) * 1024 + 1 * (j : ℕ) = j
    omega
theorem blk_rows4 (t : Fin (cfg0 a).N) (y : Fin 512) (j : Fin 1024) (R : Fin 135168) (hR : (R : ℕ) = 512 * (at' (F := Ideal) (a.1 5) t.val).toNat + y) :
    (blk a W c 4 t : S512x1024.Idx → EReal) (ix2 y j) = (W c main_arg5 : S135168x1024.Idx → EReal) (ix2 R j) := by
  have e := index_in4 t
  have e0 : ((cfg0 a).win 4).index t (0 : Fin 2) = (at' (F := Ideal) (a.1 5) t.val).toNat := congrFun e (0 : Fin 2)
  have e1 : ((cfg0 a).win 4).index t (1 : Fin 2) = 0 := congrFun e (1 : Fin 2)
  unfold blk
  generalize W c = V
  refine (View.read_apply _ _).trans ?_
  show (V main_arg5 : S135168x1024.Idx → EReal) _ = _
  refine congrArg (V main_arg5 : S135168x1024.Idx → EReal) ?_
  funext b
  apply Fin.ext
  fin_cases b
  · show ((cfg0 a).win 4).index t (0 : Fin 2) * 512 + 1 * (y : ℕ) = R
    omega
  · show ((cfg0 a).win 4).index t (1 : Fin 2) * 1024 + 1 * (j : ℕ) = j
    omega

theorem blk_x (t : Fin (cfg0 a).N) (r : Fin 512) (i : Fin 1024) (R : Fin 65536) (hR : (R : ℕ) = 512 * blockAt a.1 t.val + r) :
    (blk a W c 5 t : S512x1024.Idx → EReal) (ix2 r i) = (W c main_arg6 : S65536x1024.Idx → EReal) (ix2 R i) := by
  have e := index_in5 t
  have e0 : ((cfg0 a).win 5).index t (0 : Fin 2) = blockAt a.1 t.val := congrFun e (0 : Fin 2)
  have e1 : ((cfg0 a).win 5).index t (1 : Fin 2) = 0 := congrFun e (1 : Fin 2)
  unfold blk
  generalize W c = V
  refine (View.read_apply _ _).trans ?_
  show (V main_arg6 : S65536x1024.Idx → EReal) _ = _
  refine congrArg (V main_arg6 : S65536x1024.Idx → EReal) ?_
  funext b
  apply Fin.ext
  fin_cases b
  · show ((cfg0 a).win 5).index t (0 : Fin 2) * 512 + 1 * (r : ℕ) = R
    omega
  · show ((cfg0 a).win 5).index t (1 : Fin 2) * 1024 + 1 * (i : ℕ) = i
    omega

theorem blk_g (t : Fin (cfg0 a).N) (i : Fin 1024) : (blk a W c 6 t : S1x1024.Idx → EReal) (ix2 0 i) = (W c main_v16 : S1x1024.Idx → EReal) (ix2 0 i) := by
  unfold blk
  generalize W c = V
  refine (View.read_apply _ _).trans ?_
  show (V main_v16 : S1x1024.Idx → EReal) _ = _
  refine congrArg (V main_v16 : S1x1024.Idx → EReal) ?_
  funext b
  apply Fin.ext
  fin_cases b
  · rfl
  · show 0 * 1024 + 1 * (i : ℕ) = i
    omega
theorem blk_b (t : Fin (cfg0 a).N) (i : Fin 1024) : (blk a W c 7 t : S1x1024.Idx → EReal) (ix2 0 i) = (W c main_v17 : S1x1024.Idx → EReal) (ix2 0 i) := by
  unfold blk
  generalize W c = V
  refine (View.read_apply _ _).trans ?_
  show (V main_v17 : S1x1024.Idx → EReal) _ = _
  refine congrArg (V main_v17 : S1x1024.Idx → EReal) ?_
  funext b
  apply Fin.ext
  fin_cases b
  · rfl
  · show 0 * 1024 + 1 * (i : ℕ) = i
    omega

end Cert.Combine

end
-- ==== Proof.Combine.Final.lean ====
module

public import proofs.«01_k».proof.Proof.Combine.Sum

@[expose] public section

set_option maxRecDepth 16384

noncomputable section

/-! # The combine's result array, entry by entry -/

namespace Cert.Combine

open Idealize.ShloMosaic Idealize.ShloMosaic.TcCoe Cert.Norm
open Idealize.ShloMosaic.Pipeline (Dat Cfg Window)
open Cert.Kernel8Ideal Cert.Kernel8Ideal.Gen

section
variable {F : FTy → Type} [FloatOps F] (a : (pcfg0 (F := F)).Adm) (W : (c : Dev nD) → (b : Ref sig .tc) → Buf (Elt F) ((c.tc : Thread nD τ).loc b)) (c : Dev nD)

theorem acc_zero : acc a W c 0 = stepped a W c 0 k0_pay1 := rfl
theorem acc_succ (n : ℕ) : acc a W c (n + 1) = stepped a W c (n + 1) (acc a W c n) := rfl
theorem out_zero : out a W c 0 = stored a W c 0 k0_pay1 := rfl
theorem out_succ (n : ℕ) : out a W c (n + 1) = stored a W c (n + 1) (out a W c n) := rfl
theorem stored_keep {n : ℕ} (h : ¬ bit (flagAt a.1 n) 2#32 = 1#1) (D : Vec F S512x1024 .f32) : stored a W c n D = D := if_neg h
theorem cleared_first {n : ℕ} (h : bit (flagAt a.1 n) 1#32 = 1#1) (D : Vec F S512x1024 .f32) : cleared a n D = k0_pay1 := if_pos h
theorem cleared_keep {n : ℕ} (h : ¬ bit (flagAt a.1 n) 1#32 = 1#1) (D : Vec F S512x1024 .f32) : cleared a n D = D := if_neg h
theorem stored_last {n : ℕ} (h : bit (flagAt a.1 n) 2#32 = 1#1) (D : Vec F S512x1024 .f32) :
    stored a W c n D = k0_pay18 (blk a W c 5 (pt a n)) (acc a W c n) (blk a W c 6 (pt a n)) (blk a W c 7 (pt a n)) := if_pos h
end

/-- A token's number, from its block and its place there. -/
def tok (b : ℕ) (r : Fin 512) : Fin 65536 := ⟨(512 * b + r.val) % 65536, Nat.mod_lt _ (by decide)⟩

/-- A column of the experts' result, by the row's number. -/
def column (O : S135168x1024.Idx → EReal) (j : Fin 1024) (q : ℕ) : EReal := O (ix2 (⟨q % 135168, Nat.mod_lt _ (by decide)⟩ : Fin 135168) j)

/-- A token's result: the layer norm of its residual and its two rows of the experts' result. -/
def result (C : S65536x128.Idx → EReal) (O : S135168x1024.Idx → EReal) (X : S65536x1024.Idx → EReal) (g b : Fin 1024 → EReal) (R : Fin 65536) (j : Fin 1024) : EReal :=
  layerNorm (fun k => alpha * X (ix2 R k) + (column O k (posOf (F := Ideal) C 2 R).toNat + column O k (posOf (F := Ideal) C 3 R).toNat)) (g j) (b j) j

/-- Every token's row is held by a live pair of a step of the token's block. -/
def Held (pf : pre0.Contents (Elt Ideal)) (p : Fin 65536 → ℕ) : Prop :=
  ∀ R : Fin 65536, ∃ (m : ℕ) (k : Fin 4), m < 419 ∧ blockAt pf m = R.val / 512 ∧ HitAt pf m k (p R)

section
variable {a : (pcfg0 (F := Ideal)).Adm} (W : (c : Dev nD) → (b : Ref sig .tc) → Buf (Elt Ideal) ((c.tc : Thread nD τ).loc b))
  (hg : Good a.1) (ho : Once a.1) (c : Dev nD)

/-- The arrays as the region finds them. -/
def cols : S65536x128.Idx → EReal := W c main_arg4
def exps : S135168x1024.Idx → EReal := W c main_arg5
def resid : S65536x1024.Idx → EReal := W c main_arg6
def gain : S1x1024.Idx → EReal := W c main_v16
def bias : S1x1024.Idx → EReal := W c main_v17

/-- A token's two rows. -/
def row1 (R : Fin 65536) : BitVec 32 := posOf (F := Ideal) (cols W c) 2 R
def row2 (R : Fin 65536) : BitVec 32 := posOf (F := Ideal) (cols W c) 3 R

variable (hne : ∀ R, row1 W c R ≠ row2 W c R)

theorem pt_val {n : ℕ} (hn : n < 419) : (pt a n).val = n := Nat.mod_eq_of_lt hn

include hg in
theorem tok_val (n : ℕ) (r : Fin 512) : ((tok (blockAt a.1 n) r : Fin 65536) : ℕ) = 512 * blockAt a.1 n + r := by
  have h := hg.block n
  have hr := r.isLt
  exact Nat.mod_eq_of_lt (by omega)

include hg in
theorem cols_at {n : ℕ} (hn : n < 419) (r : Fin 512) (i : Fin 128) :
    (blk a W c 0 (pt a n) : S512x128.Idx → EReal) (ix2 r i) = cols W c (ix2 (tok (blockAt a.1 n) r) i) :=
  blk_cols W c (pt a n) r i _ (by rw [pt_val hn, tok_val hg])

theorem column_at {q : ℕ} (hq : q < 135168) (O : S135168x1024.Idx → EReal) (j : Fin 1024) : column O j q = O (ix2 ⟨q, hq⟩ j) := by
  unfold column
  exact congrArg (fun y : Fin 135168 => O (ix2 y j)) (Fin.ext (Nat.mod_eq_of_lt hq))

/-- What a step's pair gives a row. -/
def part (a : (pcfg0 (F := Ideal)).Adm) (n : ℕ) (k : Fin 4) (p : ℕ) (f : ℕ → EReal) : EReal :=
  given (flagAt a.1 n) (tileAt a.1 n k) (windowAt a.1 n k) (liveBit k) (narrowBit k) p f

include hg hne

theorem acc0_at {n : ℕ} (hn : n < 419) (X : S512x1024.Idx → EReal) (r : Fin 512) (j : Fin 1024) :
    (acc0 a W c n X : S512x1024.Idx → EReal) (ix2 r j)
      = X (ix2 r j) + (part a n 0 (row1 W c (tok (blockAt a.1 n) r)).toNat (column (exps W c) j)
        + part a n 0 (row2 W c (tok (blockAt a.1 n) r)).toNat (column (exps W c) j)) := by
  refine pairStep_at _ _ _ _ _ _ (hg.tile0 n) (hg.window0 n).2 _ X r j _ _ (congrArg _ (cols_at W hg c hn r 2)) (congrArg _ (cols_at W hg c hn r 3))
    (hne _) (column (exps W c) j) fun x => ?_
  have hx := x.isLt
  have ht := hg.tile0 n
  exact (blk_rows1 W c (pt a n) x j ⟨512 * (at' (F := Ideal) (a.1 2) n).toNat + x.val, by omega⟩ (by rw [pt_val hn])).trans (column_at _ _ _).symm
theorem acc1_at {n : ℕ} (hn : n < 419) (X : S512x1024.Idx → EReal) (r : Fin 512) (j : Fin 1024) :
    (acc1 a W c n X : S512x1024.Idx → EReal) (ix2 r j)
      = X (ix2 r j) + (part a n 1 (row1 W c (tok (blockAt a.1 n) r)).toNat (column (exps W c) j)
        + part a n 1 (row2 W c (tok (blockAt a.1 n) r)).toNat (column (exps W c) j)) := by
  refine pairStep_at _ _ _ _ _ _ (hg.tile1 n) (hg.window1 n).2 _ X r j _ _ (congrArg _ (cols_at W hg c hn r 2)) (congrArg _ (cols_at W hg c hn r 3))
    (hne _) (column (exps W c) j) fun x => ?_
  have hx := x.isLt
  have ht := hg.tile1 n
  exact (blk_rows2 W c (pt a n) x j ⟨512 * (at' (F := Ideal) (a.1 3) n).toNat + x.val, by omega⟩ (by rw [pt_val hn])).trans (column_at _ _ _).symm
theorem acc2_at {n : ℕ} (hn : n < 419) (X : S512x1024.Idx → EReal) (r : Fin 512) (j : Fin 1024) :
    (acc2 a W c n X : S512x1024.Idx → EReal) (ix2 r j)
      = X (ix2 r j) + (part a n 2 (row1 W c (tok (blockAt a.1 n) r)).toNat (column (exps W c) j)
        + part a n 2 (row2 W c (tok (blockAt a.1 n) r)).toNat (column (exps W c) j)) := by
  refine pairStep_at _ _ _ _ _ _ (hg.tile2 n) (hg.window2 n).2 _ X r j _ _ (congrArg _ (cols_at W hg c hn r 2)) (congrArg _ (cols_at W hg c hn r 3))
    (hne _) (column (exps W c) j) fun x => ?_
  have hx := x.isLt
  have ht := hg.tile2 n
  exact (blk_rows3 W c (pt a n) x j ⟨512 * (at' (F := Ideal) (a.1 4) n).toNat + x.val, by omega⟩ (by rw [pt_val hn])).trans (column_at _ _ _).symm
theorem acc3_at {n : ℕ} (hn : n < 419) (X : S512x1024.Idx → EReal) (r : Fin 512) (j : Fin 1024) :
    (acc3 a W c n X : S512x1024.Idx → EReal) (ix2 r j)
      = X (ix2 r j) + (part a n 3 (row1 W c (tok (blockAt a.1 n) r)).toNat (column (exps W c) j)
        + part a n 3 (row2 W c (tok (blockAt a.1 n) r)).toNat (column (exps W c) j)) := by
  refine pairStep_at _ _ _ _ _ _ (hg.tile3 n) (hg.window3 n).2 _ X r j _ _ (congrArg _ (cols_at W hg c hn r 2)) (congrArg _ (cols_at W hg c hn r 3))
    (hne _) (column (exps W c) j) fun x => ?_
  have hx := x.isLt
  have ht := hg.tile3 n
  exact (blk_rows4 W c (pt a n) x j ⟨512 * (at' (F := Ideal) (a.1 5) n).toNat + x.val, by omega⟩ (by rw [pt_val hn])).trans (column_at _ _ _).symm

/-- The sum of what a token's two rows have been given. -/
def sums (a : (pcfg0 (F := Ideal)).Adm) (R : Fin 65536) (j : Fin 1024) (n i : ℕ) : EReal :=
  sofar a.1 (row1 W c R).toNat (column (exps W c) j) n i + sofar a.1 (row2 W c R).toNat (column (exps W c) j) n i

include ho

omit hne in
theorem sums_step (R : Fin 65536) (j : Fin 1024) {n : ℕ} (hn : n < 419) (k : Fin 4) :
    sums W c a R j n k.val + (part a n k (row1 W c R).toNat (column (exps W c) j) + part a n k (row2 W c R).toNat (column (exps W c) j))
      = sums W c a R j n (k.val + 1) := by
  unfold sums part
  rw [add_add_add_comm, sofar_step hg ho _ _ hn, sofar_step hg ho _ _ hn]

theorem stepped_at {n : ℕ} (hn : n < 419) (X : S512x1024.Idx → EReal) (r : Fin 512) (j : Fin 1024)
    (hX : (cleared a n X : S512x1024.Idx → EReal) (ix2 r j) = sums W c a (tok (blockAt a.1 n) r) j n 0) :
    (stepped a W c n X : S512x1024.Idx → EReal) (ix2 r j) = sums W c a (tok (blockAt a.1 n) r) j n 4 := by
  unfold stepped
  have e0 := (acc0_at W hg c hne hn (cleared a n X) r j).trans ((congrArg (· + _) hX).trans (sums_step W hg ho c _ j hn 0))
  have e1 := (acc1_at W hg c hne hn (acc0 a W c n (cleared a n X)) r j).trans ((congrArg (· + _) e0).trans (sums_step W hg ho c _ j hn 1))
  have e2 := (acc2_at W hg c hne hn (acc1 a W c n (acc0 a W c n (cleared a n X))) r j).trans ((congrArg (· + _) e1).trans (sums_step W hg ho c _ j hn 2))
  exact (acc3_at W hg c hne hn (acc2 a W c n (acc1 a W c n (acc0 a W c n (cleared a n X)))) r j).trans ((congrArg (· + _) e2).trans (sums_step W hg ho c _ j hn 3))

omit ho hne in
theorem sums_first (R : Fin 65536) (j : Fin 1024) {n : ℕ} (hn : n < 419) (h : bit (flagAt a.1 n) 1#32 = 1#1) : 0 = sums W c a R j n 0 := by
  unfold sums
  rw [sofar_first hg _ _ hn h, sofar_first hg _ _ hn h, add_zero]

/-- The accumulator after a step. -/
theorem acc_at (n : ℕ) : n < 419 → ∀ (r : Fin 512) (j : Fin 1024),
    (acc a W c n : S512x1024.Idx → EReal) (ix2 r j) = sums W c a (tok (blockAt a.1 n) r) j n 4 := by
  induction n with
  | zero =>
    intro hn r j
    refine (congrFun (acc_zero a W c) _).trans (stepped_at W hg ho c hne hn (k0_pay1 (F := Ideal)) r j ?_)
    exact (congrFun (cleared_first a hg.first _) _).trans ((pay1_at r j).trans (sums_first W hg c _ j hn hg.first))
  | succ n ih =>
    intro hn r j
    refine (congrFun (acc_succ a W c n) _).trans (stepped_at W hg ho c hne hn (acc a W c n) r j ?_)
    by_cases h : bit (flagAt a.1 (n + 1)) 1#32 = 1#1
    · exact (congrFun (cleared_first a h _) _).trans ((pay1_at r j).trans (sums_first W hg c _ j hn h))
    · have hb : blockAt a.1 (n + 1) = blockAt a.1 n := not_not.1 fun hc => h ((hg.begins n (by omega)).2 hc)
      refine (congrFun (cleared_keep a h _) _).trans ((ih (by omega) r j).trans ?_)
      unfold sums
      rw [sofar_next _ _ hb, sofar_next _ _ hb, hb]

variable (h1 : Held a.1 fun R => (row1 W c R).toNat) (h2 : Held a.1 fun R => (row2 W c R).toNat)

include h1 h2

omit ho hne in
theorem sums_end (r : Fin 512) (j : Fin 1024) {n : ℕ} (h : Ended a.1 n) :
    sums W c a (tok (blockAt a.1 n) r) j n 4
      = column (exps W c) j (row1 W c (tok (blockAt a.1 n) r)).toNat + column (exps W c) j (row2 W c (tok (blockAt a.1 n) r)).toNat := by
  have hr := r.isLt
  have ht := tok_val hg n r
  obtain ⟨m, k, hm, hb, hit⟩ := h1 (tok (blockAt a.1 n) r)
  obtain ⟨m', k', hm', hb', hit'⟩ := h2 (tok (blockAt a.1 n) r)
  unfold sums
  rw [sofar_end hg _ _ h hm (hb.trans (by omega)) hit, sofar_end hg _ _ h hm' (hb'.trans (by omega)) hit']

/-- What a block's last step stores. -/
theorem stored_at {n : ℕ} (hn : n < 419) (h : bit (flagAt a.1 n) 2#32 = 1#1) (D : S512x1024.Idx → EReal) (r : Fin 512) (j : Fin 1024) :
    (stored a W c n D : S512x1024.Idx → EReal) (ix2 r j)
      = result (cols W c) (exps W c) (resid W c) (fun j => gain W c (ix2 0 j)) (fun j => bias W c (ix2 0 j)) (tok (blockAt a.1 n) r) j := by
  refine (congrFun (stored_last a W c h D) _).trans ((pay18_at _ _ _ _ r j).trans ?_)
  unfold result
  have ex : ∀ k : Fin 1024, (blk a W c 5 (pt a n) : S512x1024.Idx → EReal) (ix2 r k) = resid W c (ix2 (tok (blockAt a.1 n) r) k) :=
    fun k => blk_x W c (pt a n) r k _ (by rw [pt_val hn, tok_val hg])
  have ea : ∀ k : Fin 1024, (acc a W c n : S512x1024.Idx → EReal) (ix2 r k) = _ :=
    fun k => (acc_at W hg ho c hne n hn r k).trans (sums_end W hg c h1 h2 r k (Or.inl h))
  have eg : (blk a W c 6 (pt a n) : S1x1024.Idx → EReal) (ix2 0 j) = gain W c (ix2 0 j) := blk_g W c (pt a n) j
  have eb : (blk a W c 7 (pt a n) : S1x1024.Idx → EReal) (ix2 0 j) = bias W c (ix2 0 j) := blk_b W c (pt a n) j
  rw [eg, eb]
  refine congrArg (fun y : Fin 1024 → EReal => layerNorm y _ _ j) (funext fun k => ?_)
  rw [ex k, ea k]
  rfl

/-- The output's buffer once its block has ended. -/
theorem out_at (n : ℕ) : n < 419 → Ended a.1 n → ∀ (r : Fin 512) (j : Fin 1024),
    (out a W c n : S512x1024.Idx → EReal) (ix2 r j)
      = result (cols W c) (exps W c) (resid W c) (fun j => gain W c (ix2 0 j)) (fun j => bias W c (ix2 0 j)) (tok (blockAt a.1 n) r) j := by
  induction n with
  | zero =>
    intro hn h r j
    rcases h with h | h
    · exact (congrFun (out_zero a W c) _).trans (stored_at W hg ho c hne h1 h2 hn h (k0_pay1 (F := Ideal)) r j)
    · have e := hg.first
      rw [h] at e
      exact absurd e (by decide)
  | succ n ih =>
    intro hn h r j
    refine (congrFun (out_succ a W c n) _).trans ?_
    by_cases hl : bit (flagAt a.1 (n + 1)) 2#32 = 1#1
    · exact stored_at W hg ho c hne h1 h2 hn hl (out a W c n) r j
    · have hz : flagAt a.1 (n + 1) = 0#32 := h.resolve_left hl
      have hb : blockAt a.1 (n + 1) = blockAt a.1 n := not_not.1 fun hc => by
        have e := (hg.begins n (by omega)).2 hc
        rw [hz] at e
        exact absurd e (by decide)
      have he : Ended a.1 n := (hg.stays n (by omega) hb).2 hz
      refine (congrFun (stored_keep a W c hl _) _).trans ?_
      rw [hb]
      exact ih (by omega) he r j

omit ho hne h1 h2 in
/-- The array's index that an index of a step's block of the result goes to. -/
theorem emb_out (t : Fin (cfg0 a).N) (p : Fin 512) (j : Fin 1024) (R : Fin 65536) (hR : (R : ℕ) = 512 * blockAt a.1 t.val + p) :
    (((cfg0 a).win 8).blk t).view.emb (ix2 p j : S512x1024.Idx) = (ix2 R j : S65536x1024.Idx) := by
  have e := index_out a t
  have e0 : ((cfg0 a).win 8).index t (0 : Fin 2) = blockAt a.1 t.val := congrFun e (0 : Fin 2)
  have e1 : ((cfg0 a).win 8).index t (1 : Fin 2) = 0 := congrFun e (1 : Fin 2)
  funext (b : Fin 2)
  apply Fin.ext
  fin_cases b
  · show ((cfg0 a).win 8).index t (0 : Fin 2) * 512 + 1 * (p : ℕ) = R
    omega
  · show ((cfg0 a).win 8).index t (1 : Fin 2) * 1024 + 1 * (j : ℕ) = j
    omega

omit ho hne h1 h2 in
theorem flush_ended (t : Fin (cfg0 a).N) (h : ((cfg0 a).win 8).flush t = true) : Ended a.1 t.val := by
  rcases (flush_out a t).1 h with h | ⟨h, hc⟩
  · rw [h]
    exact hg.done
  · exact hg.ends t.val h hc

omit ho hne h1 h2 c W in
/-- Every block has a step, -/
theorem exists_step : ∀ b : ℕ, b ≤ 127 → ∃ n, n < 419 ∧ blockAt a.1 n = b
  | 0, _ => ⟨0, by decide, hg.zero⟩
  | b + 1, hb => by
    obtain ⟨n, hn, e⟩ := exists_step b (by omega)
    by_contra hc
    have key : ∀ d, n + d < 419 → blockAt a.1 (n + d) ≤ b := by
      intro d
      induction d with
      | zero => intro _; exact e.le
      | succ d ih =>
        intro hd
        have i1 := ih (by omega)
        have i2 := hg.next (n + d) (by omega)
        have i3 : blockAt a.1 (n + (d + 1)) ≠ b + 1 := fun h => hc ⟨_, hd, h⟩
        rw [← Nat.add_assoc] at i3 ⊢
        omega
    have hl := key (418 - n) (by omega)
    rw [show n + (418 - n) = 418 by omega, hg.last] at hl
    omega

omit ho hne h1 h2 c W in
/-- and a last one. -/
theorem exists_last (b : ℕ) (hb : b ≤ 127) : ∃ n, n < 419 ∧ blockAt a.1 n = b ∧ (n = 418 ∨ (n < 418 ∧ blockAt a.1 (n + 1) ≠ blockAt a.1 n)) := by
  obtain ⟨n, hn, e⟩ := exists_step hg b hb
  have key : ∀ d n, n + d = 418 → blockAt a.1 n = b → ∃ n, n < 419 ∧ blockAt a.1 n = b ∧ (n = 418 ∨ (n < 418 ∧ blockAt a.1 (n + 1) ≠ blockAt a.1 n)) := by
    intro d
    induction d with
    | zero => exact fun n hn e => ⟨n, by omega, e, Or.inl hn⟩
    | succ d ih =>
      intro n hn e
      by_cases h : blockAt a.1 (n + 1) = blockAt a.1 n
      · exact ih (n + 1) (by omega) (h.trans e)
      · exact ⟨n, by omega, e, Or.inr ⟨by omega, h⟩⟩
  exact key (418 - n) n (by omega) e

omit hg ho hne h1 h2 c W in
theorem holds_of {i i' : S65536x1024.Idx} {v : EReal} (f : Fin 65536 → Fin 1024 → EReal) (hi : i = i') (hv : v = f (i' 0) (i' 1)) : v = f (i 0) (i 1) := by
  rw [hi]
  exact hv

omit ho hne h1 h2 c W in
theorem mem_block (t : Fin (cfg0 a).N) (R : Fin 65536) (j : Fin 1024) (h : blockAt a.1 t.val = (R : ℕ) / 512) :
    (ix2 R j : S65536x1024.Idx) ∈ (((cfg0 a).win 8).blk t).view.set :=
  Finset.mem_map.mpr ⟨(ix2 (⟨(R : ℕ) % 512, by omega⟩ : Fin 512) j : S512x1024.Idx), Finset.mem_univ _,
    emb_out hg t ⟨(R : ℕ) % 512, by omega⟩ j R (by show (R : ℕ) = 512 * _ + (R : ℕ) % 512; omega)⟩

omit hg ho hne h1 h2 c W in
theorem split_idx (y : S512x1024.Idx) : ∃ (p : Fin 512) (j : Fin 1024), y = ix2 p j :=
  ⟨y 0, y 1, by
    funext b
    fin_cases b <;> rfl⟩

/-- What a step writes back is, at each index of its block, the entry of the array's index it goes to. -/
theorem flushed_entry (t : Fin (cfg0 a).N) (ht : ((cfg0 a).win 8).flush t = true) (p : Fin 512) (j : Fin 1024) :
    (((dat a W c).flushed 8 t (ix2 p j : S512x1024.Idx)) : EReal)
      = result (cols W c) (exps W c) (resid W c) (fun j => gain W c (ix2 0 j)) (fun j => bias W c (ix2 0 j)) (tok (blockAt a.1 t.val) p) j :=
  (congrFun (after_8 a W c t) (ix2 p j : S512x1024.Idx)).trans
    (out_at W hg ho c hne h1 h2 t.val (point_lt t) (flush_ended hg t ht) p j)

/-- The result array. -/
theorem final_at (R : Fin 65536) (j : Fin 1024) :
    ((dat a W c).arrAt 8 (cfg0 a).N : S65536x1024.Idx → EReal) (ix2 R j)
      = result (cols W c) (exps W c) (resid W c) (fun j => gain W c (ix2 0 j)) (fun j => bias W c (ix2 0 j)) R j := by
  have hR := R.isLt
  have hN : (cfg0 a).N = 419 := N_0
  obtain ⟨n, hn, hb, hl⟩ := exists_last hg (R.val / 512) (by omega)
  obtain ⟨t, rfl⟩ : ∃ t : Fin (cfg0 a).N, t.val = n := ⟨⟨n, by rw [hN]; exact hn⟩, rfl⟩
  refine Dat.arrAt_forall_of_flushed (dat a W c) 8 (fun (i : S65536x1024.Idx) (v : EReal) =>
      v = result (cols W c) (exps W c) (resid W c) (fun j => gain W c (ix2 0 j)) (fun j => bias W c (ix2 0 j)) (i 0) (i 1)) ?_
    (cfg0 a).N t (ix2 R j) t.isLt ((flush_out a t).2 hl) (mem_block hg t R j hb)
  intro t ht y
  obtain ⟨p, j, rfl⟩ := split_idx y
  exact holds_of _ (emb_out hg t p j _ (tok_val hg t.val p)) (eq_of_heq ((cast_heq _ _).trans (heq_of_eq (flushed_entry W hg ho c hne h1 h2 t ht p j))))

end

end Cert.Combine

end
-- ==== Proof.Combine.Value.lean ====
module

public import proofs.«01_k».proof.Defs
public import proofs.«01_k».proof.Proof.Combine.Final
public import proofs.«01_k».proof.Proof.Combine.Claims

@[expose] public section

set_option maxRecDepth 16384

noncomputable section

/-! # The reference's result, and that the kernel's is the same -/

namespace Cert.Combine.Ref

open Idealize.ShloMosaic Idealize.SL.Sem Cert.Reference8Ideal Cert.Reference8Ideal.Gen Cert.Norm Idealize.ShloMosaic.TcCoe

/-- The mean of each row. -/
def means (Y : FVec Ideal S65536x1024 .f32) : FVec Ideal S65536x1 .f32 :=
  Host.divf (broadcastInDim S65536x1 ![0] bcast_S65536_S65536x1_0 (Host.reduceAdd Y (constant S_ .f32 0x00000000#32) reducesTo_S65536x1024_S65536_d1 h_S_))
    (broadcastInDim S65536x1 ![] bcast_S_S65536x1 (constant S_ .f32 0x44800000#32))

theorem means_at (Y : S65536x1024.Idx → EReal) (r : Fin 65536) : (means Y : S65536x1.Idx → EReal) (ix2 r 0) = mean fun k => Y (ix2 r k) := by
  unfold means
  pointwise
  rfl

/-- Each row less its mean. -/
def centred (Y : FVec Ideal S65536x1024 .f32) : FVec Ideal S65536x1024 .f32 :=
  subf Y (broadcastInDim S65536x1024 ![0, 1] bcast_S65536x1_S65536x1024_0_1 (means Y))

theorem centred_at (Y : S65536x1024.Idx → EReal) (r : Fin 65536) (j : Fin 1024) :
    (centred Y : S65536x1024.Idx → EReal) (ix2 r j) = Y (ix2 r j) - mean fun k => Y (ix2 r k) := by
  unfold centred
  pointwise
  rw [means_at]

def normed (Y : FVec Ideal S65536x1024 .f32) (g b : FVec Ideal S1024 .f32) : FVec Ideal S65536x1024 .f32 :=
  addf (mulf (mulf (centred Y) (broadcastInDim S65536x1024 ![0, 1] bcast_S65536x1_S65536x1024_0_1
      (Host.rsqrt (addf (means (mulf (centred Y) (centred Y))) (broadcastInDim S65536x1 ![] bcast_S_S65536x1 (constant S_ .f32 0x3727C5AC#32))))))
    (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

theorem normed_at (Y : S65536x1024.Idx → EReal) (g b : S1024.Idx → EReal) (r : Fin 65536) (j : Fin 1024) :
    (normed Y g b : S65536x1024.Idx → EReal) (ix2 r j) = layerNorm (fun k => Y (ix2 r k)) (g (ix1 j)) (b (ix1 j)) j := by
  have hm := means_at (mulf (F := Ideal) (centred Y) (centred Y) : S65536x1024.Idx → EReal) r
  have hc : (fun k => (mulf (F := Ideal) (centred Y) (centred Y) : S65536x1024.Idx → EReal) (ix2 r k))
      = fun k => (Y (ix2 r k) - mean fun k => Y (ix2 r k)) * (Y (ix2 r k) - mean fun k => Y (ix2 r k)) := by
    funext k
    have h := centred_at Y r k
    pointwise
    rw [h]
  rw [hc] at hm
  have h := centred_at Y r j
  unfold normed
  generalize means (mulf (F := Ideal) (centred Y) (centred Y)) = M at hm ⊢
  pointwise
  rw [h, hm]
  rfl

/-- A column of the positions, as words. -/
def places (C : FVec Ideal S65536x128 .f32) (e : ℕ) (h : S65536x128.Slices ![0, e] S65536x1) : IVec S65536x1 32 :=
  broadcastInDim S65536x1 ![0] bcast_S65536_S65536x1_0 (fptosi 32 (shapeCast _ (extractStridedSlice S65536x1 ![0, e] C h) shapeCasts_S65536x1_S65536))

theorem places_at (C : S65536x128.Idx → EReal) (e : Fin 128) (h : S65536x128.Slices ![0, (e : ℕ)] S65536x1) (r : Fin 65536) :
    (places C e h : S65536x1.Idx → BitVec 32) (ix2 r 0) = posOf (F := Ideal) C e r := by
  unfold places posOf
  pointwise

/-- The look-up of a row of the experts' result. -/
theorem row_at (O : S135168x1024.Idx → EReal) (idx : S65536x1.Idx → BitVec 32) (r : Fin 65536) (j : Fin 1024) (n : ℕ) (hn : n < 135168)
    (hw : (idx (ix2 r 0)).toInt = (n : ℤ)) :
    Host.gather gather_S135168x1024_S65536x1_S65536x1024_1_0_n_n_0_1_11024 O idx (ix2 r j) = O (ix2 ⟨n, hn⟩ j) := by
  show O _ = O _
  refine congrArg O ?_
  have hi : ∀ p, (gather_S135168x1024_S65536x1_S65536x1024_1_0_n_n_0_1_11024.siIdx (ix2 r j) p) = ix2 r 0 := by
    intro p
    funext a
    fin_cases a
    · rfl
    · apply Fin.ext
      exact Nat.lt_one_iff.mp (Fin.isLt _)
  funext a
  apply Fin.ext
  fin_cases a
  · show gather_S135168x1024_S65536x1_S65536x1024_1_0_n_n_0_1_11024.start (ix2 r j) idx 0 + gather_S135168x1024_S65536x1_S65536x1024_1_0_n_n_0_1_11024.batchCoord (ix2 r j) 0
      + gather_S135168x1024_S65536x1_S65536x1024_1_0_n_n_0_1_11024.offCoord (ix2 r j) 0 = n
    rw [GatherDims.start, dif_pos (by decide), GatherDims.batchCoord_eq_zero _ _ _ (by decide), GatherDims.offCoord_eq_zero _ _ _ (by decide), hi, hw]
    show min ((n : ℤ).toNat) (135168 - 1) + 0 + 0 = n
    omega
  · show gather_S135168x1024_S65536x1_S65536x1024_1_0_n_n_0_1_11024.start (ix2 r j) idx 1 + gather_S135168x1024_S65536x1_S65536x1024_1_0_n_n_0_1_11024.batchCoord (ix2 r j) 1
      + gather_S135168x1024_S65536x1_S65536x1024_1_0_n_n_0_1_11024.offCoord (ix2 r j) 1 = j
    rw [GatherDims.start, dif_neg (by decide), GatherDims.batchCoord_eq_zero _ _ _ (by decide)]
    show 0 + 0 + (j : ℕ) = j
    omega

/-- The residual and a token's two rows, added. -/
def summed (C : FVec Ideal S65536x128 .f32) (O : FVec Ideal S135168x1024 .bf16) (X : FVec Ideal S65536x1024 .f32) : FVec Ideal S65536x1024 .f32 :=
  addf (mulf (broadcastInDim S65536x1024 ![] bcast_S_S65536x1024 (constant S_ .f32 0x3FB504F3#32)) X)
    (addf (extf .f32 (Host.gather gather_S135168x1024_S65536x1_S65536x1024_1_0_n_n_0_1_11024 O (places C 2 slices_S65536x128_S65536x1_0_2)) bitsLt_bf16_f32)
      (extf .f32 (Host.gather gather_S135168x1024_S65536x1_S65536x1024_1_0_n_n_0_1_11024 O (places C 3 slices_S65536x128_S65536x1_0_3)) bitsLt_bf16_f32))

theorem place_int {w : BitVec 32} (h : w.toNat < 135168) : w.toInt = (w.toNat : ℤ) := by
  rw [BitVec.toInt_eq_toNat_cond, if_pos (by omega)]

theorem summed_at (C : S65536x128.Idx → EReal) (O : S135168x1024.Idx → EReal) (X : S65536x1024.Idx → EReal)
    (h1 : ∀ r, (posOf (F := Ideal) C 2 r).toNat < 135168) (h2 : ∀ r, (posOf (F := Ideal) C 3 r).toNat < 135168) (r : Fin 65536) (j : Fin 1024) :
    (summed C O X : S65536x1024.Idx → EReal) (ix2 r j)
      = alpha * X (ix2 r j) + (column O j (posOf (F := Ideal) C 2 r).toNat + column O j (posOf (F := Ideal) C 3 r).toNat) := by
  have e1 := row_at O (places C 2 slices_S65536x128_S65536x1_0_2) r j _ (h1 r) ((congrArg BitVec.toInt (places_at C 2 _ r)).trans (place_int (h1 r)))
  have e2 := row_at O (places C 3 slices_S65536x128_S65536x1_0_3) r j _ (h2 r) ((congrArg BitVec.toInt (places_at C 3 _ r)).trans (place_int (h2 r)))
  rw [column_at (h1 r), column_at (h2 r), ← e1, ← e2]
  rfl

theorem result_eq (C : S65536x128.Idx → EReal) (O : S135168x1024.Idx → EReal) (X : S65536x1024.Idx → EReal) (g b : S1024.Idx → EReal)
    (h1 : ∀ r, (posOf (F := Ideal) C 2 r).toNat < 135168) (h2 : ∀ r, (posOf (F := Ideal) C 3 r).toNat < 135168) (r : Fin 65536) (j : Fin 1024) :
    (normed (summed C O X) g b : S65536x1024.Idx → EReal) (ix2 r j) = result C O X (fun j => g (ix1 j)) (fun j => b (ix1 j)) r j := by
  rw [normed_at]
  simp only [summed_at C O X h1 h2]
  rfl

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
        = normed (summed (m ((c.tc : Thread nD τ).loc main_arg4)) (m ((c.tc : Thread nD τ).loc main_arg5)) (m ((c.tc : Thread nD τ).loc main_arg6)))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Cert.Reference8Ideal.Value.run m ρ)
  unfold normed summed centred means places
  rfl

end Cert.Combine.Ref

namespace Cert.Combine

open Idealize.ShloMosaic Idealize.SL.Sem Cert.Kernel8Ideal Cert.Kernel8Ideal.Gen Idealize.ShloMosaic.TcCoe

section
variable (m : (ℓ : Loc nD τ sig) → Buf (Elt Ideal) ℓ)

theorem tileAt_tbl (k : Fin 4) (n : Fin 419) : tileAt (tbl m) n.val k = argT m (ix2 k n) := by
  fin_cases k
  · exact row_tbl2 m n
  · exact row_tbl3 m n
  · exact row_tbl4 m n
  · exact row_tbl5 m n

theorem windowAt_tbl (k : Fin 4) (n : Fin 419) : windowAt (tbl m) n.val k = argW m (ix2 k n) := by
  fin_cases k
  · exact row_tbl6 m n
  · exact row_tbl7 m n
  · exact row_tbl8 m n
  · exact row_tbl9 m n

variable {m}

theorem once_of (h : Planned (argB m) (argV m) (argT m) (argW m) (argC m)) : Once (tbl m) := by
  intro k k' n n' hn hn' hl hl' hb ht
  rw [bit_iff, show flagAt (tbl m) n = argV m (ix1 ⟨n, hn⟩) from flag_tbl m ⟨n, hn⟩] at hl
  rw [bit_iff, show flagAt (tbl m) n' = argV m (ix1 ⟨n', hn'⟩) from flag_tbl m ⟨n', hn'⟩] at hl'
  rw [block_nat n hn, block_nat n' hn', BitVec.toNat_inj] at hb
  have ht' : argT m (ix2 k ⟨n, hn⟩) = argT m (ix2 k' ⟨n', hn'⟩) := (tileAt_tbl m k ⟨n, hn⟩).symm.trans (ht.trans (tileAt_tbl m k' ⟨n', hn'⟩))
  obtain ⟨e, e'⟩ := h.once k ⟨n, hn⟩ k' ⟨n', hn'⟩ hl hl' hb ht'
  exact ⟨e, congrArg Fin.val e'⟩

/-- A position's number, from its place in a tile. -/
theorem place_nat {pos tile : BitVec 32} (ht : tile.toNat < 264) (h0 : 0 ≤ (pos - tile * 512#32).toInt) (h1 : (pos - tile * 512#32).toInt < 1024) :
    (pos.toNat : ℤ) = 512 * tile.toNat + (pos - tile * 512#32).toInt := by
  have hq := toNat_of_toInt h0
  have e : pos = (pos - tile * 512#32) + tile * 512#32 := (BitVec.sub_add_cancel _ _).symm
  have e' := congrArg BitVec.toNat e
  rw [BitVec.toNat_add, BitVec.toNat_mul, show (512#32).toNat = 512 from rfl, Nat.mod_eq_of_lt (a := tile.toNat * 512) (by omega),
    Nat.mod_eq_of_lt (a := (pos - tile * 512#32).toNat + tile.toNat * 512) (by omega)] at e'
  omega

theorem window_end {w : BitVec 32} (h : w.toNat ≤ 256) : (w + 256#32).toInt = (w.toNat : ℤ) + 256 := by
  have e : (w + 256#32).toNat = w.toNat + 256 := by
    rw [BitVec.toNat_add, show (256#32).toNat = 256 from rfl]
    omega
  rw [BitVec.toInt_eq_toNat_cond, e, if_pos (by omega)]
  omega

theorem hit_of_inside {v L N pos tile window : BitVec 32} (hl : bit v L = 1#1) (ht : tile.toNat < 264) (hw : window.toNat ≤ 256)
    (h : Inside v N pos tile window) : Hit v tile window L N pos.toNat := by
  refine ⟨hl, ?_⟩
  unfold Inside at h
  by_cases hN : v &&& N ≠ 0#32
  · rw [if_pos hN, window_end hw] at h
    rw [if_pos ((bit_iff v N).2 hN)]
    have hi : window.toInt = (window.toNat : ℤ) := by rw [BitVec.toInt_eq_toNat_cond, if_pos (by omega)]
    have e := place_nat (pos := pos) ht (by omega) (by omega)
    omega
  · rw [if_neg hN, show (0#32).toInt = 0 from rfl, show (512#32).toInt = 512 from rfl] at h
    rw [if_neg fun hb => hN ((bit_iff v N).1 hb)]
    have e := place_nat (pos := pos) ht (by omega) (by omega)
    omega

theorem held_of (h : Planned (argB m) (argV m) (argT m) (argW m) (argC m)) (p : Fin 65536 → BitVec 32)
    (hp : ∀ r : Fin 65536, ∃ k n, argV m (ix1 n) &&& liveBit k ≠ 0#32 ∧ argB m (ix1 n) = BitVec.ofNat 32 (r.val / 512)
      ∧ Inside (argV m (ix1 n)) (narrowBit k) (p r) (argT m (ix2 k n)) (argW m (ix2 k n))) : Held (tbl m) fun r => (p r).toNat := by
  intro r
  obtain ⟨k, n, hl, hb, hi⟩ := hp r
  have hr := r.isLt
  refine ⟨n.val, k, n.isLt, ?_, ?_⟩
  · rw [block_nat n.val n.isLt, show argB m (ix1 ⟨n.val, n.isLt⟩) = BitVec.ofNat 32 (r.val / 512) from hb, BitVec.toNat_ofNat]
    omega
  · have hg := good_of h
    have ht := tileAt_lt hg n.val k
    have hw := windowAt_le hg n.val k
    unfold HitAt
    rw [tileAt_tbl] at ht ⊢
    rw [windowAt_tbl] at hw ⊢
    rw [show flagAt (tbl m) n.val = argV m (ix1 n) from flag_tbl m n]
    exact hit_of_inside ((bit_iff _ _).2 hl) ht hw hi

variable (m)

theorem gain_at (c : Dev nD) (j : Fin 1024) : gain (V m) c (ix2 0 j) = (m ((c.tc : Thread nD τ).loc main_arg7) : S1024.Idx → EReal) (ix1 j) := by
  show (V m c main_v16 : S1x1024.Idx → EReal) (ix2 0 j) = _
  unfold V
  after_reads_simp
  pointwise
theorem bias_at (c : Dev nD) (j : Fin 1024) : bias (V m) c (ix2 0 j) = (m ((c.tc : Thread nD τ).loc main_arg8) : S1024.Idx → EReal) (ix1 j) := by
  show (V m c main_v17 : S1x1024.Idx → EReal) (ix2 0 j) = _
  unfold V
  after_reads_simp
  pointwise

/-- The kernel's result. -/
theorem kernel_at (h : Planned (argB m) (argV m) (argT m) (argW m) (argC m)) (R : Fin 65536) (j : Fin 1024) :
    ((dats m (good_of h) 0 0).arrAt 8 (cfg0 (adm m (good_of h))).N : S65536x1024.Idx → EReal) (ix2 R j)
      = result (argC m) (m (((0 : Dev nD).tc : Thread nD τ).loc main_arg5)) (m (((0 : Dev nD).tc : Thread nD τ).loc main_arg6))
          (fun j => (m (((0 : Dev nD).tc : Thread nD τ).loc main_arg7) : S1024.Idx → EReal) (ix1 j))
          (fun j => (m (((0 : Dev nD).tc : Thread nD τ).loc main_arg8) : S1024.Idx → EReal) (ix1 j)) R j := by
  have eC : cols (V m) 0 = argC m := V_arg4 m 0
  have eO : exps (V m) 0 = m (((0 : Dev nD).tc : Thread nD τ).loc main_arg5) := V_arg5 m 0
  have eX : resid (V m) 0 = m (((0 : Dev nD).tc : Thread nD τ).loc main_arg6) := V_arg6 m 0
  have e1 : ∀ R, row1 (V m) 0 R = posOf (F := Ideal) (argC m) 2 R := fun R => by unfold row1; rw [eC]
  have e2 : ∀ R, row2 (V m) 0 R = posOf (F := Ideal) (argC m) 3 R := fun R => by unfold row2; rw [eC]
  have hne : ∀ R, row1 (V m) 0 R ≠ row2 (V m) 0 R := fun R => by rw [e1, e2]; exact h.apart R
  have h1 : Held (tbl m) fun R => (row1 (V m) 0 R).toNat := held_of h _ fun r => by rw [e1]; exact h.held1 r
  have h2 : Held (tbl m) fun R => (row2 (V m) 0 R).toNat := held_of h _ fun r => by rw [e2]; exact h.held2 r
  refine (final_at (a := adm m (good_of h)) (V m) (good_of h) (once_of h) 0 hne h1 h2 R j).trans ?_
  rw [eC, eO, eX]
  simp only [gain_at, bias_at]
  rfl

theorem pos_lt (h : Planned (argB m) (argV m) (argT m) (argW m) (argC m)) :
    (∀ r, (posOf (F := Ideal) (argC m) 2 r).toNat < 135168) ∧ ∀ r, (posOf (F := Ideal) (argC m) 3 r).toNat < 135168 := by
  constructor
  · intro r
    obtain ⟨_, _, _, _, hit⟩ := held_of h _ h.held1 r
    exact hit_lt (good_of h) hit
  · intro r
    obtain ⟨_, _, _, _, hit⟩ := held_of h _ h.held2 r
    exact hit_lt (good_of h) hit

end

/-- Kernel and reference leave the same result. -/
theorem algebraic_combine : Cert.algebraic_Kernel8Ideal_Reference8Ideal := by
  intro m g m' g' hpre hagree
  have h : Planned (argB m) (argV m) (argT m) (argW m) (argC m) := planned_of _ _ _ _ _ _ _ _ _ (hpre 0)
  refine ⟨fun c => (dats m (good_of h) 0 c).arrAt 8 (cfg0 (adm m (good_of h))).N,
    (θ_run defs _ _).mono (fun r hr c => hr.1 c) (run_ends m g (good_of h)),
    (θ_run Cert.Reference8Ideal.defs _ _).mono (fun r hr c => ⟨(hr c).1.trans ?_, (hr c).2⟩) (Cert.Combine.Ref.run_result m' g')⟩
  obtain rfl : c = 0 := Subsingleton.elim _ _
  obtain ⟨_, _, _, _, a4, a5, a6, a7, a8⟩ := hagree 0
  rw [a4, a5, a6, a7, a8]
  refine funext fun (i : S65536x1024.Idx) => ?_
  obtain ⟨R, j, rfl⟩ : ∃ (R : Fin 65536) (j : Fin 1024), i = ix2 R j := ⟨i 0, i 1, by
    funext b
    fin_cases b <;> rfl⟩
  exact (Cert.Combine.Ref.result_eq _ _ _ _ _ (pos_lt m h).1 (pos_lt m h).2 R j).trans (kernel_at m h R j).symm

end Cert.Combine

end
-- ==== Proof.lean ====
module

public import proofs.«01_k».proof.Proof.Gen.KernelIdeal.Value
public import proofs.«01_k».proof.Proof.Gen.Reference2Ideal.Run
public import proofs.«01_k».proof.Proof.Gen.Kernel2
public import proofs.«01_k».proof.Proof.Gen.Kernel2.Launch
public import proofs.«01_k».proof.Proof.Gen.Kernel2Ideal.Launch
public import proofs.«01_k».proof.Proof.Gen.Kernel2Ideal.Skeleton
public import proofs.«01_k».proof.Proof.Gen.Pre_routed
public import proofs.«01_k».proof.Proof.Gen.On_in_use
public import proofs.«01_k».proof.Proof.Gen.ReferenceIdeal.Run
public import proofs.«01_k».proof.Proof.Gen.Kernel3
public import proofs.«01_k».proof.Proof.Gen.Kernel3.Launch
public import proofs.«01_k».proof.Proof.Gen.Kernel3.Frame
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Launch
public import proofs.«01_k».proof.Proof.Gen.Kernel4.Frame
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Launch
public import proofs.«01_k».proof.Proof.Gen.Kernel5.Frame
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Launch
public import proofs.«01_k».proof.Proof.Gen.Kernel6.Frame
public import proofs.«01_k».proof.Proof.Gen.Kernel6Ideal.Launch
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Launch
public import proofs.«01_k».proof.Proof.Gen.Kernel7.Frame
public import proofs.«01_k».proof.Proof.Gen.Kernel7Ideal.Launch
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Launch
public import proofs.«01_k».proof.Proof.Gen.Kernel8Ideal.Launch
public import proofs.«01_k».proof.Proof.Gen.Kernel8Ideal.Skeleton
public import proofs.«01_k».proof.Proof.Gen.Pre_planned
public import proofs.«01_k».proof.Proof.Gen.Reference8Ideal.Run
public import proofs.«01_k».proof.Defs
public import proofs.«01_k».proof.Proof.Gen.Pre_finite
public import proofs.«01_k».proof.Proof.Attn.RefEq
public import proofs.«01_k».proof.Proof.Attn.Kern
public import proofs.«01_k».proof.Proof.Attn.Pre
public import proofs.«01_k».proof.Proof.Ffn.Claims
public import proofs.«01_k».proof.Proof.Ffn.Value
public import proofs.«01_k».proof.Proof.Swiglu.Value
public import proofs.«01_k».proof.Proof.OutLn.Value
public import proofs.«01_k».proof.Proof.Proj.Value
public import proofs.«01_k».proof.Proof.ProjIn.Value
public import proofs.«01_k».proof.Proof.OutLnEven.Value
public import proofs.«01_k».proof.Proof.Combine.Claims
public import proofs.«01_k».proof.Proof.Combine.Value
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- Kernel and reference leave the same result: both the attention of the specification. -/
theorem algebraic_attn : Cert.algebraic_KernelIdeal_ReferenceIdeal_pre_finite := by
  intro m g m' g' hpre hagree
  refine ⟨fun c => Cert.Attn.out m c, (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · exact ⟨(h c).1.trans (Cert.Attn.final_attn m c), (h c).2⟩
  · refine ⟨(h c).1.trans ?_, (h c).2⟩
    obtain ⟨hX, hR⟩ := Cert.Attn.finite_real _ _ (hpre c)
    have eX : Cert.Attn.Ref.argX m' c = Cert.Attn.argX m c := (hagree c).1
    have eR : Cert.Attn.Ref.argR m' c = Cert.Attn.argR m c := (hagree c).2
    refine funext fun (j : Cert.ReferenceIdeal.S16x4096x1024.Idx) => ?_
    have e : j = ix3 (j 0) (j 1) (j 2) := by
      funext a
      fin_cases a <;> rfl
    rw [e]
    refine (Cert.Attn.Ref.result_attn m' c ?_ ?_ (j 0) (j 1) (j 2)).trans ?_
    · rw [eX]; exact hX
    · rw [eR]; exact hR
    · rw [eX, eR]; rfl

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_routed.Gen.facts, Cert.Pre_planned.Gen.facts, Cert.On_in_use.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Cert.Ffn.frame_kernel2, Cert.Ffn.frame_kernel2Ideal, Cert.Ffn.frame_reference2, fun m ρ _ => Cert.Ffn.frame_reference2 m ρ trivial,
  fun m ρ _ => Cert.Kernel3.Gen.frame m ρ, fun m ρ _ => Cert.Kernel3Ideal.Gen.frame m ρ, Cert.Swiglu.frame_reference3,
  fun m ρ _ => Cert.Kernel4.Gen.frame m ρ, fun m ρ _ => Cert.Kernel4Ideal.Gen.frame m ρ, Cert.OutLn.frame_reference4,
  fun m ρ _ => Cert.Kernel5.Gen.frame m ρ, fun m ρ _ => Cert.Kernel5Ideal.Gen.frame m ρ, Cert.Proj.frame_reference5,
  fun m ρ _ => Cert.Kernel6.Gen.frame m ρ, fun m ρ _ => Cert.Kernel6Ideal.Gen.frame m ρ, Cert.ProjIn.frame_reference6,
  fun m ρ _ => Cert.Kernel7.Gen.frame m ρ, fun m ρ _ => Cert.Kernel7Ideal.Gen.frame m ρ, Cert.OutLnEven.frame_reference7,
  Cert.Combine.frame_kernel8, Cert.Combine.frame_kernel8Ideal, Cert.Combine.frame_reference8, fun m ρ _ => Cert.Combine.frame_reference8 m ρ trivial,
  trivial, algebraic_attn, trivial, Cert.Ffn.algebraic_ffn, trivial, Cert.Swiglu.algebraic_swiglu, trivial, Cert.OutLn.algebraic_out_ln,
  trivial, Cert.Proj.algebraic_proj, trivial, Cert.ProjIn.algebraic_proj_in, trivial, Cert.OutLnEven.algebraic_out_ln_even,
  trivial, Cert.Combine.algebraic_combine⟩

end Cert.Proof

end
